-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_qk [hPre_finite_qk : Cert.Pre_finite_qk.Facts] (m : (ℓ : Loc Cert.AttnIdeal.nD Cert.AttnIdeal.τ Cert.AttnIdeal.sig) → Buf (Elt Ideal) ℓ) : Prop :=
  ∀ c : Dev Cert.AttnIdeal.nD,
    (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_qk [hPre_finite_qk : Cert.Pre_finite_qk.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_SLast (m : (ℓ : Loc Cert.SLast.nD Cert.SLast.τ Cert.SLast.sig) → Buf (Elt Bits) ℓ) : Prop :=
  True

def Pre_SLastIdeal (m : (ℓ : Loc Cert.SLastIdeal.nD Cert.SLastIdeal.τ Cert.SLastIdeal.sig) → Buf (Elt Ideal) ℓ) : Prop :=
  True

def Pre_SLastRefIdeal (m : (ℓ : Loc Cert.SLastRefIdeal.nD Cert.SLastRefIdeal.τ Cert.SLastRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepRefIdeal (m : (ℓ : Loc Cert.StepRefIdeal.nD Cert.StepRefIdeal.τ Cert.StepRefIdeal.sig) → Buf (Elt Ideal) ℓ) : Prop :=
  True

def Pre_FfnStep (m : (ℓ : Loc Cert.FfnStep.nD Cert.FfnStep.τ Cert.FfnStep.sig) → Buf (Elt Bits) ℓ) : Prop :=
  True

def Pre_FfnStepIdeal (m : (ℓ : Loc Cert.FfnStepIdeal.nD Cert.FfnStepIdeal.τ Cert.FfnStepIdeal.sig) → Buf (Elt Ideal) ℓ) : Prop :=
  True

def Pre_FfnStepRefIdeal (m : (ℓ : Loc Cert.FfnStepRefIdeal.nD Cert.FfnStepRefIdeal.τ Cert.FfnStepRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvIdeal_finite_kv [hPre_finite_kv : Cert.Pre_finite_kv.Facts] (m : (ℓ : Loc Cert.KvIdeal.nD Cert.KvIdeal.τ Cert.KvIdeal.sig) → Buf (Elt Ideal) ℓ) : Prop :=
  ∀ c : Dev Cert.KvIdeal.nD,
    (Cert.Pre_finite_kv.fn (F := Ideal) (m ((c.tc : Thread Cert.KvIdeal.nD Cert.KvIdeal.τ).loc Cert.KvIdeal.main_arg0)) (m ((c.tc : Thread Cert.KvIdeal.nD Cert.KvIdeal.τ).loc Cert.KvIdeal.main_arg1)) (m ((c.tc : Thread Cert.KvIdeal.nD Cert.KvIdeal.τ).loc Cert.KvIdeal.main_arg2)) (m ((c.tc : Thread Cert.KvIdeal.nD Cert.KvIdeal.τ).loc Cert.KvIdeal.main_arg3))) = (fun _ => 1#1)

def Pre_KvRefIdeal (m : (ℓ : Loc Cert.KvRefIdeal.nD Cert.KvRefIdeal.τ Cert.KvRefIdeal.sig) → Buf (Elt Ideal) ℓ) : Prop :=
  True

def Pre_KvRefIdeal_finite_kv [hPre_finite_kv : Cert.Pre_finite_kv.Facts] (m : (ℓ : Loc Cert.KvRefIdeal.nD Cert.KvRefIdeal.τ Cert.KvRefIdeal.sig) → Buf (Elt Ideal) ℓ) : Prop :=
  ∀ c : Dev Cert.KvRefIdeal.nD,
    (Cert.Pre_finite_kv.fn (F := Ideal) (m ((c.tc : Thread Cert.KvRefIdeal.nD Cert.KvRefIdeal.τ).loc Cert.KvRefIdeal.main_arg0)) (m ((c.tc : Thread Cert.KvRefIdeal.nD Cert.KvRefIdeal.τ).loc Cert.KvRefIdeal.main_arg1)) (m ((c.tc : Thread Cert.KvRefIdeal.nD Cert.KvRefIdeal.τ).loc Cert.KvRefIdeal.main_arg2)) (m ((c.tc : Thread Cert.KvRefIdeal.nD Cert.KvRefIdeal.τ).loc Cert.KvRefIdeal.main_arg3))) = (fun _ => 1#1)

def Pre_SKv (m : (ℓ : Loc Cert.SKv.nD Cert.SKv.τ Cert.SKv.sig) → Buf (Elt Bits) ℓ) : Prop :=
  True

def Pre_SKvIdeal (m : (ℓ : Loc Cert.SKvIdeal.nD Cert.SKvIdeal.τ Cert.SKvIdeal.sig) → Buf (Elt Ideal) ℓ) : Prop :=
  True

def Pre_SKvIdeal_finite_skv [hPre_finite_skv : Cert.Pre_finite_skv.Facts] (m : (ℓ : Loc Cert.SKvIdeal.nD Cert.SKvIdeal.τ Cert.SKvIdeal.sig) → Buf (Elt Ideal) ℓ) : Prop :=
  ∀ c : Dev Cert.SKvIdeal.nD,
    (Cert.Pre_finite_skv.fn (F := Ideal) (m ((c.tc : Thread Cert.SKvIdeal.nD Cert.SKvIdeal.τ).loc Cert.SKvIdeal.main_arg0)) (m ((c.tc : Thread Cert.SKvIdeal.nD Cert.SKvIdeal.τ).loc Cert.SKvIdeal.main_arg1)) (m ((c.tc : Thread Cert.SKvIdeal.nD Cert.SKvIdeal.τ).loc Cert.SKvIdeal.main_arg2)) (m ((c.tc : Thread Cert.SKvIdeal.nD Cert.SKvIdeal.τ).loc Cert.SKvIdeal.main_arg3))) = (fun _ => 1#1)

def Pre_SKvRefIdeal (m : (ℓ : Loc Cert.SKvRefIdeal.nD Cert.SKvRefIdeal.τ Cert.SKvRefIdeal.sig) → Buf (Elt Ideal) ℓ) : Prop :=
  True

def Pre_SKvRefIdeal_finite_skv [hPre_finite_skv : Cert.Pre_finite_skv.Facts] (m : (ℓ : Loc Cert.SKvRefIdeal.nD Cert.SKvRefIdeal.τ Cert.SKvRefIdeal.sig) → Buf (Elt Ideal) ℓ) : Prop :=
  ∀ c : Dev Cert.SKvRefIdeal.nD,
    (Cert.Pre_finite_skv.fn (F := Ideal) (m ((c.tc : Thread Cert.SKvRefIdeal.nD Cert.SKvRefIdeal.τ).loc Cert.SKvRefIdeal.main_arg0)) (m ((c.tc : Thread Cert.SKvRefIdeal.nD Cert.SKvRefIdeal.τ).loc Cert.SKvRefIdeal.main_arg1)) (m ((c.tc : Thread Cert.SKvRefIdeal.nD Cert.SKvRefIdeal.τ).loc Cert.SKvRefIdeal.main_arg2)) (m ((c.tc : Thread Cert.SKvRefIdeal.nD Cert.SKvRefIdeal.τ).loc Cert.SKvRefIdeal.main_arg3))) = (fun _ => 1#1)

def Pre_Qh (m : (ℓ : Loc Cert.Qh.nD Cert.Qh.τ Cert.Qh.sig) → Buf (Elt Bits) ℓ) : Prop :=
  True

def Pre_QhIdeal (m : (ℓ : Loc Cert.QhIdeal.nD Cert.QhIdeal.τ Cert.QhIdeal.sig) → Buf (Elt Ideal) ℓ) : Prop :=
  True

def Pre_QhIdeal_finite_q [hPre_finite_q : Cert.Pre_finite_q.Facts] (m : (ℓ : Loc Cert.QhIdeal.nD Cert.QhIdeal.τ Cert.QhIdeal.sig) → Buf (Elt Ideal) ℓ) : Prop :=
  ∀ c : Dev Cert.QhIdeal.nD,
    (Cert.Pre_finite_q.fn (F := Ideal) (m ((c.tc : Thread Cert.QhIdeal.nD Cert.QhIdeal.τ).loc Cert.QhIdeal.main_arg0)) (m ((c.tc : Thread Cert.QhIdeal.nD Cert.QhIdeal.τ).loc Cert.QhIdeal.main_arg1)) (m ((c.tc : Thread Cert.QhIdeal.nD Cert.QhIdeal.τ).loc Cert.QhIdeal.main_arg2)) (m ((c.tc : Thread Cert.QhIdeal.nD Cert.QhIdeal.τ).loc Cert.QhIdeal.main_arg3))) = (fun _ => 1#1)

def Pre_QhRefIdeal (m : (ℓ : Loc Cert.QhRefIdeal.nD Cert.QhRefIdeal.τ Cert.QhRefIdeal.sig) → Buf (Elt Ideal) ℓ) : Prop :=
  True

def Pre_QhRefIdeal_finite_q [hPre_finite_q : Cert.Pre_finite_q.Facts] (m : (ℓ : Loc Cert.QhRefIdeal.nD Cert.QhRefIdeal.τ Cert.QhRefIdeal.sig) → Buf (Elt Ideal) ℓ) : Prop :=
  ∀ c : Dev Cert.QhRefIdeal.nD,
    (Cert.Pre_finite_q.fn (F := Ideal) (m ((c.tc : Thread Cert.QhRefIdeal.nD Cert.QhRefIdeal.τ).loc Cert.QhRefIdeal.main_arg0)) (m ((c.tc : Thread Cert.QhRefIdeal.nD Cert.QhRefIdeal.τ).loc Cert.QhRefIdeal.main_arg1)) (m ((c.tc : Thread Cert.QhRefIdeal.nD Cert.QhRefIdeal.τ).loc Cert.QhRefIdeal.main_arg2)) (m ((c.tc : Thread Cert.QhRefIdeal.nD Cert.QhRefIdeal.τ).loc Cert.QhRefIdeal.main_arg3))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_qk [hAttnIdeal : Cert.AttnIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_qk m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_qk [hAttnRefIdeal : Cert.AttnRefIdeal.Facts] [hPre_finite_qk : Cert.Pre_finite_qk.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_qk m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3))
      ∧ r.2.sem = fun _ => 0)

def quiescent_SLast [hSLast : Cert.SLast.Facts] : Prop :=
  ∀ (m : (ℓ : Loc Cert.SLast.nD Cert.SLast.τ Cert.SLast.sig) → Buf (Elt Bits) ℓ) (g : Dev Cert.SLast.nD → PrngReg), Pre_SLast m →
    θ_run (Cert.SLast.defs (F := Bits)) (onTc (τ := Cert.SLast.τ) (Cert.SLast.main (F := Bits))) ⟨m, fun _ => 0, g⟩ (fun r => (∀ c : Dev Cert.SLast.nD,
      r.2.mem ((c.tc : Thread Cert.SLast.nD Cert.SLast.τ).loc Cert.SLast.main_arg0) = m ((c.tc : Thread Cert.SLast.nD Cert.SLast.τ).loc Cert.SLast.main_arg0)
      ∧ r.2.mem ((c.tc : Thread Cert.SLast.nD Cert.SLast.τ).loc Cert.SLast.main_arg1) = m ((c.tc : Thread Cert.SLast.nD Cert.SLast.τ).loc Cert.SLast.main_arg1)
      ∧ r.2.mem ((c.tc : Thread Cert.SLast.nD Cert.SLast.τ).loc Cert.SLast.main_arg2) = m ((c.tc : Thread Cert.SLast.nD Cert.SLast.τ).loc Cert.SLast.main_arg2)
      ∧ r.2.mem ((c.tc : Thread Cert.SLast.nD Cert.SLast.τ).loc Cert.SLast.main_arg3) = m ((c.tc : Thread Cert.SLast.nD Cert.SLast.τ).loc Cert.SLast.main_arg3))
      ∧ r.2.sem = fun _ => 0)

def quiescent_SLastIdeal [hSLastIdeal : Cert.SLastIdeal.Facts] : Prop :=
  ∀ (m : (ℓ : Loc Cert.SLastIdeal.nD Cert.SLastIdeal.τ Cert.SLastIdeal.sig) → Buf (Elt Ideal) ℓ) (g : Dev Cert.SLastIdeal.nD → PrngReg), Pre_SLastIdeal m →
    θ_run (Cert.SLastIdeal.defs (F := Ideal)) (onTc (τ := Cert.SLastIdeal.τ) (Cert.SLastIdeal.main (F := Ideal))) ⟨m, fun _ => 0, g⟩ (fun r => (∀ c : Dev Cert.SLastIdeal.nD,
      r.2.mem ((c.tc : Thread Cert.SLastIdeal.nD Cert.SLastIdeal.τ).loc Cert.SLastIdeal.main_arg0) = m ((c.tc : Thread Cert.SLastIdeal.nD Cert.SLastIdeal.τ).loc Cert.SLastIdeal.main_arg0)
      ∧ r.2.mem ((c.tc : Thread Cert.SLastIdeal.nD Cert.SLastIdeal.τ).loc Cert.SLastIdeal.main_arg1) = m ((c.tc : Thread Cert.SLastIdeal.nD Cert.SLastIdeal.τ).loc Cert.SLastIdeal.main_arg1)
      ∧ r.2.mem ((c.tc : Thread Cert.SLastIdeal.nD Cert.SLastIdeal.τ).loc Cert.SLastIdeal.main_arg2) = m ((c.tc : Thread Cert.SLastIdeal.nD Cert.SLastIdeal.τ).loc Cert.SLastIdeal.main_arg2)
      ∧ r.2.mem ((c.tc : Thread Cert.SLastIdeal.nD Cert.SLastIdeal.τ).loc Cert.SLastIdeal.main_arg3) = m ((c.tc : Thread Cert.SLastIdeal.nD Cert.SLastIdeal.τ).loc Cert.SLastIdeal.main_arg3))
      ∧ r.2.sem = fun _ => 0)

def quiescent_SLastRefIdeal [hSLastRefIdeal : Cert.SLastRefIdeal.Facts] : Prop :=
  ∀ (m : (ℓ : Loc Cert.SLastRefIdeal.nD Cert.SLastRefIdeal.τ Cert.SLastRefIdeal.sig) → Buf (Elt Ideal) ℓ) (g : Dev Cert.SLastRefIdeal.nD → PrngReg), Pre_SLastRefIdeal m →
    θ_run (Cert.SLastRefIdeal.defs (F := Ideal)) (onTc (τ := Cert.SLastRefIdeal.τ) (Cert.SLastRefIdeal.main (F := Ideal))) ⟨m, fun _ => 0, g⟩ (fun r => (∀ c : Dev Cert.SLastRefIdeal.nD,
      r.2.mem ((c.tc : Thread Cert.SLastRefIdeal.nD Cert.SLastRefIdeal.τ).loc Cert.SLastRefIdeal.main_arg0) = m ((c.tc : Thread Cert.SLastRefIdeal.nD Cert.SLastRefIdeal.τ).loc Cert.SLastRefIdeal.main_arg0)
      ∧ r.2.mem ((c.tc : Thread Cert.SLastRefIdeal.nD Cert.SLastRefIdeal.τ).loc Cert.SLastRefIdeal.main_arg1) = m ((c.tc : Thread Cert.SLastRefIdeal.nD Cert.SLastRefIdeal.τ).loc Cert.SLastRefIdeal.main_arg1)
      ∧ r.2.mem ((c.tc : Thread Cert.SLastRefIdeal.nD Cert.SLastRefIdeal.τ).loc Cert.SLastRefIdeal.main_arg2) = m ((c.tc : Thread Cert.SLastRefIdeal.nD Cert.SLastRefIdeal.τ).loc Cert.SLastRefIdeal.main_arg2)
      ∧ r.2.mem ((c.tc : Thread Cert.SLastRefIdeal.nD Cert.SLastRefIdeal.τ).loc Cert.SLastRefIdeal.main_arg3) = m ((c.tc : Thread Cert.SLastRefIdeal.nD Cert.SLastRefIdeal.τ).loc Cert.SLastRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2)
      ∧ r.2.mem ((c.tc : Thread Cert.Step.nD Cert.Step.τ).loc Cert.Step.main_arg3) = m ((c.tc : Thread Cert.Step.nD Cert.Step.τ).loc Cert.Step.main_arg3)
      ∧ r.2.mem ((c.tc : Thread Cert.Step.nD Cert.Step.τ).loc Cert.Step.main_arg4) = m ((c.tc : Thread Cert.Step.nD Cert.Step.τ).loc Cert.Step.main_arg4)
      ∧ r.2.mem ((c.tc : Thread Cert.Step.nD Cert.Step.τ).loc Cert.Step.main_arg5) = m ((c.tc : Thread Cert.Step.nD Cert.Step.τ).loc Cert.Step.main_arg5)
      ∧ r.2.mem ((c.tc : Thread Cert.Step.nD Cert.Step.τ).loc Cert.Step.main_arg6) = m ((c.tc : Thread Cert.Step.nD Cert.Step.τ).loc Cert.Step.main_arg6)
      ∧ r.2.mem ((c.tc : Thread Cert.Step.nD Cert.Step.τ).loc Cert.Step.main_arg7) = m ((c.tc : Thread Cert.Step.nD Cert.Step.τ).loc Cert.Step.main_arg7)
      ∧ r.2.mem ((c.tc : Thread Cert.Step.nD Cert.Step.τ).loc Cert.Step.main_arg8) = m ((c.tc : Thread Cert.Step.nD Cert.Step.τ).loc Cert.Step.main_arg8)
      ∧ r.2.mem ((c.tc : Thread Cert.Step.nD Cert.Step.τ).loc Cert.Step.main_arg9) = m ((c.tc : Thread Cert.Step.nD Cert.Step.τ).loc Cert.Step.main_arg9))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
      ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
      ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
      ∧ r.2.mem ((c.tc : Thread Cert.StepIdeal.nD Cert.StepIdeal.τ).loc Cert.StepIdeal.main_arg6) = m ((c.tc : Thread Cert.StepIdeal.nD Cert.StepIdeal.τ).loc Cert.StepIdeal.main_arg6)
      ∧ r.2.mem ((c.tc : Thread Cert.StepIdeal.nD Cert.StepIdeal.τ).loc Cert.StepIdeal.main_arg7) = m ((c.tc : Thread Cert.StepIdeal.nD Cert.StepIdeal.τ).loc Cert.StepIdeal.main_arg7)
      ∧ r.2.mem ((c.tc : Thread Cert.StepIdeal.nD Cert.StepIdeal.τ).loc Cert.StepIdeal.main_arg8) = m ((c.tc : Thread Cert.StepIdeal.nD Cert.StepIdeal.τ).loc Cert.StepIdeal.main_arg8)
      ∧ r.2.mem ((c.tc : Thread Cert.StepIdeal.nD Cert.StepIdeal.τ).loc Cert.StepIdeal.main_arg9) = m ((c.tc : Thread Cert.StepIdeal.nD Cert.StepIdeal.τ).loc Cert.StepIdeal.main_arg9))
      ∧ r.2.sem = fun _ => 0)

def quiescent_StepRefIdeal [hStepRefIdeal : Cert.StepRefIdeal.Facts] : Prop :=
  ∀ (m : (ℓ : Loc Cert.StepRefIdeal.nD Cert.StepRefIdeal.τ Cert.StepRefIdeal.sig) → Buf (Elt Ideal) ℓ) (g : Dev Cert.StepRefIdeal.nD → PrngReg), Pre_StepRefIdeal m →
    θ_run (Cert.StepRefIdeal.defs (F := Ideal)) (onTc (τ := Cert.StepRefIdeal.τ) (Cert.StepRefIdeal.main (F := Ideal))) ⟨m, fun _ => 0, g⟩ (fun r => (∀ c : Dev Cert.StepRefIdeal.nD,
      r.2.mem ((c.tc : Thread Cert.StepRefIdeal.nD Cert.StepRefIdeal.τ).loc Cert.StepRefIdeal.main_arg0) = m ((c.tc : Thread Cert.StepRefIdeal.nD Cert.StepRefIdeal.τ).loc Cert.StepRefIdeal.main_arg0)
      ∧ r.2.mem ((c.tc : Thread Cert.StepRefIdeal.nD Cert.StepRefIdeal.τ).loc Cert.StepRefIdeal.main_arg1) = m ((c.tc : Thread Cert.StepRefIdeal.nD Cert.StepRefIdeal.τ).loc Cert.StepRefIdeal.main_arg1)
      ∧ r.2.mem ((c.tc : Thread Cert.StepRefIdeal.nD Cert.StepRefIdeal.τ).loc Cert.StepRefIdeal.main_arg2) = m ((c.tc : Thread Cert.StepRefIdeal.nD Cert.StepRefIdeal.τ).loc Cert.StepRefIdeal.main_arg2)
      ∧ r.2.mem ((c.tc : Thread Cert.StepRefIdeal.nD Cert.StepRefIdeal.τ).loc Cert.StepRefIdeal.main_arg3) = m ((c.tc : Thread Cert.StepRefIdeal.nD Cert.StepRefIdeal.τ).loc Cert.StepRefIdeal.main_arg3)
      ∧ r.2.mem ((c.tc : Thread Cert.StepRefIdeal.nD Cert.StepRefIdeal.τ).loc Cert.StepRefIdeal.main_arg4) = m ((c.tc : Thread Cert.StepRefIdeal.nD Cert.StepRefIdeal.τ).loc Cert.StepRefIdeal.main_arg4)
      ∧ r.2.mem ((c.tc : Thread Cert.StepRefIdeal.nD Cert.StepRefIdeal.τ).loc Cert.StepRefIdeal.main_arg5) = m ((c.tc : Thread Cert.StepRefIdeal.nD Cert.StepRefIdeal.τ).loc Cert.StepRefIdeal.main_arg5)
      ∧ r.2.mem ((c.tc : Thread Cert.StepRefIdeal.nD Cert.StepRefIdeal.τ).loc Cert.StepRefIdeal.main_arg6) = m ((c.tc : Thread Cert.StepRefIdeal.nD Cert.StepRefIdeal.τ).loc Cert.StepRefIdeal.main_arg6)
      ∧ r.2.mem ((c.tc : Thread Cert.StepRefIdeal.nD Cert.StepRefIdeal.τ).loc Cert.StepRefIdeal.main_arg7) = m ((c.tc : Thread Cert.StepRefIdeal.nD Cert.StepRefIdeal.τ).loc Cert.StepRefIdeal.main_arg7)
      ∧ r.2.mem ((c.tc : Thread Cert.StepRefIdeal.nD Cert.StepRefIdeal.τ).loc Cert.StepRefIdeal.main_arg8) = m ((c.tc : Thread Cert.StepRefIdeal.nD Cert.StepRefIdeal.τ).loc Cert.StepRefIdeal.main_arg8)
      ∧ r.2.mem ((c.tc : Thread Cert.StepRefIdeal.nD Cert.StepRefIdeal.τ).loc Cert.StepRefIdeal.main_arg9) = m ((c.tc : Thread Cert.StepRefIdeal.nD Cert.StepRefIdeal.τ).loc Cert.StepRefIdeal.main_arg9))
      ∧ r.2.sem = fun _ => 0)

def quiescent_FfnStep [hFfnStep : Cert.FfnStep.Facts] : Prop :=
  ∀ (m : (ℓ : Loc Cert.FfnStep.nD Cert.FfnStep.τ Cert.FfnStep.sig) → Buf (Elt Bits) ℓ) (g : Dev Cert.FfnStep.nD → PrngReg), Pre_FfnStep m →
    θ_run (Cert.FfnStep.defs (F := Bits)) (onTc (τ := Cert.FfnStep.τ) (Cert.FfnStep.main (F := Bits))) ⟨m, fun _ => 0, g⟩ (fun r => (∀ c : Dev Cert.FfnStep.nD,
      r.2.mem ((c.tc : Thread Cert.FfnStep.nD Cert.FfnStep.τ).loc Cert.FfnStep.main_arg0) = m ((c.tc : Thread Cert.FfnStep.nD Cert.FfnStep.τ).loc Cert.FfnStep.main_arg0)
      ∧ r.2.mem ((c.tc : Thread Cert.FfnStep.nD Cert.FfnStep.τ).loc Cert.FfnStep.main_arg1) = m ((c.tc : Thread Cert.FfnStep.nD Cert.FfnStep.τ).loc Cert.FfnStep.main_arg1)
      ∧ r.2.mem ((c.tc : Thread Cert.FfnStep.nD Cert.FfnStep.τ).loc Cert.FfnStep.main_arg2) = m ((c.tc : Thread Cert.FfnStep.nD Cert.FfnStep.τ).loc Cert.FfnStep.main_arg2)
      ∧ r.2.mem ((c.tc : Thread Cert.FfnStep.nD Cert.FfnStep.τ).loc Cert.FfnStep.main_arg3) = m ((c.tc : Thread Cert.FfnStep.nD Cert.FfnStep.τ).loc Cert.FfnStep.main_arg3)
      ∧ r.2.mem ((c.tc : Thread Cert.FfnStep.nD Cert.FfnStep.τ).loc Cert.FfnStep.main_arg4) = m ((c.tc : Thread Cert.FfnStep.nD Cert.FfnStep.τ).loc Cert.FfnStep.main_arg4)
      ∧ r.2.mem ((c.tc : Thread Cert.FfnStep.nD Cert.FfnStep.τ).loc Cert.FfnStep.main_arg5) = m ((c.tc : Thread Cert.FfnStep.nD Cert.FfnStep.τ).loc Cert.FfnStep.main_arg5))
      ∧ r.2.sem = fun _ => 0)

def quiescent_FfnStepIdeal [hFfnStepIdeal : Cert.FfnStepIdeal.Facts] : Prop :=
  ∀ (m : (ℓ : Loc Cert.FfnStepIdeal.nD Cert.FfnStepIdeal.τ Cert.FfnStepIdeal.sig) → Buf (Elt Ideal) ℓ) (g : Dev Cert.FfnStepIdeal.nD → PrngReg), Pre_FfnStepIdeal m →
    θ_run (Cert.FfnStepIdeal.defs (F := Ideal)) (onTc (τ := Cert.FfnStepIdeal.τ) (Cert.FfnStepIdeal.main (F := Ideal))) ⟨m, fun _ => 0, g⟩ (fun r => (∀ c : Dev Cert.FfnStepIdeal.nD,
      r.2.mem ((c.tc : Thread Cert.FfnStepIdeal.nD Cert.FfnStepIdeal.τ).loc Cert.FfnStepIdeal.main_arg0) = m ((c.tc : Thread Cert.FfnStepIdeal.nD Cert.FfnStepIdeal.τ).loc Cert.FfnStepIdeal.main_arg0)
      ∧ r.2.mem ((c.tc : Thread Cert.FfnStepIdeal.nD Cert.FfnStepIdeal.τ).loc Cert.FfnStepIdeal.main_arg1) = m ((c.tc : Thread Cert.FfnStepIdeal.nD Cert.FfnStepIdeal.τ).loc Cert.FfnStepIdeal.main_arg1)
      ∧ r.2.mem ((c.tc : Thread Cert.FfnStepIdeal.nD Cert.FfnStepIdeal.τ).loc Cert.FfnStepIdeal.main_arg2) = m ((c.tc : Thread Cert.FfnStepIdeal.nD Cert.FfnStepIdeal.τ).loc Cert.FfnStepIdeal.main_arg2)
      ∧ r.2.mem ((c.tc : Thread Cert.FfnStepIdeal.nD Cert.FfnStepIdeal.τ).loc Cert.FfnStepIdeal.main_arg3) = m ((c.tc : Thread Cert.FfnStepIdeal.nD Cert.FfnStepIdeal.τ).loc Cert.FfnStepIdeal.main_arg3)
      ∧ r.2.mem ((c.tc : Thread Cert.FfnStepIdeal.nD Cert.FfnStepIdeal.τ).loc Cert.FfnStepIdeal.main_arg4) = m ((c.tc : Thread Cert.FfnStepIdeal.nD Cert.FfnStepIdeal.τ).loc Cert.FfnStepIdeal.main_arg4)
      ∧ r.2.mem ((c.tc : Thread Cert.FfnStepIdeal.nD Cert.FfnStepIdeal.τ).loc Cert.FfnStepIdeal.main_arg5) = m ((c.tc : Thread Cert.FfnStepIdeal.nD Cert.FfnStepIdeal.τ).loc Cert.FfnStepIdeal.main_arg5))
      ∧ r.2.sem = fun _ => 0)

def quiescent_FfnStepRefIdeal [hFfnStepRefIdeal : Cert.FfnStepRefIdeal.Facts] : Prop :=
  ∀ (m : (ℓ : Loc Cert.FfnStepRefIdeal.nD Cert.FfnStepRefIdeal.τ Cert.FfnStepRefIdeal.sig) → Buf (Elt Ideal) ℓ) (g : Dev Cert.FfnStepRefIdeal.nD → PrngReg), Pre_FfnStepRefIdeal m →
    θ_run (Cert.FfnStepRefIdeal.defs (F := Ideal)) (onTc (τ := Cert.FfnStepRefIdeal.τ) (Cert.FfnStepRefIdeal.main (F := Ideal))) ⟨m, fun _ => 0, g⟩ (fun r => (∀ c : Dev Cert.FfnStepRefIdeal.nD,
      r.2.mem ((c.tc : Thread Cert.FfnStepRefIdeal.nD Cert.FfnStepRefIdeal.τ).loc Cert.FfnStepRefIdeal.main_arg0) = m ((c.tc : Thread Cert.FfnStepRefIdeal.nD Cert.FfnStepRefIdeal.τ).loc Cert.FfnStepRefIdeal.main_arg0)
      ∧ r.2.mem ((c.tc : Thread Cert.FfnStepRefIdeal.nD Cert.FfnStepRefIdeal.τ).loc Cert.FfnStepRefIdeal.main_arg1) = m ((c.tc : Thread Cert.FfnStepRefIdeal.nD Cert.FfnStepRefIdeal.τ).loc Cert.FfnStepRefIdeal.main_arg1)
      ∧ r.2.mem ((c.tc : Thread Cert.FfnStepRefIdeal.nD Cert.FfnStepRefIdeal.τ).loc Cert.FfnStepRefIdeal.main_arg2) = m ((c.tc : Thread Cert.FfnStepRefIdeal.nD Cert.FfnStepRefIdeal.τ).loc Cert.FfnStepRefIdeal.main_arg2)
      ∧ r.2.mem ((c.tc : Thread Cert.FfnStepRefIdeal.nD Cert.FfnStepRefIdeal.τ).loc Cert.FfnStepRefIdeal.main_arg3) = m ((c.tc : Thread Cert.FfnStepRefIdeal.nD Cert.FfnStepRefIdeal.τ).loc Cert.FfnStepRefIdeal.main_arg3)
      ∧ r.2.mem ((c.tc : Thread Cert.FfnStepRefIdeal.nD Cert.FfnStepRefIdeal.τ).loc Cert.FfnStepRefIdeal.main_arg4) = m ((c.tc : Thread Cert.FfnStepRefIdeal.nD Cert.FfnStepRefIdeal.τ).loc Cert.FfnStepRefIdeal.main_arg4)
      ∧ r.2.mem ((c.tc : Thread Cert.FfnStepRefIdeal.nD Cert.FfnStepRefIdeal.τ).loc Cert.FfnStepRefIdeal.main_arg5) = m ((c.tc : Thread Cert.FfnStepRefIdeal.nD Cert.FfnStepRefIdeal.τ).loc Cert.FfnStepRefIdeal.main_arg5))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2)
      ∧ r.2.mem ((c.tc : Thread Cert.Kv.nD Cert.Kv.τ).loc Cert.Kv.main_arg3) = m ((c.tc : Thread Cert.Kv.nD Cert.Kv.τ).loc Cert.Kv.main_arg3))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ r.2.sem = fun _ => 0)

def quiescent_KvIdeal_pre_finite_kv [hKvIdeal : Cert.KvIdeal.Facts] [hPre_finite_kv : Cert.Pre_finite_kv.Facts] : Prop :=
  ∀ (m : (ℓ : Loc Cert.KvIdeal.nD Cert.KvIdeal.τ Cert.KvIdeal.sig) → Buf (Elt Ideal) ℓ) (g : Dev Cert.KvIdeal.nD → PrngReg), Pre_KvIdeal_finite_kv m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3))
      ∧ r.2.sem = fun _ => 0)

def quiescent_KvRefIdeal_pre_finite_kv [hKvRefIdeal : Cert.KvRefIdeal.Facts] [hPre_finite_kv : Cert.Pre_finite_kv.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal_finite_kv m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3))
      ∧ r.2.sem = fun _ => 0)

def quiescent_SKv [hSKv : Cert.SKv.Facts] : Prop :=
  ∀ (m : (ℓ : Loc Cert.SKv.nD Cert.SKv.τ Cert.SKv.sig) → Buf (Elt Bits) ℓ) (g : Dev Cert.SKv.nD → PrngReg), Pre_SKv m →
    θ_run (Cert.SKv.defs (F := Bits)) (onTc (τ := Cert.SKv.τ) (Cert.SKv.main (F := Bits))) ⟨m, fun _ => 0, g⟩ (fun r => (∀ c : Dev Cert.SKv.nD,
      r.2.mem ((c.tc : Thread Cert.SKv.nD Cert.SKv.τ).loc Cert.SKv.main_arg0) = m ((c.tc : Thread Cert.SKv.nD Cert.SKv.τ).loc Cert.SKv.main_arg0)
      ∧ r.2.mem ((c.tc : Thread Cert.SKv.nD Cert.SKv.τ).loc Cert.SKv.main_arg1) = m ((c.tc : Thread Cert.SKv.nD Cert.SKv.τ).loc Cert.SKv.main_arg1)
      ∧ r.2.mem ((c.tc : Thread Cert.SKv.nD Cert.SKv.τ).loc Cert.SKv.main_arg2) = m ((c.tc : Thread Cert.SKv.nD Cert.SKv.τ).loc Cert.SKv.main_arg2)
      ∧ r.2.mem ((c.tc : Thread Cert.SKv.nD Cert.SKv.τ).loc Cert.SKv.main_arg3) = m ((c.tc : Thread Cert.SKv.nD Cert.SKv.τ).loc Cert.SKv.main_arg3))
      ∧ r.2.sem = fun _ => 0)

def quiescent_SKvIdeal [hSKvIdeal : Cert.SKvIdeal.Facts] : Prop :=
  ∀ (m : (ℓ : Loc Cert.SKvIdeal.nD Cert.SKvIdeal.τ Cert.SKvIdeal.sig) → Buf (Elt Ideal) ℓ) (g : Dev Cert.SKvIdeal.nD → PrngReg), Pre_SKvIdeal m →
    θ_run (Cert.SKvIdeal.defs (F := Ideal)) (onTc (τ := Cert.SKvIdeal.τ) (Cert.SKvIdeal.main (F := Ideal))) ⟨m, fun _ => 0, g⟩ (fun r => (∀ c : Dev Cert.SKvIdeal.nD,
      r.2.mem ((c.tc : Thread Cert.SKvIdeal.nD Cert.SKvIdeal.τ).loc Cert.SKvIdeal.main_arg0) = m ((c.tc : Thread Cert.SKvIdeal.nD Cert.SKvIdeal.τ).loc Cert.SKvIdeal.main_arg0)
      ∧ r.2.mem ((c.tc : Thread Cert.SKvIdeal.nD Cert.SKvIdeal.τ).loc Cert.SKvIdeal.main_arg1) = m ((c.tc : Thread Cert.SKvIdeal.nD Cert.SKvIdeal.τ).loc Cert.SKvIdeal.main_arg1)
      ∧ r.2.mem ((c.tc : Thread Cert.SKvIdeal.nD Cert.SKvIdeal.τ).loc Cert.SKvIdeal.main_arg2) = m ((c.tc : Thread Cert.SKvIdeal.nD Cert.SKvIdeal.τ).loc Cert.SKvIdeal.main_arg2)
      ∧ r.2.mem ((c.tc : Thread Cert.SKvIdeal.nD Cert.SKvIdeal.τ).loc Cert.SKvIdeal.main_arg3) = m ((c.tc : Thread Cert.SKvIdeal.nD Cert.SKvIdeal.τ).loc Cert.SKvIdeal.main_arg3))
      ∧ r.2.sem = fun _ => 0)

def quiescent_SKvIdeal_pre_finite_skv [hSKvIdeal : Cert.SKvIdeal.Facts] [hPre_finite_skv : Cert.Pre_finite_skv.Facts] : Prop :=
  ∀ (m : (ℓ : Loc Cert.SKvIdeal.nD Cert.SKvIdeal.τ Cert.SKvIdeal.sig) → Buf (Elt Ideal) ℓ) (g : Dev Cert.SKvIdeal.nD → PrngReg), Pre_SKvIdeal_finite_skv m →
    θ_run (Cert.SKvIdeal.defs (F := Ideal)) (onTc (τ := Cert.SKvIdeal.τ) (Cert.SKvIdeal.main (F := Ideal))) ⟨m, fun _ => 0, g⟩ (fun r => (∀ c : Dev Cert.SKvIdeal.nD,
      r.2.mem ((c.tc : Thread Cert.SKvIdeal.nD Cert.SKvIdeal.τ).loc Cert.SKvIdeal.main_arg0) = m ((c.tc : Thread Cert.SKvIdeal.nD Cert.SKvIdeal.τ).loc Cert.SKvIdeal.main_arg0)
      ∧ r.2.mem ((c.tc : Thread Cert.SKvIdeal.nD Cert.SKvIdeal.τ).loc Cert.SKvIdeal.main_arg1) = m ((c.tc : Thread Cert.SKvIdeal.nD Cert.SKvIdeal.τ).loc Cert.SKvIdeal.main_arg1)
      ∧ r.2.mem ((c.tc : Thread Cert.SKvIdeal.nD Cert.SKvIdeal.τ).loc Cert.SKvIdeal.main_arg2) = m ((c.tc : Thread Cert.SKvIdeal.nD Cert.SKvIdeal.τ).loc Cert.SKvIdeal.main_arg2)
      ∧ r.2.mem ((c.tc : Thread Cert.SKvIdeal.nD Cert.SKvIdeal.τ).loc Cert.SKvIdeal.main_arg3) = m ((c.tc : Thread Cert.SKvIdeal.nD Cert.SKvIdeal.τ).loc Cert.SKvIdeal.main_arg3))
      ∧ r.2.sem = fun _ => 0)

def quiescent_SKvRefIdeal [hSKvRefIdeal : Cert.SKvRefIdeal.Facts] : Prop :=
  ∀ (m : (ℓ : Loc Cert.SKvRefIdeal.nD Cert.SKvRefIdeal.τ Cert.SKvRefIdeal.sig) → Buf (Elt Ideal) ℓ) (g : Dev Cert.SKvRefIdeal.nD → PrngReg), Pre_SKvRefIdeal m →
    θ_run (Cert.SKvRefIdeal.defs (F := Ideal)) (onTc (τ := Cert.SKvRefIdeal.τ) (Cert.SKvRefIdeal.main (F := Ideal))) ⟨m, fun _ => 0, g⟩ (fun r => (∀ c : Dev Cert.SKvRefIdeal.nD,
      r.2.mem ((c.tc : Thread Cert.SKvRefIdeal.nD Cert.SKvRefIdeal.τ).loc Cert.SKvRefIdeal.main_arg0) = m ((c.tc : Thread Cert.SKvRefIdeal.nD Cert.SKvRefIdeal.τ).loc Cert.SKvRefIdeal.main_arg0)
      ∧ r.2.mem ((c.tc : Thread Cert.SKvRefIdeal.nD Cert.SKvRefIdeal.τ).loc Cert.SKvRefIdeal.main_arg1) = m ((c.tc : Thread Cert.SKvRefIdeal.nD Cert.SKvRefIdeal.τ).loc Cert.SKvRefIdeal.main_arg1)
      ∧ r.2.mem ((c.tc : Thread Cert.SKvRefIdeal.nD Cert.SKvRefIdeal.τ).loc Cert.SKvRefIdeal.main_arg2) = m ((c.tc : Thread Cert.SKvRefIdeal.nD Cert.SKvRefIdeal.τ).loc Cert.SKvRefIdeal.main_arg2)
      ∧ r.2.mem ((c.tc : Thread Cert.SKvRefIdeal.nD Cert.SKvRefIdeal.τ).loc Cert.SKvRefIdeal.main_arg3) = m ((c.tc : Thread Cert.SKvRefIdeal.nD Cert.SKvRefIdeal.τ).loc Cert.SKvRefIdeal.main_arg3))
      ∧ r.2.sem = fun _ => 0)

def quiescent_SKvRefIdeal_pre_finite_skv [hSKvRefIdeal : Cert.SKvRefIdeal.Facts] [hPre_finite_skv : Cert.Pre_finite_skv.Facts] : Prop :=
  ∀ (m : (ℓ : Loc Cert.SKvRefIdeal.nD Cert.SKvRefIdeal.τ Cert.SKvRefIdeal.sig) → Buf (Elt Ideal) ℓ) (g : Dev Cert.SKvRefIdeal.nD → PrngReg), Pre_SKvRefIdeal_finite_skv m →
    θ_run (Cert.SKvRefIdeal.defs (F := Ideal)) (onTc (τ := Cert.SKvRefIdeal.τ) (Cert.SKvRefIdeal.main (F := Ideal))) ⟨m, fun _ => 0, g⟩ (fun r => (∀ c : Dev Cert.SKvRefIdeal.nD,
      r.2.mem ((c.tc : Thread Cert.SKvRefIdeal.nD Cert.SKvRefIdeal.τ).loc Cert.SKvRefIdeal.main_arg0) = m ((c.tc : Thread Cert.SKvRefIdeal.nD Cert.SKvRefIdeal.τ).loc Cert.SKvRefIdeal.main_arg0)
      ∧ r.2.mem ((c.tc : Thread Cert.SKvRefIdeal.nD Cert.SKvRefIdeal.τ).loc Cert.SKvRefIdeal.main_arg1) = m ((c.tc : Thread Cert.SKvRefIdeal.nD Cert.SKvRefIdeal.τ).loc Cert.SKvRefIdeal.main_arg1)
      ∧ r.2.mem ((c.tc : Thread Cert.SKvRefIdeal.nD Cert.SKvRefIdeal.τ).loc Cert.SKvRefIdeal.main_arg2) = m ((c.tc : Thread Cert.SKvRefIdeal.nD Cert.SKvRefIdeal.τ).loc Cert.SKvRefIdeal.main_arg2)
      ∧ r.2.mem ((c.tc : Thread Cert.SKvRefIdeal.nD Cert.SKvRefIdeal.τ).loc Cert.SKvRefIdeal.main_arg3) = m ((c.tc : Thread Cert.SKvRefIdeal.nD Cert.SKvRefIdeal.τ).loc Cert.SKvRefIdeal.main_arg3))
      ∧ r.2.sem = fun _ => 0)

def quiescent_Qh [hQh : Cert.Qh.Facts] : Prop :=
  ∀ (m : (ℓ : Loc Cert.Qh.nD Cert.Qh.τ Cert.Qh.sig) → Buf (Elt Bits) ℓ) (g : Dev Cert.Qh.nD → PrngReg), Pre_Qh m →
    θ_run (Cert.Qh.defs (F := Bits)) (onTc (τ := Cert.Qh.τ) (Cert.Qh.main (F := Bits))) ⟨m, fun _ => 0, g⟩ (fun r => (∀ c : Dev Cert.Qh.nD,
      r.2.mem ((c.tc : Thread Cert.Qh.nD Cert.Qh.τ).loc Cert.Qh.main_arg0) = m ((c.tc : Thread Cert.Qh.nD Cert.Qh.τ).loc Cert.Qh.main_arg0)
      ∧ r.2.mem ((c.tc : Thread Cert.Qh.nD Cert.Qh.τ).loc Cert.Qh.main_arg1) = m ((c.tc : Thread Cert.Qh.nD Cert.Qh.τ).loc Cert.Qh.main_arg1)
      ∧ r.2.mem ((c.tc : Thread Cert.Qh.nD Cert.Qh.τ).loc Cert.Qh.main_arg2) = m ((c.tc : Thread Cert.Qh.nD Cert.Qh.τ).loc Cert.Qh.main_arg2)
      ∧ r.2.mem ((c.tc : Thread Cert.Qh.nD Cert.Qh.τ).loc Cert.Qh.main_arg3) = m ((c.tc : Thread Cert.Qh.nD Cert.Qh.τ).loc Cert.Qh.main_arg3))
      ∧ r.2.sem = fun _ => 0)

def quiescent_QhIdeal [hQhIdeal : Cert.QhIdeal.Facts] : Prop :=
  ∀ (m : (ℓ : Loc Cert.QhIdeal.nD Cert.QhIdeal.τ Cert.QhIdeal.sig) → Buf (Elt Ideal) ℓ) (g : Dev Cert.QhIdeal.nD → PrngReg), Pre_QhIdeal m →
    θ_run (Cert.QhIdeal.defs (F := Ideal)) (onTc (τ := Cert.QhIdeal.τ) (Cert.QhIdeal.main (F := Ideal))) ⟨m, fun _ => 0, g⟩ (fun r => (∀ c : Dev Cert.QhIdeal.nD,
      r.2.mem ((c.tc : Thread Cert.QhIdeal.nD Cert.QhIdeal.τ).loc Cert.QhIdeal.main_arg0) = m ((c.tc : Thread Cert.QhIdeal.nD Cert.QhIdeal.τ).loc Cert.QhIdeal.main_arg0)
      ∧ r.2.mem ((c.tc : Thread Cert.QhIdeal.nD Cert.QhIdeal.τ).loc Cert.QhIdeal.main_arg1) = m ((c.tc : Thread Cert.QhIdeal.nD Cert.QhIdeal.τ).loc Cert.QhIdeal.main_arg1)
      ∧ r.2.mem ((c.tc : Thread Cert.QhIdeal.nD Cert.QhIdeal.τ).loc Cert.QhIdeal.main_arg2) = m ((c.tc : Thread Cert.QhIdeal.nD Cert.QhIdeal.τ).loc Cert.QhIdeal.main_arg2)
      ∧ r.2.mem ((c.tc : Thread Cert.QhIdeal.nD Cert.QhIdeal.τ).loc Cert.QhIdeal.main_arg3) = m ((c.tc : Thread Cert.QhIdeal.nD Cert.QhIdeal.τ).loc Cert.QhIdeal.main_arg3))
      ∧ r.2.sem = fun _ => 0)

def quiescent_QhIdeal_pre_finite_q [hQhIdeal : Cert.QhIdeal.Facts] [hPre_finite_q : Cert.Pre_finite_q.Facts] : Prop :=
  ∀ (m : (ℓ : Loc Cert.QhIdeal.nD Cert.QhIdeal.τ Cert.QhIdeal.sig) → Buf (Elt Ideal) ℓ) (g : Dev Cert.QhIdeal.nD → PrngReg), Pre_QhIdeal_finite_q m →
    θ_run (Cert.QhIdeal.defs (F := Ideal)) (onTc (τ := Cert.QhIdeal.τ) (Cert.QhIdeal.main (F := Ideal))) ⟨m, fun _ => 0, g⟩ (fun r => (∀ c : Dev Cert.QhIdeal.nD,
      r.2.mem ((c.tc : Thread Cert.QhIdeal.nD Cert.QhIdeal.τ).loc Cert.QhIdeal.main_arg0) = m ((c.tc : Thread Cert.QhIdeal.nD Cert.QhIdeal.τ).loc Cert.QhIdeal.main_arg0)
      ∧ r.2.mem ((c.tc : Thread Cert.QhIdeal.nD Cert.QhIdeal.τ).loc Cert.QhIdeal.main_arg1) = m ((c.tc : Thread Cert.QhIdeal.nD Cert.QhIdeal.τ).loc Cert.QhIdeal.main_arg1)
      ∧ r.2.mem ((c.tc : Thread Cert.QhIdeal.nD Cert.QhIdeal.τ).loc Cert.QhIdeal.main_arg2) = m ((c.tc : Thread Cert.QhIdeal.nD Cert.QhIdeal.τ).loc Cert.QhIdeal.main_arg2)
      ∧ r.2.mem ((c.tc : Thread Cert.QhIdeal.nD Cert.QhIdeal.τ).loc Cert.QhIdeal.main_arg3) = m ((c.tc : Thread Cert.QhIdeal.nD Cert.QhIdeal.τ).loc Cert.QhIdeal.main_arg3))
      ∧ r.2.sem = fun _ => 0)

def quiescent_QhRefIdeal [hQhRefIdeal : Cert.QhRefIdeal.Facts] : Prop :=
  ∀ (m : (ℓ : Loc Cert.QhRefIdeal.nD Cert.QhRefIdeal.τ Cert.QhRefIdeal.sig) → Buf (Elt Ideal) ℓ) (g : Dev Cert.QhRefIdeal.nD → PrngReg), Pre_QhRefIdeal m →
    θ_run (Cert.QhRefIdeal.defs (F := Ideal)) (onTc (τ := Cert.QhRefIdeal.τ) (Cert.QhRefIdeal.main (F := Ideal))) ⟨m, fun _ => 0, g⟩ (fun r => (∀ c : Dev Cert.QhRefIdeal.nD,
      r.2.mem ((c.tc : Thread Cert.QhRefIdeal.nD Cert.QhRefIdeal.τ).loc Cert.QhRefIdeal.main_arg0) = m ((c.tc : Thread Cert.QhRefIdeal.nD Cert.QhRefIdeal.τ).loc Cert.QhRefIdeal.main_arg0)
      ∧ r.2.mem ((c.tc : Thread Cert.QhRefIdeal.nD Cert.QhRefIdeal.τ).loc Cert.QhRefIdeal.main_arg1) = m ((c.tc : Thread Cert.QhRefIdeal.nD Cert.QhRefIdeal.τ).loc Cert.QhRefIdeal.main_arg1)
      ∧ r.2.mem ((c.tc : Thread Cert.QhRefIdeal.nD Cert.QhRefIdeal.τ).loc Cert.QhRefIdeal.main_arg2) = m ((c.tc : Thread Cert.QhRefIdeal.nD Cert.QhRefIdeal.τ).loc Cert.QhRefIdeal.main_arg2)
      ∧ r.2.mem ((c.tc : Thread Cert.QhRefIdeal.nD Cert.QhRefIdeal.τ).loc Cert.QhRefIdeal.main_arg3) = m ((c.tc : Thread Cert.QhRefIdeal.nD Cert.QhRefIdeal.τ).loc Cert.QhRefIdeal.main_arg3))
      ∧ r.2.sem = fun _ => 0)

def quiescent_QhRefIdeal_pre_finite_q [hQhRefIdeal : Cert.QhRefIdeal.Facts] [hPre_finite_q : Cert.Pre_finite_q.Facts] : Prop :=
  ∀ (m : (ℓ : Loc Cert.QhRefIdeal.nD Cert.QhRefIdeal.τ Cert.QhRefIdeal.sig) → Buf (Elt Ideal) ℓ) (g : Dev Cert.QhRefIdeal.nD → PrngReg), Pre_QhRefIdeal_finite_q m →
    θ_run (Cert.QhRefIdeal.defs (F := Ideal)) (onTc (τ := Cert.QhRefIdeal.τ) (Cert.QhRefIdeal.main (F := Ideal))) ⟨m, fun _ => 0, g⟩ (fun r => (∀ c : Dev Cert.QhRefIdeal.nD,
      r.2.mem ((c.tc : Thread Cert.QhRefIdeal.nD Cert.QhRefIdeal.τ).loc Cert.QhRefIdeal.main_arg0) = m ((c.tc : Thread Cert.QhRefIdeal.nD Cert.QhRefIdeal.τ).loc Cert.QhRefIdeal.main_arg0)
      ∧ r.2.mem ((c.tc : Thread Cert.QhRefIdeal.nD Cert.QhRefIdeal.τ).loc Cert.QhRefIdeal.main_arg1) = m ((c.tc : Thread Cert.QhRefIdeal.nD Cert.QhRefIdeal.τ).loc Cert.QhRefIdeal.main_arg1)
      ∧ r.2.mem ((c.tc : Thread Cert.QhRefIdeal.nD Cert.QhRefIdeal.τ).loc Cert.QhRefIdeal.main_arg2) = m ((c.tc : Thread Cert.QhRefIdeal.nD Cert.QhRefIdeal.τ).loc Cert.QhRefIdeal.main_arg2)
      ∧ r.2.mem ((c.tc : Thread Cert.QhRefIdeal.nD Cert.QhRefIdeal.τ).loc Cert.QhRefIdeal.main_arg3) = m ((c.tc : Thread Cert.QhRefIdeal.nD Cert.QhRefIdeal.τ).loc Cert.QhRefIdeal.main_arg3))
      ∧ r.2.sem = fun _ => 0)

def preserves_Attn_AttnIdeal : Prop :=
  IdealRules.named_const.Statement Cert.AttnIdeal.κ "scale2" .f32 0x3DD53B95#32 (((Real.sqrt 192)⁻¹ * (Real.log 2)⁻¹ : ℝ) : EReal)

def algebraic_AttnIdeal_AttnRefIdeal_pre_finite_qk [hAttnIdeal : Cert.AttnIdeal.Facts] [hAttnRefIdeal : Cert.AttnRefIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_qk m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v37) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v51) = v0 c
          ∧ r.2.mem ((c.tc : Thread Cert.FfnRefIdeal.nD Cert.FfnRefIdeal.τ).loc Cert.FfnRefIdeal.main_v52) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v2_0)) (v1 : (c : Dev Cert.DownIdeal.nD) → Buf (Elt Ideal) ((c.tc : Thread Cert.DownIdeal.nD Cert.DownIdeal.τ).loc Cert.DownIdeal.main_v2_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2_0) = v0 c
          ∧ r.2.mem ((c.tc : Thread Cert.DownIdeal.nD Cert.DownIdeal.τ).loc Cert.DownIdeal.main_v2_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v18) = v0 c
          ∧ r.2.mem ((c.tc : Thread Cert.DownRefIdeal.nD Cert.DownRefIdeal.τ).loc Cert.DownRefIdeal.main_v32) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v2_0)) (v1 : (c : Dev Cert.OutIdeal.nD) → Buf (Elt Ideal) ((c.tc : Thread Cert.OutIdeal.nD Cert.OutIdeal.τ).loc Cert.OutIdeal.main_v2_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2_0) = v0 c
          ∧ r.2.mem ((c.tc : Thread Cert.OutIdeal.nD Cert.OutIdeal.τ).loc Cert.OutIdeal.main_v2_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v18) = v0 c
          ∧ r.2.mem ((c.tc : Thread Cert.OutRefIdeal.nD Cert.OutRefIdeal.τ).loc Cert.OutRefIdeal.main_v32) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)) →
    ∃ (v0 : (c : Dev Cert.LastIdeal.nD) → Buf (Elt Ideal) ((c.tc : Thread Cert.LastIdeal.nD Cert.LastIdeal.τ).loc Cert.LastIdeal.main_v1)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v1) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v18) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3))

def preserves_SLast_SLastIdeal : Prop :=
  True

def algebraic_SLastIdeal_SLastRefIdeal [hSLastIdeal : Cert.SLastIdeal.Facts] [hSLastRefIdeal : Cert.SLastRefIdeal.Facts] : Prop :=
  ∀ (m : (ℓ : Loc Cert.SLastIdeal.nD Cert.SLastIdeal.τ Cert.SLastIdeal.sig) → Buf (Elt Ideal) ℓ) (g : Dev Cert.SLastIdeal.nD → PrngReg)
    (m' : (ℓ : Loc Cert.SLastRefIdeal.nD Cert.SLastRefIdeal.τ Cert.SLastRefIdeal.sig) → Buf (Elt Ideal) ℓ) (g' : Dev Cert.SLastRefIdeal.nD → PrngReg), Pre_SLastIdeal m →
    (∀ c : Dev Cert.SLastIdeal.nD,
      m' ((c.tc : Thread Cert.SLastRefIdeal.nD Cert.SLastRefIdeal.τ).loc Cert.SLastRefIdeal.main_arg0) = m ((c.tc : Thread Cert.SLastIdeal.nD Cert.SLastIdeal.τ).loc Cert.SLastIdeal.main_arg0)
      ∧ m' ((c.tc : Thread Cert.SLastRefIdeal.nD Cert.SLastRefIdeal.τ).loc Cert.SLastRefIdeal.main_arg1) = m ((c.tc : Thread Cert.SLastIdeal.nD Cert.SLastIdeal.τ).loc Cert.SLastIdeal.main_arg1)
      ∧ m' ((c.tc : Thread Cert.SLastRefIdeal.nD Cert.SLastRefIdeal.τ).loc Cert.SLastRefIdeal.main_arg2) = m ((c.tc : Thread Cert.SLastIdeal.nD Cert.SLastIdeal.τ).loc Cert.SLastIdeal.main_arg2)
      ∧ m' ((c.tc : Thread Cert.SLastRefIdeal.nD Cert.SLastRefIdeal.τ).loc Cert.SLastRefIdeal.main_arg3) = m ((c.tc : Thread Cert.SLastIdeal.nD Cert.SLastIdeal.τ).loc Cert.SLastIdeal.main_arg3)) →
    ∃ (v0 : (c : Dev Cert.SLastIdeal.nD) → Buf (Elt Ideal) ((c.tc : Thread Cert.SLastIdeal.nD Cert.SLastIdeal.τ).loc Cert.SLastIdeal.main_v1)),
      θ_run (Cert.SLastIdeal.defs (F := Ideal)) (onTc (τ := Cert.SLastIdeal.τ) (Cert.SLastIdeal.main (F := Ideal))) ⟨m, fun _ => 0, g⟩ (fun r => ∀ c : Dev Cert.SLastIdeal.nD,
          r.2.mem ((c.tc : Thread Cert.SLastIdeal.nD Cert.SLastIdeal.τ).loc Cert.SLastIdeal.main_v1) = v0 c
          ∧ r.2.mem ((c.tc : Thread Cert.SLastIdeal.nD Cert.SLastIdeal.τ).loc Cert.SLastIdeal.main_arg0) = m ((c.tc : Thread Cert.SLastIdeal.nD Cert.SLastIdeal.τ).loc Cert.SLastIdeal.main_arg0)
          ∧ r.2.mem ((c.tc : Thread Cert.SLastIdeal.nD Cert.SLastIdeal.τ).loc Cert.SLastIdeal.main_arg1) = m ((c.tc : Thread Cert.SLastIdeal.nD Cert.SLastIdeal.τ).loc Cert.SLastIdeal.main_arg1)
          ∧ r.2.mem ((c.tc : Thread Cert.SLastIdeal.nD Cert.SLastIdeal.τ).loc Cert.SLastIdeal.main_arg2) = m ((c.tc : Thread Cert.SLastIdeal.nD Cert.SLastIdeal.τ).loc Cert.SLastIdeal.main_arg2)
          ∧ r.2.mem ((c.tc : Thread Cert.SLastIdeal.nD Cert.SLastIdeal.τ).loc Cert.SLastIdeal.main_arg3) = m ((c.tc : Thread Cert.SLastIdeal.nD Cert.SLastIdeal.τ).loc Cert.SLastIdeal.main_arg3))
      ∧ θ_run (Cert.SLastRefIdeal.defs (F := Ideal)) (onTc (τ := Cert.SLastRefIdeal.τ) (Cert.SLastRefIdeal.main (F := Ideal))) ⟨m', fun _ => 0, g'⟩ (fun r => ∀ c : Dev Cert.SLastRefIdeal.nD,
          r.2.mem ((c.tc : Thread Cert.SLastRefIdeal.nD Cert.SLastRefIdeal.τ).loc Cert.SLastRefIdeal.main_v18) = v0 c
          ∧ r.2.mem ((c.tc : Thread Cert.SLastRefIdeal.nD Cert.SLastRefIdeal.τ).loc Cert.SLastRefIdeal.main_arg0) = m' ((c.tc : Thread Cert.SLastRefIdeal.nD Cert.SLastRefIdeal.τ).loc Cert.SLastRefIdeal.main_arg0)
          ∧ r.2.mem ((c.tc : Thread Cert.SLastRefIdeal.nD Cert.SLastRefIdeal.τ).loc Cert.SLastRefIdeal.main_arg1) = m' ((c.tc : Thread Cert.SLastRefIdeal.nD Cert.SLastRefIdeal.τ).loc Cert.SLastRefIdeal.main_arg1)
          ∧ r.2.mem ((c.tc : Thread Cert.SLastRefIdeal.nD Cert.SLastRefIdeal.τ).loc Cert.SLastRefIdeal.main_arg2) = m' ((c.tc : Thread Cert.SLastRefIdeal.nD Cert.SLastRefIdeal.τ).loc Cert.SLastRefIdeal.main_arg2)
          ∧ r.2.mem ((c.tc : Thread Cert.SLastRefIdeal.nD Cert.SLastRefIdeal.τ).loc Cert.SLastRefIdeal.main_arg3) = m' ((c.tc : Thread Cert.SLastRefIdeal.nD Cert.SLastRefIdeal.τ).loc Cert.SLastRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v4) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Step_StepIdeal : Prop :=
  True

def algebraic_StepIdeal_StepRefIdeal [hStepIdeal : Cert.StepIdeal.Facts] [hStepRefIdeal : Cert.StepRefIdeal.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepRefIdeal.nD Cert.StepRefIdeal.τ Cert.StepRefIdeal.sig) → Buf (Elt Ideal) ℓ) (g' : Dev Cert.StepRefIdeal.nD → PrngReg), Pre_StepIdeal m →
    (∀ c : Dev Cert.StepIdeal.nD,
      m' ((c.tc : Thread Cert.StepRefIdeal.nD Cert.StepRefIdeal.τ).loc Cert.StepRefIdeal.main_arg0) = m ((c.tc : Thread Cert.StepIdeal.nD Cert.StepIdeal.τ).loc Cert.StepIdeal.main_arg0)
      ∧ m' ((c.tc : Thread Cert.StepRefIdeal.nD Cert.StepRefIdeal.τ).loc Cert.StepRefIdeal.main_arg1) = m ((c.tc : Thread Cert.StepIdeal.nD Cert.StepIdeal.τ).loc Cert.StepIdeal.main_arg1)
      ∧ m' ((c.tc : Thread Cert.StepRefIdeal.nD Cert.StepRefIdeal.τ).loc Cert.StepRefIdeal.main_arg2) = m ((c.tc : Thread Cert.StepIdeal.nD Cert.StepIdeal.τ).loc Cert.StepIdeal.main_arg2)
      ∧ m' ((c.tc : Thread Cert.StepRefIdeal.nD Cert.StepRefIdeal.τ).loc Cert.StepRefIdeal.main_arg3) = m ((c.tc : Thread Cert.StepIdeal.nD Cert.StepIdeal.τ).loc Cert.StepIdeal.main_arg3)
      ∧ m' ((c.tc : Thread Cert.StepRefIdeal.nD Cert.StepRefIdeal.τ).loc Cert.StepRefIdeal.main_arg4) = m ((c.tc : Thread Cert.StepIdeal.nD Cert.StepIdeal.τ).loc Cert.StepIdeal.main_arg4)
      ∧ m' ((c.tc : Thread Cert.StepRefIdeal.nD Cert.StepRefIdeal.τ).loc Cert.StepRefIdeal.main_arg5) = m ((c.tc : Thread Cert.StepIdeal.nD Cert.StepIdeal.τ).loc Cert.StepIdeal.main_arg5)
      ∧ m' ((c.tc : Thread Cert.StepRefIdeal.nD Cert.StepRefIdeal.τ).loc Cert.StepRefIdeal.main_arg6) = m ((c.tc : Thread Cert.StepIdeal.nD Cert.StepIdeal.τ).loc Cert.StepIdeal.main_arg6)
      ∧ m' ((c.tc : Thread Cert.StepRefIdeal.nD Cert.StepRefIdeal.τ).loc Cert.StepRefIdeal.main_arg7) = m ((c.tc : Thread Cert.StepIdeal.nD Cert.StepIdeal.τ).loc Cert.StepIdeal.main_arg7)
      ∧ m' ((c.tc : Thread Cert.StepRefIdeal.nD Cert.StepRefIdeal.τ).loc Cert.StepRefIdeal.main_arg8) = m ((c.tc : Thread Cert.StepIdeal.nD Cert.StepIdeal.τ).loc Cert.StepIdeal.main_arg8)
      ∧ m' ((c.tc : Thread Cert.StepRefIdeal.nD Cert.StepRefIdeal.τ).loc Cert.StepRefIdeal.main_arg9) = m ((c.tc : Thread Cert.StepIdeal.nD Cert.StepIdeal.τ).loc Cert.StepIdeal.main_arg9)) →
    ∃ (v0 : (c : Dev Cert.StepIdeal.nD) → Buf (Elt Ideal) ((c.tc : Thread Cert.StepIdeal.nD Cert.StepIdeal.τ).loc Cert.StepIdeal.main_v10_0)) (v1 : (c : Dev Cert.StepIdeal.nD) → Buf (Elt Ideal) ((c.tc : Thread Cert.StepIdeal.nD Cert.StepIdeal.τ).loc Cert.StepIdeal.main_v10_1)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v10_0) = v0 c
          ∧ r.2.mem ((c.tc : Thread Cert.StepIdeal.nD Cert.StepIdeal.τ).loc Cert.StepIdeal.main_v10_1) = v1 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
          ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
          ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
          ∧ r.2.mem ((c.tc : Thread Cert.StepIdeal.nD Cert.StepIdeal.τ).loc Cert.StepIdeal.main_arg6) = m ((c.tc : Thread Cert.StepIdeal.nD Cert.StepIdeal.τ).loc Cert.StepIdeal.main_arg6)
          ∧ r.2.mem ((c.tc : Thread Cert.StepIdeal.nD Cert.StepIdeal.τ).loc Cert.StepIdeal.main_arg7) = m ((c.tc : Thread Cert.StepIdeal.nD Cert.StepIdeal.τ).loc Cert.StepIdeal.main_arg7)
          ∧ r.2.mem ((c.tc : Thread Cert.StepIdeal.nD Cert.StepIdeal.τ).loc Cert.StepIdeal.main_arg8) = m ((c.tc : Thread Cert.StepIdeal.nD Cert.StepIdeal.τ).loc Cert.StepIdeal.main_arg8)
          ∧ r.2.mem ((c.tc : Thread Cert.StepIdeal.nD Cert.StepIdeal.τ).loc Cert.StepIdeal.main_arg9) = m ((c.tc : Thread Cert.StepIdeal.nD Cert.StepIdeal.τ).loc Cert.StepIdeal.main_arg9))
      ∧ θ_run (Cert.StepRefIdeal.defs (F := Ideal)) (onTc (τ := Cert.StepRefIdeal.τ) (Cert.StepRefIdeal.main (F := Ideal))) ⟨m', fun _ => 0, g'⟩ (fun r => ∀ c : Dev Cert.StepRefIdeal.nD,
          r.2.mem ((c.tc : Thread Cert.StepRefIdeal.nD Cert.StepRefIdeal.τ).loc Cert.StepRefIdeal.main_v97) = v0 c
          ∧ r.2.mem ((c.tc : Thread Cert.StepRefIdeal.nD Cert.StepRefIdeal.τ).loc Cert.StepRefIdeal.main_v82) = v1 c
          ∧ r.2.mem ((c.tc : Thread Cert.StepRefIdeal.nD Cert.StepRefIdeal.τ).loc Cert.StepRefIdeal.main_arg0) = m' ((c.tc : Thread Cert.StepRefIdeal.nD Cert.StepRefIdeal.τ).loc Cert.StepRefIdeal.main_arg0)
          ∧ r.2.mem ((c.tc : Thread Cert.StepRefIdeal.nD Cert.StepRefIdeal.τ).loc Cert.StepRefIdeal.main_arg1) = m' ((c.tc : Thread Cert.StepRefIdeal.nD Cert.StepRefIdeal.τ).loc Cert.StepRefIdeal.main_arg1)
          ∧ r.2.mem ((c.tc : Thread Cert.StepRefIdeal.nD Cert.StepRefIdeal.τ).loc Cert.StepRefIdeal.main_arg2) = m' ((c.tc : Thread Cert.StepRefIdeal.nD Cert.StepRefIdeal.τ).loc Cert.StepRefIdeal.main_arg2)
          ∧ r.2.mem ((c.tc : Thread Cert.StepRefIdeal.nD Cert.StepRefIdeal.τ).loc Cert.StepRefIdeal.main_arg3) = m' ((c.tc : Thread Cert.StepRefIdeal.nD Cert.StepRefIdeal.τ).loc Cert.StepRefIdeal.main_arg3)
          ∧ r.2.mem ((c.tc : Thread Cert.StepRefIdeal.nD Cert.StepRefIdeal.τ).loc Cert.StepRefIdeal.main_arg4) = m' ((c.tc : Thread Cert.StepRefIdeal.nD Cert.StepRefIdeal.τ).loc Cert.StepRefIdeal.main_arg4)
          ∧ r.2.mem ((c.tc : Thread Cert.StepRefIdeal.nD Cert.StepRefIdeal.τ).loc Cert.StepRefIdeal.main_arg5) = m' ((c.tc : Thread Cert.StepRefIdeal.nD Cert.StepRefIdeal.τ).loc Cert.StepRefIdeal.main_arg5)
          ∧ r.2.mem ((c.tc : Thread Cert.StepRefIdeal.nD Cert.StepRefIdeal.τ).loc Cert.StepRefIdeal.main_arg6) = m' ((c.tc : Thread Cert.StepRefIdeal.nD Cert.StepRefIdeal.τ).loc Cert.StepRefIdeal.main_arg6)
          ∧ r.2.mem ((c.tc : Thread Cert.StepRefIdeal.nD Cert.StepRefIdeal.τ).loc Cert.StepRefIdeal.main_arg7) = m' ((c.tc : Thread Cert.StepRefIdeal.nD Cert.StepRefIdeal.τ).loc Cert.StepRefIdeal.main_arg7)
          ∧ r.2.mem ((c.tc : Thread Cert.StepRefIdeal.nD Cert.StepRefIdeal.τ).loc Cert.StepRefIdeal.main_arg8) = m' ((c.tc : Thread Cert.StepRefIdeal.nD Cert.StepRefIdeal.τ).loc Cert.StepRefIdeal.main_arg8)
          ∧ r.2.mem ((c.tc : Thread Cert.StepRefIdeal.nD Cert.StepRefIdeal.τ).loc Cert.StepRefIdeal.main_arg9) = m' ((c.tc : Thread Cert.StepRefIdeal.nD Cert.StepRefIdeal.τ).loc Cert.StepRefIdeal.main_arg9))

def preserves_FfnStep_FfnStepIdeal : Prop :=
  True

def algebraic_FfnStepIdeal_FfnStepRefIdeal [hFfnStepIdeal : Cert.FfnStepIdeal.Facts] [hFfnStepRefIdeal : Cert.FfnStepRefIdeal.Facts] : Prop :=
  ∀ (m : (ℓ : Loc Cert.FfnStepIdeal.nD Cert.FfnStepIdeal.τ Cert.FfnStepIdeal.sig) → Buf (Elt Ideal) ℓ) (g : Dev Cert.FfnStepIdeal.nD → PrngReg)
    (m' : (ℓ : Loc Cert.FfnStepRefIdeal.nD Cert.FfnStepRefIdeal.τ Cert.FfnStepRefIdeal.sig) → Buf (Elt Ideal) ℓ) (g' : Dev Cert.FfnStepRefIdeal.nD → PrngReg), Pre_FfnStepIdeal m →
    (∀ c : Dev Cert.FfnStepIdeal.nD,
      m' ((c.tc : Thread Cert.FfnStepRefIdeal.nD Cert.FfnStepRefIdeal.τ).loc Cert.FfnStepRefIdeal.main_arg0) = m ((c.tc : Thread Cert.FfnStepIdeal.nD Cert.FfnStepIdeal.τ).loc Cert.FfnStepIdeal.main_arg0)
      ∧ m' ((c.tc : Thread Cert.FfnStepRefIdeal.nD Cert.FfnStepRefIdeal.τ).loc Cert.FfnStepRefIdeal.main_arg1) = m ((c.tc : Thread Cert.FfnStepIdeal.nD Cert.FfnStepIdeal.τ).loc Cert.FfnStepIdeal.main_arg1)
      ∧ m' ((c.tc : Thread Cert.FfnStepRefIdeal.nD Cert.FfnStepRefIdeal.τ).loc Cert.FfnStepRefIdeal.main_arg2) = m ((c.tc : Thread Cert.FfnStepIdeal.nD Cert.FfnStepIdeal.τ).loc Cert.FfnStepIdeal.main_arg2)
      ∧ m' ((c.tc : Thread Cert.FfnStepRefIdeal.nD Cert.FfnStepRefIdeal.τ).loc Cert.FfnStepRefIdeal.main_arg3) = m ((c.tc : Thread Cert.FfnStepIdeal.nD Cert.FfnStepIdeal.τ).loc Cert.FfnStepIdeal.main_arg3)
      ∧ m' ((c.tc : Thread Cert.FfnStepRefIdeal.nD Cert.FfnStepRefIdeal.τ).loc Cert.FfnStepRefIdeal.main_arg4) = m ((c.tc : Thread Cert.FfnStepIdeal.nD Cert.FfnStepIdeal.τ).loc Cert.FfnStepIdeal.main_arg4)
      ∧ m' ((c.tc : Thread Cert.FfnStepRefIdeal.nD Cert.FfnStepRefIdeal.τ).loc Cert.FfnStepRefIdeal.main_arg5) = m ((c.tc : Thread Cert.FfnStepIdeal.nD Cert.FfnStepIdeal.τ).loc Cert.FfnStepIdeal.main_arg5)) →
    ∃ (v0 : (c : Dev Cert.FfnStepIdeal.nD) → Buf (Elt Ideal) ((c.tc : Thread Cert.FfnStepIdeal.nD Cert.FfnStepIdeal.τ).loc Cert.FfnStepIdeal.main_v4_0)) (v1 : (c : Dev Cert.FfnStepIdeal.nD) → Buf (Elt Ideal) ((c.tc : Thread Cert.FfnStepIdeal.nD Cert.FfnStepIdeal.τ).loc Cert.FfnStepIdeal.main_v4_1)),
      θ_run (Cert.FfnStepIdeal.defs (F := Ideal)) (onTc (τ := Cert.FfnStepIdeal.τ) (Cert.FfnStepIdeal.main (F := Ideal))) ⟨m, fun _ => 0, g⟩ (fun r => ∀ c : Dev Cert.FfnStepIdeal.nD,
          r.2.mem ((c.tc : Thread Cert.FfnStepIdeal.nD Cert.FfnStepIdeal.τ).loc Cert.FfnStepIdeal.main_v4_0) = v0 c
          ∧ r.2.mem ((c.tc : Thread Cert.FfnStepIdeal.nD Cert.FfnStepIdeal.τ).loc Cert.FfnStepIdeal.main_v4_1) = v1 c
          ∧ r.2.mem ((c.tc : Thread Cert.FfnStepIdeal.nD Cert.FfnStepIdeal.τ).loc Cert.FfnStepIdeal.main_arg0) = m ((c.tc : Thread Cert.FfnStepIdeal.nD Cert.FfnStepIdeal.τ).loc Cert.FfnStepIdeal.main_arg0)
          ∧ r.2.mem ((c.tc : Thread Cert.FfnStepIdeal.nD Cert.FfnStepIdeal.τ).loc Cert.FfnStepIdeal.main_arg1) = m ((c.tc : Thread Cert.FfnStepIdeal.nD Cert.FfnStepIdeal.τ).loc Cert.FfnStepIdeal.main_arg1)
          ∧ r.2.mem ((c.tc : Thread Cert.FfnStepIdeal.nD Cert.FfnStepIdeal.τ).loc Cert.FfnStepIdeal.main_arg2) = m ((c.tc : Thread Cert.FfnStepIdeal.nD Cert.FfnStepIdeal.τ).loc Cert.FfnStepIdeal.main_arg2)
          ∧ r.2.mem ((c.tc : Thread Cert.FfnStepIdeal.nD Cert.FfnStepIdeal.τ).loc Cert.FfnStepIdeal.main_arg3) = m ((c.tc : Thread Cert.FfnStepIdeal.nD Cert.FfnStepIdeal.τ).loc Cert.FfnStepIdeal.main_arg3)
          ∧ r.2.mem ((c.tc : Thread Cert.FfnStepIdeal.nD Cert.FfnStepIdeal.τ).loc Cert.FfnStepIdeal.main_arg4) = m ((c.tc : Thread Cert.FfnStepIdeal.nD Cert.FfnStepIdeal.τ).loc Cert.FfnStepIdeal.main_arg4)
          ∧ r.2.mem ((c.tc : Thread Cert.FfnStepIdeal.nD Cert.FfnStepIdeal.τ).loc Cert.FfnStepIdeal.main_arg5) = m ((c.tc : Thread Cert.FfnStepIdeal.nD Cert.FfnStepIdeal.τ).loc Cert.FfnStepIdeal.main_arg5))
      ∧ θ_run (Cert.FfnStepRefIdeal.defs (F := Ideal)) (onTc (τ := Cert.FfnStepRefIdeal.τ) (Cert.FfnStepRefIdeal.main (F := Ideal))) ⟨m', fun _ => 0, g'⟩ (fun r => ∀ c : Dev Cert.FfnStepRefIdeal.nD,
          r.2.mem ((c.tc : Thread Cert.FfnStepRefIdeal.nD Cert.FfnStepRefIdeal.τ).loc Cert.FfnStepRefIdeal.main_v51) = v0 c
          ∧ r.2.mem ((c.tc : Thread Cert.FfnStepRefIdeal.nD Cert.FfnStepRefIdeal.τ).loc Cert.FfnStepRefIdeal.main_v3) = v1 c
          ∧ r.2.mem ((c.tc : Thread Cert.FfnStepRefIdeal.nD Cert.FfnStepRefIdeal.τ).loc Cert.FfnStepRefIdeal.main_arg0) = m' ((c.tc : Thread Cert.FfnStepRefIdeal.nD Cert.FfnStepRefIdeal.τ).loc Cert.FfnStepRefIdeal.main_arg0)
          ∧ r.2.mem ((c.tc : Thread Cert.FfnStepRefIdeal.nD Cert.FfnStepRefIdeal.τ).loc Cert.FfnStepRefIdeal.main_arg1) = m' ((c.tc : Thread Cert.FfnStepRefIdeal.nD Cert.FfnStepRefIdeal.τ).loc Cert.FfnStepRefIdeal.main_arg1)
          ∧ r.2.mem ((c.tc : Thread Cert.FfnStepRefIdeal.nD Cert.FfnStepRefIdeal.τ).loc Cert.FfnStepRefIdeal.main_arg2) = m' ((c.tc : Thread Cert.FfnStepRefIdeal.nD Cert.FfnStepRefIdeal.τ).loc Cert.FfnStepRefIdeal.main_arg2)
          ∧ r.2.mem ((c.tc : Thread Cert.FfnStepRefIdeal.nD Cert.FfnStepRefIdeal.τ).loc Cert.FfnStepRefIdeal.main_arg3) = m' ((c.tc : Thread Cert.FfnStepRefIdeal.nD Cert.FfnStepRefIdeal.τ).loc Cert.FfnStepRefIdeal.main_arg3)
          ∧ r.2.mem ((c.tc : Thread Cert.FfnStepRefIdeal.nD Cert.FfnStepRefIdeal.τ).loc Cert.FfnStepRefIdeal.main_arg4) = m' ((c.tc : Thread Cert.FfnStepRefIdeal.nD Cert.FfnStepRefIdeal.τ).loc Cert.FfnStepRefIdeal.main_arg4)
          ∧ r.2.mem ((c.tc : Thread Cert.FfnStepRefIdeal.nD Cert.FfnStepRefIdeal.τ).loc Cert.FfnStepRefIdeal.main_arg5) = m' ((c.tc : Thread Cert.FfnStepRefIdeal.nD Cert.FfnStepRefIdeal.τ).loc Cert.FfnStepRefIdeal.main_arg5))

def preserves_Kv_KvIdeal : Prop :=
  True

def algebraic_KvIdeal_KvRefIdeal_pre_finite_kv [hKvIdeal : Cert.KvIdeal.Facts] [hKvRefIdeal : Cert.KvRefIdeal.Facts] [hPre_finite_kv : Cert.Pre_finite_kv.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal_finite_kv m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)
      ∧ m' ((c.tc : Thread Cert.KvRefIdeal.nD Cert.KvRefIdeal.τ).loc Cert.KvRefIdeal.main_arg3) = m ((c.tc : Thread Cert.KvIdeal.nD Cert.KvIdeal.τ).loc Cert.KvIdeal.main_arg3)) →
    ∃ (v0 : (c : Dev Cert.KvIdeal.nD) → Buf (Elt Ideal) ((c.tc : Thread Cert.KvIdeal.nD Cert.KvIdeal.τ).loc Cert.KvIdeal.main_v27_0)) (v1 : (c : Dev Cert.KvIdeal.nD) → Buf (Elt Ideal) ((c.tc : Thread Cert.KvIdeal.nD Cert.KvIdeal.τ).loc Cert.KvIdeal.main_v27_1)) (v2 : (c : Dev Cert.KvIdeal.nD) → Buf (Elt Ideal) ((c.tc : Thread Cert.KvIdeal.nD Cert.KvIdeal.τ).loc Cert.KvIdeal.main_v27_2)) (v3 : (c : Dev Cert.KvIdeal.nD) → Buf (Elt Ideal) ((c.tc : Thread Cert.KvIdeal.nD Cert.KvIdeal.τ).loc Cert.KvIdeal.main_v27_3)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v27_0) = v0 c
          ∧ r.2.mem ((c.tc : Thread Cert.KvIdeal.nD Cert.KvIdeal.τ).loc Cert.KvIdeal.main_v27_1) = v1 c
          ∧ r.2.mem ((c.tc : Thread Cert.KvIdeal.nD Cert.KvIdeal.τ).loc Cert.KvIdeal.main_v27_2) = v2 c
          ∧ r.2.mem ((c.tc : Thread Cert.KvIdeal.nD Cert.KvIdeal.τ).loc Cert.KvIdeal.main_v27_3) = v3 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
          ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v30) = v0 c
          ∧ r.2.mem ((c.tc : Thread Cert.KvRefIdeal.nD Cert.KvRefIdeal.τ).loc Cert.KvRefIdeal.main_v62) = v1 c
          ∧ r.2.mem ((c.tc : Thread Cert.KvRefIdeal.nD Cert.KvRefIdeal.τ).loc Cert.KvRefIdeal.main_v63) = v2 c
          ∧ r.2.mem ((c.tc : Thread Cert.KvRefIdeal.nD Cert.KvRefIdeal.τ).loc Cert.KvRefIdeal.main_v66) = v3 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2)
          ∧ r.2.mem ((c.tc : Thread Cert.KvRefIdeal.nD Cert.KvRefIdeal.τ).loc Cert.KvRefIdeal.main_arg3) = m' ((c.tc : Thread Cert.KvRefIdeal.nD Cert.KvRefIdeal.τ).loc Cert.KvRefIdeal.main_arg3))

def preserves_SKv_SKvIdeal : Prop :=
  True

def algebraic_SKvIdeal_SKvRefIdeal_pre_finite_skv [hSKvIdeal : Cert.SKvIdeal.Facts] [hSKvRefIdeal : Cert.SKvRefIdeal.Facts] [hPre_finite_skv : Cert.Pre_finite_skv.Facts] : Prop :=
  ∀ (m : (ℓ : Loc Cert.SKvIdeal.nD Cert.SKvIdeal.τ Cert.SKvIdeal.sig) → Buf (Elt Ideal) ℓ) (g : Dev Cert.SKvIdeal.nD → PrngReg)
    (m' : (ℓ : Loc Cert.SKvRefIdeal.nD Cert.SKvRefIdeal.τ Cert.SKvRefIdeal.sig) → Buf (Elt Ideal) ℓ) (g' : Dev Cert.SKvRefIdeal.nD → PrngReg), Pre_SKvIdeal_finite_skv m →
    (∀ c : Dev Cert.SKvIdeal.nD,
      m' ((c.tc : Thread Cert.SKvRefIdeal.nD Cert.SKvRefIdeal.τ).loc Cert.SKvRefIdeal.main_arg0) = m ((c.tc : Thread Cert.SKvIdeal.nD Cert.SKvIdeal.τ).loc Cert.SKvIdeal.main_arg0)
      ∧ m' ((c.tc : Thread Cert.SKvRefIdeal.nD Cert.SKvRefIdeal.τ).loc Cert.SKvRefIdeal.main_arg1) = m ((c.tc : Thread Cert.SKvIdeal.nD Cert.SKvIdeal.τ).loc Cert.SKvIdeal.main_arg1)
      ∧ m' ((c.tc : Thread Cert.SKvRefIdeal.nD Cert.SKvRefIdeal.τ).loc Cert.SKvRefIdeal.main_arg2) = m ((c.tc : Thread Cert.SKvIdeal.nD Cert.SKvIdeal.τ).loc Cert.SKvIdeal.main_arg2)
      ∧ m' ((c.tc : Thread Cert.SKvRefIdeal.nD Cert.SKvRefIdeal.τ).loc Cert.SKvRefIdeal.main_arg3) = m ((c.tc : Thread Cert.SKvIdeal.nD Cert.SKvIdeal.τ).loc Cert.SKvIdeal.main_arg3)) →
    ∃ (v0 : (c : Dev Cert.SKvIdeal.nD) → Buf (Elt Ideal) ((c.tc : Thread Cert.SKvIdeal.nD Cert.SKvIdeal.τ).loc Cert.SKvIdeal.main_v27_0)) (v1 : (c : Dev Cert.SKvIdeal.nD) → Buf (Elt Ideal) ((c.tc : Thread Cert.SKvIdeal.nD Cert.SKvIdeal.τ).loc Cert.SKvIdeal.main_v27_1)) (v2 : (c : Dev Cert.SKvIdeal.nD) → Buf (Elt Ideal) ((c.tc : Thread Cert.SKvIdeal.nD Cert.SKvIdeal.τ).loc Cert.SKvIdeal.main_v27_2)) (v3 : (c : Dev Cert.SKvIdeal.nD) → Buf (Elt Ideal) ((c.tc : Thread Cert.SKvIdeal.nD Cert.SKvIdeal.τ).loc Cert.SKvIdeal.main_v27_3)),
      θ_run (Cert.SKvIdeal.defs (F := Ideal)) (onTc (τ := Cert.SKvIdeal.τ) (Cert.SKvIdeal.main (F := Ideal))) ⟨m, fun _ => 0, g⟩ (fun r => ∀ c : Dev Cert.SKvIdeal.nD,
          r.2.mem ((c.tc : Thread Cert.SKvIdeal.nD Cert.SKvIdeal.τ).loc Cert.SKvIdeal.main_v27_0) = v0 c
          ∧ r.2.mem ((c.tc : Thread Cert.SKvIdeal.nD Cert.SKvIdeal.τ).loc Cert.SKvIdeal.main_v27_1) = v1 c
          ∧ r.2.mem ((c.tc : Thread Cert.SKvIdeal.nD Cert.SKvIdeal.τ).loc Cert.SKvIdeal.main_v27_2) = v2 c
          ∧ r.2.mem ((c.tc : Thread Cert.SKvIdeal.nD Cert.SKvIdeal.τ).loc Cert.SKvIdeal.main_v27_3) = v3 c
          ∧ r.2.mem ((c.tc : Thread Cert.SKvIdeal.nD Cert.SKvIdeal.τ).loc Cert.SKvIdeal.main_arg0) = m ((c.tc : Thread Cert.SKvIdeal.nD Cert.SKvIdeal.τ).loc Cert.SKvIdeal.main_arg0)
          ∧ r.2.mem ((c.tc : Thread Cert.SKvIdeal.nD Cert.SKvIdeal.τ).loc Cert.SKvIdeal.main_arg1) = m ((c.tc : Thread Cert.SKvIdeal.nD Cert.SKvIdeal.τ).loc Cert.SKvIdeal.main_arg1)
          ∧ r.2.mem ((c.tc : Thread Cert.SKvIdeal.nD Cert.SKvIdeal.τ).loc Cert.SKvIdeal.main_arg2) = m ((c.tc : Thread Cert.SKvIdeal.nD Cert.SKvIdeal.τ).loc Cert.SKvIdeal.main_arg2)
          ∧ r.2.mem ((c.tc : Thread Cert.SKvIdeal.nD Cert.SKvIdeal.τ).loc Cert.SKvIdeal.main_arg3) = m ((c.tc : Thread Cert.SKvIdeal.nD Cert.SKvIdeal.τ).loc Cert.SKvIdeal.main_arg3))
      ∧ θ_run (Cert.SKvRefIdeal.defs (F := Ideal)) (onTc (τ := Cert.SKvRefIdeal.τ) (Cert.SKvRefIdeal.main (F := Ideal))) ⟨m', fun _ => 0, g'⟩ (fun r => ∀ c : Dev Cert.SKvRefIdeal.nD,
          r.2.mem ((c.tc : Thread Cert.SKvRefIdeal.nD Cert.SKvRefIdeal.τ).loc Cert.SKvRefIdeal.main_v32) = v0 c
          ∧ r.2.mem ((c.tc : Thread Cert.SKvRefIdeal.nD Cert.SKvRefIdeal.τ).loc Cert.SKvRefIdeal.main_v63) = v1 c
          ∧ r.2.mem ((c.tc : Thread Cert.SKvRefIdeal.nD Cert.SKvRefIdeal.τ).loc Cert.SKvRefIdeal.main_v64) = v2 c
          ∧ r.2.mem ((c.tc : Thread Cert.SKvRefIdeal.nD Cert.SKvRefIdeal.τ).loc Cert.SKvRefIdeal.main_v67) = v3 c
          ∧ r.2.mem ((c.tc : Thread Cert.SKvRefIdeal.nD Cert.SKvRefIdeal.τ).loc Cert.SKvRefIdeal.main_arg0) = m' ((c.tc : Thread Cert.SKvRefIdeal.nD Cert.SKvRefIdeal.τ).loc Cert.SKvRefIdeal.main_arg0)
          ∧ r.2.mem ((c.tc : Thread Cert.SKvRefIdeal.nD Cert.SKvRefIdeal.τ).loc Cert.SKvRefIdeal.main_arg1) = m' ((c.tc : Thread Cert.SKvRefIdeal.nD Cert.SKvRefIdeal.τ).loc Cert.SKvRefIdeal.main_arg1)
          ∧ r.2.mem ((c.tc : Thread Cert.SKvRefIdeal.nD Cert.SKvRefIdeal.τ).loc Cert.SKvRefIdeal.main_arg2) = m' ((c.tc : Thread Cert.SKvRefIdeal.nD Cert.SKvRefIdeal.τ).loc Cert.SKvRefIdeal.main_arg2)
          ∧ r.2.mem ((c.tc : Thread Cert.SKvRefIdeal.nD Cert.SKvRefIdeal.τ).loc Cert.SKvRefIdeal.main_arg3) = m' ((c.tc : Thread Cert.SKvRefIdeal.nD Cert.SKvRefIdeal.τ).loc Cert.SKvRefIdeal.main_arg3))

def preserves_Qh_QhIdeal : Prop :=
  True

def algebraic_QhIdeal_QhRefIdeal_pre_finite_q [hQhIdeal : Cert.QhIdeal.Facts] [hQhRefIdeal : Cert.QhRefIdeal.Facts] [hPre_finite_q : Cert.Pre_finite_q.Facts] : Prop :=
  ∀ (m : (ℓ : Loc Cert.QhIdeal.nD Cert.QhIdeal.τ Cert.QhIdeal.sig) → Buf (Elt Ideal) ℓ) (g : Dev Cert.QhIdeal.nD → PrngReg)
    (m' : (ℓ : Loc Cert.QhRefIdeal.nD Cert.QhRefIdeal.τ Cert.QhRefIdeal.sig) → Buf (Elt Ideal) ℓ) (g' : Dev Cert.QhRefIdeal.nD → PrngReg), Pre_QhIdeal_finite_q m →
    (∀ c : Dev Cert.QhIdeal.nD,
      m' ((c.tc : Thread Cert.QhRefIdeal.nD Cert.QhRefIdeal.τ).loc Cert.QhRefIdeal.main_arg0) = m ((c.tc : Thread Cert.QhIdeal.nD Cert.QhIdeal.τ).loc Cert.QhIdeal.main_arg0)
      ∧ m' ((c.tc : Thread Cert.QhRefIdeal.nD Cert.QhRefIdeal.τ).loc Cert.QhRefIdeal.main_arg1) = m ((c.tc : Thread Cert.QhIdeal.nD Cert.QhIdeal.τ).loc Cert.QhIdeal.main_arg1)
      ∧ m' ((c.tc : Thread Cert.QhRefIdeal.nD Cert.QhRefIdeal.τ).loc Cert.QhRefIdeal.main_arg2) = m ((c.tc : Thread Cert.QhIdeal.nD Cert.QhIdeal.τ).loc Cert.QhIdeal.main_arg2)
      ∧ m' ((c.tc : Thread Cert.QhRefIdeal.nD Cert.QhRefIdeal.τ).loc Cert.QhRefIdeal.main_arg3) = m ((c.tc : Thread Cert.QhIdeal.nD Cert.QhIdeal.τ).loc Cert.QhIdeal.main_arg3)) →
    ∃ (v0 : (c : Dev Cert.QhIdeal.nD) → Buf (Elt Ideal) ((c.tc : Thread Cert.QhIdeal.nD Cert.QhIdeal.τ).loc Cert.QhIdeal.main_v27)),
      θ_run (Cert.QhIdeal.defs (F := Ideal)) (onTc (τ := Cert.QhIdeal.τ) (Cert.QhIdeal.main (F := Ideal))) ⟨m, fun _ => 0, g⟩ (fun r => ∀ c : Dev Cert.QhIdeal.nD,
          r.2.mem ((c.tc : Thread Cert.QhIdeal.nD Cert.QhIdeal.τ).loc Cert.QhIdeal.main_v27) = v0 c
          ∧ r.2.mem ((c.tc : Thread Cert.QhIdeal.nD Cert.QhIdeal.τ).loc Cert.QhIdeal.main_arg0) = m ((c.tc : Thread Cert.QhIdeal.nD Cert.QhIdeal.τ).loc Cert.QhIdeal.main_arg0)
          ∧ r.2.mem ((c.tc : Thread Cert.QhIdeal.nD Cert.QhIdeal.τ).loc Cert.QhIdeal.main_arg1) = m ((c.tc : Thread Cert.QhIdeal.nD Cert.QhIdeal.τ).loc Cert.QhIdeal.main_arg1)
          ∧ r.2.mem ((c.tc : Thread Cert.QhIdeal.nD Cert.QhIdeal.τ).loc Cert.QhIdeal.main_arg2) = m ((c.tc : Thread Cert.QhIdeal.nD Cert.QhIdeal.τ).loc Cert.QhIdeal.main_arg2)
          ∧ r.2.mem ((c.tc : Thread Cert.QhIdeal.nD Cert.QhIdeal.τ).loc Cert.QhIdeal.main_arg3) = m ((c.tc : Thread Cert.QhIdeal.nD Cert.QhIdeal.τ).loc Cert.QhIdeal.main_arg3))
      ∧ θ_run (Cert.QhRefIdeal.defs (F := Ideal)) (onTc (τ := Cert.QhRefIdeal.τ) (Cert.QhRefIdeal.main (F := Ideal))) ⟨m', fun _ => 0, g'⟩ (fun r => ∀ c : Dev Cert.QhRefIdeal.nD,
          r.2.mem ((c.tc : Thread Cert.QhRefIdeal.nD Cert.QhRefIdeal.τ).loc Cert.QhRefIdeal.main_v57) = v0 c
          ∧ r.2.mem ((c.tc : Thread Cert.QhRefIdeal.nD Cert.QhRefIdeal.τ).loc Cert.QhRefIdeal.main_arg0) = m' ((c.tc : Thread Cert.QhRefIdeal.nD Cert.QhRefIdeal.τ).loc Cert.QhRefIdeal.main_arg0)
          ∧ r.2.mem ((c.tc : Thread Cert.QhRefIdeal.nD Cert.QhRefIdeal.τ).loc Cert.QhRefIdeal.main_arg1) = m' ((c.tc : Thread Cert.QhRefIdeal.nD Cert.QhRefIdeal.τ).loc Cert.QhRefIdeal.main_arg1)
          ∧ r.2.mem ((c.tc : Thread Cert.QhRefIdeal.nD Cert.QhRefIdeal.τ).loc Cert.QhRefIdeal.main_arg2) = m' ((c.tc : Thread Cert.QhRefIdeal.nD Cert.QhRefIdeal.τ).loc Cert.QhRefIdeal.main_arg2)
          ∧ r.2.mem ((c.tc : Thread Cert.QhRefIdeal.nD Cert.QhRefIdeal.τ).loc Cert.QhRefIdeal.main_arg3) = m' ((c.tc : Thread Cert.QhRefIdeal.nD Cert.QhRefIdeal.τ).loc Cert.QhRefIdeal.main_arg3))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hLast : Cert.Last.Facts) (hLastIdeal : Cert.LastIdeal.Facts) (hLastRefIdeal : Cert.LastRefIdeal.Facts) (hSLast : Cert.SLast.Facts) (hSLastIdeal : Cert.SLastIdeal.Facts) (hSLastRefIdeal : Cert.SLastRefIdeal.Facts) (hProj : Cert.Proj.Facts) (hProjIdeal : Cert.ProjIdeal.Facts) (hProjRefIdeal : Cert.ProjRefIdeal.Facts) (hStep : Cert.Step.Facts) (hStepIdeal : Cert.StepIdeal.Facts) (hStepRefIdeal : Cert.StepRefIdeal.Facts) (hFfnStep : Cert.FfnStep.Facts) (hFfnStepIdeal : Cert.FfnStepIdeal.Facts) (hFfnStepRefIdeal : Cert.FfnStepRefIdeal.Facts) (hKv : Cert.Kv.Facts) (hKvIdeal : Cert.KvIdeal.Facts) (hKvRefIdeal : Cert.KvRefIdeal.Facts) (hSKv : Cert.SKv.Facts) (hSKvIdeal : Cert.SKvIdeal.Facts) (hSKvRefIdeal : Cert.SKvRefIdeal.Facts) (hQh : Cert.Qh.Facts) (hQhIdeal : Cert.QhIdeal.Facts) (hQhRefIdeal : Cert.QhRefIdeal.Facts) (hPre_finite_qk : Cert.Pre_finite_qk.Facts) (hPre_finite_kv : Cert.Pre_finite_kv.Facts) (hPre_finite_skv : Cert.Pre_finite_skv.Facts) (hPre_finite_q : Cert.Pre_finite_q.Facts),
    quiescent_Attn (hAttn := hAttn)
    ∧ quiescent_AttnIdeal (hAttnIdeal := hAttnIdeal)
    ∧ quiescent_AttnIdeal_pre_finite_qk (hAttnIdeal := hAttnIdeal) (hPre_finite_qk := hPre_finite_qk)
    ∧ quiescent_AttnRefIdeal (hAttnRefIdeal := hAttnRefIdeal)
    ∧ quiescent_AttnRefIdeal_pre_finite_qk (hAttnRefIdeal := hAttnRefIdeal) (hPre_finite_qk := hPre_finite_qk)
    ∧ quiescent_Ffn (hFfn := hFfn)
    ∧ quiescent_FfnIdeal (hFfnIdeal := hFfnIdeal)
    ∧ quiescent_FfnRefIdeal (hFfnRefIdeal := hFfnRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_Last (hLast := hLast)
    ∧ quiescent_LastIdeal (hLastIdeal := hLastIdeal)
    ∧ quiescent_LastRefIdeal (hLastRefIdeal := hLastRefIdeal)
    ∧ quiescent_SLast (hSLast := hSLast)
    ∧ quiescent_SLastIdeal (hSLastIdeal := hSLastIdeal)
    ∧ quiescent_SLastRefIdeal (hSLastRefIdeal := hSLastRefIdeal)
    ∧ quiescent_Proj (hProj := hProj)
    ∧ quiescent_ProjIdeal (hProjIdeal := hProjIdeal)
    ∧ quiescent_ProjRefIdeal (hProjRefIdeal := hProjRefIdeal)
    ∧ quiescent_Step (hStep := hStep)
    ∧ quiescent_StepIdeal (hStepIdeal := hStepIdeal)
    ∧ quiescent_StepRefIdeal (hStepRefIdeal := hStepRefIdeal)
    ∧ quiescent_FfnStep (hFfnStep := hFfnStep)
    ∧ quiescent_FfnStepIdeal (hFfnStepIdeal := hFfnStepIdeal)
    ∧ quiescent_FfnStepRefIdeal (hFfnStepRefIdeal := hFfnStepRefIdeal)
    ∧ quiescent_Kv (hKv := hKv)
    ∧ quiescent_KvIdeal (hKvIdeal := hKvIdeal)
    ∧ quiescent_KvIdeal_pre_finite_kv (hKvIdeal := hKvIdeal) (hPre_finite_kv := hPre_finite_kv)
    ∧ quiescent_KvRefIdeal (hKvRefIdeal := hKvRefIdeal)
    ∧ quiescent_KvRefIdeal_pre_finite_kv (hKvRefIdeal := hKvRefIdeal) (hPre_finite_kv := hPre_finite_kv)
    ∧ quiescent_SKv (hSKv := hSKv)
    ∧ quiescent_SKvIdeal (hSKvIdeal := hSKvIdeal)
    ∧ quiescent_SKvIdeal_pre_finite_skv (hSKvIdeal := hSKvIdeal) (hPre_finite_skv := hPre_finite_skv)
    ∧ quiescent_SKvRefIdeal (hSKvRefIdeal := hSKvRefIdeal)
    ∧ quiescent_SKvRefIdeal_pre_finite_skv (hSKvRefIdeal := hSKvRefIdeal) (hPre_finite_skv := hPre_finite_skv)
    ∧ quiescent_Qh (hQh := hQh)
    ∧ quiescent_QhIdeal (hQhIdeal := hQhIdeal)
    ∧ quiescent_QhIdeal_pre_finite_q (hQhIdeal := hQhIdeal) (hPre_finite_q := hPre_finite_q)
    ∧ quiescent_QhRefIdeal (hQhRefIdeal := hQhRefIdeal)
    ∧ quiescent_QhRefIdeal_pre_finite_q (hQhRefIdeal := hQhRefIdeal) (hPre_finite_q := hPre_finite_q)
    ∧ preserves_Attn_AttnIdeal
    ∧ algebraic_AttnIdeal_AttnRefIdeal_pre_finite_qk (hAttnIdeal := hAttnIdeal) (hAttnRefIdeal := hAttnRefIdeal) (hPre_finite_qk := hPre_finite_qk)
    ∧ preserves_Ffn_FfnIdeal
    ∧ algebraic_FfnIdeal_FfnRefIdeal (hFfnIdeal := hFfnIdeal) (hFfnRefIdeal := hFfnRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_Last_LastIdeal
    ∧ algebraic_LastIdeal_LastRefIdeal (hLastIdeal := hLastIdeal) (hLastRefIdeal := hLastRefIdeal)
    ∧ preserves_SLast_SLastIdeal
    ∧ algebraic_SLastIdeal_SLastRefIdeal (hSLastIdeal := hSLastIdeal) (hSLastRefIdeal := hSLastRefIdeal)
    ∧ preserves_Proj_ProjIdeal
    ∧ algebraic_ProjIdeal_ProjRefIdeal (hProjIdeal := hProjIdeal) (hProjRefIdeal := hProjRefIdeal)
    ∧ preserves_Step_StepIdeal
    ∧ algebraic_StepIdeal_StepRefIdeal (hStepIdeal := hStepIdeal) (hStepRefIdeal := hStepRefIdeal)
    ∧ preserves_FfnStep_FfnStepIdeal
    ∧ algebraic_FfnStepIdeal_FfnStepRefIdeal (hFfnStepIdeal := hFfnStepIdeal) (hFfnStepRefIdeal := hFfnStepRefIdeal)
    ∧ preserves_Kv_KvIdeal
    ∧ algebraic_KvIdeal_KvRefIdeal_pre_finite_kv (hKvIdeal := hKvIdeal) (hKvRefIdeal := hKvRefIdeal) (hPre_finite_kv := hPre_finite_kv)
    ∧ preserves_SKv_SKvIdeal
    ∧ algebraic_SKvIdeal_SKvRefIdeal_pre_finite_skv (hSKvIdeal := hSKvIdeal) (hSKvRefIdeal := hSKvRefIdeal) (hPre_finite_skv := hPre_finite_skv)
    ∧ preserves_Qh_QhIdeal
    ∧ algebraic_QhIdeal_QhRefIdeal_pre_finite_q (hQhIdeal := hQhIdeal) (hQhRefIdeal := hQhRefIdeal) (hPre_finite_q := hPre_finite_q)
-- ==== Pre_finite_kv.lean ====
abbrev S8192x2048 : Shape := ⟨2, ![8192, 2048]⟩
abbrev S2048 : Shape := ⟨1, ![2048]⟩
abbrev S2048x576 : Shape := ⟨2, ![2048, 576]⟩
abbrev S512 : Shape := ⟨1, ![512]⟩
abbrev S_ : Shape := ⟨0, ![]⟩
abbrev S2048x32 : Shape := ⟨2, ![2048, 32]⟩

class Facts : Prop where
  bcast_S_S2048 : S_.BroadcastsInDim S2048 (![] : Fin 0 → Fin S2048.rank)
  reducesTo_S2048_S_d0 : S2048.ReducesTo [0] S_
  h_S_ : 0 < S_.numel
  slices_S2048x576_S2048x32_0_544 : S2048x576.Slices ![0, 544] S2048x32
  bcast_S_S2048x32 : S_.BroadcastsInDim S2048x32 (![] : Fin 0 → Fin S2048x32.rank)
  reducesTo_S2048x32_S_d0_1 : S2048x32.ReducesTo [0, 1] S_

variable [Facts]

def fn {F : FTy → Type} [FloatOps F] (main_arg0 : FVec F S8192x2048 .f32) (main_arg1 : FVec F S2048 .f32) (main_arg2 : FVec F S2048x576 .f32) (main_arg3 : FVec F S512 .f32) : IVec S_ 1 :=
  let main_v0 : FVec F S2048 .f32 := Host.absf main_arg1
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  let main_v4 : FVec F S2048x32 .f32 := (extractStridedSlice S2048x32 ![0, 544] · slices_S2048x576_S2048x32_0_544) main_arg2
  let main_v5 : FVec F S2048x32 .f32 := Host.absf main_v4
  let main_cst_0 : FVec F S_ .f32 := constant S_ .f32 0x7F800000#32
  let main_v6 : FVec F S2048x32 .f32 := broadcastInDim S2048x32 ![] bcast_S_S2048x32 main_cst_0
  let main_v7 : IVec S2048x32 1 := cmpf .olt main_v5 main_v6
  let main_c_1 : IVec S_ 1 := constantI S_ 1 1#1
  let main_v8 : IVec S_ 1 := (fun x v => Host.reduce IntOp.andi x v reducesTo_S2048x32_S_d0_1 h_S_) main_v7 main_c_1
  let main_v9 : IVec S_ 1 := andi main_v3 main_v8
  main_v9
-- ==== Pre_finite_q.lean ====
abbrev S8192x2048 : Shape := ⟨2, ![8192, 2048]⟩
abbrev S2x2048x512 : Shape := ⟨3, ![2, 2048, 512]⟩
abbrev S512 : Shape := ⟨1, ![512]⟩
abbrev S2x512x16x192 : Shape := ⟨4, ![2, 512, 16, 192]⟩
abbrev S_ : Shape := ⟨0, ![]⟩
abbrev S2x512x16x32 : Shape := ⟨4, ![2, 512, 16, 32]⟩

class Facts : Prop where
  bcast_S_S512 : S_.BroadcastsInDim S512 (![] : Fin 0 → Fin S512.rank)
  reducesTo_S512_S_d0 : S512.ReducesTo [0] S_
  h_S_ : 0 < S_.numel
  slices_S2x512x16x192_S2x512x16x32_0_0_0_160 : S2x512x16x192.Slices ![0, 0, 0, 160] S2x512x16x32
  bcast_S_S2x512x16x32 : S_.BroadcastsInDim S2x512x16x32 (![] : Fin 0 → Fin S2x512x16x32.rank)
  reducesTo_S2x512x16x32_S_d0_1_2_3 : S2x512x16x32.ReducesTo [0, 1, 2, 3] S_

variable [Facts]

def fn {F : FTy → Type} [FloatOps F] (main_arg0 : FVec F S8192x2048 .bf16) (main_arg1 : FVec F S2x2048x512 .bf16) (main_arg2 : FVec F S512 .f32) (main_arg3 : FVec F S2x512x16x192 .f32) : IVec S_ 1 :=
  let main_v0 : FVec F S512 .f32 := Host.absf main_arg2
  let main_cst : FVec F S_ .f32 := constant S_ .f32 0x7F800000#32
  let main_v1 : FVec F S512 .f32 := broadcastInDim S512 ![] bcast_S_S512 main_cst
  let main_v2 : IVec S512 1 := cmpf .olt main_v0 main_v1
  let main_c : IVec S_ 1 := constantI S_ 1 1#1
  let main_v3 : IVec S_ 1 := (fun x v => Host.reduce IntOp.andi x v reducesTo_S512_S_d0 h_S_) main_v2 main_c
  let main_v4 : FVec F S2x512x16x32 .f32 := (extractStridedSlice S2x512x16x32 ![0, 0, 0, 160] · slices_S2x512x16x192_S2x512x16x32_0_0_0_160) main_arg3
  let main_v5 : FVec F S2x512x16x32 .f32 := Host.absf main_v4
  let main_cst_0 : FVec F S_ .f32 := constant S_ .f32 0x7F800000#32
  let main_v6 : FVec F S2x512x16x32 .f32 := broadcastInDim S2x512x16x32 ![] bcast_S_S2x512x16x32 main_cst_0
  let main_v7 : IVec S2x512x16x32 1 := cmpf .olt main_v5 main_v6
  let main_c_1 : IVec S_ 1 := constantI S_ 1 1#1
  let main_v8 : IVec S_ 1 := (fun x v => Host.reduce IntOp.andi x v reducesTo_S2x512x16x32_S_d0_1_2_3 h_S_) main_v7 main_c_1
  let main_v9 : IVec S_ 1 := andi main_v3 main_v8
  main_v9
-- ==== Pre_finite_qk.lean ====
abbrev S8192x4096 : Shape := ⟨2, ![8192, 4096]⟩
abbrev S8192x2048 : Shape := ⟨2, ![8192, 2048]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .bf16) (main_arg1 : FVec F S8192x4096 .bf16) (main_arg2 : FVec F S8192x2048 .bf16) : IVec S_ 1 :=
  let main_v0 : FVec F S8192x4096 .f32 := (extf .f32 · bitsLt_bf16_f32) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_c : IVec S_ 1 := constantI S_ 1 1#1
  let main_v4 : IVec S_ 1 := (fun x v => Host.reduce IntOp.andi x v reducesTo_S8192x4096_S_d0_1 h_S_) main_v3 main_c
  let main_v5 : FVec F S8192x4096 .f32 := (extf .f32 · bitsLt_bf16_f32) main_arg1
  let main_v6 : FVec F S8192x4096 .f32 := Host.absf main_v5
  let main_cst_0 : FVec F S_ .f32 := constant S_ .f32 0x7F800000#32
  let main_v7 : FVec F S8192x4096 .f32 := broadcastInDim S8192x4096 ![] bcast_S_S8192x4096 main_cst_0
  let main_v8 : IVec S8192x4096 1 := cmpf .olt main_v6 main_v7
  let main_c_1 : IVec S_ 1 := constantI S_ 1 1#1
  let main_v9 : IVec S_ 1 := (fun x v => Host.reduce IntOp.andi x v reducesTo_S8192x4096_S_d0_1 h_S_) main_v8 main_c_1
  let main_v10 : IVec S_ 1 := andi main_v4 main_v9
  main_v10
-- ==== Pre_finite_skv.lean ====
abbrev S128x2048 : Shape := ⟨2, ![128, 2048]⟩
abbrev S2048 : Shape := ⟨1, ![2048]⟩
abbrev S2048x576 : Shape := ⟨2, ![2048, 576]⟩
abbrev S512 : Shape := ⟨1, ![512]⟩
abbrev S_ : Shape := ⟨0, ![]⟩
abbrev S2048x32 : Shape := ⟨2, ![2048, 32]⟩

class Facts : Prop where
  bcast_S_S2048 : S_.BroadcastsInDim S2048 (![] : Fin 0 → Fin S2048.rank)
  reducesTo_S2048_S_d0 : S2048.ReducesTo [0] S_
  h_S_ : 0 < S_.numel
  slices_S2048x576_S2048x32_0_544 : S2048x576.Slices ![0, 544] S2048x32
  bcast_S_S2048x32 : S_.BroadcastsInDim S2048x32 (![] : Fin 0 → Fin S2048x32.rank)
  reducesTo_S2048x32_S_d0_1 : S2048x32.ReducesTo [0, 1] S_

variable [Facts]

def fn {F : FTy → Type} [FloatOps F] (main_arg0 : FVec F S128x2048 .f32) (main_arg1 : FVec F S2048 .f32) (main_arg2 : FVec F S2048x576 .f32) (main_arg3 : FVec F S512 .f32) : IVec S_ 1 :=
  let main_v0 : FVec F S2048 .f32 := Host.absf main_arg1
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  let main_v4 : FVec F S2048x32 .f32 := (extractStridedSlice S2048x32 ![0, 544] · slices_S2048x576_S2048x32_0_544) main_arg2
  let main_v5 : FVec F S2048x32 .f32 := Host.absf main_v4
  let main_cst_0 : FVec F S_ .f32 := constant S_ .f32 0x7F800000#32
  let main_v6 : FVec F S2048x32 .f32 := broadcastInDim S2048x32 ![] bcast_S_S2048x32 main_cst_0
  let main_v7 : IVec S2048x32 1 := cmpf .olt main_v5 main_v6
  let main_c_1 : IVec S_ 1 := constantI S_ 1 1#1
  let main_v8 : IVec S_ 1 := (fun x v => Host.reduce IntOp.andi x v reducesTo_S2048x32_S_d0_1 h_S_) main_v7 main_c_1
  let main_v9 : IVec S_ 1 := andi main_v3 main_v8
  main_v9
-- ==== Attn.lean ====
abbrev S8192x4096 : Shape := ⟨2, ![8192, 4096]⟩
abbrev S8192x2048 : Shape := ⟨2, ![8192, 2048]⟩
abbrev S512x2048 : Shape := ⟨2, ![512, 2048]⟩
abbrev S2048x2048 : Shape := ⟨2, ![2048, 2048]⟩
abbrev S2048x1024 : Shape := ⟨2, ![2048, 1024]⟩
abbrev S512x1024 : Shape := ⟨2, ![512, 1024]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S512x128 : Shape := ⟨2, ![512, 128]⟩
abbrev S1024x256 : Shape := ⟨2, ![1024, 256]⟩
abbrev S1024x128 : Shape := ⟨2, ![1024, 128]⟩
abbrev S1536x256 : Shape := ⟨2, ![1536, 256]⟩
abbrev S512x1536 : Shape := ⟨2, ![512, 1536]⟩
abbrev S1536x128 : Shape := ⟨2, ![1536, 128]⟩
abbrev S2048x256 : Shape := ⟨2, ![2048, 256]⟩
abbrev S2048x128 : Shape := ⟨2, ![2048, 128]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S8192x2048, .bf16⟩
  | .hbm, ⟨3, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S2048x1024, .bf16⟩
  | .local _ .vmem, ⟨5, _⟩ => ⟨S2048x1024, .bf16⟩
  | .local _ .vmem, ⟨6, _⟩ => ⟨S512x1024, .bf16⟩
  | .local _ .vmem, ⟨7, _⟩ => ⟨S512x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg2 : BitVec 32 := BitVec.ofNat 32 (i 2).val
  let c2_i32 : BitVec 32 := 2#32
  let v6 : BitVec 1 := Scalar.cmpi .eq arg2 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnIdeal.lean ====
variable {F : FTy → Type} [FloatOps F] [Named F]
def κ : String → Option EReal := fun
  | "scale2" => some (((Real.sqrt 192)⁻¹ * (Real.log 2)⁻¹ : ℝ) : EReal)
  | _ => none
-- ==== AttnRefIdeal.lean ====
abbrev S8192x4096 : Shape := ⟨2, ![8192, 4096]⟩
abbrev S8192x2048 : Shape := ⟨2, ![8192, 2048]⟩
abbrev S4x2048x16x256 : Shape := ⟨4, ![4, 2048, 16, 256]⟩
abbrev S4x2048x16x128 : Shape := ⟨4, ![4, 2048, 16, 128]⟩
abbrev S4x16x2048x2048 : Shape := ⟨4, ![4, 16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x16x2048 : Shape := ⟨3, ![4, 16, 2048]⟩
abbrev S4x16x2048x1 : Shape := ⟨4, ![4, 16, 2048, 1]⟩
abbrev S4x16x128x2048 : Shape := ⟨4, ![4, 16, 128, 2048]⟩

abbrev nBuf : Space → Nat
  | .hbm => 49
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S8192x2048, .bf16⟩
  | .hbm, ⟨3, _⟩ => ⟨S8192x4096, .f32⟩
  | .hbm, ⟨4, _⟩ => ⟨S4x2048x16x256, .f32⟩
  | .hbm, ⟨5, _⟩ => ⟨S8192x4096, .f32⟩
  | .hbm, ⟨6, _⟩ => ⟨S4x2048x16x256, .f32⟩
  | .hbm, ⟨7, _⟩ => ⟨S8192x2048, .f32⟩
  | .hbm, ⟨8, _⟩ => ⟨S4x2048x16x128, .f32⟩
  | .hbm, ⟨9, _⟩ => ⟨S4x2048x16x128, .f32⟩
  | .hbm, ⟨10, _⟩ => ⟨S4x2048x16x128, .f32⟩
  | .hbm, ⟨11, _⟩ => ⟨S4x16x2048x2048, .f32⟩
  | .hbm, ⟨12, _⟩ => ⟨S4x2048x16x128, .f32⟩
  | .hbm, ⟨13, _⟩ => ⟨S4x2048x16x128, .f32⟩
  | .hbm, ⟨14, _⟩ => ⟨S4x16x2048x2048, .f32⟩
  | .hbm, ⟨15, _⟩ => ⟨S4x16x2048x2048, .f32⟩
  | .hbm, ⟨16, _⟩ => ⟨S_, .f32⟩
  | .hbm, ⟨17, _⟩ => ⟨S_, .f32⟩
  | .hbm, ⟨18, _⟩ => ⟨S4x16x2048x2048, .f32⟩
  | .hbm, ⟨19, _⟩ => ⟨S4x16x2048x2048, .f32⟩
  | .hbm, ⟨20, _⟩ => ⟨S2048, .i32⟩
  | .hbm, ⟨21, _⟩ => ⟨S1x2048, .i32⟩
  | .hbm, ⟨22, _⟩ => ⟨S2048x1, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S_, .f32⟩
  | .hbm, ⟨27, _⟩ => ⟨S_, .f32⟩
  | .hbm, ⟨28, _⟩ => ⟨S4x16x2048x2048, .i1⟩
  | .hbm, ⟨29, _⟩ => ⟨S4x16x2048x2048, .f32⟩
  | .hbm, ⟨30, _⟩ => ⟨S4x16x2048x2048, .f32⟩
  | .hbm, ⟨31, _⟩ => ⟨S_, .f32⟩
  | .hbm, ⟨32, _⟩ => ⟨S4x16x2048, .f32⟩
  | .hbm, ⟨33, _⟩ => ⟨S_, .f32⟩
  | .hbm, ⟨34, _⟩ => ⟨S4x16x2048, .f32⟩
  | .hbm, ⟨35, _⟩ => ⟨S4x16x2048, .f32⟩
  | .hbm, ⟨36, _⟩ => ⟨S4x16x2048x1, .f32⟩
  | .hbm, ⟨37, _⟩ => ⟨S4x16x2048x2048, .f32⟩
  | .hbm, ⟨38, _⟩ => ⟨S4x16x2048x2048, .f32⟩
  | .hbm, ⟨39, _⟩ => ⟨S4x16x2048x2048, .f32⟩
  | .hbm, ⟨40, _⟩ => ⟨S_, .f32⟩
  | .hbm, ⟨41, _⟩ => ⟨S4x16x2048, .f32⟩
  | .hbm, ⟨42, _⟩ => ⟨S4x16x2048x1, .f32⟩
  | .hbm, ⟨43, _⟩ => ⟨S4x16x2048x2048, .f32⟩
  | .hbm, ⟨44, _⟩ => ⟨S4x16x2048x2048, .f32⟩
  | .hbm, ⟨45, _⟩ => ⟨S4x16x128x2048, .f32⟩
  | .hbm, ⟨46, _⟩ => ⟨S4x2048x16x128, .f32⟩
  | .hbm, ⟨47, _⟩ => ⟨S8192x2048, .f32⟩
  | .hbm, ⟨48, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Ffn.lean ====
abbrev S8192x2048 : Shape := ⟨2, ![8192, 2048]⟩
abbrev S4x2048x6144 : Shape := ⟨3, ![4, 2048, 6144]⟩
abbrev S4x3x6144 : Shape := ⟨3, ![4, 3, 6144]⟩
abbrev S4x1x6144 : Shape := ⟨3, ![4, 1, 6144]⟩
abbrev S8192x6144 : Shape := ⟨2, ![8192, 6144]⟩
abbrev S4x2x6144 : Shape := ⟨3, ![4, 2, 6144]⟩
abbrev S1024x2048 : Shape := ⟨2, ![1024, 2048]⟩
abbrev S1x2048x512 : Shape := ⟨3, ![1, 2048, 512]⟩
abbrev S1x3x512 : Shape := ⟨3, ![1, 3, 512]⟩
abbrev S1x1x512 : Shape := ⟨3, ![1, 1, 512]⟩
abbrev S1024x512 : Shape := ⟨2, ![1024, 512]⟩
abbrev S1x2x512 : Shape := ⟨3, ![1, 2, 512]⟩
abbrev S1032x512 : Shape := ⟨2, ![1032, 512]⟩
abbrev S2048x512 : Shape := ⟨2, ![2048, 512]⟩
abbrev S8x512 : Shape := ⟨2, ![8, 512]⟩
abbrev S3x512 : Shape := ⟨2, ![3, 512]⟩
abbrev S1x512 : Shape := ⟨2, ![1, 512]⟩
abbrev S2x512 : Shape := ⟨2, ![2, 512]⟩

abbrev nBuf : Space → Nat
  | .hbm => 7
  | .vmem => 17
  | .smem => 0
  | _ => 0

abbrev bufTy : (tb : Table) → Fin (tcTables nBuf tb) → BufTy
  | .hbm, ⟨0, _⟩ => ⟨S8192x2048, .bf16⟩
  | .hbm, ⟨1, _⟩ => ⟨S4x2048x6144, .f32⟩
  | .hbm, ⟨2, _⟩ => ⟨S4x2048x6144, .f32⟩
  | .hbm, ⟨3, _⟩ => ⟨S4x3x6144, .f32⟩
  | .hbm, ⟨4, _⟩ => ⟨S4x1x6144, .f32⟩
  | .hbm, ⟨5, _⟩ => ⟨S8192x6144, .bf16⟩
  | .hbm, ⟨6, _⟩ => ⟨S4x2x6144, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x3x512, .f32⟩
  | .local _ .vmem, ⟨7, _⟩ => ⟨S1x3x512, .f32⟩
  | .local _ .vmem, ⟨8, _⟩ => ⟨S1x1x512, .f32⟩
  | .local _ .vmem, ⟨9, _⟩ => ⟨S1x1x512, .f32⟩
  | .local _ .vmem, ⟨10, _⟩ => ⟨S1024x512, .bf16⟩
  | .local _ .vmem, ⟨11, _⟩ => ⟨S1024x512, .bf16⟩
  | .local _ .vmem, ⟨12, _⟩ => ⟨S1x2x512, .f32⟩
  | .local _ .vmem, ⟨13, _⟩ => ⟨S1x2x512, .f32⟩
  | .local _ .vmem, ⟨14, _⟩ => ⟨S1032x512, .f32⟩
  | .local _ .vmem, ⟨15, _⟩ => ⟨S2048x512, .bf16⟩
  | .local _ .vmem, ⟨16, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![12, 8], ![false, false]⟩

def k0_cond3 (i : grid0.Coords) : BitVec 1 :=
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_31 : BitVec 32 := 1#32
  let v63 : BitVec 1 := Scalar.cmpi .eq v9 c1_i32_31
  let v64 : BitVec 32 := Scalar.extui v63
  let c0_i32_32 : BitVec 32 := 0#32
  let v65 : BitVec 1 := Scalar.cmpi .ne v64 c0_i32_32
  v65

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnRefIdeal.lean ====
abbrev S8192x2048 : Shape := ⟨2, ![8192, 2048]⟩
abbrev S4x2048x6144 : Shape := ⟨3, ![4, 2048, 6144]⟩
abbrev S4x3x6144 : Shape := ⟨3, ![4, 3, 6144]⟩
abbrev S4x1x6144 : Shape := ⟨3, ![4, 1, 6144]⟩
abbrev S1x2048x6144 : Shape := ⟨3, ![1, 2048, 6144]⟩
abbrev S2048x6144 : Shape := ⟨2, ![2048, 6144]⟩
abbrev S8192x6144 : Shape := ⟨2, ![8192, 6144]⟩
abbrev S_ : Shape := ⟨0, ![]⟩
abbrev S4x2x6144 : Shape := ⟨3, ![4, 2, 6144]⟩
abbrev S4x2050x6144 : Shape := ⟨3, ![4, 2050, 6144]⟩
abbrev S1x1x6144 : Shape := ⟨3, ![1, 1, 6144]⟩
abbrev S1x6144 : Shape := ⟨2, ![1, 6144]⟩
abbrev S6144 : Shape := ⟨1, ![6144]⟩

abbrev nBuf : Space → Nat
  | .hbm => 63
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x6144, .f32⟩
  | .hbm, ⟨2, _⟩ => ⟨S4x2048x6144, .f32⟩
  | .hbm, ⟨3, _⟩ => ⟨S4x3x6144, .f32⟩
  | .hbm, ⟨4, _⟩ => ⟨S4x1x6144, .f32⟩
  | .hbm, ⟨5, _⟩ => ⟨S8192x2048, .f32⟩
  | .hbm, ⟨6, _⟩ => ⟨S1x2048x6144, .f32⟩
  | .hbm, ⟨7, _⟩ => ⟨S2048x6144, .f32⟩
  | .hbm, ⟨8, _⟩ => ⟨S8192x6144, .f32⟩
  | .hbm, ⟨9, _⟩ => ⟨S4x2048x6144, .f32⟩
  | .hbm, ⟨10, _⟩ => ⟨S_, .f32⟩
  | .hbm, ⟨11, _⟩ => ⟨S4x2x6144, .f32⟩
  | .hbm, ⟨12, _⟩ => ⟨S4x2050x6144, .f32⟩
  | .hbm, ⟨13, _⟩ => ⟨S1x1x6144, .f32⟩
  | .hbm, ⟨14, _⟩ => ⟨S1x6144, .f32⟩
  | .hbm, ⟨15, _⟩ => ⟨S4x2048x6144, .f32⟩
  | .hbm, ⟨16, _⟩ => ⟨S1x1x6144, .f32⟩
  | .hbm, ⟨17, _⟩ => ⟨S6144, .f32⟩
  | .hbm, ⟨18, _⟩ => ⟨S1x1x6144, .f32⟩
  | .hbm, ⟨19, _⟩ => ⟨S4x2048x6144, .f32⟩
  | .hbm, ⟨20, _⟩ => ⟨S4x2048x6144, .f32⟩
  | .hbm, ⟨21, _⟩ => ⟨S1x1x6144, .f32⟩
  | .hbm, ⟨22, _⟩ => ⟨S4x2048x6144, .f32⟩
  | .hbm, ⟨23, _⟩ => ⟨S4x2048x6144, .f32⟩
  | .hbm, ⟨24, _⟩ => ⟨S4x2048x6144, .f32⟩
  | .hbm, ⟨25, _⟩ => ⟨S1x1x6144, .f32⟩
  | .hbm, ⟨26, _⟩ => ⟨S6144, .f32⟩
  | .hbm, ⟨27, _⟩ => ⟨S1x1x6144, .f32⟩
  | .hbm, ⟨28, _⟩ => ⟨S4x2048x6144, .f32⟩
  | .hbm, ⟨29, _⟩ => ⟨S4x2048x6144, .f32⟩
  | .hbm, ⟨30, _⟩ => ⟨S4x2048x6144, .f32⟩
  | .hbm, ⟨31, _⟩ => ⟨S4x2048x6144, .f32⟩
  | .hbm, ⟨32, _⟩ => ⟨S1x1x6144, .f32⟩
  | .hbm, ⟨33, _⟩ => ⟨S6144, .f32⟩
  | .hbm, ⟨34, _⟩ => ⟨S1x1x6144, .f32⟩
  | .hbm, ⟨35, _⟩ => ⟨S4x2048x6144, .f32⟩
  | .hbm, ⟨36, _⟩ => ⟨S4x2048x6144, .f32⟩
  | .hbm, ⟨37, _⟩ => ⟨S4x2048x6144, .f32⟩
  | .hbm, ⟨38, _⟩ => ⟨S1x2048x6144, .f32⟩
  | .hbm, ⟨39, _⟩ => ⟨S2048x6144, .f32⟩
  | .hbm, ⟨40, _⟩ => ⟨S8192x6144, .f32⟩
  | .hbm, ⟨41, _⟩ => ⟨S4x2048x6144, .f32⟩
  | .hbm, ⟨42, _⟩ => ⟨S4x2048x6144, .f32⟩
  | .hbm, ⟨43, _⟩ => ⟨S4x2048x6144, .f32⟩
  | .hbm, ⟨44, _⟩ => ⟨S_, .f32⟩
  | .hbm, ⟨45, _⟩ => ⟨S4x2048x6144, .f32⟩
  | .hbm, ⟨46, _⟩ => ⟨S4x2048x6144, .f32⟩
  | .hbm, ⟨47, _⟩ => ⟨S4x2048x6144, .f32⟩
  | .hbm, ⟨48, _⟩ => ⟨S_, .f32⟩
  | .hbm, ⟨49, _⟩ => ⟨S4x2048x6144, .f32⟩
  | .hbm, ⟨50, _⟩ => ⟨S4x2048x6144, .f32⟩
  | .hbm, ⟨51, _⟩ => ⟨S4x2048x6144, .f32⟩
  | .hbm, ⟨52, _⟩ => ⟨S_, .f32⟩
  | .hbm, ⟨53, _⟩ => ⟨S4x2048x6144, .f32⟩
  | .hbm, ⟨54, _⟩ => ⟨S4x2048x6144, .f32⟩
  | .hbm, ⟨55, _⟩ => ⟨S_, .f32⟩
  | .hbm, ⟨56, _⟩ => ⟨S4x2048x6144, .f32⟩
  | .hbm, ⟨57, _⟩ => ⟨S4x2048x6144, .f32⟩
  | .hbm, ⟨58, _⟩ => ⟨S4x2048x6144, .f32⟩
  | .hbm, ⟨59, _⟩ => ⟨S4x2048x6144, .f32⟩
  | .hbm, ⟨60, _⟩ => ⟨S8192x6144, .f32⟩
  | .hbm, ⟨61, _⟩ => ⟨S8192x6144, .bf16⟩
  | .hbm, ⟨62, _⟩ => ⟨S4x2x6144, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_0 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_1 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_2 : Ref sig .tc := ⟨.hbm, 52, rfl⟩
abbrev main_v44 : Ref sig .tc := ⟨.hbm, 53, rfl⟩
abbrev main_v45 : Ref sig .tc := ⟨.hbm, 54, rfl⟩
abbrev main_cst_3 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩

abbrev nD : Nat := 1
abbrev τ : Topo := Topo.v7x

variable {F : FTy → Type} [FloatOps F]
-- ==== Down.lean ====
abbrev S8192x6144 : Shape := ⟨2, ![8192, 6144]⟩
abbrev S4x6144x2048 : Shape := ⟨3, ![4, 6144, 2048]⟩
abbrev S8192x2048 : Shape := ⟨2, ![8192, 2048]⟩
abbrev S2048 : Shape := ⟨1, ![2048]⟩
abbrev S1x2048 : Shape := ⟨2, ![1, 2048]⟩
abbrev S1024x512 : Shape := ⟨2, ![1024, 512]⟩
abbrev S1x512x2048 : Shape := ⟨3, ![1, 512, 2048]⟩
abbrev S1024x2048 : Shape := ⟨2, ![1024, 2048]⟩
abbrev S512x2048 : Shape := ⟨2, ![512, 2048]⟩
abbrev S1024 : Shape := ⟨1, ![1024]⟩
abbrev S1024x1 : Shape := ⟨2, ![1024, 1]⟩

abbrev nBuf : Space → Nat
  | .hbm => 9
  | .vmem => 12
  | .smem => 0
  | _ => 0

abbrev bufTy : (tb : Table) → Fin (tcTables nBuf tb) → BufTy
  | .hbm, ⟨0, _⟩ => ⟨S8192x6144, .bf16⟩
  | .hbm, ⟨1, _⟩ => ⟨S4x6144x2048, .bf16⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S8192x2048, .f32⟩
  | .hbm, ⟨8, _⟩ => ⟨S8192x2048, .bf16⟩
  | .local _ .vmem, ⟨0, _⟩ => ⟨S1024x512, .bf16⟩
  | .local _ .vmem, ⟨1, _⟩ => ⟨S1024x512, .bf16⟩
  | .local _ .vmem, ⟨2, _⟩ => ⟨S1x512x2048, .bf16⟩
  | .local _ .vmem, ⟨3, _⟩ => ⟨S1x512x2048, .bf16⟩
  | .local _ .vmem, ⟨4, _⟩ => ⟨S1024x2048, .f32⟩
  | .local _ .vmem, ⟨5, _⟩ => ⟨S1024x2048, .f32⟩
  | .local _ .vmem, ⟨6, _⟩ => ⟨S1x2048, .f32⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | .local _ .vmem, ⟨11, _⟩ => ⟨S1024x2048, .bf16⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 12], ![false, false]⟩

def k0_cond2 (i : grid0.Coords) : BitVec 1 :=
  let arg1 : BitVec 32 := BitVec.ofNat 32 (i 1).val
  let c11_i32 : BitVec 32 := 11#32
  let v11 : BitVec 1 := Scalar.cmpi .eq arg1 c11_i32
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== DownRefIdeal.lean ====
abbrev S8192x6144 : Shape := ⟨2, ![8192, 6144]⟩
abbrev S4x6144x2048 : Shape := ⟨3, ![4, 6144, 2048]⟩
abbrev S8192x2048 : Shape := ⟨2, ![8192, 2048]⟩
abbrev S2048 : Shape := ⟨1, ![2048]⟩
abbrev S1x6144x2048 : Shape := ⟨3, ![1, 6144, 2048]⟩
abbrev S6144x2048 : Shape := ⟨2, ![6144, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 44
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S4x6144x2048, .bf16⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S8192x6144, .f32⟩
  | .hbm, ⟨6, _⟩ => ⟨S1x6144x2048, .bf16⟩
  | .hbm, ⟨7, _⟩ => ⟨S6144x2048, .bf16⟩
  | .hbm, ⟨8, _⟩ => ⟨S6144x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S1x2048, .f32⟩
  | .hbm, ⟨41, _⟩ => ⟨S8192x2048, .f32⟩
  | .hbm, ⟨42, _⟩ => ⟨S8192x2048, .f32⟩
  | .hbm, ⟨43, _⟩ => ⟨S8192x2048, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Out.lean ====
abbrev S8192x2048 : Shape := ⟨2, ![8192, 2048]⟩
abbrev S2x2048x2048 : Shape := ⟨3, ![2, 2048, 2048]⟩
abbrev S2048 : Shape := ⟨1, ![2048]⟩
abbrev S1x2048 : Shape := ⟨2, ![1, 2048]⟩
abbrev S512x2048 : Shape := ⟨2, ![512, 2048]⟩
abbrev S1x2048x2048 : Shape := ⟨3, ![1, 2048, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .bf16⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S8192x2048, .f32⟩
  | .hbm, ⟨8, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== OutRefIdeal.lean ====
abbrev S8192x2048 : Shape := ⟨2, ![8192, 2048]⟩
abbrev S2x2048x2048 : Shape := ⟨3, ![2, 2048, 2048]⟩
abbrev S2048 : Shape := ⟨1, ![2048]⟩
abbrev S1x2048x2048 : Shape := ⟨3, ![1, 2048, 2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .bf16⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S8192x2048, .f32⟩
  | .hbm, ⟨6, _⟩ => ⟨S1x2048x2048, .bf16⟩
  | .hbm, ⟨7, _⟩ => ⟨S2048x2048, .bf16⟩
  | .hbm, ⟨8, _⟩ => ⟨S2048x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S1x2048, .f32⟩
  | .hbm, ⟨41, _⟩ => ⟨S8192x2048, .f32⟩
  | .hbm, ⟨42, _⟩ => ⟨S8192x2048, .f32⟩
  | .hbm, ⟨43, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Last.lean ====
abbrev S8192x6144 : Shape := ⟨2, ![8192, 6144]⟩
abbrev S4x6144x2048 : Shape := ⟨3, ![4, 6144, 2048]⟩
abbrev S8192x2048 : Shape := ⟨2, ![8192, 2048]⟩
abbrev S2048 : Shape := ⟨1, ![2048]⟩
abbrev S1x2048 : Shape := ⟨2, ![1, 2048]⟩
abbrev S1024x512 : Shape := ⟨2, ![1024, 512]⟩
abbrev S1x512x2048 : Shape := ⟨3, ![1, 512, 2048]⟩
abbrev S1024x2048 : Shape := ⟨2, ![1024, 2048]⟩
abbrev S512x2048 : Shape := ⟨2, ![512, 2048]⟩
abbrev S1024 : Shape := ⟨1, ![1024]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x6144, .bf16⟩
  | .hbm, ⟨1, _⟩ => ⟨S4x6144x2048, .bf16⟩
  | .hbm, ⟨2, _⟩ => ⟨S8192x2048, .f32⟩
  | .hbm, ⟨3, _⟩ => ⟨S2048, .f32⟩
  | .hbm, ⟨4, _⟩ => ⟨S1x2048, .f32⟩
  | .hbm, ⟨5, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S1x512x2048, .bf16⟩
  | .local _ .vmem, ⟨3, _⟩ => ⟨S1x512x2048, .bf16⟩
  | .local _ .vmem, ⟨4, _⟩ => ⟨S1024x2048, .f32⟩
  | .local _ .vmem, ⟨5, _⟩ => ⟨S1024x2048, .f32⟩
  | .local _ .vmem, ⟨6, _⟩ => ⟨S1x2048, .f32⟩
  | .local _ .vmem, ⟨7, _⟩ => ⟨S1024x2048, .f32⟩
  | .local _ .vmem, ⟨8, _⟩ => ⟨S1024x2048, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== LastRefIdeal.lean ====
abbrev S8192x6144 : Shape := ⟨2, ![8192, 6144]⟩
abbrev S4x6144x2048 : Shape := ⟨3, ![4, 6144, 2048]⟩
abbrev S8192x2048 : Shape := ⟨2, ![8192, 2048]⟩
abbrev S2048 : Shape := ⟨1, ![2048]⟩
abbrev S1x6144x2048 : Shape := ⟨3, ![1, 6144, 2048]⟩
abbrev S6144x2048 : Shape := ⟨2, ![6144, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S4x6144x2048, .bf16⟩
  | .hbm, ⟨2, _⟩ => ⟨S8192x2048, .f32⟩
  | .hbm, ⟨3, _⟩ => ⟨S2048, .f32⟩
  | .hbm, ⟨4, _⟩ => ⟨S8192x6144, .f32⟩
  | .hbm, ⟨5, _⟩ => ⟨S1x6144x2048, .bf16⟩
  | .hbm, ⟨6, _⟩ => ⟨S6144x2048, .bf16⟩
  | .hbm, ⟨7, _⟩ => ⟨S6144x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== SLast.lean ====
abbrev S128x6144 : Shape := ⟨2, ![128, 6144]⟩
abbrev S4x6144x2048 : Shape := ⟨3, ![4, 6144, 2048]⟩
abbrev S128x2048 : Shape := ⟨2, ![128, 2048]⟩
abbrev S2048 : Shape := ⟨1, ![2048]⟩
abbrev S1x2048 : Shape := ⟨2, ![1, 2048]⟩
abbrev S128x512 : Shape := ⟨2, ![128, 512]⟩
abbrev S1x512x2048 : Shape := ⟨3, ![1, 512, 2048]⟩
abbrev S512x2048 : Shape := ⟨2, ![512, 2048]⟩
abbrev S128 : Shape := ⟨1, ![128]⟩
abbrev S128x1 : Shape := ⟨2, ![128, 1]⟩

abbrev nBuf : Space → Nat
  | .hbm => 6
  | .vmem => 7
  | .smem => 0
  | _ => 0

abbrev bufTy : (tb : Table) → Fin (tcTables nBuf tb) → BufTy
  | .hbm, ⟨0, _⟩ => ⟨S128x6144, .bf16⟩
  | .hbm, ⟨1, _⟩ => ⟨S4x6144x2048, .bf16⟩
  | .hbm, ⟨2, _⟩ => ⟨S128x2048, .f32⟩
  | .hbm, ⟨3, _⟩ => ⟨S2048, .f32⟩
  | .hbm, ⟨4, _⟩ => ⟨S1x2048, .f32⟩
  | .hbm, ⟨5, _⟩ => ⟨S128x2048, .f32⟩
  | .local _ .vmem, ⟨0, _⟩ => ⟨S128x512, .bf16⟩
  | .local _ .vmem, ⟨1, _⟩ => ⟨S128x512, .bf16⟩
  | .local _ .vmem, ⟨2, _⟩ => ⟨S1x512x2048, .bf16⟩
  | .local _ .vmem, ⟨3, _⟩ => ⟨S1x512x2048, .bf16⟩
  | .local _ .vmem, ⟨4, _⟩ => ⟨S128x2048, .f32⟩
  | .local _ .vmem, ⟨5, _⟩ => ⟨S1x2048, .f32⟩
  | .local _ .vmem, ⟨6, _⟩ => ⟨S128x2048, .f32⟩
  | _, _ => ⟨S128x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨2, ![1, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== SLastRefIdeal.lean ====
abbrev S128x6144 : Shape := ⟨2, ![128, 6144]⟩
abbrev S4x6144x2048 : Shape := ⟨3, ![4, 6144, 2048]⟩
abbrev S128x2048 : Shape := ⟨2, ![128, 2048]⟩
abbrev S2048 : Shape := ⟨1, ![2048]⟩
abbrev S1x6144x2048 : Shape := ⟨3, ![1, 6144, 2048]⟩
abbrev S6144x2048 : Shape := ⟨2, ![6144, 2048]⟩
abbrev S_ : Shape := ⟨0, ![]⟩
abbrev S128 : Shape := ⟨1, ![128]⟩
abbrev S128x1 : Shape := ⟨2, ![128, 1]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S128x6144, .bf16⟩
  | .hbm, ⟨1, _⟩ => ⟨S4x6144x2048, .bf16⟩
  | .hbm, ⟨2, _⟩ => ⟨S128x2048, .f32⟩
  | .hbm, ⟨3, _⟩ => ⟨S2048, .f32⟩
  | .hbm, ⟨4, _⟩ => ⟨S128x6144, .f32⟩
  | .hbm, ⟨5, _⟩ => ⟨S1x6144x2048, .bf16⟩
  | .hbm, ⟨6, _⟩ => ⟨S6144x2048, .bf16⟩
  | .hbm, ⟨7, _⟩ => ⟨S6144x2048, .f32⟩
  | .hbm, ⟨8, _⟩ => ⟨S128x2048, .f32⟩
  | .hbm, ⟨9, _⟩ => ⟨S128x2048, .f32⟩
  | .hbm, ⟨10, _⟩ => ⟨S_, .f32⟩
  | .hbm, ⟨11, _⟩ => ⟨S128, .f32⟩
  | .hbm, ⟨12, _⟩ => ⟨S128x1, .f32⟩
  | .hbm, ⟨13, _⟩ => ⟨S_, .f32⟩
  | .hbm, ⟨14, _⟩ => ⟨S128x1, .f32⟩
  | .hbm, ⟨15, _⟩ => ⟨S128x1, .f32⟩
  | .hbm, ⟨16, _⟩ => ⟨S_, .f32⟩
  | .hbm, ⟨17, _⟩ => ⟨S128x1, .f32⟩
  | .hbm, ⟨18, _⟩ => ⟨S128x1, .f32⟩
  | .hbm, ⟨19, _⟩ => ⟨S128x1, .f32⟩
  | .hbm, ⟨20, _⟩ => ⟨S128x2048, .f32⟩
  | .hbm, ⟨21, _⟩ => ⟨S128x2048, .f32⟩
  | .hbm, ⟨22, _⟩ => ⟨S1x2048, .f32⟩
  | .hbm, ⟨23, _⟩ => ⟨S128x2048, .f32⟩
  | .hbm, ⟨24, _⟩ => ⟨S128x2048, .f32⟩
  | .hbm, ⟨25, _⟩ => ⟨S128x2048, .f32⟩
  | _, _ => ⟨S128x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Proj.lean ====
abbrev S128x2048 : Shape := ⟨2, ![128, 2048]⟩
abbrev S2x2048x4096 : Shape := ⟨3, ![2, 2048, 4096]⟩
abbrev S128x4096 : Shape := ⟨2, ![128, 4096]⟩
abbrev S1x2048x1024 : Shape := ⟨3, ![1, 2048, 1024]⟩
abbrev S128x1024 : Shape := ⟨2, ![128, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S128x2048, .bf16⟩
  | .hbm, ⟨1, _⟩ => ⟨S2x2048x4096, .bf16⟩
  | .hbm, ⟨2, _⟩ => ⟨S128x4096, .f32⟩
  | .local _ .vmem, ⟨0, _⟩ => ⟨S128x2048, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S128x1024, .f32⟩
  | .local _ .vmem, ⟨4, _⟩ => ⟨S128x1024, .f32⟩
  | _, _ => ⟨S128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S128x2048 : Shape := ⟨2, ![128, 2048]⟩
abbrev S2x2048x4096 : Shape := ⟨3, ![2, 2048, 4096]⟩
abbrev S1x2048x4096 : Shape := ⟨3, ![1, 2048, 4096]⟩
abbrev S2048x4096 : Shape := ⟨2, ![2048, 4096]⟩
abbrev S128x4096 : Shape := ⟨2, ![128, 4096]⟩

abbrev nBuf : Space → Nat
  | .hbm => 7
  | .vmem => 0
  | .smem => 0
  | _ => 0

abbrev bufTy : (tb : Table) → Fin (tcTables nBuf tb) → BufTy
  | .hbm, ⟨0, _⟩ => ⟨S128x2048, .bf16⟩
  | .hbm, ⟨1, _⟩ => ⟨S2x2048x4096, .bf16⟩
  | .hbm, ⟨2, _⟩ => ⟨S128x2048, .f32⟩
  | .hbm, ⟨3, _⟩ => ⟨S1x2048x4096, .bf16⟩
  | .hbm, ⟨4, _⟩ => ⟨S2048x4096, .bf16⟩
  | .hbm, ⟨5, _⟩ => ⟨S2048x4096, .f32⟩
  | .hbm, ⟨6, _⟩ => ⟨S128x4096, .f32⟩
  | _, _ => ⟨S128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Step.lean ====
abbrev S128x4096 : Shape := ⟨2, ![128, 4096]⟩
abbrev S128x3x2048 : Shape := ⟨3, ![128, 3, 2048]⟩
abbrev S128x2048 : Shape := ⟨2, ![128, 2048]⟩
abbrev S4x2048 : Shape := ⟨2, ![4, 2048]⟩
abbrev S2048 : Shape := ⟨1, ![2048]⟩
abbrev S8x256x256 : Shape := ⟨3, ![8, 256, 256]⟩
abbrev S128x1x2048 : Shape := ⟨3, ![128, 1, 2048]⟩
abbrev S1x2048 : Shape := ⟨2, ![1, 2048]⟩
abbrev S128x256 : Shape := ⟨2, ![128, 256]⟩
abbrev S1x256x256 : Shape := ⟨3, ![1, 256, 256]⟩
abbrev S256x256 : Shape := ⟨2, ![256, 256]⟩

abbrev nBuf : Space → Nat
  | .hbm => 22
  | .vmem => 15
  | .smem => 0
  | _ => 0

abbrev bufTy : (tb : Table) → Fin (tcTables nBuf tb) → BufTy
  | .hbm, ⟨0, _⟩ => ⟨S128x4096, .f32⟩
  | .hbm, ⟨1, _⟩ => ⟨S128x3x2048, .f32⟩
  | .hbm, ⟨2, _⟩ => ⟨S128x2048, .f32⟩
  | .hbm, ⟨3, _⟩ => ⟨S4x2048, .f32⟩
  | .hbm, ⟨4, _⟩ => ⟨S2048, .f32⟩
  | .hbm, ⟨5, _⟩ => ⟨S8x256x256, .bf16⟩
  | .hbm, ⟨6, _⟩ => ⟨S2048, .f32⟩
  | .hbm, ⟨7, _⟩ => ⟨S8x256x256, .bf16⟩
  | .hbm, ⟨8, _⟩ => ⟨S2048, .f32⟩
  | .hbm, ⟨9, _⟩ => ⟨S2048, .f32⟩
  | .hbm, ⟨10, _⟩ => ⟨S128x1x2048, .f32⟩
  | .hbm, ⟨11, _⟩ => ⟨S128x2048, .f32⟩
  | .hbm, ⟨12, _⟩ => ⟨S128x1x2048, .f32⟩
  | .hbm, ⟨13, _⟩ => ⟨S128x2048, .f32⟩
  | .hbm, ⟨14, _⟩ => ⟨S128x1x2048, .f32⟩
  | .hbm, ⟨15, _⟩ => ⟨S128x2048, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S128x2048, .bf16⟩
  | .hbm, ⟨21, _⟩ => ⟨S128x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S4x2048, .f32⟩
  | .local _ .vmem, ⟨7, _⟩ => ⟨S1x2048, .f32⟩
  | .local _ .vmem, ⟨8, _⟩ => ⟨S8x256x256, .bf16⟩
  | .local _ .vmem, ⟨9, _⟩ => ⟨S1x2048, .f32⟩
  | .local _ .vmem, ⟨10, _⟩ => ⟨S8x256x256, .bf16⟩
  | .local _ .vmem, ⟨11, _⟩ => ⟨S1x2048, .f32⟩
  | .local _ .vmem, ⟨12, _⟩ => ⟨S1x2048, .f32⟩
  | .local _ .vmem, ⟨13, _⟩ => ⟨S128x2048, .bf16⟩
  | .local _ .vmem, ⟨14, _⟩ => ⟨S128x2048, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== StepRefIdeal.lean ====
abbrev S128x4096 : Shape := ⟨2, ![128, 4096]⟩
abbrev S128x3x2048 : Shape := ⟨3, ![128, 3, 2048]⟩
abbrev S128x2048 : Shape := ⟨2, ![128, 2048]⟩
abbrev S4x2048 : Shape := ⟨2, ![4, 2048]⟩
abbrev S2048 : Shape := ⟨1, ![2048]⟩
abbrev S8x256x256 : Shape := ⟨3, ![8, 256, 256]⟩
abbrev S128x1x2048 : Shape := ⟨3, ![128, 1, 2048]⟩
abbrev S128x4x2048 : Shape := ⟨3, ![128, 4, 2048]⟩
abbrev S1x2048 : Shape := ⟨2, ![1, 2048]⟩
abbrev S128x8x256 : Shape := ⟨3, ![128, 8, 256]⟩
abbrev S8x256x128 : Shape := ⟨3, ![8, 256, 128]⟩
abbrev S_ : Shape := ⟨0, ![]⟩

abbrev nBuf : Space → Nat
  | .hbm => 131
  | .vmem => 0
  | .smem => 0
  | _ => 0

abbrev hbmTy0_0 (i : Nat) : BufTy := match i % 128 with
  | 0 => ⟨S128x4096, .f32⟩
  | 1 => ⟨S128x3x2048, .f32⟩
  | 2 => ⟨S128x2048, .f32⟩
  | 3 => ⟨S4x2048, .f32⟩
  | 4 => ⟨S2048, .f32⟩
  | 5 => ⟨S8x256x256, .bf16⟩
  | 6 => ⟨S2048, .f32⟩
  | 7 => ⟨S8x256x256, .bf16⟩
  | 8 => ⟨S2048, .f32⟩
  | 9 => ⟨S2048, .f32⟩
  | 10 => ⟨S128x2048, .f32⟩
  | 11 => ⟨S128x2048, .f32⟩
  | 12 => ⟨S128x1x2048, .f32⟩
  | 13 => ⟨S128x4x2048, .f32⟩
  | 14 => ⟨S128x1x2048, .f32⟩
  | 15 => ⟨S128x2048, .f32⟩
  | 16 => ⟨S1x2048, .f32⟩
  | 17 => ⟨S2048, .f32⟩
  | 18 => ⟨S1x2048, .f32⟩
  | 19 => ⟨S128x2048, .f32⟩
  | 20 => ⟨S128x2048, .f32⟩
  | 21 => ⟨S1x2048, .f32⟩
  | 22 => ⟨S128x2048, .f32⟩
  | 23 => ⟨S128x2048, .f32⟩
  | 24 => ⟨S128x1x2048, .f32⟩
  | 25 => ⟨S128x2048, .f32⟩
  | 26 => ⟨S1x2048, .f32⟩
  | 27 => ⟨S2048, .f32⟩
  | 28 => ⟨S1x2048, .f32⟩
  | 29 => ⟨S128x2048, .f32⟩
  | 30 => ⟨S128x2048, .f32⟩
  | 31 => ⟨S128x2048, .f32⟩
  | 32 => ⟨S128x1x2048, .f32⟩
  | 33 => ⟨S128x2048, .f32⟩
  | 34 => ⟨S1x2048, .f32⟩
  | 35 => ⟨S2048, .f32⟩
  | 36 => ⟨S1x2048, .f32⟩
  | 37 => ⟨S128x2048, .f32⟩
  | 38 => ⟨S128x2048, .f32⟩
  | 39 => ⟨S128x2048, .f32⟩
  | 40 => ⟨S128x1x2048, .f32⟩
  | 41 => ⟨S128x2048, .f32⟩
  | 42 => ⟨S1x2048, .f32⟩
  | 43 => ⟨S2048, .f32⟩
  | 44 => ⟨S1x2048, .f32⟩
  | 45 => ⟨S128x2048, .f32⟩
  | 46 => ⟨S128x2048, .f32⟩
  | 47 => ⟨S128x2048, .f32⟩
  | 48 => ⟨S8x256x256, .f32⟩
  | 49 => ⟨S128x8x256, .f32⟩
  | 50 => ⟨S8x256x128, .f32⟩
  | 51 => ⟨S128x8x256, .f32⟩
  | 52 => ⟨S128x2048, .f32⟩
  | 53 => ⟨S1x2048, .f32⟩
  | 54 => ⟨S128x2048, .f32⟩
  | 55 => ⟨S128x2048, .f32⟩
  | 56 => ⟨S128x2048, .f32⟩
  | 57 => ⟨S128x2048, .f32⟩
  | 58 => ⟨S_, .f32⟩
  | 59 => ⟨S128x2048, .f32⟩
  | 60 => ⟨S128x2048, .f32⟩
  | 61 => ⟨S_, .f32⟩
  | 62 => ⟨S128x2048, .f32⟩
  | 63 => ⟨S128x2048, .f32⟩
  | 64 => ⟨S8x256x256, .f32⟩
  | 65 => ⟨S128x8x256, .f32⟩
  | 66 => ⟨S8x256x128, .f32⟩
  | 67 => ⟨S128x8x256, .f32⟩
  | 68 => ⟨S128x2048, .f32⟩
  | 69 => ⟨S1x2048, .f32⟩
  | 70 => ⟨S128x2048, .f32⟩
  | 71 => ⟨S128x2048, .f32⟩
  | 72 => ⟨S128x2048, .f32⟩
  | 73 => ⟨S128x2048, .f32⟩
  | 74 => ⟨S_, .f32⟩
  | 75 => ⟨S128x2048, .f32⟩
  | 76 => ⟨S128x2048, .f32⟩
  | 77 => ⟨S_, .f32⟩
  | 78 => ⟨S128x2048, .f32⟩
  | 79 => ⟨S128x2048, .f32⟩
  | 80 => ⟨S_, .f32⟩
  | 81 => ⟨S128x2048, .f32⟩
  | 82 => ⟨S128x2048, .f32⟩
  | 83 => ⟨S2048, .f32⟩
  | 84 => ⟨S_, .f32⟩
  | 85 => ⟨S2048, .f32⟩
  | 86 => ⟨S2048, .f32⟩
  | 87 => ⟨S2048, .f32⟩
  | 88 => ⟨S2048, .f32⟩
  | 89 => ⟨S2048, .i1⟩
  | 90 => ⟨S2048, .f32⟩
  | 91 => ⟨S2048, .f32⟩
  | 92 => ⟨S2048, .f32⟩
  | 93 => ⟨S2048, .f32⟩
  | 94 => ⟨S2048, .f32⟩
  | 95 => ⟨S2048, .f32⟩
  | 96 => ⟨S2048, .f32⟩
  | 97 => ⟨S2048, .f32⟩
  | 98 => ⟨S1x2048, .f32⟩
  | 99 => ⟨S128x2048, .f32⟩
  | 100 => ⟨S128x2048, .f32⟩
  | 101 => ⟨S128x2048, .f32⟩
  | 102 => ⟨S_, .f32⟩
  | 103 => ⟨S128x2048, .f32⟩
  | 104 => ⟨S128x2048, .f32⟩
  | 105 => ⟨S128x2048, .f32⟩
  | 106 => ⟨S128x2048, .f32⟩
  | 107 => ⟨S128x2048, .f32⟩
  | 108 => ⟨S128x2048, .f32⟩
  | 109 => ⟨S128x2048, .f32⟩
  | 110 => ⟨S128x2048, .f32⟩
  | 111 => ⟨S128x2048, .f32⟩
  | 112 => ⟨S128x2048, .f32⟩
  | 113 => ⟨S128x2048, .f32⟩
  | 114 => ⟨S_, .f32⟩
  | 115 => ⟨S128x2048, .f32⟩
  | 116 => ⟨S128x2048, .f32⟩
  | 117 => ⟨S128x2048, .f32⟩
  | 118 => ⟨S_, .f32⟩
  | 119 => ⟨S128x2048, .f32⟩
  | 120 => ⟨S128x2048, .f32⟩
  | 121 => ⟨S128x2048, .f32⟩
  | 122 => ⟨S_, .f32⟩
  | 123 => ⟨S128x2048, .f32⟩
  | 124 => ⟨S128x2048, .f32⟩
  | 125 => ⟨S_, .f32⟩
  | 126 => ⟨S128x2048, .f32⟩
  | 127 => ⟨S128x2048, .f32⟩
  | _ => ⟨S128x4096, .f32⟩

abbrev hbmTy0_1 (i : Nat) : BufTy := match i % 128 with
  | 0 => ⟨S128x2048, .f32⟩
  | 1 => ⟨S128x2048, .f32⟩
  | 2 => ⟨S128x2048, .bf16⟩
  | _ => ⟨S128x4096, .f32⟩

abbrev hbmTy (i : Nat) : BufTy := match i / 128 with
  | 0 => hbmTy0_0 i
  | 1 => hbmTy0_1 i
  | _ => ⟨S128x4096, .f32⟩

abbrev bufTy : (tb : Table) → Fin (tcTables nBuf tb) → BufTy
  | .hbm, ⟨i, _⟩ => hbmTy i
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst : Ref sig .tc := ⟨.hbm, 58, rfl⟩
abbrev main_v48 : Ref sig .tc := ⟨.hbm, 59, rfl⟩
abbrev main_v49 : Ref sig .tc := ⟨.hbm, 60, rfl⟩
abbrev main_cst_0 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_1 : Ref sig .tc := ⟨.hbm, 74, rfl⟩
abbrev main_v62 : Ref sig .tc := ⟨.hbm, 75, rfl⟩
abbrev main_v63 : Ref sig .tc := ⟨.hbm, 76, rfl⟩
abbrev main_cst_2 : Ref sig .tc := ⟨.hbm, 77, rfl⟩
abbrev main_v64 : Ref sig .tc := ⟨.hbm, 78, rfl⟩
abbrev main_v65 : Ref sig .tc := ⟨.hbm, 79, rfl⟩
abbrev main_cst_3 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_call0_cst : Ref sig .tc := ⟨.hbm, 84, rfl⟩
abbrev main_call0_v0 : Ref sig .tc := ⟨.hbm, 85, rfl⟩
abbrev main_call0_v1 : Ref sig .tc := ⟨.hbm, 86, rfl⟩
abbrev main_call0_v2 : Ref sig .tc := ⟨.hbm, 87, rfl⟩
abbrev main_call0_v3 : Ref sig .tc := ⟨.hbm, 88, rfl⟩
abbrev main_call0_v4 : Ref sig .tc := ⟨.hbm, 89, rfl⟩
abbrev main_call0_v5 : Ref sig .tc := ⟨.hbm, 90, rfl⟩
abbrev main_call0_v6 : Ref sig .tc := ⟨.hbm, 91, rfl⟩
abbrev main_call0_v7 : Ref sig .tc := ⟨.hbm, 92, rfl⟩
abbrev main_call0_v8 : Ref sig .tc := ⟨.hbm, 93, rfl⟩
abbrev main_call0_v9 : Ref sig .tc := ⟨.hbm, 94, rfl⟩
abbrev main_call0_v10 : Ref sig .tc := ⟨.hbm, 95, rfl⟩
abbrev main_call0_v11 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_4 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_5 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_6 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_7 : Ref sig .tc := ⟨.hbm, 122, rfl⟩
abbrev main_v91 : Ref sig .tc := ⟨.hbm, 123, rfl⟩
abbrev main_v92 : Ref sig .tc := ⟨.hbm, 124, rfl⟩
abbrev main_cst_8 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩

abbrev nD : Nat := 1
abbrev τ : Topo := Topo.v7x

variable {F : FTy → Type} [FloatOps F]
-- ==== FfnStep.lean ====
abbrev S128x2048 : Shape := ⟨2, ![128, 2048]⟩
abbrev S4x2048x6144 : Shape := ⟨3, ![4, 2048, 6144]⟩
abbrev S4x3x6144 : Shape := ⟨3, ![4, 3, 6144]⟩
abbrev S4x1x6144 : Shape := ⟨3, ![4, 1, 6144]⟩
abbrev S128x2x6144 : Shape := ⟨3, ![128, 2, 6144]⟩
abbrev S128x1x6144 : Shape := ⟨3, ![128, 1, 6144]⟩
abbrev S128x6144 : Shape := ⟨2, ![128, 6144]⟩
abbrev S1x2048x512 : Shape := ⟨3, ![1, 2048, 512]⟩
abbrev S1x3x512 : Shape := ⟨3, ![1, 3, 512]⟩
abbrev S1x1x512 : Shape := ⟨3, ![1, 1, 512]⟩
abbrev S128x512 : Shape := ⟨2, ![128, 512]⟩
abbrev S2048x512 : Shape := ⟨2, ![2048, 512]⟩
abbrev S3x512 : Shape := ⟨2, ![3, 512]⟩
abbrev S1x512 : Shape := ⟨2, ![1, 512]⟩

abbrev nBuf : Space → Nat
  | .hbm => 12
  | .vmem => 17
  | .smem => 0
  | _ => 0

abbrev bufTy : (tb : Table) → Fin (tcTables nBuf tb) → BufTy
  | .hbm, ⟨0, _⟩ => ⟨S128x2048, .bf16⟩
  | .hbm, ⟨1, _⟩ => ⟨S4x2048x6144, .f32⟩
  | .hbm, ⟨2, _⟩ => ⟨S4x2048x6144, .f32⟩
  | .hbm, ⟨3, _⟩ => ⟨S4x3x6144, .f32⟩
  | .hbm, ⟨4, _⟩ => ⟨S4x1x6144, .f32⟩
  | .hbm, ⟨5, _⟩ => ⟨S128x2x6144, .f32⟩
  | .hbm, ⟨6, _⟩ => ⟨S128x1x6144, .f32⟩
  | .hbm, ⟨7, _⟩ => ⟨S128x6144, .f32⟩
  | .hbm, ⟨8, _⟩ => ⟨S128x1x6144, .f32⟩
  | .hbm, ⟨9, _⟩ => ⟨S128x6144, .f32⟩
  | .hbm, ⟨10, _⟩ => ⟨S128x6144, .bf16⟩
  | .hbm, ⟨11, _⟩ => ⟨S128x6144, .f32⟩
  | .local _ .vmem, ⟨0, _⟩ => ⟨S128x2048, .bf16⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x3x512, .f32⟩
  | .local _ .vmem, ⟨6, _⟩ => ⟨S1x3x512, .f32⟩
  | .local _ .vmem, ⟨7, _⟩ => ⟨S1x1x512, .f32⟩
  | .local _ .vmem, ⟨8, _⟩ => ⟨S1x1x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .bf16⟩
  | .local _ .vmem, ⟨14, _⟩ => ⟨S128x512, .bf16⟩
  | .local _ .vmem, ⟨15, _⟩ => ⟨S128x512, .f32⟩
  | .local _ .vmem, ⟨16, _⟩ => ⟨S128x512, .f32⟩
  | _, _ => ⟨S128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnStepRefIdeal.lean ====
abbrev S128x2048 : Shape := ⟨2, ![128, 2048]⟩
abbrev S4x2048x6144 : Shape := ⟨3, ![4, 2048, 6144]⟩
abbrev S4x3x6144 : Shape := ⟨3, ![4, 3, 6144]⟩
abbrev S4x1x6144 : Shape := ⟨3, ![4, 1, 6144]⟩
abbrev S128x2x6144 : Shape := ⟨3, ![128, 2, 6144]⟩
abbrev S1x2048x6144 : Shape := ⟨3, ![1, 2048, 6144]⟩
abbrev S2048x6144 : Shape := ⟨2, ![2048, 6144]⟩
abbrev S128x6144 : Shape := ⟨2, ![128, 6144]⟩
abbrev S128x1x6144 : Shape := ⟨3, ![128, 1, 6144]⟩
abbrev S128x3x6144 : Shape := ⟨3, ![128, 3, 6144]⟩
abbrev S1x1x6144 : Shape := ⟨3, ![1, 1, 6144]⟩
abbrev S6144 : Shape := ⟨1, ![6144]⟩
abbrev S1x6144 : Shape := ⟨2, ![1, 6144]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S128x2048, .bf16⟩
  | .hbm, ⟨1, _⟩ => ⟨S4x2048x6144, .f32⟩
  | .hbm, ⟨2, _⟩ => ⟨S4x2048x6144, .f32⟩
  | .hbm, ⟨3, _⟩ => ⟨S4x3x6144, .f32⟩
  | .hbm, ⟨4, _⟩ => ⟨S4x1x6144, .f32⟩
  | .hbm, ⟨5, _⟩ => ⟨S128x2x6144, .f32⟩
  | .hbm, ⟨6, _⟩ => ⟨S128x2048, .f32⟩
  | .hbm, ⟨7, _⟩ => ⟨S1x2048x6144, .f32⟩
  | .hbm, ⟨8, _⟩ => ⟨S2048x6144, .f32⟩
  | .hbm, ⟨9, _⟩ => ⟨S128x6144, .f32⟩
  | .hbm, ⟨10, _⟩ => ⟨S128x1x6144, .f32⟩
  | .hbm, ⟨11, _⟩ => ⟨S128x3x6144, .f32⟩
  | .hbm, ⟨12, _⟩ => ⟨S1x1x6144, .f32⟩
  | .hbm, ⟨13, _⟩ => ⟨S6144, .f32⟩
  | .hbm, ⟨14, _⟩ => ⟨S128x1x6144, .f32⟩
  | .hbm, ⟨15, _⟩ => ⟨S128x6144, .f32⟩
  | .hbm, ⟨16, _⟩ => ⟨S1x1x6144, .f32⟩
  | .hbm, ⟨17, _⟩ => ⟨S6144, .f32⟩
  | .hbm, ⟨18, _⟩ => ⟨S1x6144, .f32⟩
  | .hbm, ⟨19, _⟩ => ⟨S128x6144, .f32⟩
  | .hbm, ⟨20, _⟩ => ⟨S128x6144, .f32⟩
  | .hbm, ⟨21, _⟩ => ⟨S1x6144, .f32⟩
  | .hbm, ⟨22, _⟩ => ⟨S128x6144, .f32⟩
  | .hbm, ⟨23, _⟩ => ⟨S128x6144, .f32⟩
  | .hbm, ⟨24, _⟩ => ⟨S128x1x6144, .f32⟩
  | .hbm, ⟨25, _⟩ => ⟨S128x6144, .f32⟩
  | .hbm, ⟨26, _⟩ => ⟨S1x1x6144, .f32⟩
  | .hbm, ⟨27, _⟩ => ⟨S6144, .f32⟩
  | .hbm, ⟨28, _⟩ => ⟨S1x6144, .f32⟩
  | .hbm, ⟨29, _⟩ => ⟨S128x6144, .f32⟩
  | .hbm, ⟨30, _⟩ => ⟨S128x6144, .f32⟩
  | .hbm, ⟨31, _⟩ => ⟨S128x6144, .f32⟩
  | .hbm, ⟨32, _⟩ => ⟨S128x1x6144, .f32⟩
  | .hbm, ⟨33, _⟩ => ⟨S128x6144, .f32⟩
  | .hbm, ⟨34, _⟩ => ⟨S1x1x6144, .f32⟩
  | .hbm, ⟨35, _⟩ => ⟨S6144, .f32⟩
  | .hbm, ⟨36, _⟩ => ⟨S1x6144, .f32⟩
  | .hbm, ⟨37, _⟩ => ⟨S128x6144, .f32⟩
  | .hbm, ⟨38, _⟩ => ⟨S128x6144, .f32⟩
  | .hbm, ⟨39, _⟩ => ⟨S128x6144, .f32⟩
  | .hbm, ⟨40, _⟩ => ⟨S128x6144, .f32⟩
  | .hbm, ⟨41, _⟩ => ⟨S128x6144, .f32⟩
  | .hbm, ⟨42, _⟩ => ⟨S_, .f32⟩
  | .hbm, ⟨43, _⟩ => ⟨S128x6144, .f32⟩
  | .hbm, ⟨44, _⟩ => ⟨S128x6144, .f32⟩
  | .hbm, ⟨45, _⟩ => ⟨S128x6144, .f32⟩
  | .hbm, ⟨46, _⟩ => ⟨S_, .f32⟩
  | .hbm, ⟨47, _⟩ => ⟨S128x6144, .f32⟩
  | .hbm, ⟨48, _⟩ => ⟨S128x6144, .f32⟩
  | .hbm, ⟨49, _⟩ => ⟨S128x6144, .f32⟩
  | .hbm, ⟨50, _⟩ => ⟨S_, .f32⟩
  | .hbm, ⟨51, _⟩ => ⟨S128x6144, .f32⟩
  | .hbm, ⟨52, _⟩ => ⟨S128x6144, .f32⟩
  | .hbm, ⟨53, _⟩ => ⟨S_, .f32⟩
  | .hbm, ⟨54, _⟩ => ⟨S128x6144, .f32⟩
  | .hbm, ⟨55, _⟩ => ⟨S128x6144, .f32⟩
  | .hbm, ⟨56, _⟩ => ⟨S128x6144, .f32⟩
  | .hbm, ⟨57, _⟩ => ⟨S1x2048x6144, .f32⟩
  | .hbm, ⟨58, _⟩ => ⟨S2048x6144, .f32⟩
  | .hbm, ⟨59, _⟩ => ⟨S128x6144, .f32⟩
  | .hbm, ⟨60, _⟩ => ⟨S128x6144, .f32⟩
  | .hbm, ⟨61, _⟩ => ⟨S128x6144, .bf16⟩
  | _, _ => ⟨S128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_0 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_1 : Ref sig .tc := ⟨.hbm, 50, rfl⟩
abbrev main_v42 : Ref sig .tc := ⟨.hbm, 51, rfl⟩
abbrev main_v43 : Ref sig .tc := ⟨.hbm, 52, rfl⟩
abbrev main_cst_2 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩

abbrev nD : Nat := 1
abbrev τ : Topo := Topo.v7x

variable {F : FTy → Type} [FloatOps F]
-- ==== Kv.lean ====
abbrev S8192x2048 : Shape := ⟨2, ![8192, 2048]⟩
abbrev S2048 : Shape := ⟨1, ![2048]⟩
abbrev S2048x576 : Shape := ⟨2, ![2048, 576]⟩
abbrev S512 : Shape := ⟨1, ![512]⟩
abbrev S2048x512 : Shape := ⟨2, ![2048, 512]⟩
abbrev S2048x64 : Shape := ⟨2, ![2048, 64]⟩
abbrev S2048x32 : Shape := ⟨2, ![2048, 32]⟩
abbrev S2048x128 : Shape := ⟨2, ![2048, 128]⟩
abbrev S2048x640 : Shape := ⟨2, ![2048, 640]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S1x2048 : Shape := ⟨2, ![1, 2048]⟩
abbrev S1x512 : Shape := ⟨2, ![1, 512]⟩
abbrev S8192x512 : Shape := ⟨2, ![8192, 512]⟩
abbrev S8192x64 : Shape := ⟨2, ![8192, 64]⟩
abbrev S8192x128 : Shape := ⟨2, ![8192, 128]⟩
abbrev S512x2048 : Shape := ⟨2, ![512, 2048]⟩
abbrev S512x128 : Shape := ⟨2, ![512, 128]⟩
abbrev S512x512 : Shape := ⟨2, ![512, 512]⟩
abbrev S512x64 : Shape := ⟨2, ![512, 64]⟩
abbrev S512x1 : Shape := ⟨2, ![512, 1]⟩
abbrev S512x640 : Shape := ⟨2, ![512, 640]⟩

abbrev nBuf : Space → Nat
  | .hbm => 38
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x576, .f32⟩
  | .hbm, ⟨3, _⟩ => ⟨S512, .f32⟩
  | .hbm, ⟨4, _⟩ => ⟨S2048x512, .f32⟩
  | .hbm, ⟨5, _⟩ => ⟨S2048x64, .f32⟩
  | .hbm, ⟨6, _⟩ => ⟨S2048x32, .f32⟩
  | .hbm, ⟨7, _⟩ => ⟨S2048x32, .f32⟩
  | .hbm, ⟨8, _⟩ => ⟨S2048x32, .f32⟩
  | .hbm, ⟨9, _⟩ => ⟨S2048x128, .f32⟩
  | .hbm, ⟨10, _⟩ => ⟨S2048x640, .f32⟩
  | .hbm, ⟨11, _⟩ => ⟨S2048x640, .bf16⟩
  | .hbm, ⟨12, _⟩ => ⟨S2048, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S2048x1, .f32⟩
  | .hbm, ⟨25, _⟩ => ⟨S1x32, .f32⟩
  | .hbm, ⟨26, _⟩ => ⟨S2048x32, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S2048x32, .f32⟩
  | .hbm, ⟨31, _⟩ => ⟨S2048x128, .f32⟩
  | .hbm, ⟨32, _⟩ => ⟨S1x2048, .f32⟩
  | .hbm, ⟨33, _⟩ => ⟨S1x512, .f32⟩
  | .hbm, ⟨34, _⟩ => ⟨S8192x512, .f32⟩
  | .hbm, ⟨35, _⟩ => ⟨S8192x64, .f32⟩
  | .hbm, ⟨36, _⟩ => ⟨S8192x512, .bf16⟩
  | .hbm, ⟨37, _⟩ => ⟨S8192x128, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x640, .bf16⟩
  | .local _ .vmem, ⟨4, _⟩ => ⟨S1x512, .f32⟩
  | .local _ .vmem, ⟨5, _⟩ => ⟨S512x128, .f32⟩
  | .local _ .vmem, ⟨6, _⟩ => ⟨S512x128, .f32⟩
  | .local _ .vmem, ⟨7, _⟩ => ⟨S512x512, .f32⟩
  | .local _ .vmem, ⟨8, _⟩ => ⟨S512x512, .f32⟩
  | .local _ .vmem, ⟨9, _⟩ => ⟨S512x64, .f32⟩
  | .local _ .vmem, ⟨10, _⟩ => ⟨S512x64, .f32⟩
  | .local _ .vmem, ⟨11, _⟩ => ⟨S512x512, .bf16⟩
  | .local _ .vmem, ⟨12, _⟩ => ⟨S512x512, .bf16⟩
  | .local _ .vmem, ⟨13, _⟩ => ⟨S512x128, .bf16⟩
  | .local _ .vmem, ⟨14, _⟩ => ⟨S512x128, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27_0 : Ref sig .tc := ⟨.hbm, 34, rfl⟩
abbrev main_v27_1 : Ref sig .tc := ⟨.hbm, 35, rfl⟩
abbrev main_v27_2 : Ref sig .tc := ⟨.hbm, 36, rfl⟩
abbrev main_v27_3 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KvRefIdeal.lean ====
abbrev S8192x2048 : Shape := ⟨2, ![8192, 2048]⟩
abbrev S2048 : Shape := ⟨1, ![2048]⟩
abbrev S2048x576 : Shape := ⟨2, ![2048, 576]⟩
abbrev S512 : Shape := ⟨1, ![512]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x576 : Shape := ⟨3, ![4, 2048, 576]⟩
abbrev S4x2048x512 : Shape := ⟨3, ![4, 2048, 512]⟩
abbrev S1x1x512 : Shape := ⟨3, ![1, 1, 512]⟩
abbrev S8192x512 : Shape := ⟨2, ![8192, 512]⟩
abbrev S4x2048x64 : Shape := ⟨3, ![4, 2048, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S1x2048x32 : Shape := ⟨3, ![1, 2048, 32]⟩
abbrev S4x2048x32 : Shape := ⟨3, ![4, 2048, 32]⟩
abbrev S8192x64 : Shape := ⟨2, ![8192, 64]⟩
abbrev S8192x128 : Shape := ⟨2, ![8192, 128]⟩

abbrev nBuf : Space → Nat
  | .hbm => 81
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x576, .f32⟩
  | .hbm, ⟨3, _⟩ => ⟨S512, .f32⟩
  | .hbm, ⟨4, _⟩ => ⟨S4x2048x2048, .f32⟩
  | .hbm, ⟨5, _⟩ => ⟨S2048, .f32⟩
  | .hbm, ⟨6, _⟩ => ⟨S4x2048x2048, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x2048, .f32⟩
  | .hbm, ⟨18, _⟩ => ⟨S4x2048x2048, .f32⟩
  | .hbm, ⟨19, _⟩ => ⟨S1x1x2048, .f32⟩
  | .hbm, ⟨20, _⟩ => ⟨S4x2048x2048, .f32⟩
  | .hbm, ⟨21, _⟩ => ⟨S4x2048x2048, .f32⟩
  | .hbm, ⟨22, _⟩ => ⟨S4x2048x576, .f32⟩
  | .hbm, ⟨23, _⟩ => ⟨S4x2048x512, .f32⟩
  | .hbm, ⟨24, _⟩ => ⟨S4x2048x512, .f32⟩
  | .hbm, ⟨25, _⟩ => ⟨S_, .f32⟩
  | .hbm, ⟨26, _⟩ => ⟨S4x2048, .f32⟩
  | .hbm, ⟨27, _⟩ => ⟨S4x2048x1, .f32⟩
  | .hbm, ⟨28, _⟩ => ⟨S_, .f32⟩
  | .hbm, ⟨29, _⟩ => ⟨S4x2048x1, .f32⟩
  | .hbm, ⟨30, _⟩ => ⟨S4x2048x1, .f32⟩
  | .hbm, ⟨31, _⟩ => ⟨S_, .f32⟩
  | .hbm, ⟨32, _⟩ => ⟨S4x2048x1, .f32⟩
  | .hbm, ⟨33, _⟩ => ⟨S4x2048x1, .f32⟩
  | .hbm, ⟨34, _⟩ => ⟨S4x2048x1, .f32⟩
  | .hbm, ⟨35, _⟩ => ⟨S4x2048x512, .f32⟩
  | .hbm, ⟨36, _⟩ => ⟨S4x2048x512, .f32⟩
  | .hbm, ⟨37, _⟩ => ⟨S1x1x512, .f32⟩
  | .hbm, ⟨38, _⟩ => ⟨S4x2048x512, .f32⟩
  | .hbm, ⟨39, _⟩ => ⟨S4x2048x512, .f32⟩
  | .hbm, ⟨40, _⟩ => ⟨S8192x512, .f32⟩
  | .hbm, ⟨41, _⟩ => ⟨S4x2048x64, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S2048x1, .f32⟩
  | .hbm, ⟨54, _⟩ => ⟨S1x32, .f32⟩
  | .hbm, ⟨55, _⟩ => ⟨S2048x32, .f32⟩
  | .hbm, ⟨56, _⟩ => ⟨S2048x32, .f32⟩
  | .hbm, ⟨57, _⟩ => ⟨S2048x32, .f32⟩
  | .hbm, ⟨58, _⟩ => ⟨S2048x32, .f32⟩
  | .hbm, ⟨59, _⟩ => ⟨S1x2048x32, .f32⟩
  | .hbm, ⟨60, _⟩ => ⟨S2048x32, .f32⟩
  | .hbm, ⟨61, _⟩ => ⟨S1x2048x32, .f32⟩
  | .hbm, ⟨62, _⟩ => ⟨S4x2048x32, .f32⟩
  | .hbm, ⟨63, _⟩ => ⟨S4x2048x32, .f32⟩
  | .hbm, ⟨64, _⟩ => ⟨S4x2048x32, .f32⟩
  | .hbm, ⟨65, _⟩ => ⟨S4x2048x32, .f32⟩
  | .hbm, ⟨66, _⟩ => ⟨S4x2048x32, .f32⟩
  | .hbm, ⟨67, _⟩ => ⟨S4x2048x32, .f32⟩
  | .hbm, ⟨68, _⟩ => ⟨S4x2048x32, .f32⟩
  | .hbm, ⟨69, _⟩ => ⟨S4x2048x32, .f32⟩
  | .hbm, ⟨70, _⟩ => ⟨S4x2048x32, .f32⟩
  | .hbm, ⟨71, _⟩ => ⟨S4x2048x32, .f32⟩
  | .hbm, ⟨72, _⟩ => ⟨S4x2048x32, .f32⟩
  | .hbm, ⟨73, _⟩ => ⟨S4x2048x32, .f32⟩
  | .hbm, ⟨74, _⟩ => ⟨S4x2048x64, .f32⟩
  | .hbm, ⟨75, _⟩ => ⟨S8192x64, .f32⟩
  | .hbm, ⟨76, _⟩ => ⟨S8192x512, .bf16⟩
  | .hbm, ⟨77, _⟩ => ⟨S_, .f32⟩
  | .hbm, ⟨78, _⟩ => ⟨S8192x64, .f32⟩
  | .hbm, ⟨79, _⟩ => ⟨S8192x128, .f32⟩
  | .hbm, ⟨80, _⟩ => ⟨S8192x128, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_cst_7 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_cst_8 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩

abbrev nD : Nat := 1
abbrev τ : Topo := Topo.v7x

variable {F : FTy → Type} [FloatOps F]
-- ==== SKv.lean ====
abbrev S128x2048 : Shape := ⟨2, ![128, 2048]⟩
abbrev S2048 : Shape := ⟨1, ![2048]⟩
abbrev S2048x576 : Shape := ⟨2, ![2048, 576]⟩
abbrev S512 : Shape := ⟨1, ![512]⟩
abbrev S2048x512 : Shape := ⟨2, ![2048, 512]⟩
abbrev S2048x64 : Shape := ⟨2, ![2048, 64]⟩
abbrev S2048x32 : Shape := ⟨2, ![2048, 32]⟩
abbrev S2048x128 : Shape := ⟨2, ![2048, 128]⟩
abbrev S2048x640 : Shape := ⟨2, ![2048, 640]⟩
abbrev S_ : Shape := ⟨0, ![]⟩
abbrev S128 : Shape := ⟨1, ![128]⟩
abbrev S32 : Shape := ⟨1, ![32]⟩
abbrev S128x1 : Shape := ⟨2, ![128, 1]⟩
abbrev S1x32 : Shape := ⟨2, ![1, 32]⟩
abbrev S128x32 : Shape := ⟨2, ![128, 32]⟩
abbrev S128x128 : Shape := ⟨2, ![128, 128]⟩
abbrev S1x2048 : Shape := ⟨2, ![1, 2048]⟩
abbrev S1x512 : Shape := ⟨2, ![1, 512]⟩
abbrev S128x512 : Shape := ⟨2, ![128, 512]⟩
abbrev S128x64 : Shape := ⟨2, ![128, 64]⟩
abbrev S128x640 : Shape := ⟨2, ![128, 640]⟩

abbrev nBuf : Space → Nat
  | .hbm => 39
  | .vmem => 9
  | .smem => 0
  | _ => 0

abbrev bufTy : (tb : Table) → Fin (tcTables nBuf tb) → BufTy
  | .hbm, ⟨0, _⟩ => ⟨S128x2048, .f32⟩
  | .hbm, ⟨1, _⟩ => ⟨S2048, .f32⟩
  | .hbm, ⟨2, _⟩ => ⟨S2048x576, .f32⟩
  | .hbm, ⟨3, _⟩ => ⟨S512, .f32⟩
  | .hbm, ⟨4, _⟩ => ⟨S2048x512, .f32⟩
  | .hbm, ⟨5, _⟩ => ⟨S2048x64, .f32⟩
  | .hbm, ⟨6, _⟩ => ⟨S2048x32, .f32⟩
  | .hbm, ⟨7, _⟩ => ⟨S2048x32, .f32⟩
  | .hbm, ⟨8, _⟩ => ⟨S2048x32, .f32⟩
  | .hbm, ⟨9, _⟩ => ⟨S2048x128, .f32⟩
  | .hbm, ⟨10, _⟩ => ⟨S2048x640, .f32⟩
  | .hbm, ⟨11, _⟩ => ⟨S2048x640, .bf16⟩
  | .hbm, ⟨12, _⟩ => ⟨S_, .f32⟩
  | .hbm, ⟨13, _⟩ => ⟨S128, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S128x1, .f32⟩
  | .hbm, ⟨26, _⟩ => ⟨S1x32, .f32⟩
  | .hbm, ⟨27, _⟩ => ⟨S128x32, .f32⟩
  | .hbm, ⟨28, _⟩ => ⟨S128x32, .f32⟩
  | .hbm, ⟨29, _⟩ => ⟨S128x32, .f32⟩
  | .hbm, ⟨30, _⟩ => ⟨S128x32, .f32⟩
  | .hbm, ⟨31, _⟩ => ⟨S128x32, .f32⟩
  | .hbm, ⟨32, _⟩ => ⟨S128x128, .f32⟩
  | .hbm, ⟨33, _⟩ => ⟨S1x2048, .f32⟩
  | .hbm, ⟨34, _⟩ => ⟨S1x512, .f32⟩
  | .hbm, ⟨35, _⟩ => ⟨S128x512, .f32⟩
  | .hbm, ⟨36, _⟩ => ⟨S128x64, .f32⟩
  | .hbm, ⟨37, _⟩ => ⟨S128x512, .bf16⟩
  | .hbm, ⟨38, _⟩ => ⟨S128x128, .bf16⟩
  | .local _ .vmem, ⟨0, _⟩ => ⟨S128x2048, .f32⟩
  | .local _ .vmem, ⟨1, _⟩ => ⟨S1x2048, .f32⟩
  | .local _ .vmem, ⟨2, _⟩ => ⟨S2048x640, .bf16⟩
  | .local _ .vmem, ⟨3, _⟩ => ⟨S1x512, .f32⟩
  | .local _ .vmem, ⟨4, _⟩ => ⟨S128x128, .f32⟩
  | .local _ .vmem, ⟨5, _⟩ => ⟨S128x512, .f32⟩
  | .local _ .vmem, ⟨6, _⟩ => ⟨S128x64, .f32⟩
  | .local _ .vmem, ⟨7, _⟩ => ⟨S128x512, .bf16⟩
  | .local _ .vmem, ⟨8, _⟩ => ⟨S128x128, .bf16⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27_0 : Ref sig .tc := ⟨.hbm, 35, rfl⟩
abbrev main_v27_1 : Ref sig .tc := ⟨.hbm, 36, rfl⟩
abbrev main_v27_2 : Ref sig .tc := ⟨.hbm, 37, rfl⟩
abbrev main_v27_3 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== SKvRefIdeal.lean ====
abbrev S128x2048 : Shape := ⟨2, ![128, 2048]⟩
abbrev S2048 : Shape := ⟨1, ![2048]⟩
abbrev S2048x576 : Shape := ⟨2, ![2048, 576]⟩
abbrev S512 : Shape := ⟨1, ![512]⟩
abbrev S128x1x2048 : Shape := ⟨3, ![128, 1, 2048]⟩
abbrev S1 : Shape := ⟨1, ![1]⟩
abbrev S_ : Shape := ⟨0, ![]⟩
abbrev S128x1 : Shape := ⟨2, ![128, 1]⟩
abbrev S128x1x1 : Shape := ⟨3, ![128, 1, 1]⟩
abbrev S1x1x2048 : Shape := ⟨3, ![1, 1, 2048]⟩
abbrev S128x1x576 : Shape := ⟨3, ![128, 1, 576]⟩
abbrev S128x1x512 : Shape := ⟨3, ![128, 1, 512]⟩
abbrev S1x1x512 : Shape := ⟨3, ![1, 1, 512]⟩
abbrev S128x512 : Shape := ⟨2, ![128, 512]⟩
abbrev S128x1x64 : Shape := ⟨3, ![128, 1, 64]⟩
abbrev S32 : Shape := ⟨1, ![32]⟩
abbrev S1x1 : Shape := ⟨2, ![1, 1]⟩
abbrev S1x32 : Shape := ⟨2, ![1, 32]⟩
abbrev S1x1x32 : Shape := ⟨3, ![1, 1, 32]⟩
abbrev S128x1x32 : Shape := ⟨3, ![128, 1, 32]⟩
abbrev S128x64 : Shape := ⟨2, ![128, 64]⟩
abbrev S128x128 : Shape := ⟨2, ![128, 128]⟩

abbrev nBuf : Space → Nat
  | .hbm => 83
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S2048, .f32⟩
  | .hbm, ⟨2, _⟩ => ⟨S2048x576, .f32⟩
  | .hbm, ⟨3, _⟩ => ⟨S512, .f32⟩
  | .hbm, ⟨4, _⟩ => ⟨S128x1x2048, .f32⟩
  | .hbm, ⟨5, _⟩ => ⟨S1, .f32⟩
  | .hbm, ⟨6, _⟩ => ⟨S_, .f32⟩
  | .hbm, ⟨7, _⟩ => ⟨S1, .f32⟩
  | .hbm, ⟨8, _⟩ => ⟨S1, .f32⟩
  | .hbm, ⟨9, _⟩ => ⟨S128x1x2048, .f32⟩
  | .hbm, ⟨10, _⟩ => ⟨S_, .f32⟩
  | .hbm, ⟨11, _⟩ => ⟨S128x1, .f32⟩
  | .hbm, ⟨12, _⟩ => ⟨S128x1x1, .f32⟩
  | .hbm, ⟨13, _⟩ => ⟨S_, .f32⟩
  | .hbm, ⟨14, _⟩ => ⟨S128x1x1, .f32⟩
  | .hbm, ⟨15, _⟩ => ⟨S128x1x1, .f32⟩
  | .hbm, ⟨16, _⟩ => ⟨S_, .f32⟩
  | .hbm, ⟨17, _⟩ => ⟨S128x1x1, .f32⟩
  | .hbm, ⟨18, _⟩ => ⟨S128x1x1, .f32⟩
  | .hbm, ⟨19, _⟩ => ⟨S128x1x1, .f32⟩
  | .hbm, ⟨20, _⟩ => ⟨S128x1x2048, .f32⟩
  | .hbm, ⟨21, _⟩ => ⟨S128x1x2048, .f32⟩
  | .hbm, ⟨22, _⟩ => ⟨S1x1x2048, .f32⟩
  | .hbm, ⟨23, _⟩ => ⟨S128x1x2048, .f32⟩
  | .hbm, ⟨24, _⟩ => ⟨S128x1x2048, .f32⟩
  | .hbm, ⟨25, _⟩ => ⟨S128x1x576, .f32⟩
  | .hbm, ⟨26, _⟩ => ⟨S128x1x512, .f32⟩
  | .hbm, ⟨27, _⟩ => ⟨S128x1x512, .f32⟩
  | .hbm, ⟨28, _⟩ => ⟨S_, .f32⟩
  | .hbm, ⟨29, _⟩ => ⟨S128x1, .f32⟩
  | .hbm, ⟨30, _⟩ => ⟨S128x1x1, .f32⟩
  | .hbm, ⟨31, _⟩ => ⟨S_, .f32⟩
  | .hbm, ⟨32, _⟩ => ⟨S128x1x1, .f32⟩
  | .hbm, ⟨33, _⟩ => ⟨S128x1x1, .f32⟩
  | .hbm, ⟨34, _⟩ => ⟨S_, .f32⟩
  | .hbm, ⟨35, _⟩ => ⟨S128x1x1, .f32⟩
  | .hbm, ⟨36, _⟩ => ⟨S128x1x1, .f32⟩
  | .hbm, ⟨37, _⟩ => ⟨S128x1x1, .f32⟩
  | .hbm, ⟨38, _⟩ => ⟨S128x1x512, .f32⟩
  | .hbm, ⟨39, _⟩ => ⟨S128x1x512, .f32⟩
  | .hbm, ⟨40, _⟩ => ⟨S1x1x512, .f32⟩
  | .hbm, ⟨41, _⟩ => ⟨S128x1x512, .f32⟩
  | .hbm, ⟨42, _⟩ => ⟨S128x1x512, .f32⟩
  | .hbm, ⟨43, _⟩ => ⟨S128x512, .f32⟩
  | .hbm, ⟨44, _⟩ => ⟨S128x1x64, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S1x1, .f32⟩
  | .hbm, ⟨57, _⟩ => ⟨S1x32, .f32⟩
  | .hbm, ⟨58, _⟩ => ⟨S1x32, .f32⟩
  | .hbm, ⟨59, _⟩ => ⟨S1x32, .f32⟩
  | .hbm, ⟨60, _⟩ => ⟨S1x32, .f32⟩
  | .hbm, ⟨61, _⟩ => ⟨S1x1x32, .f32⟩
  | .hbm, ⟨62, _⟩ => ⟨S1x32, .f32⟩
  | .hbm, ⟨63, _⟩ => ⟨S1x1x32, .f32⟩
  | .hbm, ⟨64, _⟩ => ⟨S128x1x32, .f32⟩
  | .hbm, ⟨65, _⟩ => ⟨S128x1x32, .f32⟩
  | .hbm, ⟨66, _⟩ => ⟨S128x1x32, .f32⟩
  | .hbm, ⟨67, _⟩ => ⟨S128x1x32, .f32⟩
  | .hbm, ⟨68, _⟩ => ⟨S128x1x32, .f32⟩
  | .hbm, ⟨69, _⟩ => ⟨S128x1x32, .f32⟩
  | .hbm, ⟨70, _⟩ => ⟨S128x1x32, .f32⟩
  | .hbm, ⟨71, _⟩ => ⟨S128x1x32, .f32⟩
  | .hbm, ⟨72, _⟩ => ⟨S128x1x32, .f32⟩
  | .hbm, ⟨73, _⟩ => ⟨S128x1x32, .f32⟩
  | .hbm, ⟨74, _⟩ => ⟨S128x1x32, .f32⟩
  | .hbm, ⟨75, _⟩ => ⟨S128x1x32, .f32⟩
  | .hbm, ⟨76, _⟩ => ⟨S128x1x64, .f32⟩
  | .hbm, ⟨77, _⟩ => ⟨S128x64, .f32⟩
  | .hbm, ⟨78, _⟩ => ⟨S128x512, .bf16⟩
  | .hbm, ⟨79, _⟩ => ⟨S_, .f32⟩
  | .hbm, ⟨80, _⟩ => ⟨S128x64, .f32⟩
  | .hbm, ⟨81, _⟩ => ⟨S128x128, .f32⟩
  | .hbm, ⟨82, _⟩ => ⟨S128x128, .bf16⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_cst_7 : Ref sig .tc := ⟨.hbm, 50, rfl⟩
abbrev main_v38 : Ref sig .tc := ⟨.hbm, 51, rfl⟩
abbrev main_v39 : Ref sig .tc := ⟨.hbm, 52, rfl⟩
abbrev main_cst_8 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_9 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩

abbrev nD : Nat := 1
abbrev τ : Topo := Topo.v7x

variable {F : FTy → Type} [FloatOps F]
-- ==== Qh.lean ====
abbrev S8192x2048 : Shape := ⟨2, ![8192, 2048]⟩
abbrev S2x2048x512 : Shape := ⟨3, ![2, 2048, 512]⟩
abbrev S512 : Shape := ⟨1, ![512]⟩
abbrev S2x512x16x192 : Shape := ⟨4, ![2, 512, 16, 192]⟩
abbrev S2x16x512x192 : Shape := ⟨4, ![2, 16, 512, 192]⟩
abbrev S2x16x512x128 : Shape := ⟨4, ![2, 16, 512, 128]⟩
abbrev S2x16x512x64 : Shape := ⟨4, ![2, 16, 512, 64]⟩
abbrev S2x16x512x32 : Shape := ⟨4, ![2, 16, 512, 32]⟩
abbrev S2x16x512x256 : Shape := ⟨4, ![2, 16, 512, 256]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S1x512 : Shape := ⟨2, ![1, 512]⟩
abbrev S8192x4096 : Shape := ⟨2, ![8192, 4096]⟩
abbrev S512x2048 : Shape := ⟨2, ![512, 2048]⟩
abbrev S1x2048x512 : Shape := ⟨3, ![1, 2048, 512]⟩
abbrev S1x16x512x256 : Shape := ⟨4, ![1, 16, 512, 256]⟩
abbrev S512x128 : Shape := ⟨2, ![512, 128]⟩
abbrev S512x4096 : Shape := ⟨2, ![512, 4096]⟩
abbrev S512x512 : Shape := ⟨2, ![512, 512]⟩
abbrev S2048x512 : Shape := ⟨2, ![2048, 512]⟩
abbrev S512x1 : Shape := ⟨2, ![512, 1]⟩
abbrev S1x1x512x256 : Shape := ⟨4, ![1, 1, 512, 256]⟩
abbrev S512x256 : Shape := ⟨2, ![512, 256]⟩

abbrev nBuf : Space → Nat
  | .hbm => 35
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2x2048x512, .bf16⟩
  | .hbm, ⟨2, _⟩ => ⟨S512, .f32⟩
  | .hbm, ⟨3, _⟩ => ⟨S2x512x16x192, .f32⟩
  | .hbm, ⟨4, _⟩ => ⟨S2x16x512x192, .f32⟩
  | .hbm, ⟨5, _⟩ => ⟨S2x16x512x128, .f32⟩
  | .hbm, ⟨6, _⟩ => ⟨S2x16x512x64, .f32⟩
  | .hbm, ⟨7, _⟩ => ⟨S2x16x512x32, .f32⟩
  | .hbm, ⟨8, _⟩ => ⟨S2x16x512x32, .f32⟩
  | .hbm, ⟨9, _⟩ => ⟨S2x16x512x32, .f32⟩
  | .hbm, ⟨10, _⟩ => ⟨S2x16x512x128, .f32⟩
  | .hbm, ⟨11, _⟩ => ⟨S2x16x512x256, .f32⟩
  | .hbm, ⟨12, _⟩ => ⟨S2x16x512x256, .bf16⟩
  | .hbm, ⟨13, _⟩ => ⟨S2048, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S2048x1, .f32⟩
  | .hbm, ⟨26, _⟩ => ⟨S1x32, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S2048x32, .f32⟩
  | .hbm, ⟨31, _⟩ => ⟨S2048x32, .f32⟩
  | .hbm, ⟨32, _⟩ => ⟨S2048x128, .f32⟩
  | .hbm, ⟨33, _⟩ => ⟨S1x512, .f32⟩
  | .hbm, ⟨34, _⟩ => ⟨S8192x4096, .bf16⟩
  | .local _ .vmem, ⟨0, _⟩ => ⟨S512x2048, .bf16⟩
  | .local _ .vmem, ⟨1, _⟩ => ⟨S512x2048, .bf16⟩
  | .local _ .vmem, ⟨2, _⟩ => ⟨S1x2048x512, .bf16⟩
  | .local _ .vmem, ⟨3, _⟩ => ⟨S1x512, .f32⟩
  | .local _ .vmem, ⟨4, _⟩ => ⟨S1x16x512x256, .bf16⟩
  | .local _ .vmem, ⟨5, _⟩ => ⟨S512x128, .f32⟩
  | .local _ .vmem, ⟨6, _⟩ => ⟨S512x128, .f32⟩
  | .local _ .vmem, ⟨7, _⟩ => ⟨S512x4096, .bf16⟩
  | .local _ .vmem, ⟨8, _⟩ => ⟨S512x4096, .bf16⟩
  | .local _ .vmem, ⟨9, _⟩ => ⟨S512x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x16x512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QhRefIdeal.lean ====
abbrev S8192x2048 : Shape := ⟨2, ![8192, 2048]⟩
abbrev S2x2048x512 : Shape := ⟨3, ![2, 2048, 512]⟩
abbrev S512 : Shape := ⟨1, ![512]⟩
abbrev S2x512x16x192 : Shape := ⟨4, ![2, 512, 16, 192]⟩
abbrev S4x2048x2048 : Shape := ⟨3, ![4, 2048, 2048]⟩
abbrev S1x2048x512 : Shape := ⟨3, ![1, 2048, 512]⟩
abbrev S2048x512 : Shape := ⟨2, ![2048, 512]⟩
abbrev S4x2048x512 : Shape := ⟨3, ![4, 2048, 512]⟩
abbrev S_ : Shape := ⟨0, ![]⟩
abbrev S4x2048 : Shape := ⟨2, ![4, 2048]⟩
abbrev S4x2048x1 : Shape := ⟨3, ![4, 2048, 1]⟩
abbrev S1x1x512 : Shape := ⟨3, ![1, 1, 512]⟩
abbrev S1x512x16x192 : Shape := ⟨4, ![1, 512, 16, 192]⟩
abbrev S512x16x192 : Shape := ⟨3, ![512, 16, 192]⟩
abbrev S4x2048x16x192 : Shape := ⟨4, ![4, 2048, 16, 192]⟩
abbrev S4x2048x16x64 : Shape := ⟨4, ![4, 2048, 16, 64]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S4x2048x16x32 : Shape := ⟨4, ![4, 2048, 16, 32]⟩
abbrev S4x2048x16x128 : Shape := ⟨4, ![4, 2048, 16, 128]⟩
abbrev S4x2048x16x256 : Shape := ⟨4, ![4, 2048, 16, 256]⟩
abbrev S8192x4096 : Shape := ⟨2, ![8192, 4096]⟩

abbrev nBuf : Space → Nat
  | .hbm => 68
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x512, .bf16⟩
  | .hbm, ⟨2, _⟩ => ⟨S512, .f32⟩
  | .hbm, ⟨3, _⟩ => ⟨S2x512x16x192, .f32⟩
  | .hbm, ⟨4, _⟩ => ⟨S8192x2048, .f32⟩
  | .hbm, ⟨5, _⟩ => ⟨S4x2048x2048, .f32⟩
  | .hbm, ⟨6, _⟩ => ⟨S1x2048x512, .bf16⟩
  | .hbm, ⟨7, _⟩ => ⟨S2048x512, .bf16⟩
  | .hbm, ⟨8, _⟩ => ⟨S2048x512, .f32⟩
  | .hbm, ⟨9, _⟩ => ⟨S4x2048x512, .f32⟩
  | .hbm, ⟨10, _⟩ => ⟨S4x2048x512, .f32⟩
  | .hbm, ⟨11, _⟩ => ⟨S_, .f32⟩
  | .hbm, ⟨12, _⟩ => ⟨S4x2048, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1, .f32⟩
  | .hbm, ⟨21, _⟩ => ⟨S4x2048x512, .f32⟩
  | .hbm, ⟨22, _⟩ => ⟨S4x2048x512, .f32⟩
  | .hbm, ⟨23, _⟩ => ⟨S1x1x512, .f32⟩
  | .hbm, ⟨24, _⟩ => ⟨S4x2048x512, .f32⟩
  | .hbm, ⟨25, _⟩ => ⟨S4x2048x512, .f32⟩
  | .hbm, ⟨26, _⟩ => ⟨S1x512x16x192, .f32⟩
  | .hbm, ⟨27, _⟩ => ⟨S512x16x192, .f32⟩
  | .hbm, ⟨28, _⟩ => ⟨S4x2048x16x192, .f32⟩
  | .hbm, ⟨29, _⟩ => ⟨S4x2048x16x64, .f32⟩
  | .hbm, ⟨30, _⟩ => ⟨S2048, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S2048x1, .f32⟩
  | .hbm, ⟨43, _⟩ => ⟨S1x32, .f32⟩
  | .hbm, ⟨44, _⟩ => ⟨S2048x32, .f32⟩
  | .hbm, ⟨45, _⟩ => ⟨S2048x32, .f32⟩
  | .hbm, ⟨46, _⟩ => ⟨S2048x32, .f32⟩
  | .hbm, ⟨47, _⟩ => ⟨S2048x32, .f32⟩
  | .hbm, ⟨48, _⟩ => ⟨S1x2048x1x32, .f32⟩
  | .hbm, ⟨49, _⟩ => ⟨S2048x32, .f32⟩
  | .hbm, ⟨50, _⟩ => ⟨S1x2048x1x32, .f32⟩
  | .hbm, ⟨51, _⟩ => ⟨S4x2048x16x32, .f32⟩
  | .hbm, ⟨52, _⟩ => ⟨S4x2048x16x32, .f32⟩
  | .hbm, ⟨53, _⟩ => ⟨S4x2048x16x32, .f32⟩
  | .hbm, ⟨54, _⟩ => ⟨S4x2048x16x32, .f32⟩
  | .hbm, ⟨55, _⟩ => ⟨S4x2048x16x32, .f32⟩
  | .hbm, ⟨56, _⟩ => ⟨S4x2048x16x32, .f32⟩
  | .hbm, ⟨57, _⟩ => ⟨S4x2048x16x32, .f32⟩
  | .hbm, ⟨58, _⟩ => ⟨S4x2048x16x32, .f32⟩
  | .hbm, ⟨59, _⟩ => ⟨S4x2048x16x32, .f32⟩
  | .hbm, ⟨60, _⟩ => ⟨S4x2048x16x32, .f32⟩
  | .hbm, ⟨61, _⟩ => ⟨S4x2048x16x32, .f32⟩
  | .hbm, ⟨62, _⟩ => ⟨S4x2048x16x32, .f32⟩
  | .hbm, ⟨63, _⟩ => ⟨S4x2048x16x64, .f32⟩
  | .hbm, ⟨64, _⟩ => ⟨S4x2048x16x128, .f32⟩
  | .hbm, ⟨65, _⟩ => ⟨S4x2048x16x256, .f32⟩
  | .hbm, ⟨66, _⟩ => ⟨S8192x4096, .f32⟩
  | .hbm, ⟨67, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩

abbrev nD : Nat := 1
abbrev τ : Topo := Topo.v7x

variable {F : FTy → Type} [FloatOps F]
-- ==== Proof.Softmax.lean ====
/- The mathematics of one row of causal attention over the extended reals: an unnormalised sum of powers of two divided
   once at the end, over the keys up to the diagonal block, equals the softmax-weighted sum over all the keys. -/
module

public import Idealize.ShloMosaic.PureOps.Ideal.Laws

@[expose] public section

set_option maxRecDepth 16384

noncomputable section

namespace Cert.Softmax

open Idealize.ShloMosaic

/-- Words of small naturals compare as the naturals do. -/
theorem sle_ofNat (a b : ℕ) (ha : a < 4096) (hb : b < 4096) :
    IntOp.cmpi .sle (BitVec.ofNat 32 a) (BitVec.ofNat 32 b) = BitVec.ofBool (decide (a ≤ b)) := by
  have e : ∀ n : ℕ, n < 4096 → (BitVec.ofNat 32 n).toInt = n := fun n hn => by
    have hm : n % 2 ^ 32 = n := Nat.mod_eq_of_lt (by omega)
    rw [BitVec.toInt_eq_toNat_of_lt (by rw [BitVec.toNat_ofNat]; omega), BitVec.toNat_ofNat, hm]
  show BitVec.ofBool ((BitVec.ofNat 32 a).sle (BitVec.ofNat 32 b)) = _
  rw [BitVec.sle_eq_decide, e a ha, e b hb]
  simp

/-- A choice by such a comparison is a choice by the comparison of naturals. -/
theorem causal_bit (k r : ℕ) (hk : k < 4096) (hr : r < 4096) (a b : EReal) :
    Scalar.select (IntOp.cmpi .sle (BitVec.ofNat 32 k) (BitVec.ofNat 32 r)) a b = if k ≤ r then a else b := by
  rw [sle_ofNat k r hk hr]
  by_cases h : k ≤ r <;> simp [h, Scalar.select]

/-- The word of minus infinity reads as `⊥`. -/
theorem neg_inf : Ideal.ofBits .f32 0xFF800000#32 = ⊥ := by
  simp [Ideal.ofBits, Ideal.ieee]

/-- A nonnegative real factor moves out of a finite sum of extended reals, whatever the summands are. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top _) _ _

/-- A finite sum of reals, taken in the extended reals, is the real sum. -/
theorem sum_real {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Division by a nonzero real is multiplication by its inverse. -/
theorem div_real (x : EReal) (y : ℝ) (hy : y ≠ 0) : Ideal.div x (y : EReal) = x * ((y⁻¹ : ℝ) : EReal) := by
  unfold Ideal.div
  rw [if_neg (by exact_mod_cast hy), EReal.coe_inv]

/-- The largest of finitely many extended reals, the fold of `max` from `⊥`, is real when every one is real or `⊥` and
    one is real. -/
theorem fold_max_real {ι : Type} (s : Finset ι) (f : ι → EReal) (hf : ∀ i ∈ s, f i ≠ ⊤) (a : ι) (ha : a ∈ s)
    (hr : f a ≠ ⊥) : ∃ μ : ℝ, s.fold max ⊥ f = (μ : EReal) := by
  have htop : s.fold max ⊥ f < ⊤ :=
    (Finset.fold_max_lt (c := (⊤ : EReal))).mpr ⟨bot_lt_top, fun i hi => lt_top_iff_ne_top.mpr (hf i hi)⟩
  have hbot : s.fold max ⊥ f ≠ ⊥ := fun h =>
    hr (le_bot_iff.mp (h ▸ (Finset.le_fold_max (c := f a)).mpr (Or.inr ⟨a, ha, le_rfl⟩)))
  exact ⟨_, (EReal.coe_toReal htop.ne hbot).symm⟩

/-- The same fold is never `⊤` when no member is. -/
theorem fold_max_ne_top {ι : Type} (s : Finset ι) (f : ι → EReal) (hf : ∀ i ∈ s, f i ≠ ⊤) : s.fold max ⊥ f ≠ ⊤ :=
  ((Finset.fold_max_lt (c := (⊤ : EReal))).mpr ⟨bot_lt_top, fun i hi => lt_top_iff_ne_top.mpr (hf i hi)⟩).ne

/-- The larger of a real and something that is not `⊤` is real. -/
theorem max_real (μ : ℝ) (b : EReal) (hb : b ≠ ⊤) : ∃ ν : ℝ, max (μ : EReal) b = (ν : EReal) := by
  induction b using EReal.rec with
  | bot => exact ⟨μ, max_eq_left bot_le⟩
  | coe x => exact ⟨max μ x, (EReal.coe_strictMono.monotone.map_max).symm⟩
  | top => exact absurd rfl hb

/-- The factor that the kernel puts inside its power of two. -/
def twoScale : ℝ := (Real.sqrt 192)⁻¹ * (Real.log 2)⁻¹

/-- The factor that the reference puts on the scores. -/
def scale : ℝ := (Real.sqrt 192)⁻¹

/-- A key's weight in the kernel: two to the scaled distance of the masked score below the row's maximum. -/
def wt (mx x : EReal) : EReal := Ideal.exp2 ((x - mx) * (twoScale : EReal))

theorem wt_bot (μ : ℝ) : wt μ ⊥ = 0 := by
  unfold wt
  have hc : (0 : ℝ) < twoScale := mul_pos (inv_pos.mpr (Real.sqrt_pos.mpr (by norm_num))) (inv_pos.mpr (Real.log_pos (by norm_num)))
  rw [EReal.bot_sub, EReal.bot_mul_coe_of_pos hc]
  rfl

theorem wt_real (μ x : ℝ) : wt μ x = ((Real.exp ((x - μ) * scale) : ℝ) : EReal) := by
  unfold wt
  rw [← EReal.coe_sub, ← EReal.coe_mul]
  show ((Real.rpow 2 _ : ℝ) : EReal) = _
  congr 1
  show (2 : ℝ) ^ ((x - μ) * twoScale) = _
  rw [Real.rpow_def_of_pos (by norm_num)]
  congr 1
  have : Real.log 2 ≠ 0 := (Real.log_pos (by norm_num)).ne'
  unfold twoScale scale
  field_simp

/-- A masked score of the reference: the scaled score up to the diagonal, `⊥` past it. -/
def masked (R : ℕ) (s : Fin 2048 → EReal) (j : Fin 2048) : EReal := if j.val ≤ R then s j * (scale : EReal) else ⊥

/-- One row of the reference: every value weighted by its key's softmax weight. -/
def rowRef (R : ℕ) (s v : Fin 2048 → EReal) : EReal :=
  ∑ j : Fin 2048, v j * Ideal.div (Ideal.exp (masked R s j - Finset.univ.fold max ⊥ (masked R s)))
    (∑ k : Fin 2048, Ideal.exp (masked R s k - Finset.univ.fold max ⊥ (masked R s)))

/-- The maximum that the kernel subtracts in a row: over the diagonal block's masked scores and over the earlier keys. -/
def rowMax (P r : ℕ) (hP : P + 512 ≤ 2048) (s : Fin 2048 → EReal) : EReal :=
  max (Finset.univ.fold max ⊥ fun k : Fin 512 => if k.val ≤ r then s ⟨P + k.val, by omega⟩ else ⊥)
    (Finset.univ.fold max ⊥ fun k : Fin P => s ⟨k.val, by omega⟩)

/-- One row of the kernel at `P` earlier keys: the weighted values of the earlier keys and of the diagonal block, summed,
    over the sum of the weights. -/
def rowOut (P r : ℕ) (hP : P + 512 ≤ 2048) (s v : Fin 2048 → EReal) : EReal :=
  Ideal.div
    ((∑ k : Fin P, wt (rowMax P r hP s) (s ⟨k.val, by omega⟩) * v ⟨k.val, by omega⟩)
      + ∑ k : Fin 512, wt (rowMax P r hP s) (if k.val ≤ r then s ⟨P + k.val, by omega⟩ else ⊥) * v ⟨P + k.val, by omega⟩)
    ((∑ k : Fin P, wt (rowMax P r hP s) (s ⟨k.val, by omega⟩))
      + ∑ k : Fin 512, wt (rowMax P r hP s) (if k.val ≤ r then s ⟨P + k.val, by omega⟩ else ⊥))

/-- A sum over all 2048 keys of a term that is zero past the diagonal block is the sum over the earlier keys and the
    diagonal block. -/
theorem sum_keys (P : ℕ) (hP : P + 512 ≤ 2048) (f : Fin 2048 → EReal) (hf : ∀ j : Fin 2048, P + 512 ≤ j.val → f j = 0) :
    ∑ j : Fin 2048, f j = (∑ k : Fin P, f ⟨k.val, by omega⟩) + ∑ k : Fin 512, f ⟨P + k.val, by omega⟩ := by
  let g : ℕ → EReal := fun j => if h : j < 2048 then f ⟨j, h⟩ else 0
  have h1 : ∑ j : Fin 2048, f j = ∑ j ∈ Finset.range 2048, g j := by
    rw [Finset.sum_range]
    exact Finset.sum_congr rfl fun j _ => by simp [g, j.isLt]
  have h2 : ∑ j ∈ Finset.range 2048, g j = ∑ j ∈ Finset.range (P + 512), g j := by
    refine (Finset.sum_subset (Finset.range_mono hP) fun j _ hj => ?_).symm
    have hj' : P + 512 ≤ j := by simpa using hj
    simp only [g]
    split
    · exact hf _ hj'
    · rfl
  rw [h1, h2, Finset.sum_range_add, Finset.sum_range, Finset.sum_range]
  congr 1
  · exact Finset.sum_congr rfl fun k _ => by simp only [g]; rw [dif_pos (by omega)]
  · exact Finset.sum_congr rfl fun k _ => by simp only [g]; rw [dif_pos (by omega)]

/-- With real scores, a row of the kernel is the row of the reference: both maxima are real, so both sets of weights are
    the same up to one positive factor, which the division takes out. -/
theorem rowOut_eq (P r : ℕ) (hP : P + 512 ≤ 2048) (hr : r < 512) (t : Fin 2048 → ℝ) (v : Fin 2048 → EReal) :
    rowOut P r hP (fun j => (t j : EReal)) v = rowRef (P + r) (fun j => (t j : EReal)) v := by
  -- the kernel's maximum is real
  obtain ⟨μ, hμ⟩ : ∃ μ : ℝ, rowMax P r hP (fun j => (t j : EReal)) = μ := by
    obtain ⟨a, ha⟩ := fold_max_real Finset.univ
      (fun k : Fin 512 => if k.val ≤ r then ((t ⟨P + k.val, by omega⟩ : ℝ) : EReal) else ⊥)
      (fun k _ => by split <;> simp) ⟨r, hr⟩ (Finset.mem_univ _) (by simp)
    unfold rowMax
    rw [ha]
    exact max_real a _ (fold_max_ne_top _ _ fun k _ => EReal.coe_ne_top _)
  -- the reference's too
  obtain ⟨M, hM⟩ := fold_max_real Finset.univ (masked (P + r) fun j => (t j : EReal))
    (fun j _ => by
      unfold masked
      split
      · rw [← EReal.coe_mul]; exact EReal.coe_ne_top _
      · exact bot_ne_top)
    ⟨P + r, by omega⟩ (Finset.mem_univ _)
    (by unfold masked; rw [if_pos le_rfl, ← EReal.coe_mul]; exact EReal.coe_ne_bot _)
  -- the kernel's weights over all keys
  let w : Fin 2048 → ℝ := fun j => if j.val ≤ P + r then Real.exp ((t j - μ) * scale) else 0
  have hw0 : ∀ j, 0 ≤ w j := fun j => by simp only [w]; split <;> positivity
  have hpast : ∀ k : Fin P, wt μ ((t ⟨k.val, by omega⟩ : ℝ) : EReal) = (w ⟨k.val, by omega⟩ : EReal) := fun k => by
    rw [wt_real]; simp only [w]; rw [if_pos (by omega)]
  have hdiag : ∀ k : Fin 512, wt μ (if k.val ≤ r then ((t ⟨P + k.val, by omega⟩ : ℝ) : EReal) else ⊥)
      = (w ⟨P + k.val, by omega⟩ : EReal) := fun k => by
    simp only [w]
    by_cases h : k.val ≤ r
    · rw [if_pos h, if_pos (by omega), wt_real]
    · rw [if_neg h, if_neg (by omega), wt_bot]; rfl
  have hz : ∀ j : Fin 2048, P + 512 ≤ j.val → (w j : EReal) = 0 := fun j hj => by
    simp only [w]; rw [if_neg (by omega)]; rfl
  -- the reference's weights are the same times one positive factor
  let c : ℝ := Real.exp (μ * scale - M)
  have hc : 0 < c := Real.exp_pos _
  have href : ∀ j, Ideal.exp (masked (P + r) (fun j => (t j : EReal)) j - (M : EReal)) = ((w j * c : ℝ) : EReal) := fun j => by
    unfold masked
    simp only [w, c]
    split
    · rw [← EReal.coe_mul, ← EReal.coe_sub]
      show ((Real.exp _ : ℝ) : EReal) = _
      rw [← Real.exp_add]
      congr 2
      ring
    · rw [EReal.bot_sub, zero_mul]; rfl
  have hpos : 0 < ∑ j, w j := by
    refine Finset.sum_pos' (fun j _ => hw0 j) ⟨⟨P + r, by omega⟩, Finset.mem_univ _, ?_⟩
    simp only [w]; rw [if_pos le_rfl]; exact Real.exp_pos _
  unfold rowOut rowRef
  rw [hμ, hM]
  simp only [hpast, hdiag, href]
  have hnum := sum_keys P hP (fun j => (w j : EReal) * v j) fun j hj => by simp only [hz j hj, zero_mul]
  have hden := sum_keys P hP (fun j => (w j : EReal)) hz
  refine (congrArg₂ Ideal.div hnum.symm hden.symm).trans ?_
  have hpos' : ∑ j, w j ≠ 0 := hpos.ne'
  rw [sum_real Finset.univ w, sum_real Finset.univ fun j => w j * c, ← Finset.sum_mul, div_real _ _ hpos',
    sum_mul_real _ _ _ (inv_nonneg.mpr hpos.le)]
  generalize (∑ j, w j) = W at hpos hpos'
  refine Finset.sum_congr rfl fun j _ => ?_
  rw [div_real _ _ (mul_pos hpos hc).ne', mul_comm (w j : EReal) (v j), mul_assoc, ← EReal.coe_mul, ← EReal.coe_mul]
  refine congrArg (fun x : ℝ => v j * (x : EReal)) ?_
  have hc' : c ≠ 0 := hc.ne'
  generalize c = c at hc'
  generalize w j = y
  field_simp

end Cert.Softmax
end
-- ==== Proof.AttnBlock.lean ====
/- What the attention kernel's stores hold: each of the eight 512 x 128 tiles of a block, at each of the four lengths of the
   key prefix, is one row function (`Softmax.rowOut`) of the query, key and value arrays. -/
module

public import proofs.«01_k».proof.Proof.Gen.AttnIdeal.Value
public import proofs.«01_k».proof.Proof.Softmax
public import Idealize.ShloMosaic.Lib.Pipeline.ValueKit
public import Idealize.ShloMosaic.Lib.Pointwise

@[expose] public section

set_option maxRecDepth 16384

noncomputable section

namespace Cert.AttnIdeal.Value

open Cert.AttnIdeal Cert.AttnIdeal.Gen Idealize.ShloMosaic Idealize.ShloMosaic.TcCoe Idealize.SL.Sem
open Idealize.ShloMosaic.Pipeline (Dat)
open Cert.Softmax

/-- The scores of result element `(R, C)`: query row `R` against the keys of its batch row, in the head of column `C`. -/
def scoreAt (Q K : Vec Ideal S8192x4096 .bf16) (R : Fin 8192) (C : Fin 2048) (j : Fin 2048) : EReal :=
  ∑ x : Fin 256, Q (ix2 R ⟨C.val / 128 * 256 + x.val, by omega⟩)
    * K (ix2 ⟨R.val / 2048 * 2048 + j.val, by omega⟩ ⟨C.val / 128 * 256 + x.val, by omega⟩)

/-- The values that result element `(R, C)` is a mean of. -/
def valueAt (W : Vec Ideal S8192x2048 .bf16) (R : Fin 8192) (C : Fin 2048) (j : Fin 2048) : EReal :=
  W (ix2 ⟨R.val / 2048 * 2048 + j.val, by omega⟩ C)

/-- The named constant, at its value. -/
theorem scale2_val : Named.named (F := Ideal) κ "scale2" (φ := .f32) 0x3DD53B95#32 = ((twoScale : ℝ) : EReal) :=
  IdealRules.named_const.ideal_named_scalar _ _ _ _ rfl

/-- A choice by the comparison of a column number with a row number. -/
theorem causal (k r : Fin 512) (a b : EReal) :
    Scalar.select (IntOp.cmpi .sle (BitVec.ofNat 32 k.val) (BitVec.ofNat 32 r.val)) a b = if k.val ≤ r.val then a else b :=
  causal_bit _ _ (by omega) (by omega) a b

/-! ## One head of one query block -/

/-- One head of a block with no earlier keys. -/
def headA (q : Vec Ideal S512x256 .bf16) (k : Vec Ideal S512x256 .bf16) (v : Vec Ideal S512x128 .bf16) :
    FVec Ideal S512x128 .bf16 := k0_pay4 q k v

/-- One head of a block with 512 earlier keys. -/
def headB (q : Vec Ideal S512x256 .bf16) (k : Vec Ideal S1024x256 .bf16) (v : Vec Ideal S1024x128 .bf16) :
    FVec Ideal S512x128 .bf16 := k0_pay18 q k v

/-- One head of a block with 1024 earlier keys. -/
def headC (q : Vec Ideal S512x256 .bf16) (k : Vec Ideal S1536x256 .bf16) (v : Vec Ideal S1536x128 .bf16) :
    FVec Ideal S512x128 .bf16 := k0_pay41 q k v

/-- One head of a block with 1536 earlier keys. -/
def headD (q : Vec Ideal S512x256 .bf16) (k : Vec Ideal S2048x256 .bf16) (v : Vec Ideal S2048x128 .bf16) :
    FVec Ideal S512x128 .bf16 := k0_pay64 q k v

/-- `headA` at an element. -/
theorem headA_row (q k v) (r : Fin 512) (d : Fin 128) (s w : Fin 2048 → EReal)
    (hs : ∀ j : Fin 512, ∑ x : Fin 256, q (ix2 r x) * k (ix2 j x) = s ⟨j.val, by omega⟩)
    (hw : ∀ j : Fin 512, v (ix2 j d) = w ⟨j.val, by omega⟩) :
    headA q k v (ix2 r d) = rowOut 0 r.val (by decide) s w := by
  unfold headA
  pointwise [k0_pay4]
  simp only [hs, hw, neg_inf, scale2_val, causal]
  have e : ∀ (k : Fin 512) (h : 0 + k.val < 2048), (⟨0 + k.val, h⟩ : Fin 2048) = ⟨k.val, by omega⟩ :=
    fun k _ => Fin.ext (Nat.zero_add _)
  unfold rowOut rowMax
  simp only [Finset.univ_eq_empty, Finset.sum_empty, Finset.fold_empty, zero_add, max_bot_right, e]
  rfl

/-- `headB` at an element. -/
theorem headB_row (q k v) (r : Fin 512) (d : Fin 128) (s w : Fin 2048 → EReal)
    (hs : ∀ j : Fin 1024, ∑ x : Fin 256, q (ix2 r x) * k (ix2 j x) = s ⟨j.val, by omega⟩)
    (hw : ∀ j : Fin 1024, v (ix2 j d) = w ⟨j.val, by omega⟩) :
    headB q k v (ix2 r d) = rowOut 512 r.val (by decide) s w := by
  unfold headB
  pointwise [k0_pay18]
  simp only [hs, hw, neg_inf, scale2_val, causal]
  rfl

/-- `headC` at an element. -/
theorem headC_row (q k v) (r : Fin 512) (d : Fin 128) (s w : Fin 2048 → EReal)
    (hs : ∀ j : Fin 1536, ∑ x : Fin 256, q (ix2 r x) * k (ix2 j x) = s ⟨j.val, by omega⟩)
    (hw : ∀ j : Fin 1536, v (ix2 j d) = w ⟨j.val, by omega⟩) :
    headC q k v (ix2 r d) = rowOut 1024 r.val (by decide) s w := by
  unfold headC
  pointwise [k0_pay41]
  simp only [hs, hw, neg_inf, scale2_val, causal]
  rfl

/-- `headD` at an element. -/
theorem headD_row (q k v) (r : Fin 512) (d : Fin 128) (s w : Fin 2048 → EReal)
    (hs : ∀ j : Fin 2048, ∑ x : Fin 256, q (ix2 r x) * k (ix2 j x) = s ⟨j.val, by omega⟩)
    (hw : ∀ j : Fin 2048, v (ix2 j d) = w ⟨j.val, by omega⟩) :
    headD q k v (ix2 r d) = rowOut 1536 r.val (by decide) s w := by
  unfold headD
  pointwise [k0_pay64]
  simp only [hs, hw, neg_inf, scale2_val, causal]
  rfl

/-! ## The loads of one head, at the arrays -/

variable (m : (ℓ : Loc nD τ sig) → Buf (Elt Ideal) ℓ)

/-- The block numbers of the four windows at each grid point. -/
theorem block_at : ∀ t : Fin grid0.N, win0_0.index t = ![t.val / 8 * 4 + t.val % 4, t.val / 4 % 2]
    ∧ win0_1.index t = ![t.val / 8, t.val / 4 % 2] ∧ win0_2.index t = ![t.val / 8, t.val / 4 % 2]
    ∧ win0_3.index t = ![t.val / 8 * 4 + t.val % 4, t.val / 4 % 2] := by decide +kernel

/-- A head's queries, read from the array. -/
theorem q_read (c : Dev nD) (t : Fin cfg0.N) (g : ℕ) (i0) (r : Fin 512) (x : Fin 256) (R : Fin 8192) (X : Fin 4096)
    (hR : R.val = (t.val / 8 * 4 + t.val % 4) * 512 + r.val) (hX : X.val = (t.val / 4 % 2) * 2048 + (256 * g + x.val)) :
    View.ld (iblk m c 0 t) (Rect.unit ![0, 256 * g] ![512, 256] i0) (ix2 r x)
      = (m ((c : Thread nD τ).loc main_arg0) : Vec Ideal S8192x4096 .bf16) (ix2 R X) := by
  obtain ⟨e0, e1, e2, e3⟩ := block_at t
  pointwise
  blk_ext [iblk, V, e0]

/-- A head's first `n` keys, read from the array. -/
theorem k_read (c : Dev nD) (t : Fin cfg0.N) (g : ℕ) (hg : g < 8) (n : ℕ) (hn : n ≤ 2048) (i0) (j : Fin n) (x : Fin 256)
    (R : Fin 8192) (X : Fin 4096)
    (hR : R.val = t.val / 8 * 2048 + j.val) (hX : X.val = (t.val / 4 % 2) * 2048 + (256 * g + x.val)) :
    View.ld (iblk m c 1 t) (Rect.unit ![0, 256 * g] ![n, 256] i0) (ix2 j x)
      = (m ((c : Thread nD τ).loc main_arg1) : Vec Ideal S8192x4096 .bf16) (ix2 R X) := by
  obtain ⟨e0, e1, e2, e3⟩ := block_at t
  rw [View.ld_unit_apply_of _ _ _ _ _ (ix2 ⟨j.val, by omega⟩ ⟨256 * g + x.val, by omega⟩ : S2048x2048.Idx)
    (fun a => by match a with
      | ⟨0, _⟩ => exact (Nat.zero_add _).symm
      | ⟨1, _⟩ => rfl)]
  blk_ext [iblk, V, e1]

/-- A head's first `n` values, read from the array. -/
theorem v_read (c : Dev nD) (t : Fin cfg0.N) (g : ℕ) (hg : g < 8) (n : ℕ) (hn : n ≤ 2048) (i0) (j : Fin n) (d : Fin 128)
    (R : Fin 8192) (C : Fin 2048)
    (hR : R.val = t.val / 8 * 2048 + j.val) (hC : C.val = (t.val / 4 % 2) * 1024 + (128 * g + d.val)) :
    View.ld (iblk m c 2 t) (Rect.unit ![0, 128 * g] ![n, 128] i0) (ix2 j d)
      = (m ((c : Thread nD τ).loc main_arg2) : Vec Ideal S8192x2048 .bf16) (ix2 R C) := by
  obtain ⟨e0, e1, e2, e3⟩ := block_at t
  rw [View.ld_unit_apply_of _ _ _ _ _ (ix2 ⟨j.val, by omega⟩ ⟨128 * g + d.val, by omega⟩ : S2048x1024.Idx)
    (fun a => by match a with
      | ⟨0, _⟩ => exact (Nat.zero_add _).symm
      | ⟨1, _⟩ => rfl)]
  blk_ext [iblk, V, e2]

/-- The query, key and value arrays as launched. -/
abbrev qArr (c : Dev nD) : Vec Ideal S8192x4096 .bf16 := m ((c : Thread nD τ).loc main_arg0)
abbrev kArr (c : Dev nD) : Vec Ideal S8192x4096 .bf16 := m ((c : Thread nD τ).loc main_arg1)
abbrev vArr (c : Dev nD) : Vec Ideal S8192x2048 .bf16 := m ((c : Thread nD τ).loc main_arg2)

/-- A head's scores in the block are the array's scores. -/
theorem score_read (c : Dev nD) (t : Fin cfg0.N) (g : ℕ) (hg : g < 8) (n : ℕ) (hn : n ≤ 2048) (i0 i1) (r : Fin 512) (d : Fin 128)
    (R : Fin 8192) (C : Fin 2048) (hR : R.val = (t.val / 8 * 4 + t.val % 4) * 512 + r.val)
    (hC : C.val = (t.val / 4 % 2) * 1024 + (128 * g + d.val)) (j : Fin n) :
    ∑ x : Fin 256, @HMul.hMul EReal EReal EReal _
        (View.ld (iblk m c 0 t) (Rect.unit ![0, 256 * g] ![512, 256] i0) (ix2 r x))
        (View.ld (iblk m c 1 t) (Rect.unit ![0, 256 * g] ![n, 256] i1) (ix2 j x))
      = scoreAt (qArr m c) (kArr m c) R C ⟨j.val, by omega⟩ := by
  refine Finset.sum_congr rfl fun x _ => ?_
  rw [q_read m c t g i0 r x R ⟨C.val / 128 * 256 + x.val, by omega⟩ hR (by dsimp only; omega),
    k_read m c t g hg n hn i1 j x ⟨R.val / 2048 * 2048 + j.val, by omega⟩ ⟨C.val / 128 * 256 + x.val, by omega⟩
      (by dsimp only; omega) (by dsimp only; omega)]

/-- A head's values in the block are the array's values. -/
theorem value_read (c : Dev nD) (t : Fin cfg0.N) (g : ℕ) (hg : g < 8) (n : ℕ) (hn : n ≤ 2048) (i2) (r : Fin 512) (d : Fin 128)
    (R : Fin 8192) (C : Fin 2048) (hR : R.val = (t.val / 8 * 4 + t.val % 4) * 512 + r.val)
    (hC : C.val = (t.val / 4 % 2) * 1024 + (128 * g + d.val)) (j : Fin n) :
    View.ld (iblk m c 2 t) (Rect.unit ![0, 128 * g] ![n, 128] i2) (ix2 j d)
      = valueAt (vArr m c) R C ⟨j.val, by omega⟩ :=
  v_read m c t g hg n hn i2 j d _ _ (by dsimp only; omega) hC

/-- The tile of head `g` in a block with 0 earlier keys. -/
theorem tileA (c : Dev nD) (t : Fin cfg0.N) (g : ℕ) (hg : g < 8) (i0 i1 i2) (x : S512x128.Idx) (R : Fin 8192) (C : Fin 2048)
    (hR : R.val = (t.val / 8 * 4 + t.val % 4) * 512 + (x 0).val)
    (hC : C.val = (t.val / 4 % 2) * 1024 + (128 * g + (x 1).val)) :
    headA (View.ld (iblk m c 0 t) (Rect.unit ![0, 256 * g] ![512, 256] i0))
        (View.ld (iblk m c 1 t) (Rect.unit ![0, 256 * g] ![512, 256] i1))
        (View.ld (iblk m c 2 t) (Rect.unit ![0, 128 * g] ![512, 128] i2)) x
      = rowOut 0 (x 0).val (by decide) (scoreAt (qArr m c) (kArr m c) R C) (valueAt (vArr m c) R C) := by
  idx_vars x
  exact headA_row _ _ _ _ _ _ _ (score_read m c t g hg 512 (by decide) i0 i1 _ _ R C hR hC)
    (value_read m c t g hg 512 (by decide) i2 _ _ R C hR hC)

/-- The tile of head `g` in a block with 512 earlier keys. -/
theorem tileB (c : Dev nD) (t : Fin cfg0.N) (g : ℕ) (hg : g < 8) (i0 i1 i2) (x : S512x128.Idx) (R : Fin 8192) (C : Fin 2048)
    (hR : R.val = (t.val / 8 * 4 + t.val % 4) * 512 + (x 0).val)
    (hC : C.val = (t.val / 4 % 2) * 1024 + (128 * g + (x 1).val)) :
    headB (View.ld (iblk m c 0 t) (Rect.unit ![0, 256 * g] ![512, 256] i0))
        (View.ld (iblk m c 1 t) (Rect.unit ![0, 256 * g] ![1024, 256] i1))
        (View.ld (iblk m c 2 t) (Rect.unit ![0, 128 * g] ![1024, 128] i2)) x
      = rowOut 512 (x 0).val (by decide) (scoreAt (qArr m c) (kArr m c) R C) (valueAt (vArr m c) R C) := by
  idx_vars x
  exact headB_row _ _ _ _ _ _ _ (score_read m c t g hg 1024 (by decide) i0 i1 _ _ R C hR hC)
    (value_read m c t g hg 1024 (by decide) i2 _ _ R C hR hC)

/-- The tile of head `g` in a block with 1024 earlier keys. -/
theorem tileC (c : Dev nD) (t : Fin cfg0.N) (g : ℕ) (hg : g < 8) (i0 i1 i2) (x : S512x128.Idx) (R : Fin 8192) (C : Fin 2048)
    (hR : R.val = (t.val / 8 * 4 + t.val % 4) * 512 + (x 0).val)
    (hC : C.val = (t.val / 4 % 2) * 1024 + (128 * g + (x 1).val)) :
    headC (View.ld (iblk m c 0 t) (Rect.unit ![0, 256 * g] ![512, 256] i0))
        (View.ld (iblk m c 1 t) (Rect.unit ![0, 256 * g] ![1536, 256] i1))
        (View.ld (iblk m c 2 t) (Rect.unit ![0, 128 * g] ![1536, 128] i2)) x
      = rowOut 1024 (x 0).val (by decide) (scoreAt (qArr m c) (kArr m c) R C) (valueAt (vArr m c) R C) := by
  idx_vars x
  exact headC_row _ _ _ _ _ _ _ (score_read m c t g hg 1536 (by decide) i0 i1 _ _ R C hR hC)
    (value_read m c t g hg 1536 (by decide) i2 _ _ R C hR hC)

/-- The tile of head `g` in a block with 1536 earlier keys. -/
theorem tileD (c : Dev nD) (t : Fin cfg0.N) (g : ℕ) (hg : g < 8) (i0 i1 i2) (x : S512x128.Idx) (R : Fin 8192) (C : Fin 2048)
    (hR : R.val = (t.val / 8 * 4 + t.val % 4) * 512 + (x 0).val)
    (hC : C.val = (t.val / 4 % 2) * 1024 + (128 * g + (x 1).val)) :
    headD (View.ld (iblk m c 0 t) (Rect.unit ![0, 256 * g] ![512, 256] i0))
        (View.ld (iblk m c 1 t) (Rect.unit ![0, 256 * g] ![2048, 256] i1))
        (View.ld (iblk m c 2 t) (Rect.unit ![0, 128 * g] ![2048, 128] i2)) x
      = rowOut 1536 (x 0).val (by decide) (scoreAt (qArr m c) (kArr m c) R C) (valueAt (vArr m c) R C) := by
  idx_vars x
  exact headD_row _ _ _ _ _ _ _ (score_read m c t g hg 2048 (by decide) i0 i1 _ _ R C hR hC)
    (value_read m c t g hg 2048 (by decide) i2 _ _ R C hR hC)

end Cert.AttnIdeal.Value

end
-- ==== Proof.AttnFinal.lean ====
/- The attention kernel's result array: every element is the softmax row of its query (`Softmax.rowRef`). -/
module

public import proofs.«01_k».proof.Proof.AttnBlock

@[expose] public section

set_option maxRecDepth 16384

noncomputable section

namespace Cert.AttnIdeal.Value

open Cert.AttnIdeal Cert.AttnIdeal.Gen Idealize.ShloMosaic Idealize.ShloMosaic.TcCoe Idealize.SL.Sem
open Idealize.ShloMosaic.Pipeline (Dat)
open Cert.Softmax

/-- Causal softmax attention: row `R` attends to the rows of its batch row up to its own position. -/
def attn (Q K : Vec Ideal S8192x4096 .bf16) (W : Vec Ideal S8192x2048 .bf16) : Vec Ideal S8192x2048 .bf16 := fun i =>
  rowRef ((i 0).val % 2048) (scoreAt Q K (i 0) (i 1)) (valueAt W (i 0) (i 1))

/-- The scores of arrays of reals are real. -/
theorem score_real (Q K : Vec Ideal S8192x4096 .bf16) (hQ : ∀ i, ∃ r : ℝ, Q i = (r : EReal)) (hK : ∀ i, ∃ r : ℝ, K i = (r : EReal))
    (R : Fin 8192) (C : Fin 2048) : ∃ t : Fin 2048 → ℝ, scoreAt Q K R C = fun j => ((t j : ℝ) : EReal) := by
  choose a ha using hQ
  choose b hb using hK
  refine ⟨fun j => ∑ x : Fin 256, a (ix2 R ⟨C.val / 128 * 256 + x.val, by omega⟩)
    * b (ix2 ⟨R.val / 2048 * 2048 + j.val, by omega⟩ ⟨C.val / 128 * 256 + x.val, by omega⟩), funext fun j => ?_⟩
  rw [← sum_real]
  unfold scoreAt
  refine Finset.sum_congr rfl fun x _ => ?_
  rw [ha, hb, EReal.coe_mul]

/-- The kernel's row over the block's keys is the softmax row over all keys. -/
theorem row_final (P r : ℕ) (hP : P + 512 ≤ 2048) (hr : r < 512) (Q K : Vec Ideal S8192x4096 .bf16) (w : Fin 2048 → EReal)
    (hQ : ∀ i, ∃ r : ℝ, Q i = (r : EReal)) (hK : ∀ i, ∃ r : ℝ, K i = (r : EReal)) (R : Fin 8192) (C : Fin 2048)
    (hR : R.val % 2048 = P + r) :
    rowOut P r hP (scoreAt Q K R C) w = rowRef (R.val % 2048) (scoreAt Q K R C) w := by
  obtain ⟨t, ht⟩ := score_real Q K hQ hK R C
  rw [ht, rowOut_eq P r hP hr t w, hR]

variable (m : (ℓ : Loc nD τ sig) → Buf (Elt Ideal) ℓ)

/-- The kernel's result array is the attention of its arguments, when queries and keys are real. -/
theorem final (c : Dev nD) (hQ : ∀ i, ∃ r : ℝ, qArr m c i = (r : EReal)) (hK : ∀ i, ∃ r : ℝ, kArr m c i = (r : EReal)) :
    (dats m 0 c).arrAt 3 cfg0.N = attn (qArr m c) (kArr m c) (vArr m c) := by
  refine (dats m 0 c).arrAt_eq_of_covers 3 _ (by decide +kernel) fun t hf y => ?_
  blk_simp
  rw [after0_3]
  obtain ⟨e0, e1, e2, e3⟩ := block_at t
  have hN : t.val < 32 := t.isLt
  generalize hI : ((View.whole main_v0).slice (win0_3.rect t)).emb y = I
  have hI0 : (I 0).val = (t.val / 8 * 4 + t.val % 4) * 512 + (y 0).val := by
    rw [← hI]
    refine (Pipeline.Window.rect_emb_val win0_3 t y 0).trans ?_
    rw [e3]; rfl
  have hI1 : (I 1).val = t.val / 4 % 2 * 1024 + (y 1).val := by
    rw [← hI]
    refine (Pipeline.Window.rect_emb_val win0_3 t y 1).trans ?_
    rw [e3]; rfl
  have close : ∀ (P : ℕ) (hP : P + 512 ≤ 2048) (x : S512x128.Idx), P = t.val % 4 * 512 → (y 0).val = (x 0).val →
      rowOut P (x 0).val hP (scoreAt (qArr m c) (kArr m c) (I 0) (I 1)) (valueAt (vArr m c) (I 0) (I 1))
        = attn (qArr m c) (kArr m c) (vArr m c) I := fun P hP x hp h0 => by
    have hx : (x 0).val < 512 := (x 0).isLt
    exact row_final P _ hP hx _ _ _ hQ hK (I 0) (I 1) (by omega)
  rcases (by omega : t.val % 4 = 0 ∨ t.val % 4 = 1 ∨ t.val % 4 = 2 ∨ t.val % 4 = 3) with h0 | h1 | h2 | h3
  · rw [outsAt0_A m c t h0 (by omega) (by omega) (by omega)]
    have fin : ∀ (g : ℕ) (hg : g < 8) (i0 i1 i2) (x : S512x128.Idx), (y 0).val = (x 0).val → (y 1).val = 128 * g + (x 1).val →
        headA (View.ld (iblk m c 0 t) (Rect.unit ![0, 256 * g] ![512, 256] i0))
          (View.ld (iblk m c 1 t) (Rect.unit ![0, 256 * g] ![512, 256] i1))
          (View.ld (iblk m c 2 t) (Rect.unit ![0, 128 * g] ![512, 128] i2)) x
          = attn (qArr m c) (kArr m c) (vArr m c) I := fun g hg i0 i1 i2 x h0 h1 =>
      (tileA m c t g hg i0 i1 i2 x (I 0) (I 1) (by omega) (by omega)).trans (close 0 (by decide) x (by omega) h0)
    frame_out
    canon_tiles x h
    · exact fin 7 (by decide) _ _ _ x h0 h1
    · exact fin 6 (by decide) _ _ _ x h0 h1
    · exact fin 5 (by decide) _ _ _ x h0 h1
    · exact fin 4 (by decide) _ _ _ x h0 h1
    · exact fin 3 (by decide) _ _ _ x h0 h1
    · exact fin 2 (by decide) _ _ _ x h0 h1
    · exact fin 1 (by decide) _ _ _ x h0 h1
    · exact fin 0 (by decide) _ _ _ x h0 (by omega)
  · rw [outsAt0_B m c t (by omega) h1 (by omega) (by omega)]
    have fin : ∀ (g : ℕ) (hg : g < 8) (i0 i1 i2) (x : S512x128.Idx), (y 0).val = (x 0).val → (y 1).val = 128 * g + (x 1).val →
        headB (View.ld (iblk m c 0 t) (Rect.unit ![0, 256 * g] ![512, 256] i0))
          (View.ld (iblk m c 1 t) (Rect.unit ![0, 256 * g] ![1024, 256] i1))
          (View.ld (iblk m c 2 t) (Rect.unit ![0, 128 * g] ![1024, 128] i2)) x
          = attn (qArr m c) (kArr m c) (vArr m c) I := fun g hg i0 i1 i2 x h0 h1 =>
      (tileB m c t g hg i0 i1 i2 x (I 0) (I 1) (by omega) (by omega)).trans (close 512 (by decide) x (by omega) h0)
    frame_out
    canon_tiles x h
    · exact fin 7 (by decide) _ _ _ x h0 h1
    · exact fin 6 (by decide) _ _ _ x h0 h1
    · exact fin 5 (by decide) _ _ _ x h0 h1
    · exact fin 4 (by decide) _ _ _ x h0 h1
    · exact fin 3 (by decide) _ _ _ x h0 h1
    · exact fin 2 (by decide) _ _ _ x h0 h1
    · exact fin 1 (by decide) _ _ _ x h0 h1
    · exact fin 0 (by decide) _ _ _ x h0 (by omega)
  · rw [outsAt0_C m c t (by omega) (by omega) h2 (by omega)]
    have fin : ∀ (g : ℕ) (hg : g < 8) (i0 i1 i2) (x : S512x128.Idx), (y 0).val = (x 0).val → (y 1).val = 128 * g + (x 1).val →
        headC (View.ld (iblk m c 0 t) (Rect.unit ![0, 256 * g] ![512, 256] i0))
          (View.ld (iblk m c 1 t) (Rect.unit ![0, 256 * g] ![1536, 256] i1))
          (View.ld (iblk m c 2 t) (Rect.unit ![0, 128 * g] ![1536, 128] i2)) x
          = attn (qArr m c) (kArr m c) (vArr m c) I := fun g hg i0 i1 i2 x h0 h1 =>
      (tileC m c t g hg i0 i1 i2 x (I 0) (I 1) (by omega) (by omega)).trans (close 1024 (by decide) x (by omega) h0)
    frame_out
    canon_tiles x h
    · exact fin 7 (by decide) _ _ _ x h0 h1
    · exact fin 6 (by decide) _ _ _ x h0 h1
    · exact fin 5 (by decide) _ _ _ x h0 h1
    · exact fin 4 (by decide) _ _ _ x h0 h1
    · exact fin 3 (by decide) _ _ _ x h0 h1
    · exact fin 2 (by decide) _ _ _ x h0 h1
    · exact fin 1 (by decide) _ _ _ x h0 h1
    · exact fin 0 (by decide) _ _ _ x h0 (by omega)
  · rw [outsAt0_D m c t (by omega) (by omega) (by omega) h3]
    have fin : ∀ (g : ℕ) (hg : g < 8) (i0 i1 i2) (x : S512x128.Idx), (y 0).val = (x 0).val → (y 1).val = 128 * g + (x 1).val →
        headD (View.ld (iblk m c 0 t) (Rect.unit ![0, 256 * g] ![512, 256] i0))
          (View.ld (iblk m c 1 t) (Rect.unit ![0, 256 * g] ![2048, 256] i1))
          (View.ld (iblk m c 2 t) (Rect.unit ![0, 128 * g] ![2048, 128] i2)) x
          = attn (qArr m c) (kArr m c) (vArr m c) I := fun g hg i0 i1 i2 x h0 h1 =>
      (tileD m c t g hg i0 i1 i2 x (I 0) (I 1) (by omega) (by omega)).trans (close 1536 (by decide) x (by omega) h0)
    frame_out
    canon_tiles x h
    · exact fin 7 (by decide) _ _ _ x h0 h1
    · exact fin 6 (by decide) _ _ _ x h0 h1
    · exact fin 5 (by decide) _ _ _ x h0 h1
    · exact fin 4 (by decide) _ _ _ x h0 h1
    · exact fin 3 (by decide) _ _ _ x h0 h1
    · exact fin 2 (by decide) _ _ _ x h0 h1
    · exact fin 1 (by decide) _ _ _ x h0 h1
    · exact fin 0 (by decide) _ _ _ x h0 (by omega)

end Cert.AttnIdeal.Value

end
-- ==== Proof.AttnRead.lean ====
/- The attention reference read at an element: the same softmax row (`Softmax.rowRef`) of the same scores and values. -/
module

public import proofs.«01_k».proof.Proof.Gen.AttnRefIdeal.Read
public import proofs.«01_k».proof.Proof.AttnFinal

@[expose] public section

set_option maxRecDepth 16384

noncomputable section

namespace Cert.AttnRefIdeal.Read

open Cert.AttnRefIdeal Cert.AttnRefIdeal.Gen Idealize.ShloMosaic Idealize.ShloMosaic.TcCoe Idealize.SL.Sem
open Cert.Softmax
open Cert.AttnIdeal.Value (scoreAt valueAt attn)

variable (q k : Vec Ideal S8192x4096 .bf16) (v : Vec Ideal S8192x2048 .bf16)

/-- The score element that result element `i` weighs key `j` by. -/
abbrev at4 (i : S8192x2048.Idx) (j : Fin 2048) : S4x16x2048x2048.Idx := ridx_main_v34 (idx_main_v35 (idx_main_v36 i)) j

/-- The two products add up to one over the whole head. -/
theorem score (i : S8192x2048.Idx) (j : Fin 2048) :
    val_main_v12 (F := Ideal) q k (at4 i j) = scoreAt q k (i 0) (i 1) j := by
  have h0 : (i 0).val < 8192 := (i 0).isLt
  have h1 : (i 1).val < 2048 := (i 1).isLt
  have hj := j.isLt
  rw [val_main_v12_apply, val_main_v8_apply, val_main_v11_apply]
  unfold scoreAt
  refine Eq.trans ?_ (Fin.sum_univ_add (a := 128) (b := 128) (fun x : Fin (128 + 128) =>
    q (ix2 (i 0) ⟨(i 1).val / 128 * 256 + x.val, by omega⟩)
      * k (ix2 ⟨(i 0).val / 2048 * 2048 + j.val, by omega⟩ ⟨(i 1).val / 128 * 256 + x.val, by omega⟩) : Fin (128 + 128) → EReal)).symm
  refine congrArg₂ (fun a b : EReal => a + b) (Finset.sum_congr rfl fun x _ => ?_) (Finset.sum_congr rfl fun x _ => ?_)
  · have hx := x.isLt
    rw [val_main_v6_apply, val_main_v1_apply, val_main_v0_apply, val_main_v7_apply, val_main_v3_apply, val_main_v2_apply]
    refine congrArg₂ (fun a b : EReal => a * b) (congrArg q ?_) (congrArg k ?_) <;> funext a <;> fin_cases a <;> apply Fin.ext
    · simp; omega
    · simp; omega
    · simp; omega
    · simp; omega
  · have hx := x.isLt
    rw [val_main_v9_apply, val_main_v1_apply, val_main_v0_apply, val_main_v10_apply, val_main_v3_apply, val_main_v2_apply]
    refine congrArg₂ (fun a b : EReal => a * b) (congrArg q ?_) (congrArg k ?_) <;> funext a <;> fin_cases a <;> apply Fin.ext
    · simp; omega
    · simp; omega
    · simp; omega
    · simp; omega

/-- The head width the scale is the root of. -/
theorem width : Ideal.ofBits .f32 0x43400000#32 = ((192 : ℝ) : EReal) := by
  simp [Ideal.ofBits, Ideal.ieee]
  rw [← EReal.coe_mul]
  exact congrArg _ (by norm_num)

/-- The scaled, masked score. -/
theorem logit (i : S8192x2048.Idx) (j : Fin 2048) :
    val_main_v22 (F := Ideal) q k (at4 i j) = masked ((i 0).val % 2048) (scoreAt q k (i 0) (i 1)) j := by
  have h0 : (i 0).val < 8192 := (i 0).isLt
  have h1 : (i 1).val < 2048 := (i 1).isLt
  have hj := j.isLt
  rw [val_main_v22_apply, val_main_call0_v1_apply, val_main_v21_apply, val_main_v19_apply, val_main_v20_apply,
    val_main_v17_apply, val_main_v18_apply, val_main_v16_apply, val_main_v16_apply, val_main_v15_apply, score,
    val_main_v14_apply, val_main_v13_apply, val_main_cst_apply, val_main_call0_v2_apply, val_main_call0_v0_apply,
    val_main_cst_0_apply]
  refine (causal_bit _ _ ?_ ?_ _ _).trans ?_
  · show j.val < 4096; omega
  · show ((i 0).val * 2048 + (i 1).val) / 2048 % 2048 < 4096; omega
  unfold masked
  refine ite_congr (propext ?_) (fun _ => ?_) (fun _ => neg_inf)
  · show j.val ≤ ((i 0).val * 2048 + (i 1).val) / 2048 % 2048 ↔ _
    have : ((i 0).val * 2048 + (i 1).val) / 2048 % 2048 = (i 0).val % 2048 := by omega
    rw [this]
  · show Ideal.div _ (Ideal.sqrt (Ideal.ofBits .f32 0x43400000#32)) = _
    rw [width, Ideal.sqrt_coe, if_neg (by norm_num), div_real _ _ (by positivity)]
    rfl

/-- The row maximum. -/
theorem rowmax (i : S8192x2048.Idx) (j : Fin 2048) :
    val_main_v27 (F := Ideal) q k (at4 i j)
      = Finset.univ.fold max ⊥ (masked ((i 0).val % 2048) (scoreAt q k (i 0) (i 1))) := by
  rw [val_main_v27_apply, val_main_v26_apply, val_main_v25_apply, val_main_v24_apply, val_main_cst_2_apply]
  show max (Ideal.ofBits .f32 0xFF800000#32) (val_main_v23 (F := Ideal) q k (idx_main_v26 (idx_main_v27 (at4 i j)))) = _
  rw [neg_inf, max_bot_left]
  unfold val_main_v23
  refine (Host.reduce_eq_fold_single (FloatOps.maximumf (F := Ideal) (φ := .f32)) _ _ _ (by decide) _ _).trans ?_
  rw [val_main_cst_1_apply]
  refine (congrArg (fun b : EReal => Finset.univ.fold max b _) neg_inf).trans ?_
  refine congrArg (fun f => Finset.univ.fold max (⊥ : EReal) f) (funext fun l => ?_)
  exact logit q k i l

/-- The exponential of a shifted logit. -/
theorem weight (i : S8192x2048.Idx) (j : Fin 2048) :
    val_main_v29 (F := Ideal) q k (at4 i j)
      = Ideal.exp (masked ((i 0).val % 2048) (scoreAt q k (i 0) (i 1)) j
          - Finset.univ.fold max ⊥ (masked ((i 0).val % 2048) (scoreAt q k (i 0) (i 1)))) := by
  rw [val_main_v29_apply, val_main_v28_apply, logit, rowmax]
  rfl

/-- The row sum. -/
theorem rowsum (i : S8192x2048.Idx) (j : Fin 2048) :
    val_main_v32 (F := Ideal) q k (at4 i j)
      = ∑ l : Fin 2048, Ideal.exp (masked ((i 0).val % 2048) (scoreAt q k (i 0) (i 1)) l
          - Finset.univ.fold max ⊥ (masked ((i 0).val % 2048) (scoreAt q k (i 0) (i 1)))) := by
  rw [val_main_v32_apply, val_main_v31_apply, val_main_v30_apply, val_main_cst_3_apply]
  refine (congrArg (fun b : EReal => b + _) Ideal.ofBits_zero_f32).trans ?_
  rw [zero_add]
  refine Finset.sum_congr rfl fun l _ => ?_
  exact weight q k i l

/-- The reference's result is the attention of its arguments. -/
theorem final : val_main_v37 (F := Ideal) q k v = attn q k v := by
  funext i
  have h0 : (i 0).val < 8192 := (i 0).isLt
  have h1 : (i 1).val < 2048 := (i 1).isLt
  rw [val_main_v37_apply, val_main_v36_apply, val_main_v35_apply, val_main_v34_apply]
  unfold attn rowRef
  refine Finset.sum_congr rfl fun j _ => ?_
  have hj := j.isLt
  refine congrArg₂ (fun a b : EReal => a * b) ?_ ?_
  · rw [val_main_v5_apply, val_main_v4_apply]
    refine congrArg v ?_
    funext a
    fin_cases a <;> apply Fin.ext
    · simp; omega
    · simp; omega
  · rw [val_main_v33_apply, weight, rowsum]
    rfl

end Cert.AttnRefIdeal.Read

end
-- ==== Proof.AttnClaim.lean ====
/- The attention's value claim: kernel and reference end with the same array. -/
module

public import proofs.«01_k».proof.Defs
public import proofs.«01_k».proof.Proof.Gen.Pre_finite_qk
public import proofs.«01_k».proof.Proof.Gen.Attn.Frame
public import proofs.«01_k».proof.Proof.AttnRead
public import Idealize.ShloMosaic.Lib.ReduceAll

@[expose] public section

set_option maxRecDepth 16384

noncomputable section

namespace Cert.AttnPair

open Idealize.ShloMosaic Idealize.ShloMosaic.TcCoe Idealize.SL.Sem

/-- The word of plus infinity reads as `⊤`. -/
theorem pos_inf : Ideal.ofBits .f32 0x7F800000#32 = ⊤ := by
  simp [Ideal.ofBits, Ideal.ieee]

/-- An extended real of absolute value below infinity is a real. -/
theorem real_of_abs (x : EReal) (h : Ideal.cmp .olt (max x (-x)) ⊤ = 1#1) : ∃ r : ℝ, x = (r : EReal) := by
  induction x with
  | bot => simp [Ideal.cmp] at h
  | top => simp [Ideal.cmp] at h
  | coe r => exact ⟨r, rfl⟩

/-- What the precondition says: queries and keys are real numbers. -/
theorem real_of_pre (q k : Vec Ideal Cert.AttnIdeal.S8192x4096 .bf16) (v : Vec Ideal Cert.AttnIdeal.S8192x2048 .bf16)
    (h : Cert.Pre_finite_qk.fn (F := Ideal) q k v = fun _ => 1#1) :
    (∀ i, ∃ r : ℝ, q i = (r : EReal)) ∧ (∀ i, ∃ r : ℝ, k i = (r : EReal)) := by
  have h' := congrFun h (Shape.Idx.first Cert.Pre_finite_qk.Gen.h_S_)
  have hs := IntOp.andi_eq_one.1 h'
  haveI : Subsingleton Cert.Pre_finite_qk.S_.Idx := ⟨fun a b => funext fun d => d.elim0⟩
  refine ⟨fun i => real_of_abs _ ?_, fun i => real_of_abs _ ?_⟩
  · have e := Host.reduce_andi_all _ _ _ _ _ hs.1 i
    rw [← pos_inf]; exact e
  · have e := Host.reduce_andi_all _ _ _ _ _ hs.2 i
    rw [← pos_inf]; exact e

/-- Both programs run and leave the attention of the arguments. -/
theorem algebraic : Cert.algebraic_AttnIdeal_AttnRefIdeal_pre_finite_qk := fun m ρ m' ρ' hpre hag =>
  ⟨fun c => Cert.AttnIdeal.Value.attn (m (c.tc.loc Cert.AttnIdeal.main_arg0)) (m (c.tc.loc Cert.AttnIdeal.main_arg1))
      (m (c.tc.loc Cert.AttnIdeal.main_arg2)),
    (θ_run _ _ _).mono (fun r h c => ⟨(h c).1.trans
      (Cert.AttnIdeal.Value.final m c (real_of_pre _ _ _ (hpre c)).1 (real_of_pre _ _ _ (hpre c)).2), (h c).2⟩)
      (Cert.AttnIdeal.Value.run_blocks m ρ),
    (θ_run _ _ _).mono (fun r h c => ⟨(h c).1.trans (by
      rw [Cert.AttnRefIdeal.Read.val_main_v37_eq, Cert.AttnRefIdeal.Read.final, (hag c).1, (hag c).2.1, (hag c).2.2]), (h c).2⟩)
      (Cert.AttnRefIdeal.Value.run m' ρ')⟩

/-- The kernel's frame. -/
theorem frame_p : Cert.quiescent_Attn := fun m ρ _ => Cert.Attn.Gen.frame m ρ

/-- The idealized kernel's frame. -/
theorem frame_pi : Cert.quiescent_AttnIdeal := fun m ρ _ => Cert.AttnIdeal.Gen.frame m ρ

/-- The reference's frame: its run, and it has no counters. -/
theorem frame_ri : Cert.quiescent_AttnRefIdeal := fun m ρ _ =>
  (θ_run _ _ _).mono (fun r h => ⟨fun c => (h c).2, sem_eq_zero_of_no_sems (by decide) r.2⟩) (Cert.AttnRefIdeal.Value.run m ρ)

/-- The named constant's entry. -/
theorem preserves : Cert.preserves_Attn_AttnIdeal :=
  IdealRules.named_const.statement Cert.AttnIdeal.κ "scale2" .f32 0x3DD53B95#32 (((Real.sqrt 192)⁻¹ * (Real.log 2)⁻¹ : ℝ) : EReal) rfl

end Cert.AttnPair

end
-- ==== Proof.FfnBlock.lean ====
/- What the gate and up kernel's stores hold at each grid point: the weight blocks kept in scratch, the gate rows carried from
   one row tile to the next, the tile of the result and the tile of the convolution buffer. -/
module

public import proofs.«01_k».proof.Proof.Gen.FfnIdeal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.WritesUnit

@[expose] public section

set_option maxRecDepth 16384

noncomputable section

namespace Cert.FfnIdeal.Value

open Cert.FfnIdeal Cert.FfnIdeal.Gen Idealize.ShloMosaic Idealize.ShloMosaic.TcCoe Idealize.SL.Sem
open Idealize.ShloMosaic.Pipeline (Dat)

/-! ## The mathematics -/

/-- A projection of row `R` on column `C`, by the first layer's weights. -/
def projAt (X : Vec Ideal S8192x2048 .bf16) (W : Vec Ideal S4x2048x6144 .f32) (R : Fin 8192) (C : Fin 6144) : EReal :=
  ∑ k : Fin 2048, X (ix2 R k) * W (ix3 0 k C)

/-- The gate projection `d` rows before row `R`, zero before the start of the batch row. -/
def backAt (X : Vec Ideal S8192x2048 .bf16) (W : Vec Ideal S4x2048x6144 .f32) (d : ℕ) (R : Fin 8192) (C : Fin 6144) : EReal :=
  if R.val % 2048 < d then 0 else projAt X W ⟨R.val - d, by omega⟩ C

/-- The gelu of `z` by its tanh formula. -/
def gelu (z : EReal) : EReal :=
  z * (Ideal.ofBits .f32 0x3F000000#32 * (1
    + Ideal.tanh (Ideal.ofBits .f32 0x3F4C422A#32 * (z + Ideal.ofBits .f32 0x3D372713#32 * (z * (z * z))))))

/-- The three-tap convolution of the gate projection, its gelu, times the up projection. -/
def ffnAt (X : Vec Ideal S8192x2048 .bf16) (Wg Wu : Vec Ideal S4x2048x6144 .f32) (cw : Vec Ideal S4x3x6144 .f32)
    (cb : Vec Ideal S4x1x6144 .f32) (R : Fin 8192) (C : Fin 6144) : EReal :=
  gelu (cb (ix3 0 0 C) + backAt X Wg 2 R C * cw (ix3 0 0 C) + backAt X Wg 1 R C * cw (ix3 0 1 C)
    + projAt X Wg R C * cw (ix3 0 2 C)) * projAt X Wu R C

/-! ## The stored values at an index -/

/-- The result tile at an index. -/
theorem pay1_at (g u p1 p2 : Vec Ideal S1024x512 .f32) (w : Vec Ideal S3x512 .f32) (b : Vec Ideal S1x1x512 .f32) (r : Fin 1024) (d : Fin 512) :
    k0_pay1 g u p1 p2 w b (ix2 r d)
      = gelu (b (ix3 0 0 d) + p2 (ix2 r d) * w (ix2 0 d) + p1 (ix2 r d) * w (ix2 1 d) + g (ix2 r d) * w (ix2 2 d)) * u (ix2 r d) := by
  pointwise [k0_pay1]
  rfl

/-- The gate tile at an index. -/
theorem pay7_at (x : Vec Ideal S1024x2048 .bf16) (w : Vec Ideal S2048x512 .bf16) (r : Fin 1024) (d : Fin 512) :
    k0_pay7 x w (ix2 r d) = ∑ k : Fin 2048, @HMul.hMul EReal EReal EReal _ (x (ix2 r k)) (w (ix2 k d)) := by
  pointwise [k0_pay7]

/-- The up tile at an index. -/
theorem pay8_at (x : Vec Ideal S1024x2048 .bf16) (w : Vec Ideal S2048x512 .bf16) (r : Fin 1024) (d : Fin 512) :
    k0_pay8 x w (ix2 r d) = ∑ k : Fin 2048, @HMul.hMul EReal EReal EReal _ (x (ix2 r k)) (w (ix2 k d)) := by
  pointwise [k0_pay8]

/-- The gate tile is stored as it is. -/
theorem pay9_eq (x : Vec Ideal S1024x2048 .bf16) (w : Vec Ideal S2048x512 .bf16) : k0_pay9 x w = k0_pay7 x w := by
  funext y
  idx_vars y
  pointwise [k0_pay9]

/-- The gate weights kept in scratch. -/
theorem pay4_at (w : Vec Ideal S1x2048x512 .f32) (k : Fin 2048) (d : Fin 512) : k0_pay4 w (ix2 k d) = w (ix3 0 k d) := by
  pointwise [k0_pay4]

/-- The up weights kept in scratch. -/
theorem pay5_at (w : Vec Ideal S1x2048x512 .f32) (k : Fin 2048) (d : Fin 512) : k0_pay5 w (ix2 k d) = w (ix3 0 k d) := by
  pointwise [k0_pay5]

/-- The rows before the start of a batch row. -/
theorem pay6_at (y : S8x512.Idx) : (k0_pay6 (F := Ideal)) y = (0 : EReal) := by
  idx_vars y
  pointwise [k0_pay6]

theorem pay2_eq (w : Vec Ideal S8x512 .f32) : k0_pay2 w = w := by
  funext y
  idx_vars y
  pointwise [k0_pay2]

theorem pay3_at (w : Vec Ideal S2x512 .f32) (a : Fin 2) (d : Fin 512) : k0_pay3 w (ix3 0 a d) = w (ix2 a d) := by
  pointwise [k0_pay3]

theorem pay10_at (w : Vec Ideal S1x3x512 .f32) (a : Fin 3) (d : Fin 512) : k0_pay10 w (ix2 a d) = w (ix3 0 a d) := by
  pointwise [k0_pay10]

/-! ## The rows of a tile and those before it -/

/-- Row `r` of a tile `G` read from `8 - o` rows before it, `H` being the eight rows above the tile. -/
def above (H : Vec Ideal S8x512 .f32) (G : Vec Ideal S1024x512 .f32) (o : ℕ) (ho : o ≤ 8) (r : Fin 1024) (d : Fin 512) : EReal :=
  if h : r.val + o < 8 then H (ix2 ⟨r.val + o, h⟩ d) else G (ix2 ⟨r.val + o - 8, by omega⟩ d)

/-- The last eight rows of a gate tile. -/
def tail (G : Vec Ideal S1024x512 .f32) : Vec Ideal S8x512 .f32 := fun y => G (ix2 ⟨1016 + (y 0).val, by have : (y 0).val < 8 := (y 0).isLt; omega⟩ (y 1))

section Loads

variable {sig' : RefSig} {κ : Kind} {sp : Space} (v : View sig' κ sp S1032x512 .f32) (f : v.ty.Contents (Elt Ideal))

/-- A row at or below the tile's first reads the tile, whatever was stored before it. -/
theorem load_tile (G : Vec Ideal S1024x512 .f32) (i8) (L : List (View.Piece (Elt Ideal) S1032x512 .f32)) (y : S1032x512.Idx)
    (r : Fin 1024) (d : Fin 512) (h0 : (y 0).val = 8 + r.val) (h1 : (y 1).val = d.val) :
    v.read (Elt Ideal) (v.writes (Elt Ideal) f (⟨Rect.unit ![8, 0] ![1024, 512] i8, G⟩ :: L)) y = G (ix2 r d) :=
  View.read_writes_cons_rows_of_mem v f i8 G L y (ix2 r d) rfl h0 h1

/-- A row above the tile reads what was there before the tile was stored. -/
theorem load_skip (G : Vec Ideal S1024x512 .f32) (i8) (L : List (View.Piece (Elt Ideal) S1032x512 .f32)) (y : S1032x512.Idx)
    (h0 : (y 0).val < 8) :
    v.read (Elt Ideal) (v.writes (Elt Ideal) f (⟨Rect.unit ![8, 0] ![1024, 512] i8, G⟩ :: L)) y
      = v.read (Elt Ideal) (v.writes (Elt Ideal) f L) y :=
  View.read_writes_cons_rows_of_not_mem v f i8 G L y rfl rfl (Or.inl h0)

/-- One of the eight rows stored last. -/
theorem load_head (Z : Vec Ideal S8x512 .f32) (i0) (L : List (View.Piece (Elt Ideal) S1032x512 .f32)) (y : S1032x512.Idx)
    (r : Fin 8) (d : Fin 512) (h0 : (y 0).val = r.val) (h1 : (y 1).val = d.val) :
    v.read (Elt Ideal) (v.writes (Elt Ideal) f (⟨Rect.unit ![0, 0] ![8, 512] i0, Z⟩ :: L)) y = Z (ix2 r d) :=
  View.read_writes_cons_rows_of_mem v f i0 Z L y (ix2 r d) rfl (by rw [h0]; exact (Nat.zero_add _).symm) h1

/-- A load from the tile stored over eight rows `H`. -/
theorem load_above (H : Vec Ideal S8x512 .f32) (G : Vec Ideal S1024x512 .f32) (i8) (L : List (View.Piece (Elt Ideal) S1032x512 .f32))
    (hL : ∀ (y : S1032x512.Idx) (r : Fin 8) (d : Fin 512), (y 0).val = r.val → (y 1).val = d.val →
      v.read (Elt Ideal) (v.writes (Elt Ideal) f L) y = H (ix2 r d))
    (o : ℕ) (ho : o ≤ 8) (y : S1032x512.Idx) (r : Fin 1024) (d : Fin 512) (h0 : (y 0).val = r.val + o) (h1 : (y 1).val = d.val) :
    v.read (Elt Ideal) (v.writes (Elt Ideal) f (⟨Rect.unit ![8, 0] ![1024, 512] i8, G⟩ :: L)) y = above H G o ho r d := by
  unfold above
  by_cases h : r.val + o < 8
  · rw [dif_pos h, load_skip v f G i8 L y (by omega)]
    exact hL y _ d h0 h1
  · rw [dif_neg h]
    exact load_tile v f G i8 L y _ d (by dsimp only; omega) h1

/-- The scratch's first eight rows, as a point leaves them: the last eight of the tile stored at row 8. -/
theorem head_of_tile (G : Vec Ideal S1024x512 .f32) (i0 i8 ie) (L L' : List (View.Piece (Elt Ideal) S1032x512 .f32)) (y : S1032x512.Idx)
    (r : Fin 8) (d : Fin 512) (h0 : (y 0).val = r.val) (h1 : (y 1).val = d.val) :
    View.canon (⟨Rect.unit ![0, 0] ![8, 512] i0, k0_pay2 (v.readCov (⟨Rect.unit ![8, 0] ![1024, 512] i8, G⟩ :: L)
      (Rect.unit ![1024, 0] ![8, 512] ie).toLoadRect)⟩ :: L') y = tail G (ix2 r d) := by
  rw [← View.read_writes_junk_apply_eq_canon v, load_head v _ _ i0 L' y r d h0 h1, pay2_eq]
  exact load_tile v _ G i8 L _ _ d (by show 1024 + 1 * r.val = 8 + (1016 + r.val); omega) (by show 0 + 1 * d.val = d.val; omega)

end Loads

/-! ## The carried scratch -/

variable (m : (ℓ : Loc nD τ sig) → Buf (Elt Ideal) ℓ)

/-- The gate weights in scratch after a point are those its column block's first point stored. -/
theorem wg_held (c : Dev nD) (t : Fin cfg0.N) :
    (outsAt0 m c t.val t.isLt).2.2.2.1 = k0_pay4 (iblk m c 1 ⟨8 * (t.val / 8), Pipeline.run_start_lt t⟩) := by
  refine Pipeline.eq_of_write_hold (fun n h => (outsAt0 m c n h).2.2.2.1) 8 (fun t => k0_pay4 (iblk m c 1 t)) (fun t h0 => ?_)
    (fun t h0 => ?_) t
  · rw [outsAt0_A m c t h0 (by omega) (by omega)]
    frame_out
  · rcases Nat.mod_two_eq_zero_or_one t.val with h1 | h1
    · rw [outsAt0_C m c t h0 h1 (by omega)]
      rfl
    · rw [outsAt0_B m c t h0 (by omega) h1]
      rfl

/-- The up weights likewise. -/
theorem wu_held (c : Dev nD) (t : Fin cfg0.N) :
    (outsAt0 m c t.val t.isLt).2.2.2.2 = k0_pay5 (iblk m c 2 ⟨8 * (t.val / 8), Pipeline.run_start_lt t⟩) := by
  refine Pipeline.eq_of_write_hold (fun n h => (outsAt0 m c n h).2.2.2.2) 8 (fun t => k0_pay5 (iblk m c 2 t)) (fun t h0 => ?_)
    (fun t h0 => ?_) t
  · rw [outsAt0_A m c t h0 (by omega) (by omega)]
    frame_out
  · rcases Nat.mod_two_eq_zero_or_one t.val with h1 | h1
    · rw [outsAt0_C m c t h0 h1 (by omega)]
      rfl
    · rw [outsAt0_B m c t h0 (by omega) h1]
      rfl

/-- The gate tile of a point, from its rows and the weights of its column block. -/
def gTile (c : Dev nD) (t : Fin cfg0.N) : Vec Ideal S1024x512 .f32 :=
  k0_pay7 (iblk m c 0 t) (k0_pay4 (iblk m c 1 ⟨8 * (t.val / 8), Pipeline.run_start_lt t⟩))

/-- The up tile of a point. -/
def uTile (c : Dev nD) (t : Fin cfg0.N) : Vec Ideal S1024x512 .f32 :=
  k0_pay8 (iblk m c 0 t) (k0_pay5 (iblk m c 2 ⟨8 * (t.val / 8), Pipeline.run_start_lt t⟩))

/-- A point that starts a column block is the first of its run. -/
theorem run_start (t : Fin cfg0.N) (h0 : t.val % 8 = 0) :
    (⟨8 * (t.val / 8), Pipeline.run_start_lt t⟩ : Fin cfg0.N) = t := Fin.ext (by dsimp only; omega)

/-- The point before another in a column block has the same first point. -/
theorem run_prev (t : Fin cfg0.N) (h0 : ¬t.val % 8 = 0) :
    (⟨8 * ((t.val - 1) / 8), Pipeline.run_start_lt (⟨t.val - 1, by omega⟩ : Fin cfg0.N)⟩ : Fin cfg0.N)
      = ⟨8 * (t.val / 8), Pipeline.run_start_lt t⟩ := Fin.ext (by dsimp only; omega)

theorem wg_before (c : Dev nD) (t : Fin cfg0.N) (h0 : ¬t.val % 8 = 0) (h) :
    (outsAt0 m c (t.val - 1) h).2.2.2.1 = k0_pay4 (iblk m c 1 ⟨8 * (t.val / 8), Pipeline.run_start_lt t⟩) :=
  (wg_held m c ⟨t.val - 1, h⟩).trans (by rw [run_prev t h0])

theorem wu_before (c : Dev nD) (t : Fin cfg0.N) (h0 : ¬t.val % 8 = 0) (h) :
    (outsAt0 m c (t.val - 1) h).2.2.2.2 = k0_pay5 (iblk m c 2 ⟨8 * (t.val / 8), Pipeline.run_start_lt t⟩) :=
  (wu_held m c ⟨t.val - 1, h⟩).trans (by rw [run_prev t h0])

/-- After a point the first eight rows of the scratch are its gate tile's last eight. -/
theorem carried (c : Dev nD) (t : Fin cfg0.N) (y : S1032x512.Idx) (r : Fin 8) (d : Fin 512) (hr : (y 0).val = r.val) (hd : (y 1).val = d.val) :
    (outsAt0 m c t.val t.isLt).2.2.1 y = tail (gTile m c t) (ix2 r d) := by
  by_cases h0 : t.val % 8 = 0
  · rw [outsAt0_A m c t h0 (by omega) (by omega)]
    frame_out
    unfold gTile
    rw [run_start t h0, pay9_eq]
    exact head_of_tile _ _ _ _ _ _ _ y r d hr hd
  · rcases Nat.mod_two_eq_zero_or_one t.val with h1 | h1
    · rw [outsAt0_C m c t h0 h1 (by omega)]
      frame_out
      simp only [read_unread_whole, wg_before m c t h0, pay9_eq]
      exact head_of_tile _ _ _ _ _ _ _ y r d hr hd
    · rw [outsAt0_B m c t h0 (by omega) h1]
      frame_out
      simp only [read_unread_whole, wg_before m c t h0, pay9_eq]
      exact head_of_tile _ _ _ _ _ _ _ y r d hr hd

/-- The eight rows above a point's tile: zeros where a batch row starts, else the last rows of the tile before. -/
def hTile (c : Dev nD) (t : Fin cfg0.N) : Vec Ideal S8x512 .f32 :=
  if t.val % 2 = 0 then fun _ => (0 : EReal) else tail (gTile m c ⟨t.val - 1, by omega⟩)

/-- The convolution's taps and bias in a point's column block. -/
def cwTile (c : Dev nD) (t : Fin cfg0.N) : Vec Ideal S1x3x512 .f32 := iblk m c 3 t
def cbTile (c : Dev nD) (t : Fin cfg0.N) : Vec Ideal S1x1x512 .f32 := iblk m c 4 t

/-- The convolution, gelu and product of a tile's element, the loads above the tile being `p1` and `p2`. -/
theorem out_of_loads (c : Dev nD) (t : Fin cfg0.N) (p1 p2 : Vec Ideal S1024x512 .f32) (r : Fin 1024) (d : Fin 512)
    (h1 : p1 (ix2 r d) = above (hTile m c t) (gTile m c t) 7 (by decide) r d)
    (h2 : p2 (ix2 r d) = above (hTile m c t) (gTile m c t) 6 (by decide) r d) :
    k0_pay1 (gTile m c t) (uTile m c t) p1 p2 (k0_pay10 (cwTile m c t)) (cbTile m c t) (ix2 r d)
      = gelu (cbTile m c t (ix3 0 0 d) + above (hTile m c t) (gTile m c t) 6 (by decide) r d * cwTile m c t (ix3 0 0 d)
        + above (hTile m c t) (gTile m c t) 7 (by decide) r d * cwTile m c t (ix3 0 1 d)
        + gTile m c t (ix2 r d) * cwTile m c t (ix3 0 2 d)) * uTile m c t (ix2 r d) := by
  rw [pay1_at, h1, h2, pay10_at, pay10_at, pay10_at]

/-- A load above a tile stored over zeros, at the start of a batch row. -/
theorem load_first (c : Dev nD) (t : Fin cfg0.N) (h1 : t.val % 2 = 0) (i0 i8) (o : ℕ) (ho : o ≤ 8) (io) (r : Fin 1024) (d : Fin 512) :
    (View.whole cc0_scratch0).readCov [⟨Rect.unit ![8, 0] ![1024, 512] i8, gTile m c t⟩,
        ⟨Rect.unit ![0, 0] ![8, 512] i0, k0_pay6 (F := Ideal)⟩] (Rect.unit (s := S1032x512) ![o, 0] ![1024, 512] io).toLoadRect (ix2 r d)
      = above (hTile m c t) (gTile m c t) o ho r d := by
  refine load_above (View.whole cc0_scratch0) _ _ _ i8 _ (fun y r' d' e0 e1 => ?_) o ho _ r d
    (by show o + 1 * r.val = r.val + o; omega) (by show 0 + 1 * d.val = d.val; omega)
  rw [load_head _ _ _ i0 _ y r' d' e0 e1, pay6_at]
  unfold hTile
  rw [if_pos h1]

/-- A load above a tile stored under what the point before left. -/
theorem load_next (c : Dev nD) (t : Fin cfg0.N) (h1 : ¬t.val % 2 = 0) (h) (hw) (i8) (o : ℕ) (ho : o ≤ 8) (io) (r : Fin 1024) (d : Fin 512) :
    View.ld (View.read (Elt Ideal) (View.whole cc0_scratch0) ((View.whole cc0_scratch0).writes (Elt Ideal)
        (Memref.IsWhole.unread (m := Memref.whole cc0_scratch0) hw (outsAt0 m c (t.val - 1) h).2.2.1)
        [⟨Rect.unit ![8, 0] ![1024, 512] i8, gTile m c t⟩])) (Rect.unit (s := S1032x512) ![o, 0] ![1024, 512] io) (ix2 r d)
      = above (hTile m c t) (gTile m c t) o ho r d := by
  refine load_above (View.whole cc0_scratch0) _ _ _ i8 _ (fun y r' d' e0 e1 => ?_) o ho _ r d
    (by show o + 1 * r.val = r.val + o; omega) (by show 0 + 1 * d.val = d.val; omega)
  rw [View.writes_nil, read_unread_whole]
  unfold hTile
  rw [if_neg h1]
  exact carried m c ⟨t.val - 1, h⟩ y r' d' e0 e1

/-- The result tile of a point. -/
theorem out_tile (c : Dev nD) (t : Fin cfg0.N) (r : Fin 1024) (d : Fin 512) :
    (outsAt0 m c t.val t.isLt).1 (ix2 r d)
      = gelu (cbTile m c t (ix3 0 0 d) + above (hTile m c t) (gTile m c t) 6 (by decide) r d * cwTile m c t (ix3 0 0 d)
        + above (hTile m c t) (gTile m c t) 7 (by decide) r d * cwTile m c t (ix3 0 1 d)
        + gTile m c t (ix2 r d) * cwTile m c t (ix3 0 2 d)) * uTile m c t (ix2 r d) := by
  have fold : ∀ w, w = (⟨8 * (t.val / 8), Pipeline.run_start_lt t⟩ : Fin cfg0.N) →
      k0_pay7 (iblk m c 0 t) (k0_pay4 (iblk m c 1 w)) = gTile m c t
        ∧ k0_pay8 (iblk m c 0 t) (k0_pay5 (iblk m c 2 w)) = uTile m c t := fun w hw => by subst hw; exact ⟨rfl, rfl⟩
  by_cases h0 : t.val % 8 = 0
  · rw [outsAt0_A m c t h0 (by omega) (by omega)]
    frame_out
    rw [pay9_eq, (fold t (run_start t h0).symm).1, (fold t (run_start t h0).symm).2]
    exact out_of_loads m c t _ _ r d (load_first m c t (by omega) _ _ 7 (by decide) _ r d) (load_first m c t (by omega) _ _ 6 (by decide) _ r d)
  · rcases Nat.mod_two_eq_zero_or_one t.val with h1 | h1
    · rw [outsAt0_C m c t h0 h1 (by omega)]
      frame_out
      simp only [read_unread_whole, wg_before m c t h0, wu_before m c t h0, pay9_eq, (fold _ rfl).1, (fold _ rfl).2]
      exact out_of_loads m c t _ _ r d (load_first m c t h1 _ _ 7 (by decide) _ r d) (load_first m c t h1 _ _ 6 (by decide) _ r d)
    · rw [outsAt0_B m c t h0 (by omega) h1]
      frame_out
      simp only [read_unread_whole, wg_before m c t h0, wu_before m c t h0, pay9_eq, (fold _ rfl).1, (fold _ rfl).2]
      exact out_of_loads m c t _ _ r d (load_next m c t (by omega) _ (Memref.isWhole_whole _) _ 7 (by decide) _ r d) (load_next m c t (by omega) _ (Memref.isWhole_whole _) _ 6 (by decide) _ r d)

/-- The convolution buffer's tile of a point that ends a batch row. -/
theorem buf_tile (c : Dev nD) (t : Fin cfg0.N) (h1 : t.val % 2 = 1) (a : Fin 2) (d : Fin 512) :
    (outsAt0 m c t.val t.isLt).2.1 (ix3 0 a d) = gTile m c t (ix2 ⟨1022 + a.val, by omega⟩ d) := by
  rw [outsAt0_B m c t (by omega) (by omega) h1]
  frame_out
  simp only [read_unread_whole, wg_before m c t (show ¬t.val % 8 = 0 by omega), pay9_eq, pay3_at]
  refine (load_head (View.whole cc0_scratch0) _ _ _ _ _ ⟨6 + a.val, by omega⟩ d (by show 6 + 1 * a.val = 6 + a.val; omega)
    (by show 0 + 1 * d.val = d.val; omega)).trans ?_
  rw [pay2_eq]
  exact load_tile (View.whole cc0_scratch0) _ _ _ _ _ _ d (by show 1024 + 1 * (6 + a.val) = 8 + (1022 + a.val); omega)
    (by show 0 + 1 * d.val = d.val; omega)

end Cert.FfnIdeal.Value
-- ==== Proof.FfnFinal.lean ====
/- The gate and up kernel's two result arrays, in terms of its arguments: the tiles of FfnBlock.lean laid over the arrays. -/
module

public import proofs.«01_k».proof.Proof.FfnBlock

@[expose] public section

set_option maxRecDepth 16384

noncomputable section

namespace Cert.FfnIdeal.Value

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

/-- The arguments as launched: the rows, the gate and up weights, the convolution's taps and bias. -/
abbrev xArr (c : Dev nD) : Vec Ideal S8192x2048 .bf16 := m ((c : Thread nD τ).loc main_arg0)
abbrev wgArr (c : Dev nD) : Vec Ideal S4x2048x6144 .f32 := m ((c : Thread nD τ).loc main_arg1)
abbrev wuArr (c : Dev nD) : Vec Ideal S4x2048x6144 .f32 := m ((c : Thread nD τ).loc main_arg2)
abbrev cwArr (c : Dev nD) : Vec Ideal S4x3x6144 .f32 := m ((c : Thread nD τ).loc main_arg3)
abbrev cbArr (c : Dev nD) : Vec Ideal S4x1x6144 .f32 := m ((c : Thread nD τ).loc main_arg4)

/-- The block numbers of the seven windows at each grid point. -/
theorem block_at : ∀ t : Fin grid0.N, win0_0.index t = ![t.val % 8, 0] ∧ win0_1.index t = ![0, 0, t.val / 8]
    ∧ win0_2.index t = ![0, 0, t.val / 8] ∧ win0_3.index t = ![0, 0, t.val / 8] ∧ win0_4.index t = ![0, 0, t.val / 8]
    ∧ win0_5.index t = ![t.val % 8, t.val / 8] ∧ win0_6.index t = ![t.val % 8 / 2, 0, t.val / 8] := by decide +kernel

theorem x_read (c : Dev nD) (t : Fin cfg0.N) (r : Fin 1024) (k : Fin 2048) (R : Fin 8192) (hR : R.val = t.val % 8 * 1024 + r.val) :
    (iblk m c 0 t : Vec Ideal S1024x2048 .bf16) (ix2 r k) = xArr m c (ix2 R k) := by
  obtain ⟨e, -⟩ := block_at t
  blk_ext [iblk, V, e]

theorem wg_read (c : Dev nD) (t : Fin cfg0.N) (k : Fin 2048) (d : Fin 512) (C : Fin 6144) (hC : C.val = t.val / 8 * 512 + d.val) :
    (iblk m c 1 t : Vec Ideal S1x2048x512 .f32) (ix3 0 k d) = wgArr m c (ix3 0 k C) := by
  obtain ⟨-, e, -⟩ := block_at t
  blk_ext [iblk, V, e]

theorem wu_read (c : Dev nD) (t : Fin cfg0.N) (k : Fin 2048) (d : Fin 512) (C : Fin 6144) (hC : C.val = t.val / 8 * 512 + d.val) :
    (iblk m c 2 t : Vec Ideal S1x2048x512 .f32) (ix3 0 k d) = wuArr m c (ix3 0 k C) := by
  obtain ⟨-, -, e, -⟩ := block_at t
  blk_ext [iblk, V, e]

theorem cw_read (c : Dev nD) (t : Fin cfg0.N) (a : Fin 3) (d : Fin 512) (C : Fin 6144) (hC : C.val = t.val / 8 * 512 + d.val) :
    cwTile m c t (ix3 0 a d) = cwArr m c (ix3 0 a C) := by
  obtain ⟨-, -, -, e, -⟩ := block_at t
  unfold cwTile
  blk_ext [iblk, V, e]

theorem cb_read (c : Dev nD) (t : Fin cfg0.N) (d : Fin 512) (C : Fin 6144) (hC : C.val = t.val / 8 * 512 + d.val) :
    cbTile m c t (ix3 0 0 d) = cbArr m c (ix3 0 0 C) := by
  obtain ⟨-, -, -, -, e, -⟩ := block_at t
  unfold cbTile
  blk_ext [iblk, V, e]

/-- A gate tile is the gate projection of the tile's rows. -/
theorem g_read (c : Dev nD) (t : Fin cfg0.N) (r : Fin 1024) (d : Fin 512) (R : Fin 8192) (C : Fin 6144)
    (hR : R.val = t.val % 8 * 1024 + r.val) (hC : C.val = t.val / 8 * 512 + d.val) :
    gTile m c t (ix2 r d) = projAt (xArr m c) (wgArr m c) R C := by
  unfold gTile projAt
  rw [pay7_at]
  refine Finset.sum_congr rfl fun k _ => ?_
  rw [x_read m c t r k R hR, pay4_at, wg_read m c _ k d C (by dsimp only; omega)]

/-- An up tile is the up projection of the tile's rows. -/
theorem u_read (c : Dev nD) (t : Fin cfg0.N) (r : Fin 1024) (d : Fin 512) (R : Fin 8192) (C : Fin 6144)
    (hR : R.val = t.val % 8 * 1024 + r.val) (hC : C.val = t.val / 8 * 512 + d.val) :
    uTile m c t (ix2 r d) = projAt (xArr m c) (wuArr m c) R C := by
  unfold uTile projAt
  rw [pay8_at]
  refine Finset.sum_congr rfl fun k _ => ?_
  rw [x_read m c t r k R hR, pay5_at, wu_read m c _ k d C (by dsimp only; omega)]

/-- The rows above: the gate projection `8 - o` rows back, zero before the start of the batch row. -/
theorem above_read (c : Dev nD) (t : Fin cfg0.N) (o : ℕ) (ho : o ≤ 8) (n : ℕ) (hn : n + o = 8) (r : Fin 1024) (d : Fin 512)
    (R : Fin 8192) (C : Fin 6144) (hR : R.val = t.val % 8 * 1024 + r.val) (hC : C.val = t.val / 8 * 512 + d.val) :
    above (hTile m c t) (gTile m c t) o ho r d = backAt (xArr m c) (wgArr m c) n R C := by
  unfold above backAt hTile
  by_cases h : r.val + o < 8
  · rw [dif_pos h]
    by_cases h1 : t.val % 2 = 0
    · rw [if_pos h1, if_pos (by omega)]
    · rw [if_neg h1, if_neg (by omega)]
      exact g_read m c ⟨t.val - 1, by omega⟩ _ d _ C (by show R.val - n = (t.val - 1) % 8 * 1024 + (1016 + (r.val + o)); omega)
        (by dsimp only; omega)
  · rw [dif_neg h, if_neg (by omega)]
    exact g_read m c t _ d _ C (by dsimp only; omega) hC

/-- The result: gelu of the convolved gate projection times the up projection. -/
def ffn (X : Vec Ideal S8192x2048 .bf16) (Wg Wu : Vec Ideal S4x2048x6144 .f32) (cw : Vec Ideal S4x3x6144 .f32)
    (cb : Vec Ideal S4x1x6144 .f32) : Vec Ideal S8192x6144 .bf16 := fun i => ffnAt X Wg Wu cw cb (i 0) (i 1)

/-- The convolution's buffer: the last two rows of the gate projection of each batch row. -/
def convBuf (X : Vec Ideal S8192x2048 .bf16) (Wg : Vec Ideal S4x2048x6144 .f32) : Vec Ideal S4x2x6144 .f32 := fun i =>
  projAt X Wg ⟨(i 0).val * 2048 + 2046 + (i 1).val, by
    have h0 : (i 0).val < 4 := (i 0).isLt
    have h1 : (i 1).val < 2 := (i 1).isLt
    omega⟩ (i 2)

/-- The kernel's first result array. -/
theorem final_h (c : Dev nD) :
    (dats m 0 c).arrAt 5 cfg0.N = ffn (xArr m c) (wgArr m c) (wuArr m c) (cwArr m c) (cbArr m c) := by
  refine (dats m 0 c).arrAt_eq_of_covers 5 _ (by decide +kernel) fun t hf y => ?_
  blk_simp
  rw [after0_5]
  obtain ⟨-, -, -, -, -, e, -⟩ := block_at t
  generalize hI : ((View.whole main_v0_0).slice (win0_5.rect t)).emb y = I
  have hI0 : (I 0).val = t.val % 8 * 1024 + (y 0).val := by
    rw [← hI]
    refine (Pipeline.Window.rect_emb_val win0_5 t y 0).trans ?_
    rw [e]; rfl
  have hI1 : (I 1).val = t.val / 8 * 512 + (y 1).val := by
    rw [← hI]
    refine (Pipeline.Window.rect_emb_val win0_5 t y 1).trans ?_
    rw [e]; rfl
  idx_vars y
  unfold ffn ffnAt
  refine (out_tile m c t y0 y1).trans ?_
  rw [above_read m c t 6 (by decide) 2 rfl y0 y1 (I 0) (I 1) hI0 hI1, above_read m c t 7 (by decide) 1 rfl y0 y1 (I 0) (I 1) hI0 hI1,
    g_read m c t y0 y1 (I 0) (I 1) hI0 hI1, u_read m c t y0 y1 (I 0) (I 1) hI0 hI1, cb_read m c t y1 (I 1) hI1,
    cw_read m c t 0 y1 (I 1) hI1, cw_read m c t 1 y1 (I 1) hI1, cw_read m c t 2 y1 (I 1) hI1]

/-- The kernel's second result array. -/
theorem final_buf (c : Dev nD) :
    (dats m 0 c).arrAt 6 cfg0.N = convBuf (xArr m c) (wgArr m c) := by
  refine (dats m 0 c).arrAt_eq_of_covers 6 _ (by decide +kernel) fun t hf y => ?_
  blk_simp
  rw [after0_6]
  obtain ⟨-, -, -, -, -, -, e⟩ := block_at t
  generalize hI : ((View.whole main_v0_1).slice (win0_6.rect t)).emb y = I
  have hI0 : (I 0).val = t.val % 8 / 2 + (y 0).val := by
    rw [← hI]
    refine (Pipeline.Window.rect_emb_val win0_6 t y 0).trans ?_
    rw [e]; exact congrArg (· + _) (Nat.mul_one _)
  have hI1 : (I 1).val = (y 1).val := by
    rw [← hI]
    refine (Pipeline.Window.rect_emb_val win0_6 t y 1).trans ?_
    rw [e]; exact Nat.zero_add _
  have hI2 : (I 2).val = t.val / 8 * 512 + (y 2).val := by
    rw [← hI]
    refine (Pipeline.Window.rect_emb_val win0_6 t y 2).trans ?_
    rw [e]; rfl
  idx_vars y
  have ht : t.val % 2 = 1 := (flush0_6 t).mp hf
  obtain rfl : y0 = 0 := Subsingleton.elim _ _
  refine (buf_tile m c t ht y1 y2).trans ?_
  refine g_read m c t _ y2 _ (I 2) ?_ hI2
  show (I 0).val * 2048 + 2046 + (I 1).val = t.val % 8 * 1024 + (1022 + y1.val)
  have e0 : (I 0).val = t.val % 8 / 2 + 0 := hI0
  have e1 : (I 1).val = y1.val := hI1
  omega

end Cert.FfnIdeal.Value
-- ==== Proof.FfnRead.lean ====
/- The gate and up reference read at an element: the same projections, convolution, gelu and product. -/
module

public import proofs.«01_k».proof.Proof.Gen.FfnRefIdeal.Read
public import proofs.«01_k».proof.Proof.FfnFinal

@[expose] public section

set_option maxRecDepth 16384

noncomputable section

namespace Cert.FfnRefIdeal.Read

open Cert.FfnRefIdeal Cert.FfnRefIdeal.Gen Idealize.ShloMosaic Idealize.ShloMosaic.TcCoe Idealize.SL.Sem
open Cert.FfnIdeal.Value (projAt backAt gelu ffnAt ffn convBuf)

variable (x : Vec Ideal S8192x2048 .bf16) (wg wu : Vec Ideal S4x2048x6144 .f32) (cw : Vec Ideal S4x3x6144 .f32)
  (cb : Vec Ideal S4x1x6144 .f32)

/-- The gate projection. -/
theorem gate (i : S8192x6144.Idx) : val_main_v3 (F := Ideal) x wg i = projAt x wg (i 0) (i 1) := by
  have h1 : (i 1).val < 6144 := (i 1).isLt
  rw [val_main_v3_apply]
  unfold projAt
  refine Finset.sum_congr rfl fun k _ => ?_
  have hk := k.isLt
  rw [val_main_v0_apply, val_main_v2_apply, val_main_v1_apply]
  refine congrArg₂ (fun a b : EReal => a * b) (congrArg x ?_) (congrArg wg ?_) <;> funext a <;> fin_cases a <;> apply Fin.ext
  · simp
  · simp
  · simp
  · simp; omega
  · simp; omega

/-- The up projection. -/
theorem up (i : S8192x6144.Idx) : val_main_v34 (F := Ideal) x wu i = projAt x wu (i 0) (i 1) := by
  have h1 : (i 1).val < 6144 := (i 1).isLt
  rw [val_main_v34_apply]
  unfold projAt
  refine Finset.sum_congr rfl fun k _ => ?_
  have hk := k.isLt
  rw [val_main_v0_apply, val_main_v33_apply, val_main_v32_apply]
  refine congrArg₂ (fun a b : EReal => a * b) (congrArg x ?_) (congrArg wu ?_) <;> funext a <;> fin_cases a <;> apply Fin.ext
  · simp
  · simp
  · simp
  · simp; omega
  · simp; omega

/-- The gate rows with two rows of zeros in front of each batch row: an element is the projection `n` rows back. -/
theorem padded (n : ℕ) (y : S4x2050x6144.Idx) (R : Fin 8192) (C : Fin 6144)
    (h0 : (y 0).val = R.val / 2048) (h1 : (y 1).val + n = R.val % 2048 + 2) (h2 : (y 2).val = C.val) :
    val_main_v6 (F := Ideal) x wg y = backAt x wg n R C := by
  unfold val_main_v6 backAt
  by_cases h : R.val % 2048 < n
  · rw [if_pos h]
    refine (concatenate_pair_apply_left (s₁ := S4x2x6144) (s₂ := S4x2048x6144) (1 : Fin S4x2050x6144.rank) _ _ _ y rfl
      (ix3 ⟨(y 0).val, by omega⟩ ⟨(y 1).val, by omega⟩ ⟨(y 2).val, by omega⟩ : S4x2x6144.Idx)
      (fun b => by fin_cases b <;> rfl)).trans ?_
    rw [val_main_v5_apply, val_main_cst_apply]
    exact Ideal.ofBits_zero_f32
  · rw [if_neg h]
    refine (concatenate_pair_apply_right (s₁ := S4x2x6144) (s₂ := S4x2048x6144) (1 : Fin S4x2050x6144.rank) _ _ _ y rfl rfl
      (ix3 ⟨(y 0).val, by omega⟩ ⟨(y 1).val - 2, by omega⟩ ⟨(y 2).val, by omega⟩ : S4x2048x6144.Idx)
      (fun b hb => by
        fin_cases b
        · rfl
        · exact absurd rfl hb
        · rfl) (by show (y 1).val - 2 + 2 = (y 1).val; omega)).trans ?_
    rw [val_main_v4_apply, gate]
    refine congrArg₂ (projAt x wg) (Fin.ext ?_) (Fin.ext ?_)
    · show (((y 0).val * 2048 + ((y 1).val - 2)) * 6144 + (y 2).val) / 6144 = R.val - n
      omega
    · show (((y 0).val * 2048 + ((y 1).val - 2)) * 6144 + (y 2).val) % 6144 = C.val
      omega

/-- The convolution. -/
theorem conv (I : S4x2048x6144.Idx) (R : Fin 8192) (C : Fin 6144)
    (h0 : (I 0).val = R.val / 2048) (h1 : (I 1).val = R.val % 2048) (h2 : (I 2).val = C.val) :
    val_main_v31 (F := Ideal) x wg cw cb I
      = cb (ix3 0 0 C) + backAt x wg 2 R C * cw (ix3 0 0 C) + backAt x wg 1 R C * cw (ix3 0 1 C)
        + projAt x wg R C * cw (ix3 0 2 C) := by
  have z : projAt x wg R C = backAt x wg 0 R C := by
    unfold backAt
    rw [if_neg (Nat.not_lt_zero _)]
    rfl
  have hC := C.isLt
  rw [val_main_v31_apply, val_main_v24_apply, val_main_v17_apply, val_main_v14_apply, val_main_v23_apply, val_main_v30_apply,
    val_main_v16_apply, val_main_v15_apply, val_main_v8_apply, val_main_v7_apply,
    val_main_v13_apply, val_main_v12_apply, val_main_v11_apply, val_main_v10_apply,
    val_main_v22_apply, val_main_v21_apply, val_main_v20_apply, val_main_v19_apply,
    val_main_v29_apply, val_main_v28_apply, val_main_v27_apply, val_main_v26_apply,
    val_main_v9_apply, val_main_v18_apply, val_main_v25_apply,
    padded x wg 2 _ R C h0 (by show (I 1).val + 2 = _; omega) h2,
    padded x wg 1 _ R C h0 (by show 1 + (I 1).val + 1 = _; omega) h2,
    padded x wg 0 _ R C h0 (by show 2 + (I 1).val + 0 = _; omega) h2, z]
  refine congrArg₂ (fun a b : EReal => a + b) (congrArg₂ (fun a b : EReal => a + b) (congrArg₂ (fun a b : EReal => a + b) ?_
    (congrArg (fun b : EReal => backAt x wg 2 R C * b) ?_)) (congrArg (fun b : EReal => backAt x wg 1 R C * b) ?_))
    (congrArg (fun b : EReal => backAt x wg 0 R C * b) ?_)
  · refine congrArg cb ?_
    funext a; fin_cases a <;> apply Fin.ext
    · simp
    · simp
    · simp; omega
  all_goals
    refine congrArg cw ?_
    funext a; fin_cases a <;> apply Fin.ext
    · simp
    · simp
    · simp; omega

/-- The reference's first result is the kernel's function of the arguments. -/
theorem final_h : val_main_v51 (F := Ideal) x wg wu cw cb = ffn x wg wu cw cb := by
  funext i
  have h0 : (i 0).val < 8192 := (i 0).isLt
  have h1 : (i 1).val < 6144 := (i 1).isLt
  rw [val_main_v51_apply, val_main_v50_apply]
  generalize hI : idx_main_v50 i = I
  have e0 : (I 0).val = (i 0).val / 2048 := by rw [← hI]; simp; omega
  have e1 : (I 1).val = (i 0).val % 2048 := by rw [← hI]; simp; omega
  have e2 : (I 2).val = (i 1).val := by rw [← hI]; simp; omega
  rw [val_main_v49_apply, val_main_v48_apply, val_main_v47_apply, val_main_v46_apply, val_main_v45_apply, val_main_v44_apply,
    val_main_v43_apply, val_main_v42_apply, val_main_v41_apply, val_main_v40_apply, val_main_v39_apply, val_main_v38_apply,
    val_main_v37_apply, val_main_v36_apply, val_main_cst_0_apply, val_main_cst_1_apply, val_main_cst_2_apply, val_main_cst_3_apply,
    val_main_v35_apply, up, conv x wg cw cb I (i 0) (i 1) e0 e1 e2]
  unfold ffn ffnAt gelu
  generalize cb (ix3 0 0 (i 1)) + backAt x wg 2 (i 0) (i 1) * cw (ix3 0 0 (i 1)) + backAt x wg 1 (i 0) (i 1) * cw (ix3 0 1 (i 1))
    + projAt x wg (i 0) (i 1) * cw (ix3 0 2 (i 1)) = z
  show z * (Ideal.ofBits .f32 0x3F000000#32 * (Ideal.ofBits .f32 0x3F800000#32 + Ideal.tanh (Ideal.ofBits .f32 0x3F4C422A#32
    * (z + Ideal.ofBits .f32 0x3D372713#32 * (z * z * z))))) * projAt x wu (idx_main_v35 I 0) (idx_main_v35 I 1) = _
  rw [Ideal.ofBits_one_f32, mul_assoc z z z]
  refine congrArg _ (congrArg₂ (projAt x wu) (Fin.ext ?_) (Fin.ext ?_))
  · show (((I 0).val * 2048 + (I 1).val) * 6144 + (I 2).val) / 6144 = (i 0).val
    omega
  · show (((I 0).val * 2048 + (I 1).val) * 6144 + (I 2).val) % 6144 = (i 1).val
    omega

/-- The reference's second result is the last two gate rows of each batch row. -/
theorem final_buf : val_main_v52 (F := Ideal) x wg = convBuf x wg := by
  funext i
  have h0 : (i 0).val < 4 := (i 0).isLt
  have h1 : (i 1).val < 2 := (i 1).isLt
  have h2 : (i 2).val < 6144 := (i 2).isLt
  rw [val_main_v52_apply, padded x wg 0 _ ⟨(i 0).val * 2048 + 2046 + (i 1).val, by omega⟩ (i 2)
    (by show (i 0).val = ((i 0).val * 2048 + 2046 + (i 1).val) / 2048; omega)
    (by show 2048 + (i 1).val + 0 = ((i 0).val * 2048 + 2046 + (i 1).val) % 2048 + 2; omega) rfl]
  unfold backAt convBuf
  rw [if_neg (Nat.not_lt_zero _)]
  rfl

end Cert.FfnRefIdeal.Read
-- ==== Proof.FfnClaim.lean ====
/- The claims of the gate and up kernel: it and its reference leave the same two arrays, and each runs and leaves its arguments. -/
module

public import proofs.«01_k».proof.Defs
public import proofs.«01_k».proof.Proof.Gen.Ffn.Frame
public import proofs.«01_k».proof.Proof.Gen.FfnRefIdeal.Run
public import proofs.«01_k».proof.Proof.FfnRead

@[expose] public section

set_option maxRecDepth 16384

noncomputable section

namespace Cert.FfnPair

open Idealize.ShloMosaic Idealize.ShloMosaic.TcCoe Idealize.SL.Sem

/-- Both programs run and leave the product of the convolved, gelued gate with the up projection, and the convolution's buffer. -/
theorem algebraic : Cert.algebraic_FfnIdeal_FfnRefIdeal := fun m ρ m' ρ' hpre hag =>
  ⟨fun c => Cert.FfnIdeal.Value.ffn (m (c.tc.loc Cert.FfnIdeal.main_arg0)) (m (c.tc.loc Cert.FfnIdeal.main_arg1))
      (m (c.tc.loc Cert.FfnIdeal.main_arg2)) (m (c.tc.loc Cert.FfnIdeal.main_arg3)) (m (c.tc.loc Cert.FfnIdeal.main_arg4)),
    fun c => Cert.FfnIdeal.Value.convBuf (m (c.tc.loc Cert.FfnIdeal.main_arg0)) (m (c.tc.loc Cert.FfnIdeal.main_arg1)),
    (θ_run _ _ _).mono (fun r h c => ⟨(h c).1.trans (Cert.FfnIdeal.Value.final_h m c),
      (h c).2.1.trans (Cert.FfnIdeal.Value.final_buf m c), (h c).2.2⟩) (Cert.FfnIdeal.Value.run_blocks m ρ),
    (θ_run _ _ _).mono (fun r h c => ⟨(h c).1.trans (by
      rw [Cert.FfnRefIdeal.Read.val_main_v51_eq, Cert.FfnRefIdeal.Read.final_h, (hag c).1, (hag c).2.1, (hag c).2.2.1, (hag c).2.2.2.1,
        (hag c).2.2.2.2]), (h c).2.1.trans (by
      rw [Cert.FfnRefIdeal.Read.val_main_v52_eq, Cert.FfnRefIdeal.Read.final_buf, (hag c).1, (hag c).2.1]), (h c).2.2⟩)
      (Cert.FfnRefIdeal.Value.run m' ρ')⟩

/-- The kernel's frame. -/
theorem frame_p : Cert.quiescent_Ffn := fun m ρ _ => Cert.Ffn.Gen.frame m ρ

/-- The idealized kernel's frame. -/
theorem frame_pi : Cert.quiescent_FfnIdeal := fun m ρ _ => Cert.FfnIdeal.Gen.frame m ρ

/-- The reference's frame: its run, and it has no counters. -/
theorem frame_ri : Cert.quiescent_FfnRefIdeal := fun m ρ _ =>
  (θ_run _ _ _).mono (fun r h => ⟨fun c => (h c).2.2, sem_eq_zero_of_no_sems (by decide) r.2⟩) (Cert.FfnRefIdeal.Value.run m ρ)

end Cert.FfnPair

end
-- ==== Proof.Norm.lean ====
/- The root-mean-square norm of a row. -/
module

public import Idealize.ShloMosaic.Lib.Pipeline.ValueKit
public import Idealize.ShloMosaic.Lib.Pointwise

@[expose] public section

noncomputable section

namespace Cert.Norm

open Idealize.ShloMosaic

/-- Element `C` of the norm of a row `f` of 2048 elements, with gain `g` there. -/
def rmsAt (f : Fin 2048 → EReal) (g : EReal) (C : Fin 2048) : EReal :=
  f C * Ideal.rsqrt (Ideal.div (∑ x : Fin 2048, f x * f x) (Ideal.ofBits .f32 0x45000000#32) + Ideal.ofBits .f32 0x358637BD#32) * g

/-- Norms of equal rows with equal gains are equal. -/
theorem rmsAt_congr {f f' : Fin 2048 → EReal} {g g' : EReal} (C : Fin 2048) (hf : ∀ x, f x = f' x) (hg : g = g') :
    rmsAt f g C = rmsAt f' g' C := by
  rw [show f = f' from funext hf, hg]

end Cert.Norm

end
-- ==== Proof.DownFinal.lean ====
/- The down kernel's two result arrays, in terms of its arguments: the product accumulated over twelve steps of 512, then the
   norm, the residual and the norm of the sum. -/
module

public import proofs.«01_k».proof.Proof.Gen.DownIdeal.Value
public import proofs.«01_k».proof.Proof.Norm
public import Idealize.ShloMosaic.Lib.Pipeline.ReadBack

@[expose] public section

set_option maxRecDepth 16384

noncomputable section

namespace Cert.DownIdeal.Value

open Cert.DownIdeal Cert.DownIdeal.Gen Idealize.ShloMosaic Idealize.ShloMosaic.TcCoe Idealize.SL.Sem
open Idealize.ShloMosaic.Pipeline (Dat)
open Cert.Norm

/-! ## The mathematics -/

/-- One product of the contraction of row `R` with column `C`; zero past the contraction's end. -/
def termAt (H : Vec Ideal S8192x6144 .bf16) (W : Vec Ideal S4x6144x2048 .bf16) (R : Fin 8192) (C : Fin 2048) (n : ℕ) : EReal :=
  if h : n < 6144 then H (ix2 R ⟨n, h⟩) * W (ix3 0 ⟨n, h⟩ C) else 0

/-- The projection of row `R` on column `C`, by the first layer's weights. -/
def downAt (H : Vec Ideal S8192x6144 .bf16) (W : Vec Ideal S4x6144x2048 .bf16) (R : Fin 8192) (C : Fin 2048) : EReal :=
  ∑ k : Fin 6144, H (ix2 R k) * W (ix3 0 k C)

/-- The contraction as a sum over the numbers below its length. -/
theorem sum_terms (H : Vec Ideal S8192x6144 .bf16) (W : Vec Ideal S4x6144x2048 .bf16) (R : Fin 8192) (C : Fin 2048) :
    ∑ n ∈ Finset.range 6144, termAt H W R C n = downAt H W R C := by
  rw [Finset.sum_range]
  unfold downAt
  refine Finset.sum_congr rfl fun k _ => ?_
  unfold termAt
  rw [dif_pos k.isLt]

/-- The residual plus the norm of the projection. -/
def resAt (H : Vec Ideal S8192x6144 .bf16) (W : Vec Ideal S4x6144x2048 .bf16) (X : Vec Ideal S8192x2048 .f32) (g : Vec Ideal S2048 .f32)
    (R : Fin 8192) (C : Fin 2048) : EReal :=
  X (ix2 R C) + rmsAt (downAt H W R) (g (ix1 C)) C

/-- The first result. -/
def res (H : Vec Ideal S8192x6144 .bf16) (W : Vec Ideal S4x6144x2048 .bf16) (X : Vec Ideal S8192x2048 .f32) (g : Vec Ideal S2048 .f32) :
    Vec Ideal S8192x2048 .f32 := fun i => resAt H W X g (i 0) (i 1)

/-- The second result: the first one's norm. -/
def resNorm (H : Vec Ideal S8192x6144 .bf16) (W : Vec Ideal S4x6144x2048 .bf16) (X : Vec Ideal S8192x2048 .f32)
    (g g' : Vec Ideal S2048 .f32) : Vec Ideal S8192x2048 .bf16 := fun i =>
  rmsAt (resAt H W X g (i 0)) (g' (ix1 (i 1))) (i 1)

/-! ## The stored values at an index -/

theorem pay1_at (y : S1024x2048.Idx) : (k0_pay1 (F := Ideal)) y = (0 : EReal) := by
  idx_vars y
  pointwise [k0_pay1]

theorem pay2_at (a : Vec Ideal S1024x2048 .f32) (h : Vec Ideal S1024x512 .bf16) (w : Vec Ideal S1x512x2048 .bf16)
    (r : Fin 1024) (d : Fin 2048) :
    k0_pay2 a h w (ix2 r d) = a (ix2 r d) + ∑ k : Fin 512, @HMul.hMul EReal EReal EReal _ (h (ix2 r k)) (w (ix3 0 k d)) := by
  pointwise [k0_pay2]

theorem pay3_at (f x : Vec Ideal S1024x2048 .f32) (g : Vec Ideal S1x2048 .f32) (r : Fin 1024) (d : Fin 2048) :
    k0_pay3 f x g (ix2 r d) = x (ix2 r d) + rmsAt (fun k => f (ix2 r k)) (g (ix2 0 d)) d := by
  pointwise [k0_pay3]
  rfl

theorem pay4_at (f x : Vec Ideal S1024x2048 .f32) (g g' : Vec Ideal S1x2048 .f32) (r : Fin 1024) (d : Fin 2048) :
    k0_pay4 f x g g' (ix2 r d) = rmsAt (fun k => k0_pay3 f x g (ix2 r k)) (g' (ix2 0 d)) d := by
  unfold k0_pay4
  generalize k0_pay3 f x g = y
  pointwise
  rfl

/-! ## The blocks read from the arrays -/

variable (m : (ℓ : Loc nD τ sig) → Buf (Elt Ideal) ℓ)

/-- The arguments as launched: the rows, the weights, the residual, the gain of the norm and that of the following norm. -/
abbrev hArr (c : Dev nD) : Vec Ideal S8192x6144 .bf16 := m ((c : Thread nD τ).loc main_arg0)
abbrev wArr (c : Dev nD) : Vec Ideal S4x6144x2048 .bf16 := m ((c : Thread nD τ).loc main_arg1)
abbrev xArr (c : Dev nD) : Vec Ideal S8192x2048 .f32 := m ((c : Thread nD τ).loc main_arg2)
abbrev gArr (c : Dev nD) : Vec Ideal S2048 .f32 := m ((c : Thread nD τ).loc main_arg3)
abbrev nArr (c : Dev nD) : Vec Ideal S2048 .f32 := m ((c : Thread nD τ).loc main_arg4)

/-- The block numbers of the seven windows at each grid point. -/
theorem block_at : ∀ t : Fin grid0.N, win0_0.index t = ![t.val / 12, t.val % 12] ∧ win0_1.index t = ![0, t.val % 12, 0]
    ∧ win0_2.index t = ![t.val / 12, 0] ∧ win0_3.index t = ![0, 0] ∧ win0_4.index t = ![0, 0]
    ∧ win0_5.index t = ![t.val / 12, 0] ∧ win0_6.index t = ![t.val / 12, 0] := by decide +kernel

theorem h_read (c : Dev nD) (t : Fin cfg0.N) (r : Fin 1024) (k : Fin 512) (R : Fin 8192) (K : Fin 6144)
    (hR : R.val = t.val / 12 * 1024 + r.val) (hK : K.val = t.val % 12 * 512 + k.val) :
    (iblk m c 0 t : Vec Ideal S1024x512 .bf16) (ix2 r k) = hArr m c (ix2 R K) := by
  obtain ⟨e, -⟩ := block_at t
  blk_ext [iblk, V, e]

theorem w_read (c : Dev nD) (t : Fin cfg0.N) (k : Fin 512) (d : Fin 2048) (K : Fin 6144) (hK : K.val = t.val % 12 * 512 + k.val) :
    (iblk m c 1 t : Vec Ideal S1x512x2048 .bf16) (ix3 0 k d) = wArr m c (ix3 0 K d) := by
  obtain ⟨-, e, -⟩ := block_at t
  blk_ext [iblk, V, e]

theorem x_read (c : Dev nD) (t : Fin cfg0.N) (r : Fin 1024) (d : Fin 2048) (R : Fin 8192) (hR : R.val = t.val / 12 * 1024 + r.val) :
    (iblk m c 2 t : Vec Ideal S1024x2048 .f32) (ix2 r d) = xArr m c (ix2 R d) := by
  obtain ⟨-, -, e, -⟩ := block_at t
  blk_ext [iblk, V, e]

theorem g_read (c : Dev nD) (t : Fin cfg0.N) (d : Fin 2048) : (iblk m c 3 t : Vec Ideal S1x2048 .f32) (ix2 0 d) = gArr m c (ix1 d) := by
  obtain ⟨-, -, -, e, -⟩ := block_at t
  blk_ext! [iblk, V, e]

theorem n_read (c : Dev nD) (t : Fin cfg0.N) (d : Fin 2048) : (iblk m c 4 t : Vec Ideal S1x2048 .f32) (ix2 0 d) = nArr m c (ix1 d) := by
  obtain ⟨-, -, -, -, e, -⟩ := block_at t
  blk_ext! [iblk, V, e]

/-! ## The accumulated product -/

/-- One step adds its 512 products to the sum of those before. -/
theorem step_sum (c : Dev nD) (t : Fin cfg0.N) (a : Vec Ideal S1024x2048 .f32) (r : Fin 1024) (d : Fin 2048) (R : Fin 8192)
    (hR : R.val = t.val / 12 * 1024 + r.val)
    (ha : a (ix2 r d) = ∑ n ∈ Finset.range (t.val % 12 * 512), termAt (hArr m c) (wArr m c) R d n) :
    k0_pay2 a (iblk m c 0 t) (iblk m c 1 t) (ix2 r d)
      = ∑ n ∈ Finset.range (t.val % 12 * 512 + 512), termAt (hArr m c) (wArr m c) R d n := by
  rw [pay2_at, ha, Finset.sum_range_add, Finset.sum_range (n := 512)]
  refine congrArg (fun b : EReal => _ + b) (Finset.sum_congr rfl fun k _ => ?_)
  have hk := k.isLt
  unfold termAt
  rw [dif_pos (by omega), h_read m c t r k R ⟨t.val % 12 * 512 + k.val, by omega⟩ hR rfl,
    w_read m c t k d ⟨t.val % 12 * 512 + k.val, by omega⟩ rfl]

/-- The accumulator after each step but a row block's last. -/
theorem acc (c : Dev nD) (R : Fin 8192) (r : Fin 1024) (d : Fin 2048) (q : ℕ) (hq : R.val = q * 1024 + r.val) :
    ∀ (n : ℕ) (hn : n < 11) (ht : 12 * q + n < cfg0.N),
      (outsAt0 m c (12 * q + n) ht).1 (ix2 r d) = ∑ k ∈ Finset.range (n * 512 + 512), termAt (hArr m c) (wArr m c) R d k := by
  intro n
  induction n with
  | zero =>
    intro hn ht
    have e : (outsAt0 m c (12 * q + 0) ht).1 = k0_pay2 k0_pay1 (iblk m c 0 ⟨12 * q + 0, ht⟩) (iblk m c 1 ⟨12 * q + 0, ht⟩) := by
      refine (congrArg Prod.fst (outsAt0_A m c ⟨12 * q + 0, ht⟩ (by dsimp only; omega) (by dsimp only; omega))).trans ?_
      frame_out
    rw [e, step_sum m c ⟨12 * q + 0, ht⟩ _ r d R (by dsimp only; omega)]
    · refine congrArg (fun n => ∑ k ∈ Finset.range n, termAt (hArr m c) (wArr m c) R d k) ?_
      dsimp only; omega
    · rw [pay1_at]
      refine (Finset.sum_eq_zero fun k hk => ?_).symm
      have := Finset.mem_range.1 hk
      dsimp only at this
      omega
  | succ n ih =>
    intro hn ht
    have e : (outsAt0 m c (12 * q + (n + 1)) ht).1 = k0_pay2 (outsAt0 m c (12 * q + n) (by omega)).1
        (iblk m c 0 ⟨12 * q + (n + 1), ht⟩) (iblk m c 1 ⟨12 * q + (n + 1), ht⟩) := by
      refine (congrArg Prod.fst (outsAt0_B m c ⟨12 * q + (n + 1), ht⟩ (by dsimp only; omega) (by dsimp only; omega))).trans ?_
      frame_out
      rfl
    rw [e, step_sum m c ⟨12 * q + (n + 1), ht⟩ _ r d R (by dsimp only; omega)]
    · refine congrArg (fun n => ∑ k ∈ Finset.range n, termAt (hArr m c) (wArr m c) R d k) ?_
      dsimp only; omega
    · rw [ih (by omega) (by omega)]
      refine congrArg (fun n => ∑ k ∈ Finset.range n, termAt (hArr m c) (wArr m c) R d k) ?_
      dsimp only; omega

/-- The whole product, at a row block's last step. -/
theorem acc_last (c : Dev nD) (t : Fin cfg0.N) (h1 : t.val % 12 = 11) (h) (r : Fin 1024) (d : Fin 2048) (R : Fin 8192)
    (hR : R.val = t.val / 12 * 1024 + r.val) :
    k0_pay2 (outsAt0 m c (t.val - 1) h).1 (iblk m c 0 t) (iblk m c 1 t) (ix2 r d) = downAt (hArr m c) (wArr m c) R d := by
  have hp : (outsAt0 m c (t.val - 1) h).1 (ix2 r d)
      = ∑ k ∈ Finset.range (t.val % 12 * 512), termAt (hArr m c) (wArr m c) R d k := by
    have e : t.val - 1 = 12 * (t.val / 12) + 10 := by omega
    have key : ∀ (n : ℕ) (hn : n < cfg0.N), n = 12 * (t.val / 12) + 10 → (outsAt0 m c n hn).1 (ix2 r d)
        = ∑ k ∈ Finset.range (10 * 512 + 512), termAt (hArr m c) (wArr m c) R d k := fun n hn he => by
      subst he
      exact acc m c R r d (t.val / 12) hR 10 (by decide) hn
    rw [key _ h e, h1]
  rw [step_sum m c t _ r d R hR hp, h1]
  exact sum_terms _ _ R d

/-- The first result's tile. -/
theorem res_tile (c : Dev nD) (t : Fin cfg0.N) (h1 : t.val % 12 = 11) (h) (r : Fin 1024) (d : Fin 2048) (R : Fin 8192)
    (hR : R.val = t.val / 12 * 1024 + r.val) :
    k0_pay3 (k0_pay2 (outsAt0 m c (t.val - 1) h).1 (iblk m c 0 t) (iblk m c 1 t)) (iblk m c 2 t) (iblk m c 3 t) (ix2 r d)
      = resAt (hArr m c) (wArr m c) (xArr m c) (gArr m c) R d := by
  rw [pay3_at]
  unfold resAt
  exact congrArg₂ (fun a b : EReal => a + b) (x_read m c t r d R hR)
    (rmsAt_congr d (fun k => acc_last m c t h1 h r k R hR) (g_read m c t d))

/-- The kernel's first result array. -/
theorem final_res (c : Dev nD) : (dats m 0 c).arrAt 5 cfg0.N = res (hArr m c) (wArr m c) (xArr m c) (gArr m c) := by
  refine (dats m 0 c).arrAt_eq_of_covers 5 _ (by decide +kernel) fun t hf y => ?_
  blk_simp
  have ht : t.val % 12 = 11 := (flush0_5 t).mp hf
  rw [after0_5, outsAt0_C m c t (by omega) ht]
  frame_out
  obtain ⟨-, -, -, -, -, e, -⟩ := block_at t
  generalize hI : ((View.whole main_v2_0).slice (win0_5.rect t)).emb y = I
  have hI0 : (I 0).val = t.val / 12 * 1024 + (y 0).val := by
    rw [← hI]
    refine (Pipeline.Window.rect_emb_val win0_5 t y 0).trans ?_
    rw [e]; rfl
  have hI1 : (I 1).val = (y 1).val := by
    rw [← hI]
    refine (Pipeline.Window.rect_emb_val win0_5 t y 1).trans ?_
    rw [e]; exact Nat.zero_add _
  idx_vars y
  have e1 : y1 = I 1 := Fin.ext hI1.symm
  rw [e1]
  exact res_tile m c t ht _ y0 (I 1) (I 0) hI0

/-- The kernel's second result array. -/
theorem final_norm (c : Dev nD) :
    (dats m 0 c).arrAt 6 cfg0.N = resNorm (hArr m c) (wArr m c) (xArr m c) (gArr m c) (nArr m c) := by
  refine (dats m 0 c).arrAt_eq_of_covers 6 _ (by decide +kernel) fun t hf y => ?_
  blk_simp
  have ht : t.val % 12 = 11 := (flush0_6 t).mp hf
  rw [after0_6, outsAt0_C m c t (by omega) ht]
  frame_out
  obtain ⟨-, -, -, -, -, -, e⟩ := block_at t
  generalize hI : ((View.whole main_v2_1).slice (win0_6.rect t)).emb y = I
  have hI0 : (I 0).val = t.val / 12 * 1024 + (y 0).val := by
    rw [← hI]
    refine (Pipeline.Window.rect_emb_val win0_6 t y 0).trans ?_
    rw [e]; rfl
  have hI1 : (I 1).val = (y 1).val := by
    rw [← hI]
    refine (Pipeline.Window.rect_emb_val win0_6 t y 1).trans ?_
    rw [e]; exact Nat.zero_add _
  idx_vars y
  have e1 : y1 = I 1 := Fin.ext hI1.symm
  rw [e1]
  refine (pay4_at _ _ _ _ y0 (I 1)).trans ?_
  exact rmsAt_congr _ (fun k => res_tile m c t ht _ y0 k (I 0) hI0) (n_read m c t (I 1))

end Cert.DownIdeal.Value
-- ==== Proof.DownRead.lean ====
/- The down reference read at an element: the same projection, norm, residual and following norm. -/
module

public import proofs.«01_k».proof.Proof.Gen.DownRefIdeal.Read
public import proofs.«01_k».proof.Proof.DownFinal

@[expose] public section

set_option maxRecDepth 16384

noncomputable section

namespace Cert.DownRefIdeal.Read

open Cert.DownRefIdeal Cert.DownRefIdeal.Gen Idealize.ShloMosaic Idealize.ShloMosaic.TcCoe Idealize.SL.Sem
open Cert.Norm
open Cert.DownIdeal.Value (downAt resAt res resNorm)

variable (h : Vec Ideal S8192x6144 .bf16) (w : Vec Ideal S4x6144x2048 .bf16) (x : Vec Ideal S8192x2048 .f32)
  (g g' : Vec Ideal S2048 .f32)

/-- The projection. -/
theorem proj (i : S8192x2048.Idx) : val_main_v4 (F := Ideal) h w i = downAt h w (i 0) (i 1) := by
  have h1 : (i 1).val < 2048 := (i 1).isLt
  rw [val_main_v4_apply]
  unfold downAt
  refine Finset.sum_congr rfl fun k _ => ?_
  have hk := k.isLt
  rw [val_main_v0_apply, val_main_v3_apply, val_main_v2_apply, val_main_v1_apply]
  refine congrArg₂ (fun a b : EReal => a * b) (congrArg h ?_) (congrArg w ?_) <;> funext a <;> fin_cases a <;> apply Fin.ext
  · simp
  · simp
  · simp
  · simp; omega
  · simp; omega

/-- The projection's row of squares summed. -/
theorem squares (i : S8192x1.Idx) :
    val_main_v7 (F := Ideal) h w i = ∑ k : Fin 2048, downAt h w (i 0) k * downAt h w (i 0) k := by
  rw [val_main_v7_apply, val_main_v6_apply, val_main_cst_apply]
  refine (congrArg (fun b : EReal => b + _) Ideal.ofBits_zero_f32).trans ?_
  rw [zero_add]
  refine Finset.sum_congr rfl fun k _ => ?_
  rw [val_main_v5_apply, proj]
  rfl

/-- The residual plus the norm of the projection. -/
theorem resid (i : S8192x2048.Idx) : val_main_v18 (F := Ideal) h w x g i = resAt h w x g (i 0) (i 1) := by
  rw [val_main_v18_apply, val_main_v17_apply, val_main_v14_apply, proj, val_main_v13_apply, val_main_v12_apply, val_main_v11_apply,
    val_main_v9_apply, squares, val_main_v8_apply, val_main_v10_apply, val_main_cst_0_apply, val_main_cst_1_apply,
    val_main_v16_apply, val_main_v15_apply]
  unfold resAt rmsAt
  refine congrArg₂ (fun a b : EReal => a + b) (congrArg x ?_) (congrArg₂ (fun a b : EReal => a * b) ?_ (congrArg g ?_))
  · funext a; fin_cases a <;> rfl
  · rfl
  · funext a; fin_cases a; rfl

/-- The first result's row of squares summed. -/
theorem squares' (i : S8192x1.Idx) :
    val_main_v21 (F := Ideal) h w x g i = ∑ k : Fin 2048, resAt h w x g (i 0) k * resAt h w x g (i 0) k := by
  rw [val_main_v21_apply, val_main_v20_apply, val_main_cst_2_apply]
  refine (congrArg (fun b : EReal => b + _) Ideal.ofBits_zero_f32).trans ?_
  rw [zero_add]
  refine Finset.sum_congr rfl fun k _ => ?_
  rw [val_main_v19_apply, resid]
  rfl

/-- The reference's first result. -/
theorem final_res : val_main_v18 (F := Ideal) h w x g = res h w x g := by
  funext i
  exact resid h w x g i

/-- The reference's second result. -/
theorem final_norm : val_main_v32 (F := Ideal) h w x g g' = resNorm h w x g g' := by
  funext i
  rw [val_main_v32_apply, val_main_v31_apply, val_main_v28_apply, resid, val_main_v27_apply, val_main_v26_apply, val_main_v25_apply,
    val_main_v23_apply, squares', val_main_v22_apply, val_main_v24_apply, val_main_cst_3_apply, val_main_cst_4_apply,
    val_main_v30_apply, val_main_v29_apply]
  unfold resNorm rmsAt
  refine congrArg₂ (fun a b : EReal => a * b) ?_ (congrArg g' ?_)
  · rfl
  · funext a; fin_cases a; rfl

end Cert.DownRefIdeal.Read
-- ==== Proof.DownClaim.lean ====
/- The claims of the down kernel: it and its reference leave the same two arrays, and each runs and leaves its arguments. -/
module

public import proofs.«01_k».proof.Defs
public import proofs.«01_k».proof.Proof.Gen.Down.Frame
public import proofs.«01_k».proof.Proof.Gen.DownRefIdeal.Run
public import proofs.«01_k».proof.Proof.DownRead

@[expose] public section

set_option maxRecDepth 16384

noncomputable section

namespace Cert.DownPair

open Idealize.ShloMosaic Idealize.ShloMosaic.TcCoe Idealize.SL.Sem

/-- Both programs run and leave the residual plus the norm of the projection, and the following norm of that. -/
theorem algebraic : Cert.algebraic_DownIdeal_DownRefIdeal := fun m ρ m' ρ' hpre hag =>
  ⟨fun c => Cert.DownIdeal.Value.res (m (c.tc.loc Cert.DownIdeal.main_arg0)) (m (c.tc.loc Cert.DownIdeal.main_arg1))
      (m (c.tc.loc Cert.DownIdeal.main_arg2)) (m (c.tc.loc Cert.DownIdeal.main_arg3)),
    fun c => Cert.DownIdeal.Value.resNorm (m (c.tc.loc Cert.DownIdeal.main_arg0)) (m (c.tc.loc Cert.DownIdeal.main_arg1))
      (m (c.tc.loc Cert.DownIdeal.main_arg2)) (m (c.tc.loc Cert.DownIdeal.main_arg3)) (m (c.tc.loc Cert.DownIdeal.main_arg4)),
    (θ_run _ _ _).mono (fun r h c => ⟨(h c).1.trans (Cert.DownIdeal.Value.final_res m c),
      (h c).2.1.trans (Cert.DownIdeal.Value.final_norm m c), (h c).2.2⟩) (Cert.DownIdeal.Value.run_blocks m ρ),
    (θ_run _ _ _).mono (fun r h c => ⟨(h c).1.trans (by
      rw [Cert.DownRefIdeal.Read.val_main_v18_eq, Cert.DownRefIdeal.Read.final_res, (hag c).1, (hag c).2.1, (hag c).2.2.1,
        (hag c).2.2.2.1]), (h c).2.1.trans (by
      rw [Cert.DownRefIdeal.Read.val_main_v32_eq, Cert.DownRefIdeal.Read.final_norm, (hag c).1, (hag c).2.1, (hag c).2.2.1,
        (hag c).2.2.2.1, (hag c).2.2.2.2]), (h c).2.2⟩)
      (Cert.DownRefIdeal.Value.run m' ρ')⟩

/-- The kernel's frame. -/
theorem frame_p : Cert.quiescent_Down := fun m ρ _ => Cert.Down.Gen.frame m ρ

/-- The idealized kernel's frame. -/
theorem frame_pi : Cert.quiescent_DownIdeal := fun m ρ _ => Cert.DownIdeal.Gen.frame m ρ

/-- The reference's frame: its run, and it has no counters. -/
theorem frame_ri : Cert.quiescent_DownRefIdeal := fun m ρ _ =>
  (θ_run _ _ _).mono (fun r h => ⟨fun c => (h c).2.2, sem_eq_zero_of_no_sems (by decide) r.2⟩) (Cert.DownRefIdeal.Value.run m ρ)

end Cert.DownPair

end
-- ==== Proof.OutFinal.lean ====
/- The output projection kernel's two result arrays, in terms of its arguments: the product of a row with the whole contraction at
   once, then the norm, the residual and the norm of the sum. -/
module

public import proofs.«01_k».proof.Proof.Gen.OutIdeal.Value
public import proofs.«01_k».proof.Proof.Norm
public import Idealize.ShloMosaic.Lib.Pipeline.ReadBack

@[expose] public section

set_option maxRecDepth 16384

noncomputable section

namespace Cert.OutIdeal.Value

open Cert.OutIdeal Cert.OutIdeal.Gen Idealize.ShloMosaic Idealize.ShloMosaic.TcCoe Idealize.SL.Sem
open Idealize.ShloMosaic.Pipeline (Dat)
open Cert.Norm

/-! ## The mathematics -/

/-- The projection of row `R` on column `C`, by the first layer's weights. -/
def outAt (o : Vec Ideal S8192x2048 .bf16) (W : Vec Ideal S2x2048x2048 .bf16) (R : Fin 8192) (C : Fin 2048) : EReal :=
  ∑ k : Fin 2048, o (ix2 R k) * W (ix3 0 k C)

/-- The residual plus the norm of the projection. -/
def resAt (o : Vec Ideal S8192x2048 .bf16) (W : Vec Ideal S2x2048x2048 .bf16) (X : Vec Ideal S8192x2048 .f32) (g : Vec Ideal S2048 .f32)
    (R : Fin 8192) (C : Fin 2048) : EReal :=
  X (ix2 R C) + rmsAt (outAt o W R) (g (ix1 C)) C

/-- The first result. -/
def res (o : Vec Ideal S8192x2048 .bf16) (W : Vec Ideal S2x2048x2048 .bf16) (X : Vec Ideal S8192x2048 .f32) (g : Vec Ideal S2048 .f32) :
    Vec Ideal S8192x2048 .f32 := fun i => resAt o W X g (i 0) (i 1)

/-- The second result: the first one's norm. -/
def resNorm (o : Vec Ideal S8192x2048 .bf16) (W : Vec Ideal S2x2048x2048 .bf16) (X : Vec Ideal S8192x2048 .f32)
    (g g' : Vec Ideal S2048 .f32) : Vec Ideal S8192x2048 .bf16 := fun i =>
  rmsAt (resAt o W X g (i 0)) (g' (ix1 (i 1))) (i 1)

/-! ## The stored values at an index -/

theorem pay1_at (o : Vec Ideal S512x2048 .bf16) (w : Vec Ideal S1x2048x2048 .bf16) (x : Vec Ideal S512x2048 .f32)
    (g : Vec Ideal S1x2048 .f32) (r : Fin 512) (d : Fin 2048) :
    k0_pay1 o w x g (ix2 r d) = x (ix2 r d)
      + rmsAt (fun c => ∑ k : Fin 2048, @HMul.hMul EReal EReal EReal _ (o (ix2 r k)) (w (ix3 0 k c))) (g (ix2 0 d)) d := by
  pointwise [k0_pay1]
  rfl

theorem pay2_at (o : Vec Ideal S512x2048 .bf16) (w : Vec Ideal S1x2048x2048 .bf16) (x : Vec Ideal S512x2048 .f32)
    (g g' : Vec Ideal S1x2048 .f32) (r : Fin 512) (d : Fin 2048) :
    k0_pay2 o w x g g' (ix2 r d) = rmsAt (fun k => k0_pay1 o w x g (ix2 r k)) (g' (ix2 0 d)) d := by
  unfold k0_pay2
  generalize k0_pay1 o w x g = y
  pointwise
  rfl

/-! ## The blocks read from the arrays -/

variable (m : (ℓ : Loc nD τ sig) → Buf (Elt Ideal) ℓ)

/-- The arguments as launched: the rows, the weights, the residual, the gain of the norm and that of the following norm. -/
abbrev oArr (c : Dev nD) : Vec Ideal S8192x2048 .bf16 := m ((c : Thread nD τ).loc main_arg0)
abbrev wArr (c : Dev nD) : Vec Ideal S2x2048x2048 .bf16 := m ((c : Thread nD τ).loc main_arg1)
abbrev xArr (c : Dev nD) : Vec Ideal S8192x2048 .f32 := m ((c : Thread nD τ).loc main_arg2)
abbrev gArr (c : Dev nD) : Vec Ideal S2048 .f32 := m ((c : Thread nD τ).loc main_arg3)
abbrev nArr (c : Dev nD) : Vec Ideal S2048 .f32 := m ((c : Thread nD τ).loc main_arg4)

/-- The block numbers of the seven windows at each grid point. -/
theorem block_at : ∀ t : Fin grid0.N, win0_0.index t = ![t.val, 0] ∧ win0_1.index t = ![0, 0, 0]
    ∧ win0_2.index t = ![t.val, 0] ∧ win0_3.index t = ![0, 0] ∧ win0_4.index t = ![0, 0]
    ∧ win0_5.index t = ![t.val, 0] ∧ win0_6.index t = ![t.val, 0] := by decide +kernel

theorem o_read (c : Dev nD) (t : Fin cfg0.N) (r : Fin 512) (k : Fin 2048) (R : Fin 8192) (hR : R.val = t.val * 512 + r.val) :
    (iblk m c 0 t : Vec Ideal S512x2048 .bf16) (ix2 r k) = oArr m c (ix2 R k) := by
  obtain ⟨e, -⟩ := block_at t
  blk_ext [iblk, V, e]

theorem w_read (c : Dev nD) (t : Fin cfg0.N) (k d : Fin 2048) :
    (iblk m c 1 t : Vec Ideal S1x2048x2048 .bf16) (ix3 0 k d) = wArr m c (ix3 0 k d) := by
  obtain ⟨-, e, -⟩ := block_at t
  blk_ext [iblk, V, e]

theorem x_read (c : Dev nD) (t : Fin cfg0.N) (r : Fin 512) (d : Fin 2048) (R : Fin 8192) (hR : R.val = t.val * 512 + r.val) :
    (iblk m c 2 t : Vec Ideal S512x2048 .f32) (ix2 r d) = xArr m c (ix2 R d) := by
  obtain ⟨-, -, e, -⟩ := block_at t
  blk_ext [iblk, V, e]

theorem g_read (c : Dev nD) (t : Fin cfg0.N) (d : Fin 2048) : (iblk m c 3 t : Vec Ideal S1x2048 .f32) (ix2 0 d) = gArr m c (ix1 d) := by
  obtain ⟨-, -, -, e, -⟩ := block_at t
  blk_ext! [iblk, V, e]

theorem n_read (c : Dev nD) (t : Fin cfg0.N) (d : Fin 2048) : (iblk m c 4 t : Vec Ideal S1x2048 .f32) (ix2 0 d) = nArr m c (ix1 d) := by
  obtain ⟨-, -, -, -, e, -⟩ := block_at t
  blk_ext! [iblk, V, e]

/-! ## The arrays -/

/-- The first result's tile. -/
theorem res_tile (c : Dev nD) (t : Fin cfg0.N) (r : Fin 512) (d : Fin 2048) (R : Fin 8192) (hR : R.val = t.val * 512 + r.val) :
    k0_pay1 (iblk m c 0 t) (iblk m c 1 t) (iblk m c 2 t) (iblk m c 3 t) (ix2 r d)
      = resAt (oArr m c) (wArr m c) (xArr m c) (gArr m c) R d := by
  rw [pay1_at]
  unfold resAt
  refine congrArg₂ (fun a b : EReal => a + b) (x_read m c t r d R hR) (rmsAt_congr d (fun k => ?_) (g_read m c t d))
  exact Finset.sum_congr rfl fun j _ => congrArg₂ (fun a b : EReal => a * b) (o_read m c t r j R hR) (w_read m c t j k)

/-- The kernel's first result array. -/
theorem final_res (c : Dev nD) : (dats m 0 c).arrAt 5 cfg0.N = res (oArr m c) (wArr m c) (xArr m c) (gArr m c) := by
  refine (dats m 0 c).arrAt_eq_of_covers 5 _ (by decide +kernel) fun t hf y => ?_
  blk_simp
  rw [after0_5]
  unfold out0_5
  frame_out
  obtain ⟨-, -, -, -, -, e, -⟩ := block_at t
  generalize hI : ((View.whole main_v2_0).slice (win0_5.rect t)).emb y = I
  have hI0 : (I 0).val = t.val * 512 + (y 0).val := by
    rw [← hI]
    refine (Pipeline.Window.rect_emb_val win0_5 t y 0).trans ?_
    rw [e]; rfl
  have hI1 : (I 1).val = (y 1).val := by
    rw [← hI]
    refine (Pipeline.Window.rect_emb_val win0_5 t y 1).trans ?_
    rw [e]; exact Nat.zero_add _
  idx_vars y
  have e1 : y1 = I 1 := Fin.ext hI1.symm
  rw [e1]
  exact res_tile m c t y0 (I 1) (I 0) hI0

/-- The kernel's second result array. -/
theorem final_norm (c : Dev nD) :
    (dats m 0 c).arrAt 6 cfg0.N = resNorm (oArr m c) (wArr m c) (xArr m c) (gArr m c) (nArr m c) := by
  refine (dats m 0 c).arrAt_eq_of_covers 6 _ (by decide +kernel) fun t hf y => ?_
  blk_simp
  rw [after0_6]
  unfold out0_6
  frame_out
  obtain ⟨-, -, -, -, -, -, e⟩ := block_at t
  generalize hI : ((View.whole main_v2_1).slice (win0_6.rect t)).emb y = I
  have hI0 : (I 0).val = t.val * 512 + (y 0).val := by
    rw [← hI]
    refine (Pipeline.Window.rect_emb_val win0_6 t y 0).trans ?_
    rw [e]; rfl
  have hI1 : (I 1).val = (y 1).val := by
    rw [← hI]
    refine (Pipeline.Window.rect_emb_val win0_6 t y 1).trans ?_
    rw [e]; exact Nat.zero_add _
  idx_vars y
  have e1 : y1 = I 1 := Fin.ext hI1.symm
  rw [e1]
  refine (pay2_at _ _ _ _ _ y0 (I 1)).trans ?_
  exact rmsAt_congr _ (fun k => res_tile m c t y0 k (I 0) hI0) (n_read m c t (I 1))

end Cert.OutIdeal.Value
-- ==== Proof.OutRead.lean ====
/- The output projection's reference read at an element: the same projection, norm, residual and following norm. -/
module

public import proofs.«01_k».proof.Proof.Gen.OutRefIdeal.Read
public import proofs.«01_k».proof.Proof.OutFinal

@[expose] public section

set_option maxRecDepth 16384

noncomputable section

namespace Cert.OutRefIdeal.Read

open Cert.OutRefIdeal Cert.OutRefIdeal.Gen Idealize.ShloMosaic Idealize.ShloMosaic.TcCoe Idealize.SL.Sem
open Cert.Norm
open Cert.OutIdeal.Value (outAt resAt res resNorm)

variable (o : Vec Ideal S8192x2048 .bf16) (w : Vec Ideal S2x2048x2048 .bf16) (x : Vec Ideal S8192x2048 .f32)
  (g g' : Vec Ideal S2048 .f32)

/-- The projection. -/
theorem proj (i : S8192x2048.Idx) : val_main_v4 (F := Ideal) o w i = outAt o w (i 0) (i 1) := by
  have h1 : (i 1).val < 2048 := (i 1).isLt
  rw [val_main_v4_apply]
  unfold outAt
  refine Finset.sum_congr rfl fun k _ => ?_
  have hk := k.isLt
  rw [val_main_v0_apply, val_main_v3_apply, val_main_v2_apply, val_main_v1_apply]
  refine congrArg₂ (fun a b : EReal => a * b) (congrArg o ?_) (congrArg w ?_) <;> funext a <;> fin_cases a <;> apply Fin.ext
  · simp
  · simp
  · simp
  · simp; omega
  · simp; omega

/-- The mean of the projection's squares, and the small constant added. -/
theorem mean (i : S8192x1.Idx) : val_main_v11 (F := Ideal) o w i
    = Ideal.div (∑ k : Fin 2048, outAt o w (i 0) k * outAt o w (i 0) k) (Ideal.ofBits .f32 0x45000000#32)
      + Ideal.ofBits .f32 0x358637BD#32 := by
  rw [val_main_v11_apply, val_main_v9_apply, val_main_v8_apply, val_main_v10_apply, val_main_cst_0_apply, val_main_cst_1_apply,
    val_main_v7_apply, val_main_v6_apply, val_main_cst_apply]
  refine congrArg (fun b : EReal => Ideal.div b _ + _) ((congrArg (fun b : EReal => b + _) Ideal.ofBits_zero_f32).trans ?_)
  rw [zero_add]
  refine Finset.sum_congr rfl fun k _ => ?_
  rw [val_main_v5_apply, proj]
  rfl

/-- The residual plus the norm of the projection. -/
theorem resid (i : S8192x2048.Idx) : val_main_v18 (F := Ideal) o w x g i = resAt o w x g (i 0) (i 1) := by
  rw [val_main_v18_apply, val_main_v17_apply, val_main_v14_apply, proj, val_main_v13_apply, val_main_v12_apply, mean,
    val_main_v16_apply, val_main_v15_apply]
  refine congrArg₂ (fun a b : EReal => a + b) (congrArg x (funext fun a => by fin_cases a <;> rfl)) ?_
  exact congrArg (fun b : EReal => _ * b) (congrArg g (funext fun a => by fin_cases a; rfl))

/-- The mean of the first result's squares, and the small constant added. -/
theorem mean' (i : S8192x1.Idx) : val_main_v25 (F := Ideal) o w x g i
    = Ideal.div (∑ k : Fin 2048, resAt o w x g (i 0) k * resAt o w x g (i 0) k) (Ideal.ofBits .f32 0x45000000#32)
      + Ideal.ofBits .f32 0x358637BD#32 := by
  rw [val_main_v25_apply, val_main_v23_apply, val_main_v22_apply, val_main_v24_apply, val_main_cst_3_apply, val_main_cst_4_apply,
    val_main_v21_apply, val_main_v20_apply, val_main_cst_2_apply]
  refine congrArg (fun b : EReal => Ideal.div b _ + _) ((congrArg (fun b : EReal => b + _) Ideal.ofBits_zero_f32).trans ?_)
  rw [zero_add]
  refine Finset.sum_congr rfl fun k _ => ?_
  rw [val_main_v19_apply, resid]
  rfl

/-- The reference's first result. -/
theorem final_res : val_main_v18 (F := Ideal) o w x g = res o w x g := funext (resid o w x g)

/-- The reference's second result. -/
theorem final_norm : val_main_v32 (F := Ideal) o w x g g' = resNorm o w x g g' := by
  funext i
  rw [val_main_v32_apply, val_main_v31_apply, val_main_v28_apply, resid, val_main_v27_apply, val_main_v26_apply, mean',
    val_main_v30_apply, val_main_v29_apply]
  exact congrArg (fun b : EReal => _ * b) (congrArg g' (funext fun a => by fin_cases a; rfl))

end Cert.OutRefIdeal.Read
-- ==== Proof.OutClaim.lean ====
/- The claims of the output projection kernel: it and its reference leave the same two arrays, and each runs and leaves its arguments. -/
module

public import proofs.«01_k».proof.Defs
public import proofs.«01_k».proof.Proof.Gen.Out.Frame
public import proofs.«01_k».proof.Proof.Gen.OutRefIdeal.Run
public import proofs.«01_k».proof.Proof.OutRead

@[expose] public section

set_option maxRecDepth 16384

noncomputable section

namespace Cert.OutPair

open Idealize.ShloMosaic Idealize.ShloMosaic.TcCoe Idealize.SL.Sem

/-- Both programs run and leave the residual plus the norm of the projection, and the following norm of that. -/
theorem algebraic : Cert.algebraic_OutIdeal_OutRefIdeal := fun m ρ m' ρ' hpre hag =>
  ⟨fun c => Cert.OutIdeal.Value.res (m (c.tc.loc Cert.OutIdeal.main_arg0)) (m (c.tc.loc Cert.OutIdeal.main_arg1))
      (m (c.tc.loc Cert.OutIdeal.main_arg2)) (m (c.tc.loc Cert.OutIdeal.main_arg3)),
    fun c => Cert.OutIdeal.Value.resNorm (m (c.tc.loc Cert.OutIdeal.main_arg0)) (m (c.tc.loc Cert.OutIdeal.main_arg1))
      (m (c.tc.loc Cert.OutIdeal.main_arg2)) (m (c.tc.loc Cert.OutIdeal.main_arg3)) (m (c.tc.loc Cert.OutIdeal.main_arg4)),
    (θ_run _ _ _).mono (fun r h c => ⟨(h c).1.trans (Cert.OutIdeal.Value.final_res m c),
      (h c).2.1.trans (Cert.OutIdeal.Value.final_norm m c), (h c).2.2⟩) (Cert.OutIdeal.Value.run_blocks m ρ),
    (θ_run _ _ _).mono (fun r h c => ⟨(h c).1.trans (by
      rw [Cert.OutRefIdeal.Read.val_main_v18_eq, Cert.OutRefIdeal.Read.final_res, (hag c).1, (hag c).2.1, (hag c).2.2.1,
        (hag c).2.2.2.1]), (h c).2.1.trans (by
      rw [Cert.OutRefIdeal.Read.val_main_v32_eq, Cert.OutRefIdeal.Read.final_norm, (hag c).1, (hag c).2.1, (hag c).2.2.1,
        (hag c).2.2.2.1, (hag c).2.2.2.2]), (h c).2.2⟩)
      (Cert.OutRefIdeal.Value.run m' ρ')⟩

/-- The kernel's frame. -/
theorem frame_p : Cert.quiescent_Out := fun m ρ _ => Cert.Out.Gen.frame m ρ

/-- The idealized kernel's frame. -/
theorem frame_pi : Cert.quiescent_OutIdeal := fun m ρ _ => Cert.OutIdeal.Gen.frame m ρ

/-- The reference's frame: its run, and it has no counters. -/
theorem frame_ri : Cert.quiescent_OutRefIdeal := fun m ρ _ =>
  (θ_run _ _ _).mono (fun r h => ⟨fun c => (h c).2.2, sem_eq_zero_of_no_sems (by decide) r.2⟩) (Cert.OutRefIdeal.Value.run m ρ)

end Cert.OutPair

end
-- ==== Proof.Contract.lean ====
/- A contraction of 6144 products, accumulated by twelve steps of 512. -/
module

public import Idealize.ShloMosaic.Lib.Pipeline.ValueKit

@[expose] public section

noncomputable section

namespace Cert.Contract

/-- Product `n` of a contraction; zero past its end. -/
def term (f : Fin 6144 → EReal) (n : ℕ) : EReal := if h : n < 6144 then f ⟨n, h⟩ else 0

/-- The products before step `q`. -/
def upTo (f : Fin 6144 → EReal) (q : ℕ) : EReal := ∑ n ∈ Finset.range (q * 512), term f n

/-- Before the first step there are none. -/
theorem upTo_zero (f : Fin 6144 → EReal) : upTo f 0 = 0 := rfl

/-- A step adds its 512 products. -/
theorem upTo_succ (f : Fin 6144 → EReal) (q : ℕ) (hq : q < 12) :
    upTo f (q + 1) = upTo f q + ∑ k : Fin 512, f ⟨q * 512 + k.val, by have := k.isLt; omega⟩ := by
  unfold upTo
  rw [show (q + 1) * 512 = q * 512 + 512 by omega, Finset.sum_range_add, Finset.sum_range (n := 512)]
  refine congrArg (fun b : EReal => _ + b) (Finset.sum_congr rfl fun k _ => ?_)
  have := k.isLt
  unfold term
  rw [dif_pos (by omega)]

/-- After the twelfth step, the whole contraction. -/
theorem upTo_all (f : Fin 6144 → EReal) : upTo f 12 = ∑ k : Fin 6144, f k := by
  unfold upTo
  rw [show 12 * 512 = 6144 from rfl, Finset.sum_range]
  refine Finset.sum_congr rfl fun k _ => ?_
  unfold term
  rw [dif_pos k.isLt]

end Cert.Contract

end
-- ==== Proof.LastFinal.lean ====
/- The last layer's down projection: the prompt's rows that the trunk returns, in terms of the call's arguments. -/
module

public import proofs.«01_k».proof.Proof.Gen.LastIdeal.Value
public import proofs.«01_k».proof.Proof.Norm
public import proofs.«01_k».proof.Proof.Contract
public import Idealize.ShloMosaic.Lib.Pipeline.ReadBack

@[expose] public section

set_option maxRecDepth 16384

noncomputable section

namespace Cert.LastIdeal.Value

open Cert.LastIdeal Cert.LastIdeal.Gen Idealize.ShloMosaic Idealize.ShloMosaic.TcCoe Idealize.SL.Sem
open Idealize.ShloMosaic.Pipeline (Dat)
open Cert.Norm Cert.Contract

/-- The products of row `R` with column `C` of the last layer's weights. -/
def prods (H : Vec Ideal S8192x6144 .bf16) (W : Vec Ideal S4x6144x2048 .bf16) (R : Fin 8192) (C : Fin 2048) (k : Fin 6144) : EReal :=
  H (ix2 R k) * W (ix3 3 k C)

/-- The residual plus the norm of the projection. -/
def resAt (H : Vec Ideal S8192x6144 .bf16) (W : Vec Ideal S4x6144x2048 .bf16) (X : Vec Ideal S8192x2048 .f32) (g : Vec Ideal S2048 .f32)
    (R : Fin 8192) (C : Fin 2048) : EReal :=
  X (ix2 R C) + rmsAt (fun c => ∑ k : Fin 6144, prods H W R c k) (g (ix1 C)) C

/-- The result. -/
def res (H : Vec Ideal S8192x6144 .bf16) (W : Vec Ideal S4x6144x2048 .bf16) (X : Vec Ideal S8192x2048 .f32) (g : Vec Ideal S2048 .f32) :
    Vec Ideal S8192x2048 .f32 := fun i => resAt H W X g (i 0) (i 1)

/-! ## The stored values at an index -/

theorem pay1_at (y : S1024x2048.Idx) : (k0_pay1 (F := Ideal)) y = (0 : EReal) := by
  idx_vars y
  pointwise [k0_pay1]

theorem pay2_at (a : Vec Ideal S1024x2048 .f32) (h : Vec Ideal S1024x512 .bf16) (w : Vec Ideal S1x512x2048 .bf16)
    (r : Fin 1024) (d : Fin 2048) :
    k0_pay2 a h w (ix2 r d) = a (ix2 r d) + ∑ k : Fin 512, @HMul.hMul EReal EReal EReal _ (h (ix2 r k)) (w (ix3 0 k d)) := by
  pointwise [k0_pay2]

theorem pay3_at (f x : Vec Ideal S1024x2048 .f32) (g : Vec Ideal S1x2048 .f32) (r : Fin 1024) (d : Fin 2048) :
    k0_pay3 f x g (ix2 r d) = x (ix2 r d) + rmsAt (fun k => f (ix2 r k)) (g (ix2 0 d)) d := by
  pointwise [k0_pay3]
  rfl

/-! ## The blocks read from the arrays -/

variable (m : (ℓ : Loc nD τ sig) → Buf (Elt Ideal) ℓ)

/-- The arguments as launched: the gated rows, the weights, the residual and the norm's gain. -/
abbrev hArr (c : Dev nD) : Vec Ideal S8192x6144 .bf16 := m ((c : Thread nD τ).loc main_arg0)
abbrev wArr (c : Dev nD) : Vec Ideal S4x6144x2048 .bf16 := m ((c : Thread nD τ).loc main_arg1)
abbrev xArr (c : Dev nD) : Vec Ideal S8192x2048 .f32 := m ((c : Thread nD τ).loc main_arg2)
abbrev gArr (c : Dev nD) : Vec Ideal S2048 .f32 := m ((c : Thread nD τ).loc main_arg3)

/-- The block numbers of the five windows at each grid point. -/
theorem block_at : ∀ t : Fin grid0.N, win0_0.index t = ![t.val / 12, t.val % 12] ∧ win0_1.index t = ![3, t.val % 12, 0]
    ∧ win0_2.index t = ![t.val / 12, 0] ∧ win0_3.index t = ![0, 0] ∧ win0_4.index t = ![t.val / 12, 0] := by decide +kernel

theorem h_read (c : Dev nD) (t : Fin cfg0.N) (r : Fin 1024) (k : Fin 512) (R : Fin 8192) (K : Fin 6144)
    (hR : R.val = t.val / 12 * 1024 + r.val) (hK : K.val = t.val % 12 * 512 + k.val) :
    (iblk m c 0 t : Vec Ideal S1024x512 .bf16) (ix2 r k) = hArr m c (ix2 R K) := by
  obtain ⟨e, -⟩ := block_at t
  blk_ext [iblk, V, e]

theorem w_read (c : Dev nD) (t : Fin cfg0.N) (k : Fin 512) (d : Fin 2048) (K : Fin 6144) (hK : K.val = t.val % 12 * 512 + k.val) :
    (iblk m c 1 t : Vec Ideal S1x512x2048 .bf16) (ix3 0 k d) = wArr m c (ix3 3 K d) := by
  obtain ⟨-, e, -⟩ := block_at t
  blk_ext [iblk, V, e]

theorem x_read (c : Dev nD) (t : Fin cfg0.N) (r : Fin 1024) (d : Fin 2048) (R : Fin 8192) (hR : R.val = t.val / 12 * 1024 + r.val) :
    (iblk m c 2 t : Vec Ideal S1024x2048 .f32) (ix2 r d) = xArr m c (ix2 R d) := by
  obtain ⟨-, -, e, -⟩ := block_at t
  blk_ext [iblk, V, e]

theorem g_read (c : Dev nD) (t : Fin cfg0.N) (d : Fin 2048) : (iblk m c 3 t : Vec Ideal S1x2048 .f32) (ix2 0 d) = gArr m c (ix1 d) := by
  obtain ⟨-, -, -, e, -⟩ := block_at t
  blk_ext! [iblk, V, e]

/-! ## The accumulated product -/

/-- One step adds its 512 products to those before. -/
theorem step_sum (c : Dev nD) (t : Fin cfg0.N) (a : Vec Ideal S1024x2048 .f32) (r : Fin 1024) (d : Fin 2048) (R : Fin 8192)
    (hR : R.val = t.val / 12 * 1024 + r.val) (q : ℕ) (hq : t.val % 12 = q)
    (ha : a (ix2 r d) = upTo (prods (hArr m c) (wArr m c) R d) q) :
    k0_pay2 a (iblk m c 0 t) (iblk m c 1 t) (ix2 r d) = upTo (prods (hArr m c) (wArr m c) R d) (q + 1) := by
  rw [pay2_at, ha, upTo_succ _ q (by omega)]
  refine congrArg (fun b : EReal => _ + b) (Finset.sum_congr rfl fun k _ => ?_)
  exact congrArg₂ (fun a b : EReal => a * b) (h_read m c t r k R _ hR (by rw [hq])) (w_read m c t k d _ (by rw [hq]))

/-- The accumulator after each step but a row block's last. -/
theorem acc (c : Dev nD) (R : Fin 8192) (r : Fin 1024) (d : Fin 2048) :
    ∀ (n : ℕ) (_ : n < 11) (t : ℕ) (ht : t < cfg0.N) (_ : t % 12 = n) (_ : R.val = t / 12 * 1024 + r.val),
      (outsAt0 m c t ht) (ix2 r d) = upTo (prods (hArr m c) (wArr m c) R d) (n + 1) := by
  intro n
  induction n with
  | zero =>
    intro hn t ht hm hR
    have e : outsAt0 m c t ht = k0_pay2 k0_pay1 (iblk m c 0 ⟨t, ht⟩) (iblk m c 1 ⟨t, ht⟩) := by
      refine (outsAt0_A m c ⟨t, ht⟩ hm (by dsimp only; omega)).trans ?_
      frame_out
    rw [e]
    exact step_sum m c ⟨t, ht⟩ _ r d R hR 0 hm ((pay1_at _).trans (upTo_zero _).symm)
  | succ n ih =>
    intro hn t ht hm hR
    have e : outsAt0 m c t ht = k0_pay2 (outsAt0 m c (t - 1) (by omega)) (iblk m c 0 ⟨t, ht⟩) (iblk m c 1 ⟨t, ht⟩) := by
      refine (outsAt0_B m c ⟨t, ht⟩ (by dsimp only; omega) (by dsimp only; omega)).trans ?_
      frame_out
    rw [e]
    exact step_sum m c ⟨t, ht⟩ _ r d R hR (n + 1) hm (ih (by omega) (t - 1) (by omega) (by omega) (by omega))

/-- The result's tile, at a row block's last step. -/
theorem res_tile (c : Dev nD) (t : Fin cfg0.N) (h1 : t.val % 12 = 11) (h) (r : Fin 1024) (d : Fin 2048) (R : Fin 8192)
    (hR : R.val = t.val / 12 * 1024 + r.val) :
    k0_pay3 (k0_pay2 (outsAt0 m c (t.val - 1) h) (iblk m c 0 t) (iblk m c 1 t)) (iblk m c 2 t) (iblk m c 3 t) (ix2 r d)
      = resAt (hArr m c) (wArr m c) (xArr m c) (gArr m c) R d := by
  rw [pay3_at]
  unfold resAt
  refine congrArg₂ (fun a b : EReal => a + b) (x_read m c t r d R hR) (rmsAt_congr d (fun k => ?_) (g_read m c t d))
  exact (step_sum m c t _ r k R hR 11 h1 (acc m c R r k 10 (by decide) (t.val - 1) h (by omega) (by omega))).trans (upTo_all _)

/-- The kernel's result array. -/
theorem final_res (c : Dev nD) : (dats m 0 c).arrAt 4 cfg0.N = res (hArr m c) (wArr m c) (xArr m c) (gArr m c) := by
  refine (dats m 0 c).arrAt_eq_of_covers 4 _ (by decide +kernel) fun t hf y => ?_
  blk_simp
  have ht : t.val % 12 = 11 := (flush0_4 t).mp hf
  rw [after0_4, outsAt0_C m c t (by omega) ht]
  frame_out
  obtain ⟨-, -, -, -, e⟩ := block_at t
  generalize hI : ((View.whole main_v1).slice (win0_4.rect t)).emb y = I
  have hI0 : (I 0).val = t.val / 12 * 1024 + (y 0).val := by
    rw [← hI]
    refine (Pipeline.Window.rect_emb_val win0_4 t y 0).trans ?_
    rw [e]; rfl
  have hI1 : (I 1).val = (y 1).val := by
    rw [← hI]
    refine (Pipeline.Window.rect_emb_val win0_4 t y 1).trans ?_
    rw [e]; exact Nat.zero_add _
  idx_vars y
  have e1 : y1 = I 1 := Fin.ext hI1.symm
  rw [e1]
  exact res_tile m c t ht _ y0 (I 1) (I 0) hI0

end Cert.LastIdeal.Value
-- ==== Proof.LastRead.lean ====
/- The last layer's down projection, the reference read at an element: the same projection, norm and residual. -/
module

public import proofs.«01_k».proof.Proof.Gen.LastRefIdeal.Read
public import proofs.«01_k».proof.Proof.LastFinal

@[expose] public section

set_option maxRecDepth 16384

noncomputable section

namespace Cert.LastRefIdeal.Read

open Cert.LastRefIdeal Cert.LastRefIdeal.Gen Idealize.ShloMosaic Idealize.ShloMosaic.TcCoe Idealize.SL.Sem
open Cert.Norm
open Cert.LastIdeal.Value (prods resAt res)

variable (h : Vec Ideal S8192x6144 .bf16) (w : Vec Ideal S4x6144x2048 .bf16) (x : Vec Ideal S8192x2048 .f32) (g : Vec Ideal S2048 .f32)

/-- The projection. -/
theorem proj (i : S8192x2048.Idx) : val_main_v4 (F := Ideal) h w i = ∑ k : Fin 6144, prods h w (i 0) (i 1) k := by
  have h1 : (i 1).val < 2048 := (i 1).isLt
  rw [val_main_v4_apply]
  unfold prods
  refine Finset.sum_congr rfl fun k _ => ?_
  have hk := k.isLt
  rw [val_main_v0_apply, val_main_v3_apply, val_main_v2_apply, val_main_v1_apply]
  refine congrArg₂ (fun a b : EReal => a * b) (congrArg h ?_) (congrArg w ?_) <;> funext a <;> fin_cases a <;> apply Fin.ext
  · simp
  · simp
  · simp
  · simp; omega
  · simp; omega

/-- The mean of the projection's squares, and the small constant added. -/
theorem mean (i : S8192x1.Idx) : val_main_v11 (F := Ideal) h w i
    = Ideal.div (∑ c : Fin 2048, (∑ k : Fin 6144, prods h w (i 0) c k) * (∑ k : Fin 6144, prods h w (i 0) c k))
        (Ideal.ofBits .f32 0x45000000#32) + Ideal.ofBits .f32 0x358637BD#32 := by
  rw [val_main_v11_apply, val_main_v9_apply, val_main_v8_apply, val_main_v10_apply, val_main_cst_0_apply, val_main_cst_1_apply,
    val_main_v7_apply, val_main_v6_apply, val_main_cst_apply]
  refine congrArg (fun b : EReal => Ideal.div b _ + _) ((congrArg (fun b : EReal => b + _) Ideal.ofBits_zero_f32).trans ?_)
  rw [zero_add]
  refine Finset.sum_congr rfl fun k _ => ?_
  rw [val_main_v5_apply, proj]
  rfl

/-- The reference's result. -/
theorem final_res : val_main_v18 (F := Ideal) h w x g = res h w x g := by
  funext i
  rw [val_main_v18_apply, val_main_v17_apply, val_main_v14_apply, proj, val_main_v13_apply, val_main_v12_apply, mean,
    val_main_v16_apply, val_main_v15_apply]
  refine congrArg₂ (fun a b : EReal => a + b) (congrArg x (funext fun a => by fin_cases a <;> rfl)) ?_
  exact congrArg (fun b : EReal => _ * b) (congrArg g (funext fun a => by fin_cases a; rfl))

end Cert.LastRefIdeal.Read
-- ==== Proof.LastClaim.lean ====
/- The claims of the last layer's down projection: it and its reference leave the same array, and each runs and leaves its arguments. -/
module

public import proofs.«01_k».proof.Defs
public import proofs.«01_k».proof.Proof.Gen.Last.Frame
public import proofs.«01_k».proof.Proof.Gen.LastRefIdeal.Run
public import proofs.«01_k».proof.Proof.LastRead

@[expose] public section

set_option maxRecDepth 16384

noncomputable section

namespace Cert.LastPair

open Idealize.ShloMosaic Idealize.ShloMosaic.TcCoe Idealize.SL.Sem

/-- Both programs run and leave the residual plus the norm of the projection. -/
theorem algebraic : Cert.algebraic_LastIdeal_LastRefIdeal := fun m ρ m' ρ' hpre hag =>
  ⟨fun c => Cert.LastIdeal.Value.res (m (c.tc.loc Cert.LastIdeal.main_arg0)) (m (c.tc.loc Cert.LastIdeal.main_arg1))
      (m (c.tc.loc Cert.LastIdeal.main_arg2)) (m (c.tc.loc Cert.LastIdeal.main_arg3)),
    (θ_run _ _ _).mono (fun r h c => ⟨(h c).1.trans (Cert.LastIdeal.Value.final_res m c), (h c).2⟩)
      (Cert.LastIdeal.Value.run_blocks m ρ),
    (θ_run _ _ _).mono (fun r h c => ⟨(h c).1.trans (by
      rw [Cert.LastRefIdeal.Read.val_main_v18_eq, Cert.LastRefIdeal.Read.final_res, (hag c).1, (hag c).2.1, (hag c).2.2.1,
        (hag c).2.2.2]), (h c).2⟩) (Cert.LastRefIdeal.Value.run m' ρ')⟩

/-- The kernel's frame. -/
theorem frame_p : Cert.quiescent_Last := fun m ρ _ => Cert.Last.Gen.frame m ρ

/-- The idealized kernel's frame. -/
theorem frame_pi : Cert.quiescent_LastIdeal := fun m ρ _ => Cert.LastIdeal.Gen.frame m ρ

/-- The reference's frame: its run, and it has no counters. -/
theorem frame_ri : Cert.quiescent_LastRefIdeal := fun m ρ _ =>
  (θ_run _ _ _).mono (fun r h => ⟨fun c => (h c).2, sem_eq_zero_of_no_sems (by decide) r.2⟩) (Cert.LastRefIdeal.Value.run m ρ)

end Cert.LastPair

end
-- ==== Proof.SLastFinal.lean ====
/- The last layer's down projection: the sample rows that the trunk returns, in terms of the call's arguments. -/
module

public import proofs.«01_k».proof.Proof.Gen.SLastIdeal.Value
public import proofs.«01_k».proof.Proof.Norm
public import proofs.«01_k».proof.Proof.Contract
public import Idealize.ShloMosaic.Lib.Pipeline.ReadBack

@[expose] public section

set_option maxRecDepth 16384

noncomputable section

namespace Cert.SLastIdeal.Value

open Cert.SLastIdeal Cert.SLastIdeal.Gen Idealize.ShloMosaic Idealize.ShloMosaic.TcCoe Idealize.SL.Sem
open Idealize.ShloMosaic.Pipeline (Dat)
open Cert.Norm Cert.Contract

/-- The products of row `R` with column `C` of the last layer's weights. -/
def prods (H : Vec Ideal S128x6144 .bf16) (W : Vec Ideal S4x6144x2048 .bf16) (R : Fin 128) (C : Fin 2048) (k : Fin 6144) : EReal :=
  H (ix2 R k) * W (ix3 3 k C)

/-- The residual plus the norm of the projection. -/
def resAt (H : Vec Ideal S128x6144 .bf16) (W : Vec Ideal S4x6144x2048 .bf16) (X : Vec Ideal S128x2048 .f32) (g : Vec Ideal S2048 .f32)
    (R : Fin 128) (C : Fin 2048) : EReal :=
  X (ix2 R C) + rmsAt (fun c => ∑ k : Fin 6144, prods H W R c k) (g (ix1 C)) C

/-- The result. -/
def res (H : Vec Ideal S128x6144 .bf16) (W : Vec Ideal S4x6144x2048 .bf16) (X : Vec Ideal S128x2048 .f32) (g : Vec Ideal S2048 .f32) :
    Vec Ideal S128x2048 .f32 := fun i => resAt H W X g (i 0) (i 1)

/-! ## The stored values at an index -/

theorem pay1_at (y : S128x2048.Idx) : (k0_pay1 (F := Ideal)) y = (0 : EReal) := by
  idx_vars y
  pointwise [k0_pay1]

theorem pay2_at (a : Vec Ideal S128x2048 .f32) (h : Vec Ideal S128x512 .bf16) (w : Vec Ideal S1x512x2048 .bf16)
    (r : Fin 128) (d : Fin 2048) :
    k0_pay2 a h w (ix2 r d) = a (ix2 r d) + ∑ k : Fin 512, @HMul.hMul EReal EReal EReal _ (h (ix2 r k)) (w (ix3 0 k d)) := by
  pointwise [k0_pay2]

theorem pay3_at (f x : Vec Ideal S128x2048 .f32) (g : Vec Ideal S1x2048 .f32) (r : Fin 128) (d : Fin 2048) :
    k0_pay3 f x g (ix2 r d) = x (ix2 r d) + rmsAt (fun k => f (ix2 r k)) (g (ix2 0 d)) d := by
  pointwise [k0_pay3]
  rfl

/-! ## The blocks read from the arrays -/

variable (m : (ℓ : Loc nD τ sig) → Buf (Elt Ideal) ℓ)

/-- The arguments as launched: the gated rows, the weights, the residual and the norm's gain. -/
abbrev hArr (c : Dev nD) : Vec Ideal S128x6144 .bf16 := m ((c : Thread nD τ).loc main_arg0)
abbrev wArr (c : Dev nD) : Vec Ideal S4x6144x2048 .bf16 := m ((c : Thread nD τ).loc main_arg1)
abbrev xArr (c : Dev nD) : Vec Ideal S128x2048 .f32 := m ((c : Thread nD τ).loc main_arg2)
abbrev gArr (c : Dev nD) : Vec Ideal S2048 .f32 := m ((c : Thread nD τ).loc main_arg3)

/-- The block numbers of the five windows at each grid point. -/
theorem block_at : ∀ t : Fin grid0.N, win0_0.index t = ![t.val / 12, t.val % 12] ∧ win0_1.index t = ![3, t.val % 12, 0]
    ∧ win0_2.index t = ![t.val / 12, 0] ∧ win0_3.index t = ![0, 0] ∧ win0_4.index t = ![t.val / 12, 0] := by decide +kernel

theorem h_read (c : Dev nD) (t : Fin cfg0.N) (r : Fin 128) (k : Fin 512) (R : Fin 128) (K : Fin 6144)
    (hR : R.val = t.val / 12 * 128 + r.val) (hK : K.val = t.val % 12 * 512 + k.val) :
    (iblk m c 0 t : Vec Ideal S128x512 .bf16) (ix2 r k) = hArr m c (ix2 R K) := by
  obtain ⟨e, -⟩ := block_at t
  blk_ext [iblk, V, e]

theorem w_read (c : Dev nD) (t : Fin cfg0.N) (k : Fin 512) (d : Fin 2048) (K : Fin 6144) (hK : K.val = t.val % 12 * 512 + k.val) :
    (iblk m c 1 t : Vec Ideal S1x512x2048 .bf16) (ix3 0 k d) = wArr m c (ix3 3 K d) := by
  obtain ⟨-, e, -⟩ := block_at t
  blk_ext [iblk, V, e]

theorem x_read (c : Dev nD) (t : Fin cfg0.N) (r : Fin 128) (d : Fin 2048) (R : Fin 128) (hR : R.val = t.val / 12 * 128 + r.val) :
    (iblk m c 2 t : Vec Ideal S128x2048 .f32) (ix2 r d) = xArr m c (ix2 R d) := by
  obtain ⟨-, -, e, -⟩ := block_at t
  blk_ext [iblk, V, e]

theorem g_read (c : Dev nD) (t : Fin cfg0.N) (d : Fin 2048) : (iblk m c 3 t : Vec Ideal S1x2048 .f32) (ix2 0 d) = gArr m c (ix1 d) := by
  obtain ⟨-, -, -, e, -⟩ := block_at t
  blk_ext! [iblk, V, e]

/-! ## The accumulated product -/

/-- One step adds its 512 products to those before. -/
theorem step_sum (c : Dev nD) (t : Fin cfg0.N) (a : Vec Ideal S128x2048 .f32) (r : Fin 128) (d : Fin 2048) (R : Fin 128)
    (hR : R.val = t.val / 12 * 128 + r.val) (q : ℕ) (hq : t.val % 12 = q)
    (ha : a (ix2 r d) = upTo (prods (hArr m c) (wArr m c) R d) q) :
    k0_pay2 a (iblk m c 0 t) (iblk m c 1 t) (ix2 r d) = upTo (prods (hArr m c) (wArr m c) R d) (q + 1) := by
  rw [pay2_at, ha, upTo_succ _ q (by omega)]
  refine congrArg (fun b : EReal => _ + b) (Finset.sum_congr rfl fun k _ => ?_)
  exact congrArg₂ (fun a b : EReal => a * b) (h_read m c t r k R _ hR (by rw [hq])) (w_read m c t k d _ (by rw [hq]))

/-- The accumulator after each step but a row block's last. -/
theorem acc (c : Dev nD) (R : Fin 128) (r : Fin 128) (d : Fin 2048) :
    ∀ (n : ℕ) (_ : n < 11) (t : ℕ) (ht : t < cfg0.N) (_ : t % 12 = n) (_ : R.val = t / 12 * 128 + r.val),
      (outsAt0 m c t ht) (ix2 r d) = upTo (prods (hArr m c) (wArr m c) R d) (n + 1) := by
  intro n
  induction n with
  | zero =>
    intro hn t ht hm hR
    have e : outsAt0 m c t ht = k0_pay2 k0_pay1 (iblk m c 0 ⟨t, ht⟩) (iblk m c 1 ⟨t, ht⟩) := by
      refine (outsAt0_A m c ⟨t, ht⟩ hm (by dsimp only; omega)).trans ?_
      frame_out
    rw [e]
    exact step_sum m c ⟨t, ht⟩ _ r d R hR 0 hm ((pay1_at _).trans (upTo_zero _).symm)
  | succ n ih =>
    intro hn t ht hm hR
    have e : outsAt0 m c t ht = k0_pay2 (outsAt0 m c (t - 1) (by omega)) (iblk m c 0 ⟨t, ht⟩) (iblk m c 1 ⟨t, ht⟩) := by
      refine (outsAt0_B m c ⟨t, ht⟩ (by dsimp only; omega) (by dsimp only; omega)).trans ?_
      frame_out
    rw [e]
    exact step_sum m c ⟨t, ht⟩ _ r d R hR (n + 1) hm (ih (by omega) (t - 1) (by omega) (by omega) (by omega))

/-- The result's tile, at a row block's last step. -/
theorem res_tile (c : Dev nD) (t : Fin cfg0.N) (h1 : t.val % 12 = 11) (h) (r : Fin 128) (d : Fin 2048) (R : Fin 128)
    (hR : R.val = t.val / 12 * 128 + r.val) :
    k0_pay3 (k0_pay2 (outsAt0 m c (t.val - 1) h) (iblk m c 0 t) (iblk m c 1 t)) (iblk m c 2 t) (iblk m c 3 t) (ix2 r d)
      = resAt (hArr m c) (wArr m c) (xArr m c) (gArr m c) R d := by
  rw [pay3_at]
  unfold resAt
  refine congrArg₂ (fun a b : EReal => a + b) (x_read m c t r d R hR) (rmsAt_congr d (fun k => ?_) (g_read m c t d))
  exact (step_sum m c t _ r k R hR 11 h1 (acc m c R r k 10 (by decide) (t.val - 1) h (by omega) (by omega))).trans (upTo_all _)

/-- The kernel's result array. -/
theorem final_res (c : Dev nD) : (dats m 0 c).arrAt 4 cfg0.N = res (hArr m c) (wArr m c) (xArr m c) (gArr m c) := by
  refine (dats m 0 c).arrAt_eq_of_covers 4 _ (by decide +kernel) fun t hf y => ?_
  blk_simp
  have ht : t.val % 12 = 11 := (flush0_4 t).mp hf
  rw [after0_4, outsAt0_C m c t (by omega) ht]
  frame_out
  obtain ⟨-, -, -, -, e⟩ := block_at t
  generalize hI : ((View.whole main_v1).slice (win0_4.rect t)).emb y = I
  have hI0 : (I 0).val = t.val / 12 * 128 + (y 0).val := by
    rw [← hI]
    refine (Pipeline.Window.rect_emb_val win0_4 t y 0).trans ?_
    rw [e]; rfl
  have hI1 : (I 1).val = (y 1).val := by
    rw [← hI]
    refine (Pipeline.Window.rect_emb_val win0_4 t y 1).trans ?_
    rw [e]; exact Nat.zero_add _
  idx_vars y
  have e1 : y1 = I 1 := Fin.ext hI1.symm
  rw [e1]
  exact res_tile m c t ht _ y0 (I 1) (I 0) hI0

end Cert.SLastIdeal.Value
-- ==== Proof.SLastRead.lean ====
/- On the sample rows, the last layer's down projection, the reference read at an element: the same projection, norm and residual. -/
module

public import proofs.«01_k».proof.Proof.Gen.SLastRefIdeal.Read
public import proofs.«01_k».proof.Proof.SLastFinal

@[expose] public section

set_option maxRecDepth 16384

noncomputable section

namespace Cert.SLastRefIdeal.Read

open Cert.SLastRefIdeal Cert.SLastRefIdeal.Gen Idealize.ShloMosaic Idealize.ShloMosaic.TcCoe Idealize.SL.Sem
open Cert.Norm
open Cert.SLastIdeal.Value (prods resAt res)

variable (h : Vec Ideal S128x6144 .bf16) (w : Vec Ideal S4x6144x2048 .bf16) (x : Vec Ideal S128x2048 .f32) (g : Vec Ideal S2048 .f32)

/-- The projection. -/
theorem proj (i : S128x2048.Idx) : val_main_v4 (F := Ideal) h w i = ∑ k : Fin 6144, prods h w (i 0) (i 1) k := by
  have h1 : (i 1).val < 2048 := (i 1).isLt
  rw [val_main_v4_apply]
  unfold prods
  refine Finset.sum_congr rfl fun k _ => ?_
  have hk := k.isLt
  rw [val_main_v0_apply, val_main_v3_apply, val_main_v2_apply, val_main_v1_apply]
  refine congrArg₂ (fun a b : EReal => a * b) (congrArg h ?_) (congrArg w ?_) <;> funext a <;> fin_cases a <;> apply Fin.ext
  · simp
  · simp
  · simp
  · simp; omega
  · simp; omega

/-- The mean of the projection's squares, and the small constant added. -/
theorem mean (i : S128x1.Idx) : val_main_v11 (F := Ideal) h w i
    = Ideal.div (∑ c : Fin 2048, (∑ k : Fin 6144, prods h w (i 0) c k) * (∑ k : Fin 6144, prods h w (i 0) c k))
        (Ideal.ofBits .f32 0x45000000#32) + Ideal.ofBits .f32 0x358637BD#32 := by
  rw [val_main_v11_apply, val_main_v9_apply, val_main_v8_apply, val_main_v10_apply, val_main_cst_0_apply, val_main_cst_1_apply,
    val_main_v7_apply, val_main_v6_apply, val_main_cst_apply]
  refine congrArg (fun b : EReal => Ideal.div b _ + _) ((congrArg (fun b : EReal => b + _) Ideal.ofBits_zero_f32).trans ?_)
  rw [zero_add]
  refine Finset.sum_congr rfl fun k _ => ?_
  rw [val_main_v5_apply, proj]
  rfl

/-- The reference's result. -/
theorem final_res : val_main_v18 (F := Ideal) h w x g = res h w x g := by
  funext i
  rw [val_main_v18_apply, val_main_v17_apply, val_main_v14_apply, proj, val_main_v13_apply, val_main_v12_apply, mean,
    val_main_v16_apply, val_main_v15_apply]
  refine congrArg₂ (fun a b : EReal => a + b) (congrArg x (funext fun a => by fin_cases a <;> rfl)) ?_
  exact congrArg (fun b : EReal => _ * b) (congrArg g (funext fun a => by fin_cases a; rfl))

end Cert.SLastRefIdeal.Read
-- ==== Proof.SLastClaim.lean ====
/- The claims of the sample rows in the last layer's down projection: it and its reference leave the same array, and each runs and leaves its arguments. -/
module

public import proofs.«01_k».proof.Defs
public import proofs.«01_k».proof.Proof.Gen.SLast.Frame
public import proofs.«01_k».proof.Proof.Gen.SLastRefIdeal.Run
public import proofs.«01_k».proof.Proof.SLastRead

@[expose] public section

set_option maxRecDepth 16384

noncomputable section

namespace Cert.SLastPair

open Idealize.ShloMosaic Idealize.ShloMosaic.TcCoe Idealize.SL.Sem

/-- Both programs run and leave the residual plus the norm of the projection. -/
theorem algebraic : Cert.algebraic_SLastIdeal_SLastRefIdeal := fun m ρ m' ρ' hpre hag =>
  ⟨fun c => Cert.SLastIdeal.Value.res (m (c.tc.loc Cert.SLastIdeal.main_arg0)) (m (c.tc.loc Cert.SLastIdeal.main_arg1))
      (m (c.tc.loc Cert.SLastIdeal.main_arg2)) (m (c.tc.loc Cert.SLastIdeal.main_arg3)),
    (θ_run _ _ _).mono (fun r h c => ⟨(h c).1.trans (Cert.SLastIdeal.Value.final_res m c), (h c).2⟩)
      (Cert.SLastIdeal.Value.run_blocks m ρ),
    (θ_run _ _ _).mono (fun r h c => ⟨(h c).1.trans (by
      rw [Cert.SLastRefIdeal.Read.val_main_v18_eq, Cert.SLastRefIdeal.Read.final_res, (hag c).1, (hag c).2.1, (hag c).2.2.1,
        (hag c).2.2.2]), (h c).2⟩) (Cert.SLastRefIdeal.Value.run m' ρ')⟩

/-- The kernel's frame. -/
theorem frame_p : Cert.quiescent_SLast := fun m ρ _ => Cert.SLast.Gen.frame m ρ

/-- The idealized kernel's frame. -/
theorem frame_pi : Cert.quiescent_SLastIdeal := fun m ρ _ => Cert.SLastIdeal.Gen.frame m ρ

/-- The reference's frame: its run, and it has no counters. -/
theorem frame_ri : Cert.quiescent_SLastRefIdeal := fun m ρ _ =>
  (θ_run _ _ _).mono (fun r h => ⟨fun c => (h c).2, sem_eq_zero_of_no_sems (by decide) r.2⟩) (Cert.SLastRefIdeal.Value.run m ρ)

end Cert.SLastPair

end
-- ==== Proof.ProjFinal.lean ====
/- The sample batch's recurrent projection: its result array in terms of the call's arguments. -/
module

public import proofs.«01_k».proof.Proof.Gen.ProjIdeal.Value
public import Idealize.ShloMosaic.Lib.Pipeline.ValueKit
public import Idealize.ShloMosaic.Lib.Pointwise
public import Idealize.ShloMosaic.Lib.Pipeline.ReadBack

@[expose] public section

set_option maxRecDepth 16384

noncomputable section

namespace Cert.ProjIdeal.Value

open Cert.ProjIdeal Cert.ProjIdeal.Gen Idealize.ShloMosaic Idealize.ShloMosaic.TcCoe Idealize.SL.Sem
open Idealize.ShloMosaic.Pipeline (Dat)

/-- The rows times the first layer's weights. -/
def res (X : Vec Ideal S128x2048 .bf16) (W : Vec Ideal S2x2048x4096 .bf16) : Vec Ideal S128x4096 .f32 := fun i =>
  ∑ k : Fin 2048, @HMul.hMul EReal EReal EReal _ (X (ix2 (i 0) k)) (W (ix3 0 k (i 1)))

theorem pay1_at (x : Vec Ideal S128x2048 .bf16) (w : Vec Ideal S1x2048x1024 .bf16) (r : Fin 128) (d : Fin 1024) :
    k0_pay1 x w (ix2 r d) = ∑ k : Fin 2048, @HMul.hMul EReal EReal EReal _ (x (ix2 r k)) (w (ix3 0 k d)) := by
  pointwise [k0_pay1]

variable (m : (ℓ : Loc nD τ sig) → Buf (Elt Ideal) ℓ)

/-- The arguments as launched: the rows and the weights. -/
abbrev xArr (c : Dev nD) : Vec Ideal S128x2048 .bf16 := m ((c : Thread nD τ).loc main_arg0)
abbrev wArr (c : Dev nD) : Vec Ideal S2x2048x4096 .bf16 := m ((c : Thread nD τ).loc main_arg1)

/-- The block numbers of the three windows at each grid point. -/
theorem block_at : ∀ t : Fin grid0.N, win0_0.index t = ![0, 0] ∧ win0_1.index t = ![0, 0, t.val] ∧ win0_2.index t = ![0, t.val] := by
  decide +kernel

theorem x_read (c : Dev nD) (t : Fin cfg0.N) (r : Fin 128) (k : Fin 2048) :
    (iblk m c 0 t : Vec Ideal S128x2048 .bf16) (ix2 r k) = xArr m c (ix2 r k) := by
  obtain ⟨e, -⟩ := block_at t
  blk_ext [iblk, V, e]

theorem w_read (c : Dev nD) (t : Fin cfg0.N) (k : Fin 2048) (d : Fin 1024) (D : Fin 4096) (hD : D.val = t.val * 1024 + d.val) :
    (iblk m c 1 t : Vec Ideal S1x2048x1024 .bf16) (ix3 0 k d) = wArr m c (ix3 0 k D) := by
  obtain ⟨-, e, -⟩ := block_at t
  blk_ext [iblk, V, e]

/-- The kernel's result array. -/
theorem final_res (c : Dev nD) : (dats m 0 c).arrAt 2 cfg0.N = res (xArr m c) (wArr m c) := by
  refine (dats m 0 c).arrAt_eq_of_covers 2 _ (by decide +kernel) fun t hf y => ?_
  blk_simp
  rw [after0_2]
  unfold out0_2
  frame_out
  obtain ⟨-, -, e⟩ := block_at t
  generalize hI : ((View.whole main_v0).slice (win0_2.rect t)).emb y = I
  have hI0 : (I 0).val = (y 0).val := by
    rw [← hI]
    refine (Pipeline.Window.rect_emb_val win0_2 t y 0).trans ?_
    rw [e]; exact Nat.zero_add _
  have hI1 : (I 1).val = t.val * 1024 + (y 1).val := by
    rw [← hI]
    refine (Pipeline.Window.rect_emb_val win0_2 t y 1).trans ?_
    rw [e]; rfl
  idx_vars y
  have e0 : y0 = I 0 := Fin.ext hI0.symm
  rw [e0]
  refine (pay1_at _ _ _ _).trans (Finset.sum_congr rfl fun k _ => ?_)
  exact congrArg₂ (fun a b : EReal => a * b) (x_read m c t (I 0) k) (w_read m c t k y1 (I 1) hI1)

end Cert.ProjIdeal.Value
-- ==== Proof.ProjClaim.lean ====
/- The claims of the sample batch's recurrent projection: it and its reference leave the same array, and each runs and leaves its
   arguments. -/
module

public import proofs.«01_k».proof.Defs
public import proofs.«01_k».proof.Proof.Gen.Proj.Frame
public import proofs.«01_k».proof.Proof.Gen.ProjRefIdeal.Run
public import proofs.«01_k».proof.Proof.Gen.ProjRefIdeal.Read
public import proofs.«01_k».proof.Proof.ProjFinal

@[expose] public section

set_option maxRecDepth 16384

noncomputable section

namespace Cert.ProjRefIdeal.Read

open Cert.ProjRefIdeal Cert.ProjRefIdeal.Gen Idealize.ShloMosaic Idealize.ShloMosaic.TcCoe

/-- The reference's result. -/
theorem final_res (x : Vec Ideal S128x2048 .bf16) (w : Vec Ideal S2x2048x4096 .bf16) :
    val_main_v4 (F := Ideal) x w = Cert.ProjIdeal.Value.res x w := by
  funext i
  have h1 : (i 1).val < 4096 := (i 1).isLt
  rw [val_main_v4_apply]
  unfold Cert.ProjIdeal.Value.res
  refine Finset.sum_congr rfl fun k _ => ?_
  have hk := k.isLt
  rw [val_main_v0_apply, val_main_v3_apply, val_main_v2_apply, val_main_v1_apply]
  refine congrArg₂ (fun a b : EReal => a * b) (congrArg x ?_) (congrArg w ?_) <;> funext a <;> fin_cases a <;> apply Fin.ext
  · simp
  · simp
  · simp
  · simp; omega
  · simp; omega

end Cert.ProjRefIdeal.Read

namespace Cert.ProjPair

open Idealize.ShloMosaic Idealize.ShloMosaic.TcCoe Idealize.SL.Sem

/-- Both programs run and leave the product. -/
theorem algebraic : Cert.algebraic_ProjIdeal_ProjRefIdeal := fun m ρ m' ρ' hpre hag =>
  ⟨fun c => Cert.ProjIdeal.Value.res (m (c.tc.loc Cert.ProjIdeal.main_arg0)) (m (c.tc.loc Cert.ProjIdeal.main_arg1)),
    (θ_run _ _ _).mono (fun r h c => ⟨(h c).1.trans (Cert.ProjIdeal.Value.final_res m c), (h c).2⟩)
      (Cert.ProjIdeal.Value.run_blocks m ρ),
    (θ_run _ _ _).mono (fun r h c => ⟨(h c).1.trans (by
      rw [Cert.ProjRefIdeal.Read.val_main_v4_eq, Cert.ProjRefIdeal.Read.final_res, (hag c).1, (hag c).2]), (h c).2⟩)
      (Cert.ProjRefIdeal.Value.run m' ρ')⟩

/-- The kernel's frame. -/
theorem frame_p : Cert.quiescent_Proj := fun m ρ _ => Cert.Proj.Gen.frame m ρ

/-- The idealized kernel's frame. -/
theorem frame_pi : Cert.quiescent_ProjIdeal := fun m ρ _ => Cert.ProjIdeal.Gen.frame m ρ

/-- The reference's frame: its run, and it has no counters. -/
theorem frame_ri : Cert.quiescent_ProjRefIdeal := fun m ρ _ =>
  (θ_run _ _ _).mono (fun r h => ⟨fun c => (h c).2, sem_eq_zero_of_no_sems (by decide) r.2⟩) (Cert.ProjRefIdeal.Value.run m ρ)

end Cert.ProjPair

end
-- ==== Proof.Gates.lean ====
/- The identities between the two spellings of the recurrent block's gates, and the gelu, over the extended reals. -/
module

public import Idealize.ShloMosaic.Lib.Pipeline.ValueKit
public import Idealize.ShloMosaic.Lib.Pointwise
public import Idealize.ShloMosaic.Lib.Pipeline.ReadBack

@[expose] public section
set_option maxRecDepth 16384

noncomputable section
namespace Cert.Gates
open Idealize.ShloMosaic

/-- The gelu of `z` by its tanh formula. -/
def gelu (z : EReal) : EReal :=
  z * (Ideal.ofBits .f32 0x3F000000#32 * (1 + Ideal.tanh (Ideal.ofBits .f32 0x3F4C422A#32
    * (z + Ideal.ofBits .f32 0x3D372713#32 * (z * (z * z))))))

/-- The pattern of a half denotes a half. -/
theorem half_bits : Ideal.ofBits .f32 0x3F000000#32 = (((1 : ℝ) / 2 : ℝ) : EReal) := by
  simp [Ideal.ofBits, Ideal.ieee]
  exact (EReal.coe_mul 8388608 _).symm.trans (congrArg _ (by norm_num))

/-- The pattern of two denotes two. -/
theorem two_bits : Ideal.ofBits .f32 0x40000000#32 = ((2 : ℝ) : EReal) := by
  simp [Ideal.ofBits, Ideal.ieee]
  exact (EReal.coe_mul 8388608 _).symm.trans (congrArg _ (by norm_num))

/-- The logistic function of a real through the hyperbolic tangent of half its argument. -/
theorem real_logistic (r : ℝ) : 1 / 2 * Real.tanh (1 / 2 * r) + 1 / 2 = (1 + Real.exp (-r))⁻¹ := by
  have hp : Real.exp (-r) = Real.exp (-(1 / 2 * r)) * Real.exp (-(1 / 2 * r)) := by
    rw [← Real.exp_add]; congr 1; ring
  have h1 : Real.exp (1 / 2 * r) * Real.exp (-(1 / 2 * r)) = 1 := by
    rw [← Real.exp_add]; simp
  have ha := Real.exp_pos (1 / 2 * r)
  have hb := Real.exp_pos (-(1 / 2 * r))
  rw [Real.tanh_eq_sinh_div_cosh, Real.sinh_eq, Real.cosh_eq, hp]
  set a := Real.exp (1 / 2 * r)
  set b := Real.exp (-(1 / 2 * r))
  have hab : a + b ≠ 0 := by positivity
  have hbb : 1 + b * b ≠ 0 := by positivity
  field_simp
  nlinarith [h1]

/-- The logistic function over the extended reals, from the tangent's form to the quotient's. -/
theorem logistic_eq (z : EReal) :
    Ideal.ofBits .f32 0x3F000000#32 * Ideal.tanh (Ideal.ofBits .f32 0x3F000000#32 * z) + Ideal.ofBits .f32 0x3F000000#32
      = Ideal.div 1 (1 + Ideal.exp (-z)) := by
  rw [half_bits]
  change _ = Ideal.logistic z
  have hpos : (0 : ℝ) < 1 / 2 := by norm_num
  induction z using EReal.rec with
  | bot =>
    rw [EReal.coe_mul_bot_of_pos hpos, Ideal.tanh_bot, Ideal.logistic_bot, ← EReal.coe_one, ← EReal.coe_neg,
      ← EReal.coe_mul, ← EReal.coe_add, ← EReal.coe_zero]
    norm_num
  | top =>
    rw [EReal.coe_mul_top_of_pos hpos, Ideal.tanh_top, Ideal.logistic_top, ← EReal.coe_one,
      ← EReal.coe_mul, ← EReal.coe_add]
    norm_num
  | coe r =>
    rw [← EReal.coe_mul, Ideal.tanh_coe, Ideal.logistic_coe, ← EReal.coe_mul, ← EReal.coe_add, real_logistic]

/-- The tangent's form of one minus an exponential of twice a real. -/
theorem real_decay (x : ℝ) :
    -Real.tanh x * (Real.exp x * Real.exp x + 1) = -(Real.exp (2 * x) - 1) := by
  have hp : Real.exp (2 * x) = Real.exp x * Real.exp x := by
    rw [← Real.exp_add]; congr 1; ring
  have h1 : Real.exp x * Real.exp (-x) = 1 := by
    rw [← Real.exp_add]; simp
  have ha := Real.exp_pos x
  have hb := Real.exp_pos (-x)
  rw [Real.tanh_eq_sinh_div_cosh, Real.sinh_eq, Real.cosh_eq, hp]
  set a := Real.exp x
  set b := Real.exp (-x)
  have hab : a + b ≠ 0 := by positivity
  field_simp
  linear_combination (2 * a) * h1

/-- What stands under the square root, from the tangent's form to the exponential's, over the extended reals. -/
theorem decay_eq (x : EReal) :
    (0 - Ideal.tanh x) * (Ideal.exp x * Ideal.exp x + 1) = -(Ideal.exp (Ideal.ofBits .f32 0x40000000#32 * x) - 1) := by
  rw [two_bits]
  have hpos : (0 : ℝ) < 2 := by norm_num
  induction x using EReal.rec with
  | bot =>
    rw [EReal.coe_mul_bot_of_pos hpos, Ideal.tanh_bot, Ideal.exp_bot]
    simp
  | top =>
    rw [EReal.coe_mul_top_of_pos hpos, Ideal.tanh_top, Ideal.exp_top, EReal.top_mul_top,
      EReal.top_add_of_ne_bot (show (1 : EReal) ≠ ⊥ from EReal.coe_ne_bot 1), zero_sub,
      sub_eq_add_neg, ← EReal.coe_one, ← EReal.coe_neg, EReal.top_add_of_ne_bot (EReal.coe_ne_bot _),
      EReal.coe_mul_top_of_neg (by norm_num), EReal.neg_top]
  | coe r =>
    rw [← EReal.coe_mul, Ideal.tanh_coe, Ideal.exp_coe, Ideal.exp_coe, zero_sub, ← EReal.coe_neg, ← EReal.coe_one,
      ← EReal.coe_mul, ← EReal.coe_add, ← EReal.coe_mul, ← EReal.coe_sub, ← EReal.coe_neg, real_decay]

end Cert.Gates
-- ==== Proof.StepFinal.lean ====
/- The recurrent block's one-token step: the kernel's two result arrays in terms of its arguments. -/
module

public import proofs.«01_k».proof.Proof.Gates
public import proofs.«01_k».proof.Proof.Gen.StepIdeal.Value

@[expose] public section

set_option maxRecDepth 16384

noncomputable section

namespace Cert.StepIdeal.Value

open Cert.StepIdeal Cert.StepIdeal.Gen Idealize.ShloMosaic Idealize.ShloMosaic.TcCoe Idealize.SL.Sem
open Idealize.ShloMosaic.Pipeline (Dat)
open Cert.Gates (gelu)

/-! ## The step's quantities -/

/-- `log (1 + exp l)`, in the form that does not overflow. -/
def softplus (l : EReal) : EReal := max l 0 + Ideal.log1p (Ideal.exp (-(max l (-l))))

/-- The column a channel of a block has among all channels. -/
def col (n : Fin 8) (k : Fin 256) : Fin 2048 := ⟨n.val * 256 + k.val, by omega⟩

/-- The block of a column. -/
def blockOf (C : Fin 2048) : Fin 8 := ⟨C.val / 256, by omega⟩

/-- A column's place in its block. -/
def within (C : Fin 2048) : Fin 256 := ⟨C.val % 256, by omega⟩

/-- A gate: the logistic function of a row's block times the block's weights plus the bias. -/
def gateAt (x : Fin 2048 → EReal) (W : Vec Ideal S8x256x256 .bf16) (b : EReal) (C : Fin 2048) : EReal :=
  Ideal.div 1 (1 + Ideal.exp (-((∑ k : Fin 256, @HMul.hMul EReal EReal EReal _ (x (col (blockOf C) k)) (W (ix3 (blockOf C) k (within C)))) + b)))

/-- The four-tap convolution over the three buffered rows and the new one. -/
def tapsAt (p b0 b1 b2 bias w0 w1 w2 w3 : EReal) : EReal := bias + b0 * w0 + b1 * w1 + b2 * w2 + p * w3

/-- The logarithm of the decay. -/
def logDecay (r l : EReal) : EReal := Ideal.ofBits .f32 0xC1000000#32 * r * softplus (-l)

/-- The state's update: the decayed state plus the gated input. -/
def updateAt (i x lg h : EReal) : EReal :=
  Ideal.exp lg * h + Ideal.sqrt (-(Ideal.exp (Ideal.ofBits .f32 0x40000000#32 * lg) - 1)) * (i * x)

section Args
variable (P : Vec Ideal S128x4096 .f32) (B : Vec Ideal S128x3x2048 .f32) (H : Vec Ideal S128x2048 .f32) (cw : Vec Ideal S4x2048 .f32)
  (cb : Vec Ideal S2048 .f32) (wa : Vec Ideal S8x256x256 .bf16) (ba : Vec Ideal S2048 .f32) (wi : Vec Ideal S8x256x256 .bf16)
  (bi lam : Vec Ideal S2048 .f32)

/-- The convolved input. -/
def inAt (R : Fin 128) (C : Fin 2048) : EReal :=
  tapsAt (P (ix2 R ⟨C.val, by omega⟩)) (B (ix3 R 0 C)) (B (ix3 R 1 C)) (B (ix3 R 2 C)) (cb (ix1 C))
    (cw (ix2 0 C)) (cw (ix2 1 C)) (cw (ix2 2 C)) (cw (ix2 3 C))

/-- The new state at an element. -/
def stateAt (R : Fin 128) (C : Fin 2048) : EReal :=
  updateAt (gateAt (inAt P B cw cb R) wi (bi (ix1 C)) C) (inAt P B cw cb R C)
    (logDecay (gateAt (inAt P B cw cb R) wa (ba (ix1 C)) C) (lam (ix1 C))) (H (ix2 R C))

/-- The second result: the new state. -/
def state : Vec Ideal S128x2048 .f32 := fun i => stateAt P B H cw cb wa ba wi bi lam (i 0) (i 1)

/-- The first result: the gelu of the other half of the projection, times the new state. -/
def gated : Vec Ideal S128x2048 .bf16 := fun i =>
  gelu (P (ix2 (i 0) ⟨2048 + (i 1).val, by have := (i 1).isLt; change (i 1).val < 2048 at this; omega⟩))
    * stateAt P B H cw cb wa ba wi bi lam (i 0) (i 1)

end Args

/-! ## The stored values at an index -/

/-- Eight pieces laid side by side, read at a column: the piece of its block. -/
theorem pieces_at (x0 x1 x2 x3 x4 x5 x6 x7 : Vec Ideal S128x256 .f32) (f : Fin 8 → Fin 256 → EReal) (r : Fin 128) (C : Fin 2048)
    (h0 : ∀ d, x0 (ix2 r d) = f 0 d) (h1 : ∀ d, x1 (ix2 r d) = f 1 d) (h2 : ∀ d, x2 (ix2 r d) = f 2 d)
    (h3 : ∀ d, x3 (ix2 r d) = f 3 d) (h4 : ∀ d, x4 (ix2 r d) = f 4 d) (h5 : ∀ d, x5 (ix2 r d) = f 5 d)
    (h6 : ∀ d, x6 (ix2 r d) = f 6 d) (h7 : ∀ d, x7 (ix2 r d) = f 7 d) :
    concatenate S128x2048 1 [⟨S128x256, x0⟩, ⟨S128x256, x1⟩, ⟨S128x256, x2⟩, ⟨S128x256, x3⟩, ⟨S128x256, x4⟩, ⟨S128x256, x5⟩,
      ⟨S128x256, x6⟩, ⟨S128x256, x7⟩]
      concatenates_S128x256_S128x256_S128x256_S128x256_S128x256_S128x256_S128x256_S128x256_S128x2048_d1 (ix2 r C)
      = f (blockOf C) (within C) := by
  have hC := C.isLt
  have e : ∀ (n : Fin 8) (d : Fin 256), n.val * 256 + d.val = C.val → f n d = f (blockOf C) (within C) := fun n d h =>
    congrArg₂ f (Fin.ext (by show n.val = C.val / 256; omega)) (Fin.ext (by show d.val = C.val % 256; omega))
  pointwise
  by_cases c0 : C.val < 256
  · rw [dif_pos c0]; exact (h0 _).trans (e 0 _ (by simp))
  rw [dif_neg c0]
  by_cases c1 : C.val - 256 < 256
  · rw [dif_pos c1]; exact (h1 _).trans (e 1 _ (by simp; omega))
  rw [dif_neg c1]
  by_cases c2 : C.val - 256 - 256 < 256
  · rw [dif_pos c2]; exact (h2 _).trans (e 2 _ (by simp; omega))
  rw [dif_neg c2]
  by_cases c3 : C.val - 256 - 256 - 256 < 256
  · rw [dif_pos c3]; exact (h3 _).trans (e 3 _ (by simp; omega))
  rw [dif_neg c3]
  by_cases c4 : C.val - 256 - 256 - 256 - 256 < 256
  · rw [dif_pos c4]; exact (h4 _).trans (e 4 _ (by simp; omega))
  rw [dif_neg c4]
  by_cases c5 : C.val - 256 - 256 - 256 - 256 - 256 < 256
  · rw [dif_pos c5]; exact (h5 _).trans (e 5 _ (by simp; omega))
  rw [dif_neg c5]
  by_cases c6 : C.val - 256 - 256 - 256 - 256 - 256 - 256 < 256
  · rw [dif_pos c6]; exact (h6 _).trans (e 6 _ (by simp; omega))
  rw [dif_neg c6]
  exact (h7 _).trans (e 7 _ (by simp; omega))

theorem pay3_at (w : Vec Ideal S4x2048 .f32) (p b0 b1 b2 : Vec Ideal S128x2048 .f32) (b : Vec Ideal S1x2048 .f32) (r : Fin 128) (d : Fin 2048) :
    k0_pay3 w p b b0 b1 b2 (ix2 r d) = tapsAt (p (ix2 r d)) (b0 (ix2 r d)) (b1 (ix2 r d)) (b2 (ix2 r d)) (b (ix2 0 d))
      (w (ix2 0 d)) (w (ix2 1 d)) (w (ix2 2 d)) (w (ix2 3 d)) := by
  pointwise [k0_pay3]
  rfl

theorem pay19_at (v : Vec Ideal S128x2048 .f32) (l : Vec Ideal S1x2048 .f32) (r : Fin 128) (d : Fin 2048) :
    k0_pay19 v l (ix2 r d) = logDecay (v (ix2 r d)) (l (ix2 0 d)) := by
  pointwise [k0_pay19]
  unfold logDecay softplus
  rw [zero_sub, zero_sub, if_neg (fun h => h rfl)]
  rfl

theorem pay1_at (x i a s t h : Vec Ideal S128x2048 .f32) (r : Fin 128) (d : Fin 2048) :
    k0_pay1 x i a s t h (ix2 r d) = a (ix2 r d) * h (ix2 r d) + Ideal.sqrt (s (ix2 r d) * t (ix2 r d)) * (i (ix2 r d) * x (ix2 r d)) := by
  pointwise [k0_pay1]

theorem pay2_at (x i a s t h y : Vec Ideal S128x2048 .f32) (r : Fin 128) (d : Fin 2048) :
    k0_pay2 x i a s t h y (ix2 r d) = gelu (y (ix2 r d)) * k0_pay1 x i a s t h (ix2 r d) := by
  unfold k0_pay2
  generalize k0_pay1 x i a s t h = u
  unfold gelu
  pointwise

section Body
variable (x0 x1 x2 x3 x4 x5 : Vec Ideal S128x2048 .f32) (x6 : Vec Ideal S4x2048 .f32) (x7 : Vec Ideal S1x2048 .f32)
  (x8 : Vec Ideal S8x256x256 .bf16) (x9 : Vec Ideal S1x2048 .f32) (x10 : Vec Ideal S8x256x256 .bf16) (x11 x12 : Vec Ideal S1x2048 .f32)

/-- The first gate the body computes. -/
theorem pay25_at (r : Fin 128) (C : Fin 2048) :
    k0_pay25 x0 x1 x2 x3 x4 x5 x6 x7 x8 x9 x10 x11 x12 (ix2 r C)
      = gateAt (fun k => k0_pay23 x0 x1 x2 x3 x4 x5 x6 x7 x8 x9 x10 x11 x12 (ix2 r k)) x8 (x9 (ix2 0 C)) C := by
  unfold k0_pay25 k0_pay24 k0_pay23 k0_pay9 k0_pay8 k0_pay7 k0_pay6 k0_pay5 k0_pay4
  generalize k0_pay3 (View.ld x6 r0_0) (View.ld x0 r0_1) (View.ld x7 r0_2) (View.ld x2 r0_1) (View.ld x3 r0_1) (View.ld x4 r0_1) = x
  dsimp only
  generalize hZ : concatenate S128x2048 1 _ _ = Z
  have hz : Z (ix2 r C) = ∑ k : Fin 256, @HMul.hMul EReal EReal EReal _ (x (ix2 r (col (blockOf C) k))) (x8 (ix3 (blockOf C) k (within C))) := by
    rw [← hZ]
    refine pieces_at _ _ _ _ _ _ _ _ (fun n d => ∑ k : Fin 256, @HMul.hMul EReal EReal EReal _ (x (ix2 r (col n k))) (x8 (ix3 n k d))) r C
      ?_ ?_ ?_ ?_ ?_ ?_ ?_ ?_ <;> intro d <;> pointwise
    all_goals rfl
  unfold gateAt
  rw [← Cert.Gates.logistic_eq, ← hz]
  pointwise

/-- The second gate the body computes. -/
theorem pay26_at (r : Fin 128) (C : Fin 2048) :
    k0_pay26 x0 x1 x2 x3 x4 x5 x6 x7 x8 x9 x10 x11 x12 (ix2 r C)
      = gateAt (fun k => k0_pay23 x0 x1 x2 x3 x4 x5 x6 x7 x8 x9 x10 x11 x12 (ix2 r k)) x10 (x11 (ix2 0 C)) C := by
  unfold k0_pay26 k0_pay24 k0_pay23 k0_pay18 k0_pay17 k0_pay16 k0_pay15 k0_pay14 k0_pay13 k0_pay12 k0_pay11 k0_pay10 k0_pay4
  generalize k0_pay3 (View.ld x6 r0_0) (View.ld x0 r0_1) (View.ld x7 r0_2) (View.ld x2 r0_1) (View.ld x3 r0_1) (View.ld x4 r0_1) = x
  dsimp only
  generalize hZ : concatenate S128x2048 1 _ _ = Z
  have hz : Z (ix2 r C) = ∑ k : Fin 256, @HMul.hMul EReal EReal EReal _ (x (ix2 r (col (blockOf C) k))) (x10 (ix3 (blockOf C) k (within C))) := by
    rw [← hZ]
    refine pieces_at _ _ _ _ _ _ _ _ (fun n d => ∑ k : Fin 256, @HMul.hMul EReal EReal EReal _ (x (ix2 r (col n k))) (x10 (ix3 n k d))) r C
      ?_ ?_ ?_ ?_ ?_ ?_ ?_ ?_ <;> intro d <;> pointwise
    all_goals rfl
  unfold gateAt
  rw [← Cert.Gates.logistic_eq, ← hz]
  pointwise

/-- The new state the body computes. -/
theorem state_at (r : Fin 128) (C : Fin 2048) (h : EReal) (hh : x5 (ix2 r C) = h) :
    k0_pay1 (k0_pay23 x0 x1 x2 x3 x4 x5 x6 x7 x8 x9 x10 x11 x12) (k0_pay26 x0 x1 x2 x3 x4 x5 x6 x7 x8 x9 x10 x11 x12)
      (k0_pay27 x0 x1 x2 x3 x4 x5 x6 x7 x8 x9 x10 x11 x12) (k0_pay28 x0 x1 x2 x3 x4 x5 x6 x7 x8 x9 x10 x11 x12)
      (k0_pay29 x0 x1 x2 x3 x4 x5 x6 x7 x8 x9 x10 x11 x12) x5 (ix2 r C)
      = updateAt (gateAt (fun k => k0_pay23 x0 x1 x2 x3 x4 x5 x6 x7 x8 x9 x10 x11 x12 (ix2 r k)) x10 (x11 (ix2 0 C)) C)
        (k0_pay23 x0 x1 x2 x3 x4 x5 x6 x7 x8 x9 x10 x11 x12 (ix2 r C))
        (logDecay (gateAt (fun k => k0_pay23 x0 x1 x2 x3 x4 x5 x6 x7 x8 x9 x10 x11 x12 (ix2 r k)) x8 (x9 (ix2 0 C)) C) (x12 (ix2 0 C))) h := by
  rw [pay1_at, pay26_at, ← pay25_at, hh]
  unfold k0_pay27 k0_pay28 k0_pay29 updateAt
  generalize k0_pay25 x0 x1 x2 x3 x4 x5 x6 x7 x8 x9 x10 x11 x12 = v
  have e : View.ld x12 r0_2 (ix2 0 C) = x12 (ix2 0 C) := by pointwise
  have hl := pay19_at v (View.ld x12 r0_2) r C
  rw [e] at hl
  rw [← hl, ← Cert.Gates.decay_eq]
  unfold k0_pay22 k0_pay21 k0_pay20
  generalize k0_pay19 v (View.ld x12 r0_2) = lg
  pointwise

end Body

/-! ## The blocks read from the arrays -/

variable (m : (ℓ : Loc nD τ sig) → Buf (Elt Ideal) ℓ)

/-- The arguments as launched: the projection, the buffered rows, the state, the convolution's taps and bias, the gates'
    weights and biases, the decay's parameter. -/
abbrev pArr (c : Dev nD) : Vec Ideal S128x4096 .f32 := m ((c : Thread nD τ).loc main_arg0)
abbrev bufArr (c : Dev nD) : Vec Ideal S128x3x2048 .f32 := m ((c : Thread nD τ).loc main_arg1)
abbrev hArr (c : Dev nD) : Vec Ideal S128x2048 .f32 := m ((c : Thread nD τ).loc main_arg2)
abbrev cwArr (c : Dev nD) : Vec Ideal S4x2048 .f32 := m ((c : Thread nD τ).loc main_arg3)
abbrev cbArr (c : Dev nD) : Vec Ideal S2048 .f32 := m ((c : Thread nD τ).loc main_arg4)
abbrev waArr (c : Dev nD) : Vec Ideal S8x256x256 .bf16 := m ((c : Thread nD τ).loc main_arg5)
abbrev baArr (c : Dev nD) : Vec Ideal S2048 .f32 := m ((c : Thread nD τ).loc main_arg6)
abbrev wiArr (c : Dev nD) : Vec Ideal S8x256x256 .bf16 := m ((c : Thread nD τ).loc main_arg7)
abbrev biArr (c : Dev nD) : Vec Ideal S2048 .f32 := m ((c : Thread nD τ).loc main_arg8)
abbrev lamArr (c : Dev nD) : Vec Ideal S2048 .f32 := m ((c : Thread nD τ).loc main_arg9)

/-- The block numbers of the windows on the one grid point. -/
theorem block_at : ∀ t : Fin grid0.N, (win0_0.index t = ![0, 0] ∧ win0_1.index t = ![0, 1] ∧ win0_2.index t = ![0, 0]
    ∧ win0_3.index t = ![0, 0] ∧ win0_4.index t = ![0, 0] ∧ win0_5.index t = ![0, 0] ∧ win0_6.index t = ![0, 0])
    ∧ (win0_7.index t = ![0, 0] ∧ win0_8.index t = ![0, 0, 0] ∧ win0_9.index t = ![0, 0] ∧ win0_10.index t = ![0, 0, 0]
    ∧ win0_11.index t = ![0, 0] ∧ win0_12.index t = ![0, 0] ∧ win0_13.index t = ![0, 0] ∧ win0_14.index t = ![0, 0]) := by
  decide +kernel

theorem p_read (c : Dev nD) (t : Fin cfg0.N) (r : Fin 128) (d : Fin 2048) :
    (iblk m c 0 t : Vec Ideal S128x2048 .f32) (ix2 r d) = pArr m c (ix2 r ⟨d.val, by omega⟩) := by
  obtain ⟨⟨e, -⟩, -⟩ := block_at t
  blk_ext [iblk, V, e]

theorem y_read (c : Dev nD) (t : Fin cfg0.N) (r : Fin 128) (d : Fin 2048) (D : Fin 4096) (hD : D.val = 2048 + d.val) :
    (iblk m c 1 t : Vec Ideal S128x2048 .f32) (ix2 r d) = pArr m c (ix2 r D) := by
  obtain ⟨⟨-, e, -⟩, -⟩ := block_at t
  blk_ext [iblk, V, e]

theorem b0_read (c : Dev nD) (t : Fin cfg0.N) (r : Fin 128) (d : Fin 2048) :
    (iblk m c 2 t : Vec Ideal S128x2048 .f32) (ix2 r d) = bufArr m c (ix3 r 0 d) := by
  obtain ⟨⟨-, -, e, -⟩, -⟩ := block_at t
  blk_ext! [iblk, V, e]

theorem b1_read (c : Dev nD) (t : Fin cfg0.N) (r : Fin 128) (d : Fin 2048) :
    (iblk m c 3 t : Vec Ideal S128x2048 .f32) (ix2 r d) = bufArr m c (ix3 r 1 d) := by
  obtain ⟨⟨-, -, -, e, -⟩, -⟩ := block_at t
  blk_ext! [iblk, V, e]

theorem b2_read (c : Dev nD) (t : Fin cfg0.N) (r : Fin 128) (d : Fin 2048) :
    (iblk m c 4 t : Vec Ideal S128x2048 .f32) (ix2 r d) = bufArr m c (ix3 r 2 d) := by
  obtain ⟨⟨-, -, -, -, e, -⟩, -⟩ := block_at t
  blk_ext! [iblk, V, e]

theorem h_read (c : Dev nD) (t : Fin cfg0.N) (r : Fin 128) (d : Fin 2048) :
    (iblk m c 5 t : Vec Ideal S128x2048 .f32) (ix2 r d) = hArr m c (ix2 r d) := by
  obtain ⟨⟨-, -, -, -, -, e, -⟩, -⟩ := block_at t
  blk_ext [iblk, V, e]

theorem cw_read (c : Dev nD) (t : Fin cfg0.N) (a : Fin 4) (d : Fin 2048) :
    (iblk m c 6 t : Vec Ideal S4x2048 .f32) (ix2 a d) = cwArr m c (ix2 a d) := by
  obtain ⟨⟨-, -, -, -, -, -, e⟩, -⟩ := block_at t
  blk_ext [iblk, V, e]

theorem cb_read (c : Dev nD) (t : Fin cfg0.N) (d : Fin 2048) :
    (iblk m c 7 t : Vec Ideal S1x2048 .f32) (ix2 0 d) = cbArr m c (ix1 d) := by
  obtain ⟨-, e, -⟩ := block_at t
  blk_ext! [iblk, V, e]

theorem wa_read (c : Dev nD) (t : Fin cfg0.N) (n : Fin 8) (k d : Fin 256) :
    (iblk m c 8 t : Vec Ideal S8x256x256 .bf16) (ix3 n k d) = waArr m c (ix3 n k d) := by
  obtain ⟨-, -, e, -⟩ := block_at t
  blk_ext [iblk, V, e]

theorem ba_read (c : Dev nD) (t : Fin cfg0.N) (d : Fin 2048) :
    (iblk m c 9 t : Vec Ideal S1x2048 .f32) (ix2 0 d) = baArr m c (ix1 d) := by
  obtain ⟨-, -, -, e, -⟩ := block_at t
  blk_ext! [iblk, V, e]

theorem wi_read (c : Dev nD) (t : Fin cfg0.N) (n : Fin 8) (k d : Fin 256) :
    (iblk m c 10 t : Vec Ideal S8x256x256 .bf16) (ix3 n k d) = wiArr m c (ix3 n k d) := by
  obtain ⟨-, -, -, -, e, -⟩ := block_at t
  blk_ext [iblk, V, e]

theorem bi_read (c : Dev nD) (t : Fin cfg0.N) (d : Fin 2048) :
    (iblk m c 11 t : Vec Ideal S1x2048 .f32) (ix2 0 d) = biArr m c (ix1 d) := by
  obtain ⟨-, -, -, -, -, e, -⟩ := block_at t
  blk_ext! [iblk, V, e]

theorem lam_read (c : Dev nD) (t : Fin cfg0.N) (d : Fin 2048) :
    (iblk m c 12 t : Vec Ideal S1x2048 .f32) (ix2 0 d) = lamArr m c (ix1 d) := by
  obtain ⟨-, -, -, -, -, -, e, -⟩ := block_at t
  blk_ext! [iblk, V, e]

/-! ## The result arrays -/

/-- The convolved input of the block is the arguments'. -/
theorem in_read (c : Dev nD) (t : Fin cfg0.N) (r : Fin 128) (d : Fin 2048) :
    k0_pay23 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (ix2 r d)
      = inAt (pArr m c) (bufArr m c) (cwArr m c) (cbArr m c) r d := by
  unfold k0_pay23 inAt
  rw [← p_read m c t, ← b0_read m c t, ← b1_read m c t, ← b2_read m c t, ← cb_read m c t, ← cw_read m c t, ← cw_read m c t,
    ← cw_read m c t, ← cw_read m c t]
  refine (pay3_at _ _ _ _ _ _ _ _).trans ?_
  pointwise

/-- The gate over the block's values is the gate over the arguments'. -/
theorem gate_congr (x x' : Fin 2048 → EReal) (W W' : Vec Ideal S8x256x256 .bf16) (b b' : EReal) (C : Fin 2048)
    (hx : ∀ k, x k = x' k) (hW : ∀ n k d, W (ix3 n k d) = W' (ix3 n k d)) (hb : b = b') :
    gateAt x W b C = gateAt x' W' b' C := by
  unfold gateAt
  rw [hb]
  refine congrArg (fun z : EReal => Ideal.div 1 (1 + Ideal.exp (-(z + b')))) (Finset.sum_congr rfl fun k _ => ?_)
  rw [hx, hW]

/-- The state the body computes from the blocks is the arguments'. -/
theorem state_read (c : Dev nD) (t : Fin cfg0.N) (r : Fin 128) (d : Fin 2048) :
    k0_pay1 (k0_pay23 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t))
      (k0_pay26 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t))
      (k0_pay27 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t))
      (k0_pay28 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t))
      (k0_pay29 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t)) (iblk m c 5 t) (ix2 r d)
      = stateAt (pArr m c) (bufArr m c) (hArr m c) (cwArr m c) (cbArr m c) (waArr m c) (baArr m c) (wiArr m c) (biArr m c) (lamArr m c) r d := by
  refine (state_at _ _ _ _ _ _ _ _ _ _ _ _ _ r d _ (h_read m c t r d)).trans ?_
  unfold stateAt
  rw [in_read, lam_read]
  refine congrArg₂ (fun i g : EReal => updateAt i (inAt (pArr m c) (bufArr m c) (cwArr m c) (cbArr m c) r d) (logDecay g (lamArr m c (ix1 d)))
    (hArr m c (ix2 r d))) ?_ ?_
  · exact gate_congr _ _ _ _ _ _ _ (fun k => in_read m c t r k) (fun n k d => wi_read m c t n k d) (bi_read m c t d)
  · exact gate_congr _ _ _ _ _ _ _ (fun k => in_read m c t r k) (fun n k d => wa_read m c t n k d) (ba_read m c t d)

/-- The kernel's second result array. -/
theorem final_state (c : Dev nD) : (dats m 0 c).arrAt 14 cfg0.N
    = state (pArr m c) (bufArr m c) (hArr m c) (cwArr m c) (cbArr m c) (waArr m c) (baArr m c) (wiArr m c) (biArr m c) (lamArr m c) := by
  refine (dats m 0 c).arrAt_eq_of_covers 14 _ (by decide +kernel) fun t hf y => ?_
  blk_simp
  rw [after0_14]
  unfold out0_14
  frame_out
  obtain ⟨-, -, -, -, -, -, -, -, e⟩ := block_at t
  generalize hI : ((View.whole main_v10_1).slice (win0_14.rect t)).emb y = I
  have hI0 : (I 0).val = (y 0).val := by
    rw [← hI]
    refine (Pipeline.Window.rect_emb_val win0_14 t y 0).trans ?_
    rw [e]; exact Nat.zero_add _
  have hI1 : (I 1).val = (y 1).val := by
    rw [← hI]
    refine (Pipeline.Window.rect_emb_val win0_14 t y 1).trans ?_
    rw [e]; exact Nat.zero_add _
  idx_vars y
  have e0 : y0 = I 0 := Fin.ext hI0.symm
  have e1 : y1 = I 1 := Fin.ext hI1.symm
  rw [e0, e1]
  exact state_read m c t (I 0) (I 1)

/-- The kernel's first result array. -/
theorem final_gated (c : Dev nD) : (dats m 0 c).arrAt 13 cfg0.N
    = gated (pArr m c) (bufArr m c) (hArr m c) (cwArr m c) (cbArr m c) (waArr m c) (baArr m c) (wiArr m c) (biArr m c) (lamArr m c) := by
  refine (dats m 0 c).arrAt_eq_of_covers 13 _ (by decide +kernel) fun t hf y => ?_
  blk_simp
  rw [after0_13]
  unfold out0_13
  frame_out
  obtain ⟨-, -, -, -, -, -, -, e, -⟩ := block_at t
  generalize hI : ((View.whole main_v10_0).slice (win0_13.rect t)).emb y = I
  have hI0 : (I 0).val = (y 0).val := by
    rw [← hI]
    refine (Pipeline.Window.rect_emb_val win0_13 t y 0).trans ?_
    rw [e]; exact Nat.zero_add _
  have hI1 : (I 1).val = (y 1).val := by
    rw [← hI]
    refine (Pipeline.Window.rect_emb_val win0_13 t y 1).trans ?_
    rw [e]; exact Nat.zero_add _
  idx_vars y
  have e0 : y0 = I 0 := Fin.ext hI0.symm
  have e1 : y1 = I 1 := Fin.ext hI1.symm
  rw [e0, e1]
  refine (pay2_at _ _ _ _ _ _ _ _ _).trans ?_
  exact congrArg₂ (fun a b : EReal => gelu a * b) (y_read m c t (I 0) (I 1) _ rfl) (state_read m c t (I 0) (I 1))

end Cert.StepIdeal.Value
-- ==== Proof.StepRead.lean ====
/- The recurrent step's reference read at an element: the same convolution, gates, decay and update. -/
module

public import proofs.«01_k».proof.Proof.Gen.StepRefIdeal.Read
public import proofs.«01_k».proof.Proof.StepFinal

@[expose] public section

set_option maxRecDepth 16384

noncomputable section

namespace Cert.StepRefIdeal.Read

open Cert.StepRefIdeal Cert.StepRefIdeal.Gen Idealize.ShloMosaic Idealize.ShloMosaic.TcCoe Idealize.SL.Sem
open Cert.Gates (gelu)
open Cert.StepIdeal.Value (softplus col blockOf within gateAt tapsAt logDecay updateAt inAt stateAt state gated)

variable (P : Vec Ideal S128x4096 .f32) (B : Vec Ideal S128x3x2048 .f32) (H : Vec Ideal S128x2048 .f32) (cw : Vec Ideal S4x2048 .f32)
  (cb : Vec Ideal S2048 .f32) (wa : Vec Ideal S8x256x256 .bf16) (ba : Vec Ideal S2048 .f32) (wi : Vec Ideal S8x256x256 .bf16)
  (bi lam : Vec Ideal S2048 .f32)

/-- The convolved input. -/
theorem conv (R : Fin 128) (C : Fin 2048) : val_main_v37 (F := Ideal) P B cw cb (ix2 R C) = inAt P B cw cb R C := by
  pointwise [val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  rfl

/-- The first gate. -/
theorem gate_a (R : Fin 128) (C : Fin 2048) :
    val_main_v51 (F := Ideal) P B cw cb wa ba (ix2 R C) = gateAt (inAt P B cw cb R) wa (ba (ix1 C)) C := by
  have hc := conv P B cw cb R
  pointwise [val_main_v51, val_main_v50, val_main_v49, val_main_v48, val_main_v47, val_main_v46, val_main_v45, val_main_v44, val_main_v43, val_main_v42, val_main_v41, val_main_v40, val_main_v39, val_main_v38, val_main_cst, val_main_cst_0]
  unfold gateAt
  refine congrArg (fun z : EReal => Ideal.div 1 (1 + Ideal.exp (-(z + ba (ix1 C))))) (Finset.sum_congr rfl fun k _ => ?_)
  rw [hc]
  exact mul_comm _ _

/-- The second gate. -/
theorem gate_i (R : Fin 128) (C : Fin 2048) :
    val_main_v65 (F := Ideal) P B cw cb wi bi (ix2 R C) = gateAt (inAt P B cw cb R) wi (bi (ix1 C)) C := by
  have hc := conv P B cw cb R
  pointwise [val_main_v65, val_main_v64, val_main_v63, val_main_v62, val_main_v61, val_main_v60, val_main_v59, val_main_v58, val_main_v57, val_main_v56, val_main_v55, val_main_v54, val_main_v53, val_main_v52, val_main_cst_1, val_main_cst_2]
  unfold gateAt
  refine congrArg (fun z : EReal => Ideal.div 1 (1 + Ideal.exp (-(z + bi (ix1 C))))) (Finset.sum_congr rfl fun k _ => ?_)
  rw [hc]
  exact mul_comm _ _

/-- The logarithm of the decay. -/
theorem decay (R : Fin 128) (C : Fin 2048) :
    val_main_v72 (F := Ideal) P B cw cb wa ba lam (ix2 R C)
      = logDecay (val_main_v51 (F := Ideal) P B cw cb wa ba (ix2 R C)) (lam (ix1 C)) := by
  unfold val_main_v72 val_main_v67
  generalize val_main_v51 (F := Ideal) P B cw cb wa ba = r
  pointwise [val_main_v71, val_main_v70, val_main_v69, val_main_v68, val_main_v66, val_main_cst_3, val_main_call0_v11, val_main_call0_v10,
    val_main_call0_v9, val_main_call0_v8, val_main_call0_v7, val_main_call0_v6, val_main_call0_v5, val_main_call0_v4, val_main_call0_v3,
    val_main_call0_v2, val_main_call0_v1, val_main_call0_v0, val_main_call0_cst]
  unfold logDecay softplus
  rw [if_neg (fun h => h rfl)]
  rfl

/-- The state from the gates. -/
theorem upd (R : Fin 128) (C : Fin 2048) :
    val_main_v82 (F := Ideal) P B H cw cb wa ba wi bi lam (ix2 R C)
      = updateAt (val_main_v65 (F := Ideal) P B cw cb wi bi (ix2 R C)) (val_main_v37 (F := Ideal) P B cw cb (ix2 R C))
        (val_main_v72 (F := Ideal) P B cw cb wa ba lam (ix2 R C)) (H (ix2 R C)) := by
  unfold val_main_v82 val_main_v81 val_main_v80 val_main_v79 val_main_v78 val_main_v77 val_main_v76 val_main_v75 val_main_v74 val_main_v73
  generalize val_main_v72 (F := Ideal) P B cw cb wa ba lam = lg
  generalize val_main_v65 (F := Ideal) P B cw cb wi bi = i
  generalize val_main_v37 (F := Ideal) P B cw cb = x
  pointwise [val_main_cst_4]
  rfl

/-- The gelu times the state. -/
theorem out (R : Fin 128) (C : Fin 2048) :
    val_main_v97 (F := Ideal) P B H cw cb wa ba wi bi lam (ix2 R C)
      = gelu (P (ix2 R ⟨2048 + C.val, by omega⟩)) * val_main_v82 (F := Ideal) P B H cw cb wa ba wi bi lam (ix2 R C) := by
  unfold val_main_v97 val_main_v96
  generalize val_main_v82 (F := Ideal) P B H cw cb wa ba wi bi lam = u
  pointwise [val_main_v95, val_main_v94, val_main_v93, val_main_v92, val_main_v91, val_main_v90, val_main_v89, val_main_v88, val_main_v87, val_main_v86, val_main_v85, val_main_v84, val_main_v83, val_main_v1, val_main_cst_5, val_main_cst_6, val_main_cst_7, val_main_cst_8]
  unfold gelu
  rw [mul_assoc (P _) (P _) (P _)]

/-- The reference's second result is the kernel's. -/
theorem final_state : val_main_v82 (F := Ideal) P B H cw cb wa ba wi bi lam = state P B H cw cb wa ba wi bi lam := by
  funext i
  idx_vars i
  rw [upd, gate_i, conv, decay, gate_a]
  rfl

/-- The reference's first result is the kernel's. -/
theorem final_gated : val_main_v97 (F := Ideal) P B H cw cb wa ba wi bi lam = gated P B H cw cb wa ba wi bi lam := by
  funext i
  idx_vars i
  rw [out, final_state]
  rfl

end Cert.StepRefIdeal.Read
-- ==== Proof.StepClaim.lean ====
/- The recurrent block's one-token step: the kernel and the reference leave the same arrays, and the three programs run to completion. -/
module

public import proofs.«01_k».proof.Defs
public import proofs.«01_k».proof.Proof.StepRead
public import proofs.«01_k».proof.Proof.Gen.Step.Frame
public import proofs.«01_k».proof.Proof.Gen.StepRefIdeal.Run

@[expose] public section

set_option maxRecDepth 16384

noncomputable section

namespace Cert.StepPair

open Idealize.ShloMosaic Idealize.ShloMosaic.TcCoe Idealize.SL.Sem

/-- Both programs run and leave the gated row and the new state. -/
theorem algebraic : Cert.algebraic_StepIdeal_StepRefIdeal := fun m ρ m' ρ' hpre hag =>
  ⟨fun c => Cert.StepIdeal.Value.gated (m (c.tc.loc Cert.StepIdeal.main_arg0)) (m (c.tc.loc Cert.StepIdeal.main_arg1)) (m (c.tc.loc Cert.StepIdeal.main_arg2)) (m (c.tc.loc Cert.StepIdeal.main_arg3)) (m (c.tc.loc Cert.StepIdeal.main_arg4))
      (m (c.tc.loc Cert.StepIdeal.main_arg5)) (m (c.tc.loc Cert.StepIdeal.main_arg6)) (m (c.tc.loc Cert.StepIdeal.main_arg7)) (m (c.tc.loc Cert.StepIdeal.main_arg8)) (m (c.tc.loc Cert.StepIdeal.main_arg9)),
    fun c => Cert.StepIdeal.Value.state (m (c.tc.loc Cert.StepIdeal.main_arg0)) (m (c.tc.loc Cert.StepIdeal.main_arg1)) (m (c.tc.loc Cert.StepIdeal.main_arg2)) (m (c.tc.loc Cert.StepIdeal.main_arg3)) (m (c.tc.loc Cert.StepIdeal.main_arg4))
      (m (c.tc.loc Cert.StepIdeal.main_arg5)) (m (c.tc.loc Cert.StepIdeal.main_arg6)) (m (c.tc.loc Cert.StepIdeal.main_arg7)) (m (c.tc.loc Cert.StepIdeal.main_arg8)) (m (c.tc.loc Cert.StepIdeal.main_arg9)),
    (θ_run _ _ _).mono (fun r h c => ⟨(h c).1.trans (Cert.StepIdeal.Value.final_gated m c),
      (h c).2.1.trans (Cert.StepIdeal.Value.final_state m c), (h c).2.2⟩) (Cert.StepIdeal.Value.run_blocks m ρ),
    (θ_run _ _ _).mono (fun r h c => ⟨(h c).1.trans (by
      obtain ⟨e0, e1, e2, e3, e4, e5, e6, e7, e8, e9⟩ := hag c
      rw [Cert.StepRefIdeal.Read.val_main_v97_eq, Cert.StepRefIdeal.Read.final_gated, e0, e1, e2, e3, e4, e5, e6, e7, e8, e9]),
      (h c).2.1.trans (by
      obtain ⟨e0, e1, e2, e3, e4, e5, e6, e7, e8, e9⟩ := hag c
      rw [Cert.StepRefIdeal.Read.val_main_v82_eq, Cert.StepRefIdeal.Read.final_state, e0, e1, e2, e3, e4, e5, e6, e7, e8, e9]), (h c).2.2⟩)
      (Cert.StepRefIdeal.Value.run m' ρ')⟩

/-- The kernel's frame. -/
theorem frame_p : Cert.quiescent_Step := fun m ρ _ => Cert.Step.Gen.frame m ρ

/-- The idealized kernel's frame. -/
theorem frame_pi : Cert.quiescent_StepIdeal := fun m ρ _ => Cert.StepIdeal.Gen.frame m ρ

/-- The reference's frame: its run, and it has no counters. -/
theorem frame_ri : Cert.quiescent_StepRefIdeal := fun m ρ _ =>
  (θ_run _ _ _).mono (fun r h => ⟨fun c => (h c).2.2, sem_eq_zero_of_no_sems (by decide) r.2⟩) (Cert.StepRefIdeal.Value.run m ρ)

end Cert.StepPair

end
-- ==== Proof.FfnStepFinal.lean ====
/- The one-token step of the gate and up projections: the kernel's two result arrays in terms of its arguments. -/
module

public import proofs.«01_k».proof.Proof.Gates
public import proofs.«01_k».proof.Proof.Gen.FfnStepIdeal.Value

@[expose] public section

set_option maxRecDepth 16384

noncomputable section

namespace Cert.FfnStepIdeal.Value

open Cert.FfnStepIdeal Cert.FfnStepIdeal.Gen Idealize.ShloMosaic Idealize.ShloMosaic.TcCoe Idealize.SL.Sem
open Idealize.ShloMosaic.Pipeline (Dat)
open Cert.Gates (gelu)

/-! ## The step's quantities -/

section Args
variable (X : Vec Ideal S128x2048 .bf16) (Wg Wu : Vec Ideal S4x2048x6144 .f32) (cw : Vec Ideal S4x3x6144 .f32)
  (cb : Vec Ideal S4x1x6144 .f32) (B : Vec Ideal S128x2x6144 .f32)

/-- A row times a column of the first layer's weights. -/
def projAt (W : Vec Ideal S4x2048x6144 .f32) (R : Fin 128) (C : Fin 6144) : EReal :=
  ∑ k : Fin 2048, @HMul.hMul EReal EReal EReal _ (X (ix2 R k)) (W (ix3 0 k C))

/-- The three-tap convolution of the gate over the two buffered rows and the new one. -/
def convAt (R : Fin 128) (C : Fin 6144) : EReal :=
  cb (ix3 0 0 C) + B (ix3 R 0 C) * cw (ix3 0 0 C) + B (ix3 R 1 C) * cw (ix3 0 1 C) + projAt X Wg R C * cw (ix3 0 2 C)

/-- The first result: the gelu of the convolved gate times the up projection. -/
def gated : Vec Ideal S128x6144 .bf16 := fun i => gelu (convAt X Wg cw cb B (i 0) (i 1)) * projAt X Wu (i 0) (i 1)

/-- The second result: the gate projection. -/
def newRow : Vec Ideal S128x6144 .f32 := fun i => projAt X Wg (i 0) (i 1)

end Args

/-! ## The stored values at an index -/

theorem pay2_at (x : Vec Ideal S128x2048 .bf16) (w : Vec Ideal S1x2048x512 .f32) (r : Fin 128) (d : Fin 512) :
    k0_pay2 x w (ix2 r d) = ∑ k : Fin 2048, @HMul.hMul EReal EReal EReal _ (x (ix2 r k)) (w (ix3 0 k d)) := by
  pointwise [k0_pay2]

theorem pay3_at (x : Vec Ideal S128x2048 .bf16) (w : Vec Ideal S1x2048x512 .f32) (r : Fin 128) (d : Fin 512) :
    k0_pay3 x w (ix2 r d) = ∑ k : Fin 2048, @HMul.hMul EReal EReal EReal _ (x (ix2 r k)) (w (ix3 0 k d)) := by
  pointwise [k0_pay3]

theorem pay4_at (x : Vec Ideal S128x2048 .bf16) (w : Vec Ideal S1x2048x512 .f32) (b1 b0 : Vec Ideal S128x512 .f32)
    (cw : Vec Ideal S1x3x512 .f32) (cb : Vec Ideal S1x1x512 .f32) (r : Fin 128) (d : Fin 512) :
    k0_pay4 x w b1 b0 cw cb (ix2 r d) = cb (ix3 0 0 d) + b0 (ix2 r d) * cw (ix3 0 0 d) + b1 (ix2 r d) * cw (ix3 0 1 d)
      + k0_pay2 x w (ix2 r d) * cw (ix3 0 2 d) := by
  unfold k0_pay4
  generalize k0_pay2 x w = g
  pointwise

theorem pay1_at (x : Vec Ideal S128x2048 .bf16) (w : Vec Ideal S1x2048x512 .f32) (b1 b0 : Vec Ideal S128x512 .f32)
    (cw : Vec Ideal S1x3x512 .f32) (cb : Vec Ideal S1x1x512 .f32) (u : Vec Ideal S128x512 .f32) (r : Fin 128) (d : Fin 512) :
    k0_pay1 u (k0_pay4 x w b1 b0 cw cb) (k0_pay5 x w b1 b0 cw cb) (ix2 r d)
      = gelu (k0_pay4 x w b1 b0 cw cb (ix2 r d)) * u (ix2 r d) := by
  unfold k0_pay1 k0_pay5 gelu
  generalize k0_pay4 x w b1 b0 cw cb = z
  pointwise

/-! ## The blocks read from the arrays -/

variable (m : (ℓ : Loc nD τ sig) → Buf (Elt Ideal) ℓ)

/-- The arguments as launched: the rows, the gate and up weights, the convolution's taps and bias, the buffered rows. -/
abbrev xArr (c : Dev nD) : Vec Ideal S128x2048 .bf16 := m ((c : Thread nD τ).loc main_arg0)
abbrev wgArr (c : Dev nD) : Vec Ideal S4x2048x6144 .f32 := m ((c : Thread nD τ).loc main_arg1)
abbrev wuArr (c : Dev nD) : Vec Ideal S4x2048x6144 .f32 := m ((c : Thread nD τ).loc main_arg2)
abbrev cwArr (c : Dev nD) : Vec Ideal S4x3x6144 .f32 := m ((c : Thread nD τ).loc main_arg3)
abbrev cbArr (c : Dev nD) : Vec Ideal S4x1x6144 .f32 := m ((c : Thread nD τ).loc main_arg4)
abbrev bufArr (c : Dev nD) : Vec Ideal S128x2x6144 .f32 := m ((c : Thread nD τ).loc main_arg5)

/-- The block numbers of the nine windows at each grid point. -/
theorem block_at : ∀ t : Fin grid0.N, win0_0.index t = ![0, 0] ∧ win0_1.index t = ![0, 0, t.val] ∧ win0_2.index t = ![0, 0, t.val]
    ∧ win0_3.index t = ![0, 0, t.val] ∧ win0_4.index t = ![0, 0, t.val] ∧ win0_5.index t = ![0, t.val] ∧ win0_6.index t = ![0, t.val]
    ∧ win0_7.index t = ![0, t.val] ∧ win0_8.index t = ![0, t.val] := by decide +kernel

theorem x_read (c : Dev nD) (t : Fin cfg0.N) (r : Fin 128) (k : Fin 2048) :
    (iblk m c 0 t : Vec Ideal S128x2048 .bf16) (ix2 r k) = xArr m c (ix2 r k) := by
  obtain ⟨e, -⟩ := block_at t
  blk_ext [iblk, V, e]

theorem wg_read (c : Dev nD) (t : Fin cfg0.N) (k : Fin 2048) (d : Fin 512) (C : Fin 6144) (hC : C.val = t.val * 512 + d.val) :
    (iblk m c 1 t : Vec Ideal S1x2048x512 .f32) (ix3 0 k d) = wgArr m c (ix3 0 k C) := by
  obtain ⟨-, e, -⟩ := block_at t
  blk_ext [iblk, V, e]

theorem wu_read (c : Dev nD) (t : Fin cfg0.N) (k : Fin 2048) (d : Fin 512) (C : Fin 6144) (hC : C.val = t.val * 512 + d.val) :
    (iblk m c 2 t : Vec Ideal S1x2048x512 .f32) (ix3 0 k d) = wuArr m c (ix3 0 k C) := by
  obtain ⟨-, -, e, -⟩ := block_at t
  blk_ext [iblk, V, e]

theorem cw_read (c : Dev nD) (t : Fin cfg0.N) (a : Fin 3) (d : Fin 512) (C : Fin 6144) (hC : C.val = t.val * 512 + d.val) :
    (iblk m c 3 t : Vec Ideal S1x3x512 .f32) (ix3 0 a d) = cwArr m c (ix3 0 a C) := by
  obtain ⟨-, -, -, e, -⟩ := block_at t
  blk_ext [iblk, V, e]

theorem cb_read (c : Dev nD) (t : Fin cfg0.N) (d : Fin 512) (C : Fin 6144) (hC : C.val = t.val * 512 + d.val) :
    (iblk m c 4 t : Vec Ideal S1x1x512 .f32) (ix3 0 0 d) = cbArr m c (ix3 0 0 C) := by
  obtain ⟨-, -, -, -, e, -⟩ := block_at t
  blk_ext [iblk, V, e]

theorem b0_read (c : Dev nD) (t : Fin cfg0.N) (r : Fin 128) (d : Fin 512) (C : Fin 6144) (hC : C.val = t.val * 512 + d.val) :
    (iblk m c 5 t : Vec Ideal S128x512 .f32) (ix2 r d) = bufArr m c (ix3 r 0 C) := by
  obtain ⟨-, -, -, -, -, e, -⟩ := block_at t
  blk_ext! [iblk, V, e]

theorem b1_read (c : Dev nD) (t : Fin cfg0.N) (r : Fin 128) (d : Fin 512) (C : Fin 6144) (hC : C.val = t.val * 512 + d.val) :
    (iblk m c 6 t : Vec Ideal S128x512 .f32) (ix2 r d) = bufArr m c (ix3 r 1 C) := by
  obtain ⟨-, -, -, -, -, -, e, -⟩ := block_at t
  blk_ext! [iblk, V, e]

/-- A block's gate projection is the arguments'. -/
theorem gate_read (c : Dev nD) (t : Fin cfg0.N) (r : Fin 128) (d : Fin 512) (C : Fin 6144) (hC : C.val = t.val * 512 + d.val) :
    k0_pay2 (iblk m c 0 t) (iblk m c 1 t) (ix2 r d) = projAt (xArr m c) (wgArr m c) r C := by
  refine (pay2_at _ _ _ _).trans (Finset.sum_congr rfl fun k _ => ?_)
  exact congrArg₂ (fun a b : EReal => a * b) (x_read m c t r k) (wg_read m c t k d C hC)

/-- A block's up projection is the arguments'. -/
theorem up_read (c : Dev nD) (t : Fin cfg0.N) (r : Fin 128) (d : Fin 512) (C : Fin 6144) (hC : C.val = t.val * 512 + d.val) :
    k0_pay3 (iblk m c 0 t) (iblk m c 2 t) (ix2 r d) = projAt (xArr m c) (wuArr m c) r C := by
  refine (pay3_at _ _ _ _).trans (Finset.sum_congr rfl fun k _ => ?_)
  exact congrArg₂ (fun a b : EReal => a * b) (x_read m c t r k) (wu_read m c t k d C hC)

/-! ## The result arrays -/

/-- The kernel's second result array. -/
theorem final_row (c : Dev nD) : (dats m 0 c).arrAt 8 cfg0.N = newRow (xArr m c) (wgArr m c) := by
  refine (dats m 0 c).arrAt_eq_of_covers 8 _ (by decide +kernel) fun t hf y => ?_
  blk_simp
  rw [after0_8]
  unfold out0_8
  frame_out
  obtain ⟨-, -, -, -, -, -, -, -, e⟩ := block_at t
  generalize hI : ((View.whole main_v4_1).slice (win0_8.rect t)).emb y = I
  have hI0 : (I 0).val = (y 0).val := by
    rw [← hI]
    refine (Pipeline.Window.rect_emb_val win0_8 t y 0).trans ?_
    rw [e]; exact Nat.zero_add _
  have hI1 : (I 1).val = t.val * 512 + (y 1).val := by
    rw [← hI]
    refine (Pipeline.Window.rect_emb_val win0_8 t y 1).trans ?_
    rw [e]; rfl
  idx_vars y
  have e0 : y0 = I 0 := Fin.ext hI0.symm
  rw [e0]
  exact gate_read m c t (I 0) y1 (I 1) hI1

/-- The kernel's first result array. -/
theorem final_gated (c : Dev nD) : (dats m 0 c).arrAt 7 cfg0.N
    = gated (xArr m c) (wgArr m c) (wuArr m c) (cwArr m c) (cbArr m c) (bufArr m c) := by
  refine (dats m 0 c).arrAt_eq_of_covers 7 _ (by decide +kernel) fun t hf y => ?_
  blk_simp
  rw [after0_7]
  unfold out0_7
  frame_out
  obtain ⟨-, -, -, -, -, -, -, e, -⟩ := block_at t
  generalize hI : ((View.whole main_v4_0).slice (win0_7.rect t)).emb y = I
  have hI0 : (I 0).val = (y 0).val := by
    rw [← hI]
    refine (Pipeline.Window.rect_emb_val win0_7 t y 0).trans ?_
    rw [e]; exact Nat.zero_add _
  have hI1 : (I 1).val = t.val * 512 + (y 1).val := by
    rw [← hI]
    refine (Pipeline.Window.rect_emb_val win0_7 t y 1).trans ?_
    rw [e]; rfl
  idx_vars y
  have e0 : y0 = I 0 := Fin.ext hI0.symm
  rw [e0]
  refine (pay1_at _ _ _ _ _ _ _ _ _).trans ?_
  refine congrArg₂ (fun a b : EReal => gelu a * b) ((pay4_at _ _ _ _ _ _ _ _).trans ?_) (up_read m c t (I 0) y1 (I 1) hI1)
  rw [gate_read m c t (I 0) y1 (I 1) hI1, cb_read m c t y1 (I 1) hI1, cw_read m c t 0 y1 (I 1) hI1, cw_read m c t 1 y1 (I 1) hI1,
    cw_read m c t 2 y1 (I 1) hI1, b0_read m c t (I 0) y1 (I 1) hI1, b1_read m c t (I 0) y1 (I 1) hI1]
  rfl

end Cert.FfnStepIdeal.Value
-- ==== Proof.FfnStepRead.lean ====
/- The reference of the one-token gate and up step read at an element: the same projections, convolution, gelu and product. -/
module

public import proofs.«01_k».proof.Proof.Gen.FfnStepRefIdeal.Read
public import proofs.«01_k».proof.Proof.FfnStepFinal

@[expose] public section

set_option maxRecDepth 16384

noncomputable section

namespace Cert.FfnStepRefIdeal.Read

open Cert.FfnStepRefIdeal Cert.FfnStepRefIdeal.Gen Idealize.ShloMosaic Idealize.ShloMosaic.TcCoe Idealize.SL.Sem
open Cert.FfnStepIdeal.Value (projAt convAt gated newRow)
open Cert.Gates (gelu)

variable (X : Vec Ideal S128x2048 .bf16) (Wg Wu : Vec Ideal S4x2048x6144 .f32) (cw : Vec Ideal S4x3x6144 .f32)
  (cb : Vec Ideal S4x1x6144 .f32) (B : Vec Ideal S128x2x6144 .f32)

/-- The gate projection. -/
theorem gate (R : Fin 128) (C : Fin 6144) : val_main_v3 (F := Ideal) X Wg (ix2 R C) = projAt X Wg R C := by
  unfold projAt
  pointwise [val_main_v3, val_main_v2, val_main_v1, val_main_v0]

/-- The up projection. -/
theorem up (R : Fin 128) (C : Fin 6144) : val_main_v49 (F := Ideal) X Wu (ix2 R C) = projAt X Wu R C := by
  unfold projAt
  pointwise [val_main_v49, val_main_v48, val_main_v47, val_main_v0]

/-- The convolution. -/
theorem conv (R : Fin 128) (C : Fin 6144) : val_main_v33 (F := Ideal) X Wg cw cb B (ix2 R C) = convAt X Wg cw cb B R C := by
  unfold convAt
  rw [← gate]
  unfold val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4
  generalize val_main_v3 (F := Ideal) X Wg = g
  pointwise

/-- The gelu times the up projection. -/
theorem out (R : Fin 128) (C : Fin 6144) :
    val_main_v51 (F := Ideal) X Wg Wu cw cb B (ix2 R C)
      = gelu (val_main_v33 (F := Ideal) X Wg cw cb B (ix2 R C)) * val_main_v49 (F := Ideal) X Wu (ix2 R C) := by
  unfold val_main_v51 val_main_v50 val_main_v46 val_main_v45 val_main_v44 val_main_v43 val_main_v42 val_main_v41 val_main_v40 val_main_v39 val_main_v38 val_main_v37 val_main_v36 val_main_v35 val_main_v34
  generalize val_main_v49 (F := Ideal) X Wu = u
  generalize val_main_v33 (F := Ideal) X Wg cw cb B = z
  pointwise [val_main_cst, val_main_cst_0, val_main_cst_1, val_main_cst_2]
  unfold gelu
  rw [mul_assoc (z _) (z _) (z _)]

/-- The reference's first result is the kernel's. -/
theorem final_gated : val_main_v51 (F := Ideal) X Wg Wu cw cb B = gated X Wg Wu cw cb B := by
  funext i
  idx_vars i
  rw [out, conv, up]
  rfl

/-- The reference's second result is the kernel's. -/
theorem final_row : val_main_v3 (F := Ideal) X Wg = newRow X Wg := by
  funext i
  idx_vars i
  exact gate X Wg _ _

end Cert.FfnStepRefIdeal.Read
-- ==== Proof.FfnStepClaim.lean ====
/- The one-token step of the gate and up projections: the kernel and the reference leave the same arrays, and the three programs run to completion. -/
module

public import proofs.«01_k».proof.Defs
public import proofs.«01_k».proof.Proof.FfnStepRead
public import proofs.«01_k».proof.Proof.Gen.FfnStep.Frame
public import proofs.«01_k».proof.Proof.Gen.FfnStepRefIdeal.Run

@[expose] public section

set_option maxRecDepth 16384

noncomputable section

namespace Cert.FfnStepPair

open Idealize.ShloMosaic Idealize.ShloMosaic.TcCoe Idealize.SL.Sem

/-- Both programs run and leave the gated rows and the gate projection. -/
theorem algebraic : Cert.algebraic_FfnStepIdeal_FfnStepRefIdeal := fun m ρ m' ρ' hpre hag =>
  ⟨fun c => Cert.FfnStepIdeal.Value.gated (m (c.tc.loc Cert.FfnStepIdeal.main_arg0)) (m (c.tc.loc Cert.FfnStepIdeal.main_arg1)) (m (c.tc.loc Cert.FfnStepIdeal.main_arg2))
      (m (c.tc.loc Cert.FfnStepIdeal.main_arg3)) (m (c.tc.loc Cert.FfnStepIdeal.main_arg4)) (m (c.tc.loc Cert.FfnStepIdeal.main_arg5)),
    fun c => Cert.FfnStepIdeal.Value.newRow (m (c.tc.loc Cert.FfnStepIdeal.main_arg0)) (m (c.tc.loc Cert.FfnStepIdeal.main_arg1)),
    (θ_run _ _ _).mono (fun r h c => ⟨(h c).1.trans (Cert.FfnStepIdeal.Value.final_gated m c),
      (h c).2.1.trans (Cert.FfnStepIdeal.Value.final_row m c), (h c).2.2⟩) (Cert.FfnStepIdeal.Value.run_blocks m ρ),
    (θ_run _ _ _).mono (fun r h c => ⟨(h c).1.trans (by
      obtain ⟨e0, e1, e2, e3, e4, e5⟩ := hag c
      rw [Cert.FfnStepRefIdeal.Read.val_main_v51_eq, Cert.FfnStepRefIdeal.Read.final_gated, e0, e1, e2, e3, e4, e5]),
      (h c).2.1.trans (by
      rw [Cert.FfnStepRefIdeal.Read.val_main_v3_eq, Cert.FfnStepRefIdeal.Read.final_row, (hag c).1, (hag c).2.1]), (h c).2.2⟩)
      (Cert.FfnStepRefIdeal.Value.run m' ρ')⟩

/-- The kernel's frame. -/
theorem frame_p : Cert.quiescent_FfnStep := fun m ρ _ => Cert.FfnStep.Gen.frame m ρ

/-- The idealized kernel's frame. -/
theorem frame_pi : Cert.quiescent_FfnStepIdeal := fun m ρ _ => Cert.FfnStepIdeal.Gen.frame m ρ

/-- The reference's frame: its run, and it has no counters. -/
theorem frame_ri : Cert.quiescent_FfnStepRefIdeal := fun m ρ _ =>
  (θ_run _ _ _).mono (fun r h => ⟨fun c => (h c).2.2, sem_eq_zero_of_no_sems (by decide) r.2⟩) (Cert.FfnStepRefIdeal.Value.run m ρ)

end Cert.FfnStepPair

end
-- ==== Proof.Rope.lean ====
/- The mathematics of the shared keys and values: a row's normed projection, its latent part's norm, its key part rotated by the
   angles of its position; and why the kernel's way of rotating, by a second pair of negated columns, gives the same. -/
module

public import proofs.«01_k».proof.Proof.Norm

@[expose] public section

noncomputable section

namespace Cert.Rope

open Idealize.ShloMosaic
open Cert.Norm

/-! ## Words -/

/-- The small number added under the root is a positive real. -/
theorem eps_bits : ∃ e : ℝ, 0 < e ∧ Ideal.ofBits .f32 0x358637BD#32 = (e : EReal) := by
  refine ⟨8796093 * (2 ^ 43)⁻¹, by positivity, ?_⟩
  simp [Ideal.ofBits, Ideal.ieee]

/-- The word of 2048. -/
theorem len_bits : Ideal.ofBits .f32 0x45000000#32 = ((2048 : ℝ) : EReal) := by
  simp [Ideal.ofBits, Ideal.ieee]
  exact (EReal.coe_mul _ _).symm.trans (congrArg _ (by norm_num))

/-- The word of 512. -/
theorem lat_bits : Ideal.ofBits .f32 0x44000000#32 = ((512 : ℝ) : EReal) := by
  simp [Ideal.ofBits, Ideal.ieee]
  exact (EReal.coe_mul _ _).symm.trans (congrArg _ (by norm_num))

/-! ## Real sums -/

/-- A square is not negative. -/
theorem sq_nonneg' (x : EReal) : 0 ≤ x * x := by
  induction x with
  | bot => simp
  | top => simp
  | coe r => exact_mod_cast mul_self_nonneg r

/-- A sum of products of reals, one factor negated, is the sum negated. -/
theorem neg_dot {n : ℕ} (a b : Fin n → EReal) (ha : ∀ k, ∃ r : ℝ, a k = (r : EReal)) (hb : ∀ k, ∃ r : ℝ, b k = (r : EReal)) :
    ∑ k, a k * -b k = -∑ k, a k * b k := by
  choose p hp using ha
  choose q hq using hb
  have e : ∀ s : Finset (Fin n), (∑ k ∈ s, a k * -b k = ((-∑ k ∈ s, p k * q k : ℝ) : EReal))
      ∧ (∑ k ∈ s, a k * b k = ((∑ k ∈ s, p k * q k : ℝ) : EReal)) := by
    intro s
    induction s using Finset.induction_on with
    | empty => simp
    | insert k s hk ih =>
      rw [Finset.sum_insert hk, Finset.sum_insert hk, Finset.sum_insert hk, ih.1, ih.2, hp k, hq k, ← EReal.coe_neg,
        ← EReal.coe_mul, ← EReal.coe_mul, ← EReal.coe_add, ← EReal.coe_add]
      exact ⟨congrArg _ (by ring), rfl⟩
  rw [(e Finset.univ).1, (e Finset.univ).2, EReal.coe_neg]

/-- An element over the root of its row's mean square is real, whatever the row: where the mean is infinite the factor is zero. -/
theorem scale_real {n : ℕ} (f : Fin n → EReal) (C : Fin n) (N : ℝ) (hN : 0 < N) :
    ∃ r : ℝ, f C * Ideal.rsqrt (Ideal.div (∑ x : Fin n, f x * f x) (N : EReal) + Ideal.ofBits .f32 0x358637BD#32) = (r : EReal) := by
  obtain ⟨e, he, hb⟩ := eps_bits
  have h0 : 0 ≤ ∑ x : Fin n, f x * f x := Finset.sum_nonneg fun x _ => sq_nonneg' (f x)
  have hC : f C * f C ≤ ∑ x : Fin n, f x * f x :=
    Finset.single_le_sum (f := fun x => f x * f x) (fun x _ => sq_nonneg' (f x)) (Finset.mem_univ C)
  rw [hb, Ideal.div_coe hN.ne']
  generalize (∑ x : Fin n, f x * f x) = s at h0 hC
  have hi : (0 : ℝ) < 1 / N := by positivity
  have top : f C * Ideal.rsqrt (⊤ * ((1 / N : ℝ) : EReal) + (e : EReal)) = ((0 : ℝ) : EReal) := by
    rw [EReal.top_mul_coe_of_pos hi, EReal.top_add_coe, Ideal.rsqrt_top, mul_zero, EReal.coe_zero]
  induction s with
  | bot => exact absurd h0 (by simp)
  | top => exact ⟨0, top⟩
  | coe s =>
    have hs : 0 ≤ s := by exact_mod_cast h0
    have hp : 0 < s * (1 / N) + e := by positivity
    have hf : ∃ r : ℝ, f C = (r : EReal) := by
      generalize f C = x at hC
      induction x with
      | bot => simp at hC
      | top => simp at hC
      | coe r => exact ⟨r, rfl⟩
    obtain ⟨r, hr⟩ := hf
    rw [hr, ← EReal.coe_mul, ← EReal.coe_add, Ideal.rsqrt_coe, if_neg (not_lt.2 hp.le), if_neg hp.ne', ← EReal.coe_mul]
    exact ⟨_, rfl⟩

/-- The norm with a real gain is real. -/
theorem rms_real (f : Fin 2048 → EReal) (g : EReal) (C : Fin 2048) (hg : ∃ r : ℝ, g = (r : EReal)) :
    ∃ r : ℝ, rmsAt f g C = (r : EReal) := by
  obtain ⟨a, ha⟩ := scale_real f C 2048 (by norm_num)
  obtain ⟨b, rfl⟩ := hg
  unfold rmsAt
  rw [len_bits, ha, ← EReal.coe_mul]
  exact ⟨_, rfl⟩

/-! ## The definitions -/

/-- Element `C` of the norm of a row of 512 elements, with gain `g` there. -/
def latAt (f : Fin 512 → EReal) (g : EReal) (C : Fin 512) : EReal :=
  f C * Ideal.rsqrt (Ideal.div (∑ x : Fin 512, f x * f x) (Ideal.ofBits .f32 0x44000000#32) + Ideal.ofBits .f32 0x358637BD#32) * g

/-- Norms of equal rows with equal gains are equal. -/
theorem latAt_congr {f f' : Fin 512 → EReal} {g g' : EReal} (C : Fin 512) (hf : ∀ x, f x = f' x) (hg : g = g') :
    latAt f g C = latAt f' g' C := by
  rw [show f = f' from funext hf, hg]

/-- The angle of pair `k` at position `p`: the position times a power of ten thousand. -/
def angle (p : EReal) (k : Fin 32) : EReal :=
  p * Ideal.pow (Ideal.ofBits .f32 0x461C4000#32)
    (Ideal.div (-(FloatOps.sitofp .f32 (BitVec.ofNat 32 k.val) : Ideal .f32) * Ideal.ofBits .f32 0x40000000#32)
      (Ideal.ofBits .f32 0x42800000#32))

/-- The rotation of a row of 32 pairs by their angles at position `p`: the first halves, then the second. -/
def rope (f : Fin 64 → EReal) (p : EReal) (q : Fin 64) : EReal :=
  if h : q.val < 32 then
    f q * Ideal.cos (angle p ⟨q.val, h⟩) - f ⟨32 + q.val, by omega⟩ * Ideal.sin (angle p ⟨q.val, h⟩)
  else
    f q * Ideal.cos (angle p ⟨q.val - 32, by omega⟩) + f ⟨q.val - 32, by omega⟩ * Ideal.sin (angle p ⟨q.val - 32, by omega⟩)

/-- The rotation with each half's elements named from the row's start. -/
theorem rope_of_halves (f : Fin 64 → EReal) (p : EReal) (q : Fin 64) :
    (if h : q.val < 32 then
        f ⟨q.val, by omega⟩ * Ideal.cos (angle p ⟨q.val, h⟩) - f ⟨32 + q.val, by omega⟩ * Ideal.sin (angle p ⟨q.val, h⟩)
      else
        f ⟨32 + (q.val - 32), by omega⟩ * Ideal.cos (angle p ⟨q.val - 32, by omega⟩)
          + f ⟨q.val - 32, by omega⟩ * Ideal.sin (angle p ⟨q.val - 32, by omega⟩)) = rope f p q := by
  unfold rope
  by_cases h : q.val < 32
  · rw [dif_pos h, dif_pos h]
  · rw [dif_neg h, dif_neg h]
    have e : (⟨32 + (q.val - 32), by omega⟩ : Fin 64) = q := Fin.ext (show 32 + (q.val - 32) = q.val by omega)
    rw [e]

/-- The kernel's table at position `p`: cosines twice, then sines twice. -/
def table (p : EReal) (n : Fin 128) : EReal :=
  if n.val < 64 then Ideal.cos (angle p ⟨n.val % 32, by omega⟩) else Ideal.sin (angle p ⟨n.val % 32, by omega⟩)

/-- The kernel's weights from the arguments' columns: the two halves, the second half negated, the first half again. -/
def pairs (w : Fin 64 → EReal) (n : Fin 128) : EReal :=
  if h : n.val < 64 then w ⟨n.val, h⟩ else if h' : n.val < 96 then -w ⟨n.val - 32, by omega⟩ else w ⟨n.val - 96, by omega⟩

/-- The four pieces the host joins are the kernel's weights. -/
theorem pairs_of_pieces (w : Fin 64 → EReal) (j : ℕ) (hj : j < 128) :
    (if h : j < 32 then w ⟨j, by omega⟩ else if h' : j - 32 < 32 then w ⟨32 + (j - 32), by omega⟩
      else if h'' : j - 32 - 32 < 32 then -w ⟨32 + (j - 32 - 32), by omega⟩ else w ⟨j - 32 - 32 - 32, by omega⟩) = pairs w ⟨j, hj⟩ := by
  unfold pairs
  dsimp only
  by_cases h1 : j < 32
  · rw [dif_pos h1, dif_pos (show j < 64 by omega)]
  rw [dif_neg h1]
  by_cases h2 : j - 32 < 32
  · rw [dif_pos h2, dif_pos (show j < 64 by omega)]
    exact congrArg w (Fin.ext (show 32 + (j - 32) = j by omega))
  rw [dif_neg h2, dif_neg (show ¬ j < 64 by omega)]
  by_cases h3 : j - 32 - 32 < 32
  · rw [dif_pos h3, dif_pos (show j < 96 by omega)]
    exact congrArg (fun d => -w d) (Fin.ext (show 32 + (j - 32 - 32) = j - 32 by omega))
  · rw [dif_neg h3, dif_neg (show ¬ j < 96 by omega)]
    exact congrArg w (Fin.ext (show j - 32 - 32 - 32 = j - 96 by omega))

/-- The four pieces the host joins are the kernel's table. -/
theorem table_of_pieces (p : EReal) (n : Fin 128) :
    (if h : n.val < 32 then Ideal.cos (angle p ⟨n.val, h⟩) else if h' : n.val - 32 < 32 then Ideal.cos (angle p ⟨n.val - 32, h'⟩)
      else if h'' : n.val - 32 - 32 < 32 then Ideal.sin (angle p ⟨n.val - 32 - 32, h''⟩)
      else Ideal.sin (angle p ⟨n.val - 32 - 32 - 32, by omega⟩)) = table p n := by
  have hn := n.isLt
  unfold table
  by_cases h1 : n.val < 32
  · rw [dif_pos h1, if_pos (show n.val < 64 by omega)]
    exact congrArg (fun k => Ideal.cos (angle p k)) (Fin.ext (show n.val = n.val % 32 by omega))
  rw [dif_neg h1]
  by_cases h2 : n.val - 32 < 32
  · rw [dif_pos h2, if_pos (show n.val < 64 by omega)]
    exact congrArg (fun k => Ideal.cos (angle p k)) (Fin.ext (show n.val - 32 = n.val % 32 by omega))
  rw [dif_neg h2, if_neg (show ¬ n.val < 64 by omega)]
  by_cases h3 : n.val - 32 - 32 < 32
  · rw [dif_pos h3]
    exact congrArg (fun k => Ideal.sin (angle p k)) (Fin.ext (show n.val - 32 - 32 = n.val % 32 by omega))
  · rw [dif_neg h3]
    exact congrArg (fun k => Ideal.sin (angle p k)) (Fin.ext (show n.val - 32 - 32 - 32 = n.val % 32 by omega))

/-- The kernel's rotation: the 128 projections by the table, and each lane with the one 64 away. -/
theorem rope_of_pairs {n : ℕ} (a : Fin n → EReal) (w : Fin n → Fin 64 → EReal) (p : EReal) (q : Fin 64)
    (ha : ∀ k, ∃ r : ℝ, a k = (r : EReal)) (hw : ∀ k (d : Fin 64), 32 ≤ d.val → ∃ r : ℝ, w k d = (r : EReal)) :
    (∑ k, a k * pairs (w k) ⟨q.val, by omega⟩) * table p ⟨q.val, by omega⟩
        + (∑ k, a k * pairs (w k) ⟨64 + q.val, by omega⟩) * table p ⟨64 + q.val, by omega⟩
      = rope (fun d => ∑ k, a k * w k d) p q := by
  have hq := q.isLt
  have e1 : ∀ k, pairs (w k) ⟨q.val, by omega⟩ = w k q := fun k => by unfold pairs; rw [dif_pos hq]
  simp only [e1]
  unfold rope table
  rw [if_pos hq, if_neg (show ¬ 64 + q.val < 64 by omega)]
  by_cases h : q.val < 32
  · have e2 : ∀ k, pairs (w k) ⟨64 + q.val, by omega⟩ = -w k ⟨32 + q.val, by omega⟩ := fun k => by
      unfold pairs
      rw [dif_neg (show ¬ 64 + q.val < 64 by omega), dif_pos (show 64 + q.val < 96 by omega)]
      exact congrArg (fun d => -w k d) (Fin.ext (show 64 + q.val - 32 = 32 + q.val by omega))
    have c1 : (⟨q.val % 32, by omega⟩ : Fin 32) = ⟨q.val, h⟩ := Fin.ext (show q.val % 32 = q.val by omega)
    have c2 : (⟨(64 + q.val) % 32, by omega⟩ : Fin 32) = ⟨q.val, h⟩ := Fin.ext (show (64 + q.val) % 32 = q.val by omega)
    simp only [e2]
    rw [dif_pos h, neg_dot a (fun k => w k ⟨32 + q.val, by omega⟩) ha (fun k => hw k _ (by simp)), c1, c2, EReal.neg_mul, sub_eq_add_neg]
  · have e2 : ∀ k, pairs (w k) ⟨64 + q.val, by omega⟩ = w k ⟨q.val - 32, by omega⟩ := fun k => by
      unfold pairs
      rw [dif_neg (show ¬ 64 + q.val < 64 by omega), dif_neg (show ¬ 64 + q.val < 96 by omega)]
      exact congrArg (w k) (Fin.ext (show 64 + q.val - 96 = q.val - 32 by omega))
    have c1 : (⟨q.val % 32, by omega⟩ : Fin 32) = ⟨q.val - 32, by omega⟩ := Fin.ext (show q.val % 32 = q.val - 32 by omega)
    have c2 : (⟨(64 + q.val) % 32, by omega⟩ : Fin 32) = ⟨q.val - 32, by omega⟩ := Fin.ext (show (64 + q.val) % 32 = q.val - 32 by omega)
    simp only [e2]
    rw [dif_neg h, c1, c2]

/-! ## The call's outputs at an element: row `f`, gains `g` and `g'`, weights `w`, position `p` -/

/-- One column of the normed row's projection. -/
def colAt (f g w : Fin 2048 → EReal) : EReal := ∑ k : Fin 2048, rmsAt f (g k) k * w k

/-- Equal rows, gains and columns give equal projections. -/
theorem colAt_congr {f f' g g' w w' : Fin 2048 → EReal} (hf : ∀ k, f k = f' k) (hg : ∀ k, g k = g' k) (hw : ∀ k, w k = w' k) :
    colAt f g w = colAt f' g' w' := by
  rw [show f = f' from funext hf, show g = g' from funext hg, show w = w' from funext hw]

/-- The latent: the norm of the first 512 columns. -/
def latentAt (f g : Fin 2048 → EReal) (w : Fin 2048 → Fin 576 → EReal) (g' : EReal) (C : Fin 512) : EReal :=
  latAt (fun d => colAt f g fun k => w k ⟨d.val, by omega⟩) g' C

/-- The key: the last 64 columns, rotated. -/
def keyAt (f g : Fin 2048 → EReal) (w : Fin 2048 → Fin 576 → EReal) (p : EReal) (q : Fin 64) : EReal :=
  rope (fun d => colAt f g fun k => w k ⟨512 + d.val, by omega⟩) p q

/-- The key in 128 lanes, the last 64 zero. -/
def wideAt (f g : Fin 2048 → EReal) (w : Fin 2048 → Fin 576 → EReal) (p : EReal) (n : Fin 128) : EReal :=
  if h : n.val < 64 then keyAt f g w p ⟨n.val, h⟩ else 0

/-- A lane chosen by number below 64 is the wide key's where it is the key's. -/
theorem wide_of_key {f g : Fin 2048 → EReal} {w : Fin 2048 → Fin 576 → EReal} {p : EReal} (y : EReal) (n : Fin 128)
    (hy : ∀ h : n.val < 64, y = keyAt f g w p ⟨n.val, h⟩) : (if n.val < 64 then y else 0) = wideAt f g w p n := by
  unfold wideAt
  by_cases h : n.val < 64
  · rw [if_pos h, dif_pos h, hy h]
  · rw [if_neg h, dif_neg h]

/-- The kernel's weights at a column: the latent's as they are, then the pairs. -/
def extAt (w : Fin 576 → EReal) (n : Fin 640) : EReal :=
  if h : n.val < 512 then w ⟨n.val, by omega⟩ else pairs (fun d => w ⟨512 + d.val, by omega⟩) ⟨n.val - 512, by omega⟩

/-- The latent's columns of the kernel's weights are the arguments'. -/
theorem ext_low (w : Fin 576 → EReal) (d : Fin 512) : extAt w ⟨d.val, by omega⟩ = w ⟨d.val, by omega⟩ := by
  unfold extAt
  rw [dif_pos d.isLt]

/-- The other columns are the pairs. -/
theorem ext_high (w : Fin 576 → EReal) (j : ℕ) (hj : j < 128) :
    extAt w ⟨512 + j, by omega⟩ = pairs (fun d => w ⟨512 + d.val, by omega⟩) ⟨j, hj⟩ := by
  unfold extAt
  rw [dif_neg (show ¬ 512 + j < 512 by omega)]
  exact congrArg (pairs _) (Fin.ext (show 512 + j - 512 = j by omega))

/-- The kernel's key from its weights and table, where gains and the rotated columns' second half are real. -/
theorem key_of_ext (f g : Fin 2048 → EReal) (w : Fin 2048 → Fin 576 → EReal) (p : EReal) (q : Fin 64)
    (hg : ∀ k, ∃ r : ℝ, g k = (r : EReal)) (hw : ∀ k (d : Fin 576), 544 ≤ d.val → ∃ r : ℝ, w k d = (r : EReal)) :
    colAt f g (fun k => extAt (w k) ⟨512 + q.val, by omega⟩) * table p ⟨q.val, by omega⟩
        + colAt f g (fun k => extAt (w k) ⟨512 + (64 + q.val), by omega⟩) * table p ⟨64 + q.val, by omega⟩
      = keyAt f g w p q := by
  have e1 : (fun k => extAt (w k) ⟨512 + q.val, by omega⟩) = fun k => pairs (fun d => w k ⟨512 + d.val, by omega⟩) ⟨q.val, by omega⟩ :=
    funext fun k => ext_high (w k) q.val (by omega)
  have e2 : (fun k => extAt (w k) ⟨512 + (64 + q.val), by omega⟩)
      = fun k => pairs (fun d => w k ⟨512 + d.val, by omega⟩) ⟨64 + q.val, by omega⟩ :=
    funext fun k => ext_high (w k) (64 + q.val) (by omega)
  rw [e1, e2]
  exact rope_of_pairs (fun k => rmsAt f (g k) k) (fun k d => w k ⟨512 + d.val, by omega⟩) p q (fun k => rms_real f (g k) k (hg k))
    fun k d hd => hw k _ (show 544 ≤ 512 + d.val by omega)

end Cert.Rope

end
-- ==== Proof.KvBlock.lean ====
/- The shared keys and values' four result arrays over the prompt, in terms of the call's arguments: the latent, the rotated key,
   and the same two as the attention reads them. -/
module

public import proofs.«01_k».proof.Proof.Gen.KvIdeal.Value
public import proofs.«01_k».proof.Proof.Rope
public import Idealize.ShloMosaic.Lib.Pipeline.ReadBack
public import Idealize.ShloMosaic.Lib.StableHlo.RunRead

@[expose] public section

set_option maxRecDepth 16384

noncomputable section

namespace Cert.KvIdeal.Value

open Cert.KvIdeal Cert.KvIdeal.Gen Idealize.ShloMosaic Idealize.ShloMosaic.TcCoe Idealize.SL.Sem
open Idealize.ShloMosaic.Pipeline (Dat)
open Cert.Norm Cert.Rope

/-! ## The mathematics -/

/-- The position of row `R` in its sequence. -/
def posAt (R : Fin 8192) : EReal := (FloatOps.sitofp .f32 (BitVec.ofNat 32 (R.val % 2048)) : Ideal .f32)

variable (X : Vec Ideal S8192x2048 .f32) (g : Vec Ideal S2048 .f32) (W : Vec Ideal S2048x576 .f32) (g' : Vec Ideal S512 .f32)

/-- The latent. -/
def lat : Vec Ideal S8192x512 .f32 := fun i =>
  latentAt (fun k => X (ix2 (i 0) k)) (fun k => g (ix1 k)) (fun k d => W (ix2 k d)) (g' (ix1 (i 1))) (i 1)

/-- The key. -/
def key : Vec Ideal S8192x64 .f32 := fun i =>
  keyAt (fun k => X (ix2 (i 0) k)) (fun k => g (ix1 k)) (fun k d => W (ix2 k d)) (posAt (i 0)) (i 1)

/-- The latent, as the attention reads it. -/
def latB : Vec Ideal S8192x512 .bf16 := fun i =>
  latentAt (fun k => X (ix2 (i 0) k)) (fun k => g (ix1 k)) (fun k d => W (ix2 k d)) (g' (ix1 (i 1))) (i 1)

/-- The key in 128 lanes, as the attention reads it. -/
def keyB : Vec Ideal S8192x128 .bf16 := fun i =>
  wideAt (fun k => X (ix2 (i 0) k)) (fun k => g (ix1 k)) (fun k d => W (ix2 k d)) (posAt (i 0)) (i 1)

/-! ## The stored values at an index -/

variable (x : Vec Ideal S512x2048 .f32) (b : Vec Ideal S1x2048 .f32) (w : Vec Ideal S2048x640 .bf16)

theorem proj_at (r : Fin 512) (d : Fin 640) :
    k0_pay4 x b w (ix2 r d) = colAt (fun k => x (ix2 r k)) (fun k => b (ix2 0 k)) (fun k => w (ix2 k d)) := by
  pointwise [k0_pay4]
  rfl

theorem latent_at (b' : Vec Ideal S1x512 .f32) (r d : Fin 512) :
    k0_pay5 x b w b' (ix2 r d) = latAt (fun n => k0_pay4 x b w (ix2 r ⟨n.val, by omega⟩)) (b' (ix2 0 d)) d := by
  unfold k0_pay5
  generalize k0_pay4 x b w = z
  pointwise
  rfl

theorem turned_at (t : Vec Ideal S512x128 .f32) (r : Fin 512) (q : Fin 64) :
    k0_pay6 x b w t (ix2 r ⟨q.val, by omega⟩)
      = @HAdd.hAdd EReal EReal EReal _ (k0_pay4 x b w (ix2 r ⟨512 + q.val, by omega⟩) * t (ix2 r ⟨q.val, by omega⟩))
          (k0_pay4 x b w (ix2 r ⟨512 + (64 + q.val), by omega⟩) * t (ix2 r ⟨64 + q.val, by omega⟩)) := by
  have hq := q.isLt
  have e : (⟨(q.val + 128 - 64) % 128, by omega⟩ : Fin 128) = ⟨64 + q.val, by omega⟩ := Fin.ext (show (q.val + 128 - 64) % 128 = 64 + q.val by omega)
  have e' : (⟨512 + (q.val + 128 - 64) % 128, by omega⟩ : Fin 640) = ⟨512 + (64 + q.val), by omega⟩ :=
    Fin.ext (show 512 + (q.val + 128 - 64) % 128 = 512 + (64 + q.val) by omega)
  unfold k0_pay6
  generalize k0_pay4 x b w = z
  pointwise
  exact congrArg₂ (fun a b : EReal => _ + a * b) (congrArg (fun j => z (ix2 r j)) e') (congrArg (fun j => t (ix2 r j)) e)

theorem wide_at (y : FVec Ideal S512x128 .f32) (r : Fin 512) (n : Fin 128) :
    k0_pay3 y (ix2 r n) = if n.val < 64 then y (ix2 r n) else (0 : EReal) := by
  have hn := n.isLt
  pointwise [k0_pay3]
  rw [WordCmp.cmpi_slt_ofNat (by omega) (by omega)]
  by_cases h : n.val < 64
  · rw [if_pos h, decide_eq_true h]; rfl
  · rw [if_neg h, decide_eq_false h]; rfl

theorem narrow_at (y : FVec Ideal S512x128 .f32) (r : Fin 512) (q : Fin 64) :
    k0_pay1 y (ix2 r q) = y (ix2 r ⟨q.val, by omega⟩) := by
  pointwise [k0_pay1]

theorem same_at (y : FVec Ideal S512x512 .f32) (i : S512x512.Idx) : k0_pay2 y i = y i := rfl

/-! ## The blocks read from the arrays -/

variable (m : (ℓ : Loc nD τ sig) → Buf (Elt Ideal) ℓ)

/-- The arguments as launched: the rows, the gain of their norm, the weights, the gain of the latent's norm. -/
abbrev xArr (c : Dev nD) : Vec Ideal S8192x2048 .f32 := m ((c : Thread nD τ).loc main_arg0)
abbrev gArr (c : Dev nD) : Vec Ideal S2048 .f32 := m ((c : Thread nD τ).loc main_arg1)
abbrev wArr (c : Dev nD) : Vec Ideal S2048x576 .f32 := m ((c : Thread nD τ).loc main_arg2)
abbrev nArr (c : Dev nD) : Vec Ideal S512 .f32 := m ((c : Thread nD τ).loc main_arg3)

/-- The block numbers of the nine windows at each grid point. -/
theorem block_at : ∀ t : Fin grid0.N, win0_0.index t = ![t.val, 0] ∧ win0_1.index t = ![0, 0] ∧ win0_2.index t = ![0, 0]
    ∧ win0_3.index t = ![0, 0] ∧ win0_4.index t = ![t.val % 4, 0] ∧ win0_5.index t = ![t.val, 0] ∧ win0_6.index t = ![t.val, 0]
    ∧ win0_7.index t = ![t.val, 0] ∧ win0_8.index t = ![t.val, 0] := by decide +kernel

/-- The weights the host lays out. -/
theorem weights_at (c : Dev nD) (k : Fin 2048) (n : Fin 640) :
    (V m c main_v7 : Vec Ideal S2048x640 .bf16) (ix2 k n) = extAt (fun d => wArr m c (ix2 k d)) n := by
  change StableHlo.after hostOps0 (fun b => m (c, b)) (Proc.devRef .tc main_v7) (ix2 k n) = _
  after_reads_simp
  pointwise
  after_reads_simp
  pointwise
  after_reads_simp
  pointwise
  unfold extAt
  by_cases h : n.val < 512
  · rw [dif_pos h, dif_pos h]
  · rw [dif_neg h, dif_neg h]
    exact pairs_of_pieces (fun d => wArr m c (ix2 k ⟨512 + d.val, by omega⟩)) (n.val - 512) (by omega)

/-- The table the host lays out. -/
theorem table_at (c : Dev nD) (r : Fin 2048) (n : Fin 128) :
    (V m c main_v24 : Vec Ideal S2048x128 .f32) (ix2 r n) = table (FloatOps.sitofp .f32 (BitVec.ofNat 32 r.val) : Ideal .f32) n := by
  show StableHlo.after hostOps0 (fun b => m (c, b)) (Proc.devRef .tc main_v24) (ix2 r n) = _
  after_reads_simp
  pointwise
  after_reads_simp
  pointwise
  exact table_of_pieces _ n

theorem x_read (c : Dev nD) (t : Fin cfg0.N) (r : Fin 512) (k : Fin 2048) (R : Fin 8192) (hR : R.val = t.val * 512 + r.val) :
    (iblk m c 0 t : Vec Ideal S512x2048 .f32) (ix2 r k) = xArr m c (ix2 R k) := by
  obtain ⟨e, -⟩ := block_at t
  blk_ext [iblk, V, e]

theorem g_read (c : Dev nD) (t : Fin cfg0.N) (k : Fin 2048) :
    (iblk m c 1 t : Vec Ideal S1x2048 .f32) (ix2 0 k) = gArr m c (ix1 k) := by
  obtain ⟨-, e, -⟩ := block_at t
  blk_ext! [iblk, V, e]

theorem w_read (c : Dev nD) (t : Fin cfg0.N) (k : Fin 2048) (n : Fin 640) :
    (iblk m c 2 t : Vec Ideal S2048x640 .bf16) (ix2 k n) = extAt (fun d => wArr m c (ix2 k d)) n := by
  obtain ⟨-, -, e, -⟩ := block_at t
  refine Eq.trans ?_ (weights_at m c k n)
  blk_ext [iblk, e]

theorem n_read (c : Dev nD) (t : Fin cfg0.N) (d : Fin 512) :
    (iblk m c 3 t : Vec Ideal S1x512 .f32) (ix2 0 d) = nArr m c (ix1 d) := by
  obtain ⟨-, -, -, e, -⟩ := block_at t
  blk_ext! [iblk, V, e]

theorem t_read (c : Dev nD) (t : Fin cfg0.N) (r : Fin 512) (n : Fin 128) (R : Fin 8192) (hR : R.val = t.val * 512 + r.val) :
    (iblk m c 4 t : Vec Ideal S512x128 .f32) (ix2 r n) = table (posAt R) n := by
  obtain ⟨-, -, -, -, e, -⟩ := block_at t
  have hr := r.isLt
  refine Eq.trans ?_ ((table_at m c ⟨R.val % 2048, by omega⟩ n).trans rfl)
  blk_ext [iblk, e]

/-! ## The tiles -/

/-- The projection's tile: columns of the kernel's weights. -/
theorem proj_tile (c : Dev nD) (t : Fin cfg0.N) (r : Fin 512) (n : Fin 640) (R : Fin 8192) (hR : R.val = t.val * 512 + r.val) :
    k0_pay4 (iblk m c 0 t) (iblk m c 1 t) (iblk m c 2 t) (ix2 r n)
      = colAt (fun k => xArr m c (ix2 R k)) (fun k => gArr m c (ix1 k)) (fun k => extAt (fun d => wArr m c (ix2 k d)) n) := by
  rw [proj_at]
  exact colAt_congr (fun k => x_read m c t r k R hR) (fun k => g_read m c t k) fun k => w_read m c t k n

/-- The latent's tile. -/
theorem latent_tile (c : Dev nD) (t : Fin cfg0.N) (r d : Fin 512) (R : Fin 8192) (hR : R.val = t.val * 512 + r.val) :
    k0_pay5 (iblk m c 0 t) (iblk m c 1 t) (iblk m c 2 t) (iblk m c 3 t) (ix2 r d)
      = latentAt (fun k => xArr m c (ix2 R k)) (fun k => gArr m c (ix1 k)) (fun k d => wArr m c (ix2 k d)) (nArr m c (ix1 d)) d := by
  rw [latent_at]
  refine latAt_congr d (fun n => (proj_tile m c t r _ R hR).trans ?_) (n_read m c t d)
  exact colAt_congr (fun _ => rfl) (fun _ => rfl) fun k => ext_low (fun d => wArr m c (ix2 k d)) n

/-- The key's tile, where gains and the rotated columns' second half are real. -/
theorem key_tile (c : Dev nD) (hg : ∀ i, ∃ r : ℝ, gArr m c i = (r : EReal))
    (hw : ∀ k (d : Fin 576), 544 ≤ d.val → ∃ r : ℝ, wArr m c (ix2 k d) = (r : EReal))
    (t : Fin cfg0.N) (r : Fin 512) (q : Fin 64) (R : Fin 8192) (hR : R.val = t.val * 512 + r.val) :
    k0_pay6 (iblk m c 0 t) (iblk m c 1 t) (iblk m c 2 t) (iblk m c 4 t) (ix2 r ⟨q.val, by omega⟩)
      = keyAt (fun k => xArr m c (ix2 R k)) (fun k => gArr m c (ix1 k)) (fun k d => wArr m c (ix2 k d)) (posAt R) q := by
  rw [turned_at, proj_tile m c t r _ R hR, proj_tile m c t r _ R hR, t_read m c t r _ R hR, t_read m c t r _ R hR]
  exact key_of_ext (fun k => xArr m c (ix2 R k)) (fun k => gArr m c (ix1 k)) (fun k d => wArr m c (ix2 k d)) (posAt R) q
    (fun k => hg (ix1 k)) hw

end Cert.KvIdeal.Value

end
-- ==== Proof.KvFinal.lean ====
/- The shared keys and values' four result arrays over the prompt, in terms of the call's arguments: the latent, the rotated key,
   and the same two as the attention reads them. -/
module

public import proofs.«01_k».proof.Proof.Gen.KvIdeal.Value
public import proofs.«01_k».proof.Proof.KvBlock
public import Idealize.ShloMosaic.Lib.Pipeline.ReadBack
public import Idealize.ShloMosaic.Lib.StableHlo.RunRead

@[expose] public section

set_option maxRecDepth 16384

noncomputable section

namespace Cert.KvIdeal.Value

open Cert.KvIdeal Cert.KvIdeal.Gen Idealize.ShloMosaic Idealize.ShloMosaic.TcCoe Idealize.SL.Sem
open Idealize.ShloMosaic.Pipeline (Dat)
open Cert.Norm Cert.Rope

variable (m : (ℓ : Loc nD τ sig) → Buf (Elt Ideal) ℓ)

/-! ## The four result arrays -/

/-- The latent. -/
theorem final_lat (c : Dev nD) : (dats m 0 c).arrAt 5 cfg0.N = lat (xArr m c) (gArr m c) (wArr m c) (nArr m c) := by
  refine (dats m 0 c).arrAt_eq_of_covers 5 _ (by decide +kernel) fun t hf y => ?_
  blk_simp
  rw [after0_5]
  unfold out0_5 k0_pay7
  frame_out
  obtain ⟨-, -, -, -, -, e, -⟩ := block_at t
  generalize hI : ((View.whole main_v27_0).slice (win0_5.rect t)).emb y = I
  have hI0 : (I 0).val = t.val * 512 + (y 0).val := by
    rw [← hI]
    refine (Pipeline.Window.rect_emb_val win0_5 t y 0).trans ?_
    rw [e]; rfl
  have hI1 : (I 1).val = (y 1).val := by
    rw [← hI]
    refine (Pipeline.Window.rect_emb_val win0_5 t y 1).trans ?_
    rw [e]; exact Nat.zero_add _
  idx_vars y
  have e1 : y1 = I 1 := Fin.ext hI1.symm
  rw [e1]
  exact latent_tile m c t y0 (I 1) (I 0) hI0

/-- The key. -/
theorem final_key (c : Dev nD) (hg : ∀ i, ∃ r : ℝ, gArr m c i = (r : EReal))
    (hw : ∀ k (d : Fin 576), 544 ≤ d.val → ∃ r : ℝ, wArr m c (ix2 k d) = (r : EReal)) : (dats m 0 c).arrAt 6 cfg0.N = key (xArr m c) (gArr m c) (wArr m c) := by
  refine (dats m 0 c).arrAt_eq_of_covers 6 _ (by decide +kernel) fun t hf y => ?_
  blk_simp
  rw [after0_6]
  unfold out0_6 k0_pay8
  frame_out
  obtain ⟨-, -, -, -, -, -, e, -⟩ := block_at t
  generalize hI : ((View.whole main_v27_1).slice (win0_6.rect t)).emb y = I
  have hI0 : (I 0).val = t.val * 512 + (y 0).val := by
    rw [← hI]
    refine (Pipeline.Window.rect_emb_val win0_6 t y 0).trans ?_
    rw [e]; rfl
  have hI1 : (I 1).val = (y 1).val := by
    rw [← hI]
    refine (Pipeline.Window.rect_emb_val win0_6 t y 1).trans ?_
    rw [e]; exact Nat.zero_add _
  idx_vars y
  have e1 : y1 = I 1 := Fin.ext hI1.symm
  rw [e1]
  exact (narrow_at _ y0 (I 1)).trans (key_tile m c hg hw t y0 (I 1) (I 0) hI0)

/-- The latent, as the attention reads it. -/
theorem final_latB (c : Dev nD) : (dats m 0 c).arrAt 7 cfg0.N = latB (xArr m c) (gArr m c) (wArr m c) (nArr m c) := by
  refine (dats m 0 c).arrAt_eq_of_covers 7 _ (by decide +kernel) fun t hf y => ?_
  blk_simp
  rw [after0_7]
  unfold out0_7 k0_pay7
  frame_out
  obtain ⟨-, -, -, -, -, -, -, e, -⟩ := block_at t
  generalize hI : ((View.whole main_v27_2).slice (win0_7.rect t)).emb y = I
  have hI0 : (I 0).val = t.val * 512 + (y 0).val := by
    rw [← hI]
    refine (Pipeline.Window.rect_emb_val win0_7 t y 0).trans ?_
    rw [e]; rfl
  have hI1 : (I 1).val = (y 1).val := by
    rw [← hI]
    refine (Pipeline.Window.rect_emb_val win0_7 t y 1).trans ?_
    rw [e]; exact Nat.zero_add _
  idx_vars y
  have e1 : y1 = I 1 := Fin.ext hI1.symm
  rw [e1]
  exact (same_at _ _).trans (latent_tile m c t y0 (I 1) (I 0) hI0)

/-- The key, as the attention reads it. -/
theorem final_keyB (c : Dev nD) (hg : ∀ i, ∃ r : ℝ, gArr m c i = (r : EReal))
    (hw : ∀ k (d : Fin 576), 544 ≤ d.val → ∃ r : ℝ, wArr m c (ix2 k d) = (r : EReal)) : (dats m 0 c).arrAt 8 cfg0.N = keyB (xArr m c) (gArr m c) (wArr m c) := by
  refine (dats m 0 c).arrAt_eq_of_covers 8 _ (by decide +kernel) fun t hf y => ?_
  blk_simp
  rw [after0_8]
  unfold out0_8 k0_pay8
  frame_out
  obtain ⟨-, -, -, -, -, -, -, -, e⟩ := block_at t
  generalize hI : ((View.whole main_v27_3).slice (win0_8.rect t)).emb y = I
  have hI0 : (I 0).val = t.val * 512 + (y 0).val := by
    rw [← hI]
    refine (Pipeline.Window.rect_emb_val win0_8 t y 0).trans ?_
    rw [e]; rfl
  have hI1 : (I 1).val = (y 1).val := by
    rw [← hI]
    refine (Pipeline.Window.rect_emb_val win0_8 t y 1).trans ?_
    rw [e]; exact Nat.zero_add _
  idx_vars y
  have e1 : y1 = I 1 := Fin.ext hI1.symm
  rw [e1]
  refine (wide_at _ y0 (I 1)).trans ?_
  exact wide_of_key _ _ fun h => key_tile m c hg hw t y0 ⟨(I 1).val, h⟩ (I 0) hI0

end Cert.KvIdeal.Value

end
-- ==== Proof.KvRead.lean ====
/- The shared keys and values' reference over the prompt read at an element: the same latent and rotated key. -/
module

public import proofs.«01_k».proof.Proof.Gen.KvRefIdeal.Read
public import proofs.«01_k».proof.Proof.KvBlock

@[expose] public section

set_option maxRecDepth 16384

noncomputable section

namespace Cert.KvRefIdeal.Read

open Cert.KvRefIdeal Cert.KvRefIdeal.Gen Idealize.ShloMosaic Idealize.ShloMosaic.TcCoe Idealize.SL.Sem
open Cert.Norm Cert.Rope
open Cert.KvIdeal.Value (posAt lat key latB keyB)

variable (x : Vec Ideal S8192x2048 .f32) (g : Vec Ideal S2048 .f32) (w : Vec Ideal S2048x576 .f32) (g' : Vec Ideal S512 .f32)

/-- The normed rows. -/
theorem normed (b : Fin 4) (R k : Fin 2048) (N : Fin 8192) (hN : N.val = b.val * 2048 + R.val) :
    val_main_v14 (F := Ideal) x g (ix3 b R k) = rmsAt (fun k => x (ix2 N k)) (g (ix1 k)) k := by
  have e : N = ⟨b.val * 2048 + R.val, by omega⟩ := Fin.ext hN
  rw [e]
  pointwise [val_main_v14, val_main_v13, val_main_v12, val_main_v11, val_main_v10, val_main_v9, val_main_v8, val_main_v7, val_main_v6,
    val_main_v5, val_main_v4, val_main_v3, val_main_v2, val_main_v0, val_main_cst, val_main_cst_0, val_main_cst_1]
  rfl

/-- The projection. -/
theorem proj (b : Fin 4) (R : Fin 2048) (n : Fin 576) (N : Fin 8192) (hN : N.val = b.val * 2048 + R.val) :
    val_main_v15 (F := Ideal) x g w (ix3 b R n)
      = colAt (fun k => x (ix2 N k)) (fun k => g (ix1 k)) (fun k => w (ix2 k n)) := by
  have hz : ∀ k, val_main_v14 (F := Ideal) x g (ix3 b R k) = rmsAt (fun k => x (ix2 N k)) (g (ix1 k)) k := fun k => normed x g b R k N hN
  unfold val_main_v15
  generalize val_main_v14 (F := Ideal) x g = z at hz
  pointwise
  unfold colAt
  exact Finset.sum_congr rfl fun k _ => congrArg (fun a : EReal => a * w (ix2 k n)) (hz k)

/-- The cosine of a pair's angle at a position. -/
theorem cos_at (p : Fin 2048) (k : Fin 32) :
    val_main_v45 (F := Ideal) (ix2 p k) = Ideal.cos (angle (FloatOps.sitofp .f32 (BitVec.ofNat 32 p.val) : Ideal .f32) k) := by
  pointwise [val_main_v45, val_main_v44, val_main_v43, val_main_v42, val_main_v41, val_main_v40, val_main_v39, val_main_v38,
    val_main_v37, val_main_v36, val_main_v35, val_main_v34, val_main_v33, val_main_v32, val_main_v1, val_main_cst_7, val_main_cst_6,
    val_main_cst_5]
  rfl

/-- The sine of a pair's angle at a position. -/
theorem sin_at (p : Fin 2048) (k : Fin 32) :
    val_main_v47 (F := Ideal) (ix2 p k) = Ideal.sin (angle (FloatOps.sitofp .f32 (BitVec.ofNat 32 p.val) : Ideal .f32) k) := by
  pointwise [val_main_v47, val_main_v46, val_main_v44, val_main_v43, val_main_v42, val_main_v41, val_main_v40, val_main_v39, val_main_v38,
    val_main_v37, val_main_v36, val_main_v35, val_main_v34, val_main_v33, val_main_v32, val_main_v1, val_main_cst_7, val_main_cst_6,
    val_main_cst_5]
  rfl

/-- The latent. -/
theorem lat_at (R : Fin 8192) (C : Fin 512) : val_main_v30 (F := Ideal) x g w g' (ix2 R C) = lat x g w g' (ix2 R C) := by
  have hR := R.isLt
  have hz : ∀ n, val_main_v15 (F := Ideal) x g w (ix3 ⟨R.val / 2048, by omega⟩ ⟨R.val % 2048, by omega⟩ n)
      = colAt (fun k => x (ix2 R k)) (fun k => g (ix1 k)) (fun k => w (ix2 k n)) :=
    fun n => proj x g w _ _ n R (show R.val = R.val / 2048 * 2048 + R.val % 2048 by omega)
  unfold val_main_v30 val_main_v29 val_main_v26 val_main_v25 val_main_v24 val_main_v23 val_main_v21 val_main_v19 val_main_v18
    val_main_v17 val_main_v16
  generalize val_main_v15 (F := Ideal) x g w = z at hz
  pointwise [val_main_v28, val_main_v27, val_main_v22, val_main_v20, val_main_cst_2, val_main_cst_3, val_main_cst_4]
  simp only [hz]
  rfl

/-- The key. -/
theorem key_at (R : Fin 8192) (C : Fin 64) : val_main_v62 (F := Ideal) x g w (ix2 R C) = key x g w (ix2 R C) := by
  have hR := R.isLt
  have hC := C.isLt
  have hz : ∀ n, val_main_v15 (F := Ideal) x g w (ix3 ⟨R.val / 2048, by omega⟩ ⟨R.val % 2048, by omega⟩ n)
      = colAt (fun k => x (ix2 R k)) (fun k => g (ix1 k)) (fun k => w (ix2 k n)) :=
    fun n => proj x g w _ _ n R (show R.val = R.val / 2048 * 2048 + R.val % 2048 by omega)
  unfold val_main_v62 val_main_v61 val_main_v60 val_main_v59 val_main_v57 val_main_v55 val_main_v54 val_main_v52 val_main_v50
    val_main_v49 val_main_v31
  generalize val_main_v15 (F := Ideal) x g w = z at hz
  pointwise [val_main_v58, val_main_v56, val_main_v53, val_main_v51, val_main_v48, val_main_v46]
  simp only [hz, cos_at, sin_at]
  exact rope_of_halves (fun d => colAt (fun k => x (ix2 R k)) (fun k => g (ix1 k)) fun k => w (ix2 k ⟨512 + d.val, by omega⟩)) (posAt R) C

/-- The reference's latent. -/
theorem final_lat : val_main_v30 (F := Ideal) x g w g' = lat x g w g' := by
  funext i
  idx_vars i
  exact lat_at x g w g' i0 i1

/-- The reference's key. -/
theorem final_key : val_main_v62 (F := Ideal) x g w = key x g w := by
  funext i
  idx_vars i
  exact key_at x g w i0 i1

/-- The reference's latent, as the attention reads it. -/
theorem final_latB : val_main_v63 (F := Ideal) x g w g' = latB x g w g' := by
  funext i
  exact congrFun (final_lat x g w g') i

/-- The reference's key, as the attention reads it. -/
theorem final_keyB : val_main_v66 (F := Ideal) x g w = keyB x g w := by
  funext i
  idx_vars i
  unfold val_main_v66 val_main_v65
  rw [final_key]
  generalize hz : key x g w = z
  pointwise [val_main_v64, val_main_cst_8]
  subst hz
  rfl

end Cert.KvRefIdeal.Read

end
-- ==== Proof.KvClaim.lean ====
/- The shared keys and values' value claim over the prompt: kernel and reference end with the same four arrays. -/
module

public import proofs.«01_k».proof.Defs
public import proofs.«01_k».proof.Proof.Gen.Kv.Frame
public import proofs.«01_k».proof.Proof.Gen.KvRefIdeal.Run
public import proofs.«01_k».proof.Proof.Gen.Pre_finite_kv
public import proofs.«01_k».proof.Proof.KvFinal
public import proofs.«01_k».proof.Proof.KvRead
public import proofs.«01_k».proof.Proof.AttnClaim

@[expose] public section

set_option maxRecDepth 16384

noncomputable section

namespace Cert.KvPair

open Idealize.ShloMosaic Idealize.ShloMosaic.TcCoe Idealize.SL.Sem
open Cert.AttnPair (pos_inf real_of_abs)

/-- The last 32 columns are real where their slice's absolute values lie below infinity. -/
theorem real_of_slice (W : Vec Ideal Cert.KvIdeal.S2048x576 .f32)
    (hS : Cert.Pre_finite_kv.S2048x576.Slices ![0, 544] Cert.Pre_finite_kv.S2048x32)
    (h : ∀ i, Ideal.cmp .olt (max (extractStridedSlice Cert.Pre_finite_kv.S2048x32 ![0, 544] W hS i : EReal)
      (-(extractStridedSlice Cert.Pre_finite_kv.S2048x32 ![0, 544] W hS i : EReal))) ⊤ = 1#1)
    (k : Fin 2048) (d : Fin 576) (hd : 544 ≤ d.val) : ∃ r : ℝ, W (ix2 k d) = (r : EReal) := by
  have e : extractStridedSlice Cert.Pre_finite_kv.S2048x32 ![0, 544] W hS (ix2 k ⟨d.val - 544, by omega⟩) = W (ix2 k d) := by
    pointwise
    exact congrArg (fun j => W (ix2 k j)) (Fin.ext (show 544 + (d.val - 544) = d.val by omega))
  rw [← e]
  exact real_of_abs _ (h _)

/-- What the precondition says: the gains of the rows' norm and the last 32 columns of the weights are real numbers. -/
theorem real_of_pre (X : Vec Ideal Cert.KvIdeal.S8192x2048 .f32) (g : Vec Ideal Cert.KvIdeal.S2048 .f32)
    (W : Vec Ideal Cert.KvIdeal.S2048x576 .f32) (g' : Vec Ideal Cert.KvIdeal.S512 .f32)
    (h : Cert.Pre_finite_kv.fn (F := Ideal) X g W g' = fun _ => 1#1) :
    (∀ i, ∃ r : ℝ, g i = (r : EReal)) ∧ ∀ k (d : Fin 576), 544 ≤ d.val → ∃ r : ℝ, W (ix2 k d) = (r : EReal) := by
  have h' := congrFun h (Shape.Idx.first Cert.Pre_finite_kv.Gen.h_S_)
  have hs := IntOp.andi_eq_one.1 h'
  haveI : Subsingleton Cert.Pre_finite_kv.S_.Idx := ⟨fun a b => funext fun d => d.elim0⟩
  refine ⟨fun i => real_of_abs _ ?_, real_of_slice W Cert.Pre_finite_kv.Facts.slices_S2048x576_S2048x32_0_544 fun i => ?_⟩
  · have e := Host.reduce_andi_all _ _ _ _ _ hs.1 i
    rw [← pos_inf]; exact e
  · have e := Host.reduce_andi_all _ _ _ _ _ hs.2 i
    rw [← pos_inf]; exact e

/-- Both programs run and leave the latent, the key, and the two as the attention reads them. -/
theorem algebraic : Cert.algebraic_KvIdeal_KvRefIdeal_pre_finite_kv := fun m ρ m' ρ' hpre hag =>
  ⟨fun c => Cert.KvIdeal.Value.lat (m (c.tc.loc Cert.KvIdeal.main_arg0)) (m (c.tc.loc Cert.KvIdeal.main_arg1))
      (m (c.tc.loc Cert.KvIdeal.main_arg2)) (m (c.tc.loc Cert.KvIdeal.main_arg3)),
    fun c => Cert.KvIdeal.Value.key (m (c.tc.loc Cert.KvIdeal.main_arg0)) (m (c.tc.loc Cert.KvIdeal.main_arg1))
      (m (c.tc.loc Cert.KvIdeal.main_arg2)),
    fun c => Cert.KvIdeal.Value.latB (m (c.tc.loc Cert.KvIdeal.main_arg0)) (m (c.tc.loc Cert.KvIdeal.main_arg1))
      (m (c.tc.loc Cert.KvIdeal.main_arg2)) (m (c.tc.loc Cert.KvIdeal.main_arg3)),
    fun c => Cert.KvIdeal.Value.keyB (m (c.tc.loc Cert.KvIdeal.main_arg0)) (m (c.tc.loc Cert.KvIdeal.main_arg1))
      (m (c.tc.loc Cert.KvIdeal.main_arg2)),
    (θ_run _ _ _).mono (fun r h c => ⟨(h c).1.trans (Cert.KvIdeal.Value.final_lat m c),
      (h c).2.1.trans (Cert.KvIdeal.Value.final_key m c (real_of_pre _ _ _ _ (hpre c)).1 (real_of_pre _ _ _ _ (hpre c)).2),
      (h c).2.2.1.trans (Cert.KvIdeal.Value.final_latB m c),
      (h c).2.2.2.1.trans (Cert.KvIdeal.Value.final_keyB m c (real_of_pre _ _ _ _ (hpre c)).1 (real_of_pre _ _ _ _ (hpre c)).2),
      (h c).2.2.2.2⟩) (Cert.KvIdeal.Value.run_blocks m ρ),
    (θ_run _ _ _).mono (fun r h c => ⟨(h c).1.trans (by
      rw [Cert.KvRefIdeal.Read.val_main_v30_eq, Cert.KvRefIdeal.Read.final_lat, (hag c).1, (hag c).2.1, (hag c).2.2.1, (hag c).2.2.2]),
      (h c).2.1.trans (by
      rw [Cert.KvRefIdeal.Read.val_main_v62_eq, Cert.KvRefIdeal.Read.final_key, (hag c).1, (hag c).2.1, (hag c).2.2.1]),
      (h c).2.2.1.trans (by
      rw [Cert.KvRefIdeal.Read.val_main_v63_eq, Cert.KvRefIdeal.Read.final_latB, (hag c).1, (hag c).2.1, (hag c).2.2.1, (hag c).2.2.2]),
      (h c).2.2.2.1.trans (by
      rw [Cert.KvRefIdeal.Read.val_main_v66_eq, Cert.KvRefIdeal.Read.final_keyB, (hag c).1, (hag c).2.1, (hag c).2.2.1]),
      (h c).2.2.2.2⟩) (Cert.KvRefIdeal.Value.run m' ρ')⟩

/-- The kernel's frame. -/
theorem frame_p : Cert.quiescent_Kv := fun m ρ _ => Cert.Kv.Gen.frame m ρ

/-- The idealized kernel's frame. -/
theorem frame_pi : Cert.quiescent_KvIdeal := fun m ρ _ => Cert.KvIdeal.Gen.frame m ρ

/-- The reference's frame: its run, and it has no counters. -/
theorem frame_ri : Cert.quiescent_KvRefIdeal := fun m ρ _ =>
  (θ_run _ _ _).mono (fun r h => ⟨fun c => (h c).2.2.2.2, sem_eq_zero_of_no_sems (by decide) r.2⟩) (Cert.KvRefIdeal.Value.run m ρ)

end Cert.KvPair

end
-- ==== Proof.SKvBlock.lean ====
/- The shared keys and values' tiles over the sample, in terms of the call's arguments: one token to each row, all at one position. -/
module

public import proofs.«01_k».proof.Proof.Gen.SKvIdeal.Value
public import proofs.«01_k».proof.Proof.Rope
public import Idealize.ShloMosaic.Lib.Pipeline.ReadBack
public import Idealize.ShloMosaic.Lib.StableHlo.RunRead

@[expose] public section

set_option maxRecDepth 16384

noncomputable section

namespace Cert.SKvIdeal.Value

open Cert.SKvIdeal Cert.SKvIdeal.Gen Idealize.ShloMosaic Idealize.ShloMosaic.TcCoe Idealize.SL.Sem
open Idealize.ShloMosaic.Pipeline (Dat)
open Cert.Norm Cert.Rope

/-! ## The mathematics -/

/-- The position of every row: the one after 64 pages of 128 keys. -/
def pos : EReal := Ideal.ofBits .f32 0x46000000#32

variable (X : Vec Ideal S128x2048 .f32) (g : Vec Ideal S2048 .f32) (W : Vec Ideal S2048x576 .f32) (g' : Vec Ideal S512 .f32)

/-- The latent. -/
def lat : Vec Ideal S128x512 .f32 := fun i =>
  latentAt (fun k => X (ix2 (i 0) k)) (fun k => g (ix1 k)) (fun k d => W (ix2 k d)) (g' (ix1 (i 1))) (i 1)

/-- The key. -/
def key : Vec Ideal S128x64 .f32 := fun i =>
  keyAt (fun k => X (ix2 (i 0) k)) (fun k => g (ix1 k)) (fun k d => W (ix2 k d)) pos (i 1)

/-- The latent, as the attention reads it. -/
def latB : Vec Ideal S128x512 .bf16 := fun i =>
  latentAt (fun k => X (ix2 (i 0) k)) (fun k => g (ix1 k)) (fun k d => W (ix2 k d)) (g' (ix1 (i 1))) (i 1)

/-- The key in 128 lanes, as the attention reads it. -/
def keyB : Vec Ideal S128x128 .bf16 := fun i =>
  wideAt (fun k => X (ix2 (i 0) k)) (fun k => g (ix1 k)) (fun k d => W (ix2 k d)) pos (i 1)

/-! ## The stored values at an index -/

variable (x : Vec Ideal S128x2048 .f32) (b : Vec Ideal S1x2048 .f32) (w : Vec Ideal S2048x640 .bf16)

theorem proj_at (r : Fin 128) (d : Fin 640) :
    k0_pay4 x b w (ix2 r d) = colAt (fun k => x (ix2 r k)) (fun k => b (ix2 0 k)) (fun k => w (ix2 k d)) := by
  pointwise [k0_pay4]
  rfl

theorem latent_at (b' : Vec Ideal S1x512 .f32) (r : Fin 128) (d : Fin 512) :
    k0_pay5 x b w b' (ix2 r d) = latAt (fun n => k0_pay4 x b w (ix2 r ⟨n.val, by omega⟩)) (b' (ix2 0 d)) d := by
  unfold k0_pay5
  generalize k0_pay4 x b w = z
  pointwise
  rfl

theorem turned_at (t : Vec Ideal S128x128 .f32) (r : Fin 128) (q : Fin 64) :
    k0_pay6 x b w t (ix2 r ⟨q.val, by omega⟩)
      = @HAdd.hAdd EReal EReal EReal _ (k0_pay4 x b w (ix2 r ⟨512 + q.val, by omega⟩) * t (ix2 r ⟨q.val, by omega⟩))
          (k0_pay4 x b w (ix2 r ⟨512 + (64 + q.val), by omega⟩) * t (ix2 r ⟨64 + q.val, by omega⟩)) := by
  have hq := q.isLt
  have e : (⟨(q.val + 128 - 64) % 128, by omega⟩ : Fin 128) = ⟨64 + q.val, by omega⟩ := Fin.ext (show (q.val + 128 - 64) % 128 = 64 + q.val by omega)
  have e' : (⟨512 + (q.val + 128 - 64) % 128, by omega⟩ : Fin 640) = ⟨512 + (64 + q.val), by omega⟩ :=
    Fin.ext (show 512 + (q.val + 128 - 64) % 128 = 512 + (64 + q.val) by omega)
  unfold k0_pay6
  generalize k0_pay4 x b w = z
  pointwise
  exact congrArg₂ (fun a b : EReal => _ + a * b) (congrArg (fun j => z (ix2 r j)) e') (congrArg (fun j => t (ix2 r j)) e)

theorem wide_at (y : FVec Ideal S128x128 .f32) (r : Fin 128) (n : Fin 128) :
    k0_pay3 y (ix2 r n) = if n.val < 64 then y (ix2 r n) else (0 : EReal) := by
  have hn := n.isLt
  pointwise [k0_pay3]
  rw [WordCmp.cmpi_slt_ofNat (by omega) (by omega)]
  by_cases h : n.val < 64
  · rw [if_pos h, decide_eq_true h]; rfl
  · rw [if_neg h, decide_eq_false h]; rfl

theorem narrow_at (y : FVec Ideal S128x128 .f32) (r : Fin 128) (q : Fin 64) :
    k0_pay1 y (ix2 r q) = y (ix2 r ⟨q.val, by omega⟩) := by
  pointwise [k0_pay1]

theorem same_at (y : FVec Ideal S128x512 .f32) (i : S128x512.Idx) : k0_pay2 y i = y i := rfl

/-! ## The blocks read from the arrays -/

variable (m : (ℓ : Loc nD τ sig) → Buf (Elt Ideal) ℓ)

/-- The arguments as launched: the rows, the gain of their norm, the weights, the gain of the latent's norm. -/
abbrev xArr (c : Dev nD) : Vec Ideal S128x2048 .f32 := m ((c : Thread nD τ).loc main_arg0)
abbrev gArr (c : Dev nD) : Vec Ideal S2048 .f32 := m ((c : Thread nD τ).loc main_arg1)
abbrev wArr (c : Dev nD) : Vec Ideal S2048x576 .f32 := m ((c : Thread nD τ).loc main_arg2)
abbrev nArr (c : Dev nD) : Vec Ideal S512 .f32 := m ((c : Thread nD τ).loc main_arg3)

/-- The block numbers of the nine windows at each grid point. -/
theorem block_at : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] := by decide +kernel

/-- The weights the host lays out. -/
theorem weights_at (c : Dev nD) (k : Fin 2048) (n : Fin 640) :
    (V m c main_v7 : Vec Ideal S2048x640 .bf16) (ix2 k n) = extAt (fun d => wArr m c (ix2 k d)) n := by
  change StableHlo.after hostOps0 (fun b => m (c, b)) (Proc.devRef .tc main_v7) (ix2 k n) = _
  after_reads_simp
  pointwise
  after_reads_simp
  pointwise
  after_reads_simp
  pointwise
  unfold extAt
  by_cases h : n.val < 512
  · rw [dif_pos h, dif_pos h]
  · rw [dif_neg h, dif_neg h]
    exact pairs_of_pieces (fun d => wArr m c (ix2 k ⟨512 + d.val, by omega⟩)) (n.val - 512) (by omega)

/-- The table the host lays out. -/
theorem table_at (c : Dev nD) (r : Fin 128) (n : Fin 128) :
    (V m c main_v24 : Vec Ideal S128x128 .f32) (ix2 r n) = table pos n := by
  show StableHlo.after hostOps0 (fun b => m (c, b)) (Proc.devRef .tc main_v24) (ix2 r n) = _
  after_reads_simp
  pointwise
  after_reads_simp
  pointwise
  exact table_of_pieces _ n

theorem x_read (c : Dev nD) (t : Fin cfg0.N) (r : Fin 128) (k : Fin 2048) :
    (iblk m c 0 t : Vec Ideal S128x2048 .f32) (ix2 r k) = xArr m c (ix2 r k) := by
  obtain ⟨e, -⟩ := block_at t
  blk_ext [iblk, V, e]

theorem g_read (c : Dev nD) (t : Fin cfg0.N) (k : Fin 2048) :
    (iblk m c 1 t : Vec Ideal S1x2048 .f32) (ix2 0 k) = gArr m c (ix1 k) := by
  obtain ⟨-, e, -⟩ := block_at t
  blk_ext! [iblk, V, e]

theorem w_read (c : Dev nD) (t : Fin cfg0.N) (k : Fin 2048) (n : Fin 640) :
    (iblk m c 2 t : Vec Ideal S2048x640 .bf16) (ix2 k n) = extAt (fun d => wArr m c (ix2 k d)) n := by
  obtain ⟨-, -, e, -⟩ := block_at t
  refine Eq.trans ?_ (weights_at m c k n)
  blk_ext [iblk, e]

theorem n_read (c : Dev nD) (t : Fin cfg0.N) (d : Fin 512) :
    (iblk m c 3 t : Vec Ideal S1x512 .f32) (ix2 0 d) = nArr m c (ix1 d) := by
  obtain ⟨-, -, -, e, -⟩ := block_at t
  blk_ext! [iblk, V, e]

theorem t_read (c : Dev nD) (t : Fin cfg0.N) (r : Fin 128) (n : Fin 128) :
    (iblk m c 4 t : Vec Ideal S128x128 .f32) (ix2 r n) = table pos n := by
  obtain ⟨-, -, -, -, e, -⟩ := block_at t
  refine Eq.trans ?_ (table_at m c r n)
  blk_ext [iblk, e]

/-! ## The tiles -/

/-- The projection's tile: columns of the kernel's weights. -/
theorem proj_tile (c : Dev nD) (t : Fin cfg0.N) (r : Fin 128) (n : Fin 640) :
    k0_pay4 (iblk m c 0 t) (iblk m c 1 t) (iblk m c 2 t) (ix2 r n)
      = colAt (fun k => xArr m c (ix2 r k)) (fun k => gArr m c (ix1 k)) (fun k => extAt (fun d => wArr m c (ix2 k d)) n) := by
  rw [proj_at]
  exact colAt_congr (fun k => x_read m c t r k) (fun k => g_read m c t k) fun k => w_read m c t k n

/-- The latent's tile. -/
theorem latent_tile (c : Dev nD) (t : Fin cfg0.N) (r : Fin 128) (d : Fin 512) :
    k0_pay5 (iblk m c 0 t) (iblk m c 1 t) (iblk m c 2 t) (iblk m c 3 t) (ix2 r d)
      = latentAt (fun k => xArr m c (ix2 r k)) (fun k => gArr m c (ix1 k)) (fun k d => wArr m c (ix2 k d)) (nArr m c (ix1 d)) d := by
  rw [latent_at]
  refine latAt_congr d (fun n => (proj_tile m c t r _).trans ?_) (n_read m c t d)
  exact colAt_congr (fun _ => rfl) (fun _ => rfl) fun k => ext_low (fun d => wArr m c (ix2 k d)) n

/-- The key's tile, where gains and the rotated columns' second half are real. -/
theorem key_tile (c : Dev nD) (hg : ∀ i, ∃ r : ℝ, gArr m c i = (r : EReal))
    (hw : ∀ k (d : Fin 576), 544 ≤ d.val → ∃ r : ℝ, wArr m c (ix2 k d) = (r : EReal))
    (t : Fin cfg0.N) (r : Fin 128) (q : Fin 64) :
    k0_pay6 (iblk m c 0 t) (iblk m c 1 t) (iblk m c 2 t) (iblk m c 4 t) (ix2 r ⟨q.val, by omega⟩)
      = keyAt (fun k => xArr m c (ix2 r k)) (fun k => gArr m c (ix1 k)) (fun k d => wArr m c (ix2 k d)) pos q := by
  rw [turned_at, proj_tile m c t r _, proj_tile m c t r _, t_read m c t r _, t_read m c t r _]
  exact key_of_ext (fun k => xArr m c (ix2 r k)) (fun k => gArr m c (ix1 k)) (fun k d => wArr m c (ix2 k d)) pos q
    (fun k => hg (ix1 k)) hw

end Cert.SKvIdeal.Value

end
-- ==== Proof.SKvFinal.lean ====
/- The shared keys and values' four result arrays over the sample, in terms of the call's arguments: the latent, the rotated key,
   and the same two as the attention reads them. -/
module

public import proofs.«01_k».proof.Proof.Gen.SKvIdeal.Value
public import proofs.«01_k».proof.Proof.SKvBlock
public import Idealize.ShloMosaic.Lib.Pipeline.ReadBack
public import Idealize.ShloMosaic.Lib.StableHlo.RunRead

@[expose] public section

set_option maxRecDepth 16384

noncomputable section

namespace Cert.SKvIdeal.Value

open Cert.SKvIdeal Cert.SKvIdeal.Gen Idealize.ShloMosaic Idealize.ShloMosaic.TcCoe Idealize.SL.Sem
open Idealize.ShloMosaic.Pipeline (Dat)
open Cert.Norm Cert.Rope

variable (m : (ℓ : Loc nD τ sig) → Buf (Elt Ideal) ℓ)

/-! ## The four result arrays -/

/-- The latent. -/
theorem final_lat (c : Dev nD) : (dats m 0 c).arrAt 5 cfg0.N = lat (xArr m c) (gArr m c) (wArr m c) (nArr m c) := by
  refine (dats m 0 c).arrAt_eq_of_covers 5 _ (by decide +kernel) fun t hf y => ?_
  blk_simp
  rw [after0_5]
  unfold out0_5 k0_pay7
  frame_out
  obtain ⟨-, -, -, -, -, e, -⟩ := block_at t
  generalize hI : ((View.whole main_v27_0).slice (win0_5.rect t)).emb y = I
  have hI0 : (I 0).val = (y 0).val := by
    rw [← hI]
    refine (Pipeline.Window.rect_emb_val win0_5 t y 0).trans ?_
    rw [e]; exact Nat.zero_add _
  have hI1 : (I 1).val = (y 1).val := by
    rw [← hI]
    refine (Pipeline.Window.rect_emb_val win0_5 t y 1).trans ?_
    rw [e]; exact Nat.zero_add _
  idx_vars y
  have e0 : y0 = I 0 := Fin.ext hI0.symm
  have e1 : y1 = I 1 := Fin.ext hI1.symm
  rw [e0, e1]
  exact latent_tile m c t (I 0) (I 1)

/-- The key. -/
theorem final_key (c : Dev nD) (hg : ∀ i, ∃ r : ℝ, gArr m c i = (r : EReal))
    (hw : ∀ k (d : Fin 576), 544 ≤ d.val → ∃ r : ℝ, wArr m c (ix2 k d) = (r : EReal)) : (dats m 0 c).arrAt 6 cfg0.N = key (xArr m c) (gArr m c) (wArr m c) := by
  refine (dats m 0 c).arrAt_eq_of_covers 6 _ (by decide +kernel) fun t hf y => ?_
  blk_simp
  rw [after0_6]
  unfold out0_6 k0_pay8
  frame_out
  obtain ⟨-, -, -, -, -, -, e, -⟩ := block_at t
  generalize hI : ((View.whole main_v27_1).slice (win0_6.rect t)).emb y = I
  have hI0 : (I 0).val = (y 0).val := by
    rw [← hI]
    refine (Pipeline.Window.rect_emb_val win0_6 t y 0).trans ?_
    rw [e]; exact Nat.zero_add _
  have hI1 : (I 1).val = (y 1).val := by
    rw [← hI]
    refine (Pipeline.Window.rect_emb_val win0_6 t y 1).trans ?_
    rw [e]; exact Nat.zero_add _
  idx_vars y
  have e0 : y0 = I 0 := Fin.ext hI0.symm
  have e1 : y1 = I 1 := Fin.ext hI1.symm
  rw [e0, e1]
  exact (narrow_at _ (I 0) (I 1)).trans (key_tile m c hg hw t (I 0) (I 1))

/-- The latent, as the attention reads it. -/
theorem final_latB (c : Dev nD) : (dats m 0 c).arrAt 7 cfg0.N = latB (xArr m c) (gArr m c) (wArr m c) (nArr m c) := by
  refine (dats m 0 c).arrAt_eq_of_covers 7 _ (by decide +kernel) fun t hf y => ?_
  blk_simp
  rw [after0_7]
  unfold out0_7 k0_pay7
  frame_out
  obtain ⟨-, -, -, -, -, -, -, e, -⟩ := block_at t
  generalize hI : ((View.whole main_v27_2).slice (win0_7.rect t)).emb y = I
  have hI0 : (I 0).val = (y 0).val := by
    rw [← hI]
    refine (Pipeline.Window.rect_emb_val win0_7 t y 0).trans ?_
    rw [e]; exact Nat.zero_add _
  have hI1 : (I 1).val = (y 1).val := by
    rw [← hI]
    refine (Pipeline.Window.rect_emb_val win0_7 t y 1).trans ?_
    rw [e]; exact Nat.zero_add _
  idx_vars y
  have e0 : y0 = I 0 := Fin.ext hI0.symm
  have e1 : y1 = I 1 := Fin.ext hI1.symm
  rw [e0, e1]
  exact (same_at _ _).trans (latent_tile m c t (I 0) (I 1))

/-- The key, as the attention reads it. -/
theorem final_keyB (c : Dev nD) (hg : ∀ i, ∃ r : ℝ, gArr m c i = (r : EReal))
    (hw : ∀ k (d : Fin 576), 544 ≤ d.val → ∃ r : ℝ, wArr m c (ix2 k d) = (r : EReal)) : (dats m 0 c).arrAt 8 cfg0.N = keyB (xArr m c) (gArr m c) (wArr m c) := by
  refine (dats m 0 c).arrAt_eq_of_covers 8 _ (by decide +kernel) fun t hf y => ?_
  blk_simp
  rw [after0_8]
  unfold out0_8 k0_pay8
  frame_out
  obtain ⟨-, -, -, -, -, -, -, -, e⟩ := block_at t
  generalize hI : ((View.whole main_v27_3).slice (win0_8.rect t)).emb y = I
  have hI0 : (I 0).val = (y 0).val := by
    rw [← hI]
    refine (Pipeline.Window.rect_emb_val win0_8 t y 0).trans ?_
    rw [e]; exact Nat.zero_add _
  have hI1 : (I 1).val = (y 1).val := by
    rw [← hI]
    refine (Pipeline.Window.rect_emb_val win0_8 t y 1).trans ?_
    rw [e]; exact Nat.zero_add _
  idx_vars y
  have e0 : y0 = I 0 := Fin.ext hI0.symm
  have e1 : y1 = I 1 := Fin.ext hI1.symm
  rw [e0, e1]
  refine (wide_at _ (I 0) (I 1)).trans ?_
  exact wide_of_key _ _ fun h => key_tile m c hg hw t (I 0) ⟨(I 1).val, h⟩

end Cert.SKvIdeal.Value

end
-- ==== Proof.SKvRead.lean ====
/- The shared keys and values' reference over the sample read at an element: the same latent and rotated key. -/
module

public import proofs.«01_k».proof.Proof.Gen.SKvRefIdeal.Read
public import proofs.«01_k».proof.Proof.SKvBlock

@[expose] public section

set_option maxRecDepth 16384

noncomputable section

namespace Cert.SKvRefIdeal.Read

open Cert.SKvRefIdeal Cert.SKvRefIdeal.Gen Idealize.ShloMosaic Idealize.ShloMosaic.TcCoe Idealize.SL.Sem
open Cert.Norm Cert.Rope
open Cert.SKvIdeal.Value (pos lat key latB keyB)

variable (x : Vec Ideal S128x2048 .f32) (g : Vec Ideal S2048 .f32) (w : Vec Ideal S2048x576 .f32) (g' : Vec Ideal S512 .f32)

/-- The normed rows. -/
theorem normed (R : Fin 128) (k : Fin 2048) :
    val_main_v16 (F := Ideal) x g (ix3 R 0 k) = rmsAt (fun k => x (ix2 R k)) (g (ix1 k)) k := by
  pointwise [val_main_v16, val_main_v15, val_main_v14, val_main_v13, val_main_v12, val_main_v11, val_main_v10, val_main_v9, val_main_v8,
    val_main_v7, val_main_v6, val_main_v5, val_main_v4, val_main_v0, val_main_cst_0, val_main_cst_1, val_main_cst_2]
  rfl

/-- The projection. -/
theorem proj (R : Fin 128) (n : Fin 576) :
    val_main_v17 (F := Ideal) x g w (ix3 R 0 n) = colAt (fun k => x (ix2 R k)) (fun k => g (ix1 k)) (fun k => w (ix2 k n)) := by
  have hz : ∀ k, val_main_v16 (F := Ideal) x g (ix3 R 0 k) = rmsAt (fun k => x (ix2 R k)) (g (ix1 k)) k := fun k => normed x g R k
  unfold val_main_v17
  generalize val_main_v16 (F := Ideal) x g = z at hz
  pointwise
  unfold colAt
  exact Finset.sum_congr rfl fun k _ => congrArg (fun a : EReal => a * w (ix2 k n)) (hz k)

/-- The position: the keys before, and no token before this one. -/
theorem pos_at : val_main_v3 (F := Ideal) (ix1 0) = pos := by
  pointwise [val_main_v3, val_main_v2, val_main_v1, val_main_cst]
  have h0 : (FloatOps.sitofp .f32 0#32 : Ideal .f32) = (0 : EReal) := by
    show (((0#32 : BitVec 32).toInt : ℝ) : EReal) = 0
    simp
  rw [h0, add_zero]
  rfl

/-- The angle of a pair. -/
theorem angle_at (k : Fin 32) : val_main_v45 (F := Ideal) (ix2 0 k) = angle pos k := by
  have hz := pos_at
  unfold val_main_v45 val_main_v44 val_main_v42
  generalize val_main_v3 (F := Ideal) = z at hz
  pointwise [val_main_v43, val_main_v41, val_main_v40, val_main_v39, val_main_v38, val_main_v37, val_main_v36, val_main_v35,
    val_main_v34, val_main_cst_6, val_main_cst_7, val_main_cst_8]
  rw [hz]
  rfl

/-- The cosine of a pair's angle. -/
theorem cos_at (k : Fin 32) : val_main_v46 (F := Ideal) (ix2 0 k) = Ideal.cos (angle pos k) :=
  congrArg Ideal.cos (angle_at k)

/-- The sine of a pair's angle. -/
theorem sin_at (k : Fin 32) : val_main_v48 (F := Ideal) (ix2 0 k) = Ideal.sin (angle pos k) :=
  congrArg Ideal.sin (angle_at k)

/-- The latent. -/
theorem lat_at (R : Fin 128) (C : Fin 512) : val_main_v32 (F := Ideal) x g w g' (ix2 R C) = lat x g w g' (ix2 R C) := by
  have hz : ∀ n, val_main_v17 (F := Ideal) x g w (ix3 R 0 n)
      = colAt (fun k => x (ix2 R k)) (fun k => g (ix1 k)) (fun k => w (ix2 k n)) := fun n => proj x g w R n
  unfold val_main_v32 val_main_v31 val_main_v28 val_main_v27 val_main_v26 val_main_v25 val_main_v23 val_main_v21 val_main_v20
    val_main_v19 val_main_v18
  generalize val_main_v17 (F := Ideal) x g w = z at hz
  pointwise [val_main_v30, val_main_v29, val_main_v24, val_main_v22, val_main_cst_3, val_main_cst_4, val_main_cst_5]
  simp only [hz]
  rfl

/-- The key. -/
theorem key_at (R : Fin 128) (C : Fin 64) : val_main_v63 (F := Ideal) x g w (ix2 R C) = key x g w (ix2 R C) := by
  have hC := C.isLt
  have hz : ∀ n, val_main_v17 (F := Ideal) x g w (ix3 R 0 n)
      = colAt (fun k => x (ix2 R k)) (fun k => g (ix1 k)) (fun k => w (ix2 k n)) := fun n => proj x g w R n
  unfold val_main_v63 val_main_v62 val_main_v61 val_main_v60 val_main_v58 val_main_v56 val_main_v55 val_main_v53 val_main_v51
    val_main_v50 val_main_v33
  generalize val_main_v17 (F := Ideal) x g w = z at hz
  pointwise [val_main_v59, val_main_v57, val_main_v54, val_main_v52, val_main_v49, val_main_v47]
  simp only [hz, cos_at, sin_at]
  exact rope_of_halves (fun d => colAt (fun k => x (ix2 R k)) (fun k => g (ix1 k)) fun k => w (ix2 k ⟨512 + d.val, by omega⟩)) pos C

/-- The reference's latent. -/
theorem final_lat : val_main_v32 (F := Ideal) x g w g' = lat x g w g' := by
  funext i
  idx_vars i
  exact lat_at x g w g' i0 i1

/-- The reference's key. -/
theorem final_key : val_main_v63 (F := Ideal) x g w = key x g w := by
  funext i
  idx_vars i
  exact key_at x g w i0 i1

/-- The reference's latent, as the attention reads it. -/
theorem final_latB : val_main_v64 (F := Ideal) x g w g' = latB x g w g' := by
  funext i
  exact congrFun (final_lat x g w g') i

/-- The reference's key, as the attention reads it. -/
theorem final_keyB : val_main_v67 (F := Ideal) x g w = keyB x g w := by
  funext i
  idx_vars i
  unfold val_main_v67 val_main_v66
  rw [final_key]
  generalize hz : key x g w = z
  pointwise [val_main_v65, val_main_cst_9]
  subst hz
  rfl

end Cert.SKvRefIdeal.Read

end
-- ==== Proof.SKvClaim.lean ====
/- The shared keys and values' value claim over the sample: kernel and reference end with the same four arrays. -/
module

public import proofs.«01_k».proof.Defs
public import proofs.«01_k».proof.Proof.Gen.SKv.Frame
public import proofs.«01_k».proof.Proof.Gen.SKvRefIdeal.Run
public import proofs.«01_k».proof.Proof.Gen.Pre_finite_skv
public import proofs.«01_k».proof.Proof.SKvFinal
public import proofs.«01_k».proof.Proof.SKvRead
public import proofs.«01_k».proof.Proof.KvClaim

@[expose] public section

set_option maxRecDepth 16384

noncomputable section

namespace Cert.SKvPair

open Idealize.ShloMosaic Idealize.ShloMosaic.TcCoe Idealize.SL.Sem
open Cert.AttnPair (pos_inf real_of_abs)
open Cert.KvPair (real_of_slice)

/-- What the precondition says: the gains of the rows' norm and the last 32 columns of the weights are real numbers. -/
theorem real_of_pre (X : Vec Ideal Cert.SKvIdeal.S128x2048 .f32) (g : Vec Ideal Cert.SKvIdeal.S2048 .f32)
    (W : Vec Ideal Cert.SKvIdeal.S2048x576 .f32) (g' : Vec Ideal Cert.SKvIdeal.S512 .f32)
    (h : Cert.Pre_finite_skv.fn (F := Ideal) X g W g' = fun _ => 1#1) :
    (∀ i, ∃ r : ℝ, g i = (r : EReal)) ∧ ∀ k (d : Fin 576), 544 ≤ d.val → ∃ r : ℝ, W (ix2 k d) = (r : EReal) := by
  have h' := congrFun h (Shape.Idx.first Cert.Pre_finite_skv.Gen.h_S_)
  have hs := IntOp.andi_eq_one.1 h'
  haveI : Subsingleton Cert.Pre_finite_skv.S_.Idx := ⟨fun a b => funext fun d => d.elim0⟩
  refine ⟨fun i => real_of_abs _ ?_, real_of_slice W Cert.Pre_finite_skv.Facts.slices_S2048x576_S2048x32_0_544 fun i => ?_⟩
  · have e := Host.reduce_andi_all _ _ _ _ _ hs.1 i
    rw [← pos_inf]; exact e
  · have e := Host.reduce_andi_all _ _ _ _ _ hs.2 i
    rw [← pos_inf]; exact e

/-- Both programs run and leave the latent, the key, and the two as the attention reads them. -/
theorem algebraic : Cert.algebraic_SKvIdeal_SKvRefIdeal_pre_finite_skv := fun m ρ m' ρ' hpre hag =>
  ⟨fun c => Cert.SKvIdeal.Value.lat (m (c.tc.loc Cert.SKvIdeal.main_arg0)) (m (c.tc.loc Cert.SKvIdeal.main_arg1))
      (m (c.tc.loc Cert.SKvIdeal.main_arg2)) (m (c.tc.loc Cert.SKvIdeal.main_arg3)),
    fun c => Cert.SKvIdeal.Value.key (m (c.tc.loc Cert.SKvIdeal.main_arg0)) (m (c.tc.loc Cert.SKvIdeal.main_arg1))
      (m (c.tc.loc Cert.SKvIdeal.main_arg2)),
    fun c => Cert.SKvIdeal.Value.latB (m (c.tc.loc Cert.SKvIdeal.main_arg0)) (m (c.tc.loc Cert.SKvIdeal.main_arg1))
      (m (c.tc.loc Cert.SKvIdeal.main_arg2)) (m (c.tc.loc Cert.SKvIdeal.main_arg3)),
    fun c => Cert.SKvIdeal.Value.keyB (m (c.tc.loc Cert.SKvIdeal.main_arg0)) (m (c.tc.loc Cert.SKvIdeal.main_arg1))
      (m (c.tc.loc Cert.SKvIdeal.main_arg2)),
    (θ_run _ _ _).mono (fun r h c => ⟨(h c).1.trans (Cert.SKvIdeal.Value.final_lat m c),
      (h c).2.1.trans (Cert.SKvIdeal.Value.final_key m c (real_of_pre _ _ _ _ (hpre c)).1 (real_of_pre _ _ _ _ (hpre c)).2),
      (h c).2.2.1.trans (Cert.SKvIdeal.Value.final_latB m c),
      (h c).2.2.2.1.trans (Cert.SKvIdeal.Value.final_keyB m c (real_of_pre _ _ _ _ (hpre c)).1 (real_of_pre _ _ _ _ (hpre c)).2),
      (h c).2.2.2.2⟩) (Cert.SKvIdeal.Value.run_blocks m ρ),
    (θ_run _ _ _).mono (fun r h c => ⟨(h c).1.trans (by
      rw [Cert.SKvRefIdeal.Read.val_main_v32_eq, Cert.SKvRefIdeal.Read.final_lat, (hag c).1, (hag c).2.1, (hag c).2.2.1, (hag c).2.2.2]),
      (h c).2.1.trans (by
      rw [Cert.SKvRefIdeal.Read.val_main_v63_eq, Cert.SKvRefIdeal.Read.final_key, (hag c).1, (hag c).2.1, (hag c).2.2.1]),
      (h c).2.2.1.trans (by
      rw [Cert.SKvRefIdeal.Read.val_main_v64_eq, Cert.SKvRefIdeal.Read.final_latB, (hag c).1, (hag c).2.1, (hag c).2.2.1, (hag c).2.2.2]),
      (h c).2.2.2.1.trans (by
      rw [Cert.SKvRefIdeal.Read.val_main_v67_eq, Cert.SKvRefIdeal.Read.final_keyB, (hag c).1, (hag c).2.1, (hag c).2.2.1]),
      (h c).2.2.2.2⟩) (Cert.SKvRefIdeal.Value.run m' ρ')⟩

/-- The kernel's frame. -/
theorem frame_p : Cert.quiescent_SKv := fun m ρ _ => Cert.SKv.Gen.frame m ρ

/-- The idealized kernel's frame. -/
theorem frame_pi : Cert.quiescent_SKvIdeal := fun m ρ _ => Cert.SKvIdeal.Gen.frame m ρ

/-- The reference's frame: its run, and it has no counters. -/
theorem frame_ri : Cert.quiescent_SKvRefIdeal := fun m ρ _ =>
  (θ_run _ _ _).mono (fun r h => ⟨fun c => (h c).2.2.2.2, sem_eq_zero_of_no_sems (by decide) r.2⟩) (Cert.SKvRefIdeal.Value.run m ρ)

end Cert.SKvPair

end
-- ==== Proof.QhBlock.lean ====
/- The prompt's queries' tiles, in terms of the call's arguments: each head's part without a position and its rotated part. -/
module

public import proofs.«01_k».proof.Proof.Gen.QhIdeal.Value
public import proofs.«01_k».proof.Proof.Rope
public import Idealize.ShloMosaic.Lib.Pipeline.ReadBack
public import Idealize.ShloMosaic.Lib.StableHlo.RunRead

@[expose] public section

set_option maxRecDepth 16384

noncomputable section

namespace Cert.QhIdeal.Value

open Cert.QhIdeal Cert.QhIdeal.Gen Idealize.ShloMosaic Idealize.ShloMosaic.TcCoe Idealize.SL.Sem
open Idealize.ShloMosaic.Pipeline (Dat)
open Cert.Norm Cert.Rope

/-! ## The mathematics -/

/-- The compressed query of a row: its projection, normed with gains `g`. -/
def cqAt (f : Fin 2048 → EReal) (w : Fin 2048 → Fin 512 → EReal) (g : Fin 512 → EReal) (l : Fin 512) : EReal :=
  latAt (fun d => ∑ k : Fin 2048, f k * w k d) (g l) l

/-- One head's query at a lane: the first 128 lanes as projected, then the last 64 columns rotated, twice over. -/
def queryAt (a : Fin 512 → EReal) (u : Fin 512 → Fin 192 → EReal) (p : EReal) (n : Fin 256) : EReal :=
  if h : n.val < 128 then ∑ l : Fin 512, a l * u l ⟨n.val, by omega⟩
  else rope (fun d => ∑ l : Fin 512, a l * u l ⟨128 + d.val, by omega⟩) p ⟨(n.val - 128) % 64, by omega⟩

/-- The kernel's weights of a head at a lane: the first 128 columns as they are, then the pairs. -/
def headAt (u : Fin 192 → EReal) (n : Fin 256) : EReal :=
  if h : n.val < 128 then u ⟨n.val, by omega⟩ else pairs (fun d => u ⟨128 + d.val, by omega⟩) ⟨n.val - 128, by omega⟩

/-- The position of row `R` in its sequence. -/
def posAt (R : Fin 8192) : EReal := (FloatOps.sitofp .f32 (BitVec.ofNat 32 (R.val % 2048)) : Ideal .f32)

variable (X : Vec Ideal S8192x2048 .bf16) (W : Vec Ideal S2x2048x512 .bf16) (g : Vec Ideal S512 .f32) (U : Vec Ideal S2x512x16x192 .f32)

/-- The compressed query of row `R`. -/
def cq (R : Fin 8192) (l : Fin 512) : EReal :=
  cqAt (fun k => X (ix2 R k)) (fun k d => W (ix3 0 k d)) (fun l => g (ix1 l)) l

/-- The queries: head after head along a row. -/
def query : Vec Ideal S8192x4096 .bf16 := fun i =>
  queryAt (cq X W g (i 0)) (fun l d => U (ix4 0 l ⟨(i 1).val / 256, Nat.div_lt_of_lt_mul (i 1).isLt⟩ d)) (posAt (i 0))
    ⟨(i 1).val % 256, Nat.mod_lt _ (by norm_num)⟩

/-- The compressed query is real where its gains are. -/
theorem cq_real (hg : ∀ i, ∃ r : ℝ, g i = (r : EReal)) (R : Fin 8192) (l : Fin 512) : ∃ r : ℝ, cq X W g R l = (r : EReal) := by
  obtain ⟨a, ha⟩ := scale_real (fun d : Fin 512 => ∑ k : Fin 2048, X (ix2 R k) * W (ix3 0 k d)) l 512 (by norm_num)
  obtain ⟨b, hb⟩ := hg (ix1 l)
  unfold cq cqAt latAt
  rw [lat_bits, ha]
  dsimp only
  rw [hb, ← EReal.coe_mul]
  exact ⟨_, rfl⟩

/-- The first lanes from the kernel's weights. -/
theorem query_low (a : Fin 512 → EReal) (u : Fin 512 → Fin 192 → EReal) (p : EReal) (n : Fin 128) :
    ∑ l : Fin 512, a l * headAt (u l) ⟨n.val, by omega⟩ = queryAt a u p ⟨n.val, by omega⟩ := by
  unfold queryAt headAt
  rw [dif_pos n.isLt]
  exact Finset.sum_congr rfl fun l _ => by rw [dif_pos n.isLt]

/-- The last lanes from the kernel's weights and table, where the compressed query and the columns' second half are real. -/
theorem query_high (a : Fin 512 → EReal) (u : Fin 512 → Fin 192 → EReal) (p : EReal) (n : Fin 128)
    (ha : ∀ l, ∃ r : ℝ, a l = (r : EReal)) (hu : ∀ l (d : Fin 192), 160 ≤ d.val → ∃ r : ℝ, u l d = (r : EReal)) :
    (∑ l : Fin 512, a l * headAt (u l) ⟨128 + n.val, by omega⟩) * table p n
        + (∑ l : Fin 512, a l * headAt (u l) ⟨128 + (n.val + 128 - 64) % 128, by omega⟩) * table p ⟨(n.val + 128 - 64) % 128, by omega⟩
      = queryAt a u p ⟨128 + n.val, by omega⟩ := by
  have hn := n.isLt
  have e : ∀ l (j : ℕ) (hj : j < 128), headAt (u l) ⟨128 + j, by omega⟩ = pairs (fun d => u l ⟨128 + d.val, by omega⟩) ⟨j, hj⟩ := fun l j hj => by
    unfold headAt
    rw [dif_neg (show ¬ 128 + j < 128 by omega)]
    exact congrArg (pairs _) (Fin.ext (show 128 + j - 128 = j by omega))
  have hr : ∀ q : Fin 64, _ := fun q => rope_of_pairs a (fun l d => u l ⟨128 + d.val, by omega⟩) p q ha
    fun l d hd => hu l _ (show 160 ≤ 128 + d.val by omega)
  have s : ∀ (j : ℕ) (hj : j < 128), (∑ l : Fin 512, a l * headAt (u l) ⟨128 + j, by omega⟩)
      = ∑ l : Fin 512, a l * pairs (fun d => u l ⟨128 + d.val, by omega⟩) ⟨j, hj⟩ := fun j hj =>
    Finset.sum_congr rfl fun l _ => by rw [e l j hj]
  unfold queryAt
  rw [dif_neg (show ¬ 128 + n.val < 128 by omega), s n.val hn, s ((n.val + 128 - 64) % 128) (by omega)]
  by_cases h : n.val < 64
  · have e1 : (⟨(n.val + 128 - 64) % 128, by omega⟩ : Fin 128) = ⟨64 + n.val, by omega⟩ :=
      Fin.ext (show (n.val + 128 - 64) % 128 = 64 + n.val by omega)
    have e2 : (⟨(128 + n.val - 128) % 64, by omega⟩ : Fin 64) = ⟨n.val, h⟩ := Fin.ext (show (128 + n.val - 128) % 64 = n.val by omega)
    rw [e1, e2]
    exact hr ⟨n.val, h⟩
  · have e1 : (⟨(n.val + 128 - 64) % 128, by omega⟩ : Fin 128) = ⟨n.val - 64, by omega⟩ :=
      Fin.ext (show (n.val + 128 - 64) % 128 = n.val - 64 by omega)
    have e2 : (⟨(128 + n.val - 128) % 64, by omega⟩ : Fin 64) = ⟨n.val - 64, by omega⟩ :=
      Fin.ext (show (128 + n.val - 128) % 64 = n.val - 64 by omega)
    have e3 : (⟨64 + (n.val - 64), by omega⟩ : Fin 128) = n := Fin.ext (show 64 + (n.val - 64) = n.val by omega)
    have := hr ⟨n.val - 64, by omega⟩
    dsimp only at this
    rw [e3] at this
    rw [e1, e2, add_comm]
    exact this

/-! ## The stored values at an index -/

theorem cq_at (x : Vec Ideal S512x2048 .bf16) (w : Vec Ideal S1x2048x512 .bf16) (b : Vec Ideal S1x512 .f32) (r l : Fin 512) :
    k0_pay6 x w b (ix2 r l) = cqAt (fun k => x (ix2 r k)) (fun k d => w (ix3 0 k d)) (fun l => b (ix2 0 l)) l := by
  pointwise [k0_pay6]
  rfl

variable (z : Vec Ideal S512x512 .bf16) (u : Vec Ideal S1x1x512x256 .bf16)

theorem dot_at (r : Fin 512) (n : Fin 256) :
    k0_pay3 z u (ix2 r n) = ∑ l : Fin 512, @HMul.hMul EReal EReal EReal _ (z (ix2 r l)) (u (ix4 0 0 l n)) := by
  pointwise [k0_pay3]

theorem low_at (r : Fin 512) (n : Fin 128) : k0_pay4 z u (ix2 r n) = k0_pay3 z u (ix2 r ⟨n.val, by omega⟩) := by
  unfold k0_pay4
  generalize k0_pay3 z u = y
  pointwise

theorem high_at (t : Vec Ideal S512x128 .f32) (r : Fin 512) (n : Fin 128) :
    k0_pay5 z t u (ix2 r n)
      = @HAdd.hAdd EReal EReal EReal _ (k0_pay3 z u (ix2 r ⟨128 + n.val, by omega⟩) * t (ix2 r n))
          (k0_pay3 z u (ix2 r ⟨128 + (n.val + 128 - 64) % 128, by omega⟩) * t (ix2 r ⟨(n.val + 128 - 64) % 128, by omega⟩)) := by
  unfold k0_pay5
  generalize k0_pay3 z u = y
  pointwise

/-! ## The blocks read from the arrays -/

variable (m : (ℓ : Loc nD τ sig) → Buf (Elt Ideal) ℓ)

/-- The arguments as launched: the rows, the first weights, the gain of the norm, the heads' weights. -/
abbrev xArr (c : Dev nD) : Vec Ideal S8192x2048 .bf16 := m ((c : Thread nD τ).loc main_arg0)
abbrev wArr (c : Dev nD) : Vec Ideal S2x2048x512 .bf16 := m ((c : Thread nD τ).loc main_arg1)
abbrev gArr (c : Dev nD) : Vec Ideal S512 .f32 := m ((c : Thread nD τ).loc main_arg2)
abbrev uArr (c : Dev nD) : Vec Ideal S2x512x16x192 .f32 := m ((c : Thread nD τ).loc main_arg3)

/-- The block numbers of the six windows at each grid point. -/
theorem block_at : ∀ t : Fin grid0.N, win0_0.index t = ![t.val, 0] ∧ win0_1.index t = ![0, 0, 0] ∧ win0_2.index t = ![0, 0]
    ∧ win0_3.index t = ![0, 0, 0, 0] ∧ win0_4.index t = ![t.val % 4, 0] ∧ win0_5.index t = ![t.val, 0] := by decide +kernel

/-- The heads' weights the host lays out. -/
theorem weights_at (c : Dev nD) (h : Fin 16) (l : Fin 512) (n : Fin 256) :
    (V m c main_v8 : Vec Ideal S2x16x512x256 .bf16) (ix4 0 h l n) = headAt (fun d => uArr m c (ix4 0 l h d)) n := by
  change StableHlo.after hostOps0 (fun b => m (c, b)) (Proc.devRef .tc main_v8) (ix4 0 h l n) = _
  after_reads_simp
  pointwise
  after_reads_simp
  pointwise
  after_reads_simp
  pointwise
  unfold headAt
  by_cases h' : n.val < 128
  · rw [dif_pos h', dif_pos h']
  · refine (dif_neg h').trans (Eq.trans ?_ (dif_neg h').symm)
    exact pairs_of_pieces (fun d => uArr m c (ix4 0 l h ⟨128 + d.val, by omega⟩)) (n.val - 128) (by omega)

/-- The table the host lays out. -/
theorem table_at (c : Dev nD) (r : Fin 2048) (n : Fin 128) :
    (V m c main_v25 : Vec Ideal S2048x128 .f32) (ix2 r n) = table (FloatOps.sitofp .f32 (BitVec.ofNat 32 r.val) : Ideal .f32) n := by
  show StableHlo.after hostOps0 (fun b => m (c, b)) (Proc.devRef .tc main_v25) (ix2 r n) = _
  after_reads_simp
  pointwise
  after_reads_simp
  pointwise
  exact table_of_pieces _ n

theorem x_read (c : Dev nD) (t : Fin cfg0.N) (r : Fin 512) (k : Fin 2048) (R : Fin 8192) (hR : R.val = t.val * 512 + r.val) :
    (iblk m c 0 t : Vec Ideal S512x2048 .bf16) (ix2 r k) = xArr m c (ix2 R k) := by
  obtain ⟨e, -⟩ := block_at t
  blk_ext [iblk, V, e]

theorem w_read (c : Dev nD) (t : Fin cfg0.N) (k : Fin 2048) (d : Fin 512) :
    (iblk m c 1 t : Vec Ideal S1x2048x512 .bf16) (ix3 0 k d) = wArr m c (ix3 0 k d) := by
  obtain ⟨-, e, -⟩ := block_at t
  blk_ext [iblk, V, e]

theorem g_read (c : Dev nD) (t : Fin cfg0.N) (l : Fin 512) :
    (iblk m c 2 t : Vec Ideal S1x512 .f32) (ix2 0 l) = gArr m c (ix1 l) := by
  obtain ⟨-, -, e, -⟩ := block_at t
  blk_ext! [iblk, V, e]

theorem u_read (c : Dev nD) (t : Fin cfg0.N) (h : Fin 16) (l : Fin 512) (n : Fin 256) :
    (iblk m c 3 t : Vec Ideal S1x16x512x256 .bf16) (ix4 0 h l n) = headAt (fun d => uArr m c (ix4 0 l h d)) n := by
  obtain ⟨-, -, -, e, -⟩ := block_at t
  refine Eq.trans ?_ (weights_at m c h l n)
  blk_ext [iblk, e]

theorem t_read (c : Dev nD) (t : Fin cfg0.N) (r : Fin 512) (n : Fin 128) (R : Fin 8192) (hR : R.val = t.val * 512 + r.val) :
    (iblk m c 4 t : Vec Ideal S512x128 .f32) (ix2 r n) = table (posAt R) n := by
  obtain ⟨-, -, -, -, e, -⟩ := block_at t
  have hr := r.isLt
  refine Eq.trans ?_ ((table_at m c ⟨R.val % 2048, by omega⟩ n).trans rfl)
  blk_ext [iblk, e]

/-! ## The tiles -/

/-- The compressed query's tile. -/
theorem cq_tile (c : Dev nD) (t : Fin cfg0.N) (r l : Fin 512) (R : Fin 8192) (hR : R.val = t.val * 512 + r.val) :
    k0_pay6 (iblk m c 0 t) (iblk m c 1 t) (iblk m c 2 t) (ix2 r l) = cq (xArr m c) (wArr m c) (gArr m c) R l := by
  rw [cq_at]
  unfold cq
  rw [show (fun k => (iblk m c 0 t : Vec Ideal S512x2048 .bf16) (ix2 r k)) = fun k => xArr m c (ix2 R k) from
      funext fun k => x_read m c t r k R hR,
    show (fun k d => (iblk m c 1 t : Vec Ideal S1x2048x512 .bf16) (ix3 0 k d)) = fun k d => wArr m c (ix3 0 k d) from
      funext fun k => funext fun d => w_read m c t k d,
    show (fun l => (iblk m c 2 t : Vec Ideal S1x512 .f32) (ix2 0 l)) = fun l => gArr m c (ix1 l) from
      funext fun l => g_read m c t l]

/-- A head's projection from the compressed query. -/
theorem dot_tile (c : Dev nD) (t : Fin cfg0.N) (h : Fin 16) (r : Fin 512) (n : Fin 256) (R : Fin 8192) (hR : R.val = t.val * 512 + r.val)
    (hu : ∀ l n, u (ix4 0 0 l n) = (iblk m c 3 t : Vec Ideal S1x16x512x256 .bf16) (ix4 0 h l n)) :
    k0_pay3 (k0_pay6 (iblk m c 0 t) (iblk m c 1 t) (iblk m c 2 t)) u (ix2 r n)
      = ∑ l : Fin 512, cq (xArr m c) (wArr m c) (gArr m c) R l * headAt (fun d => uArr m c (ix4 0 l h d)) n := by
  rw [dot_at]
  exact Finset.sum_congr rfl fun l _ => congrArg₂ (fun a b : EReal => a * b) (cq_tile m c t r l R hR)
    ((hu l n).trans (u_read m c t h l n))

end Cert.QhIdeal.Value

end
-- ==== Proof.QhFinal.lean ====
/- The prompt's queries' result array, in terms of the call's arguments: head after head, each in two pieces. -/
module

public import proofs.«01_k».proof.Proof.Gen.QhIdeal.Value
public import proofs.«01_k».proof.Proof.QhBlock
public import Idealize.ShloMosaic.Lib.Pipeline.ReadBack
public import Idealize.ShloMosaic.Lib.WholeRead

@[expose] public section

set_option maxRecDepth 16384

noncomputable section

namespace Cert.QhIdeal.Value

open Cert.QhIdeal Cert.QhIdeal.Gen Idealize.ShloMosaic Idealize.ShloMosaic.TcCoe Idealize.SL.Sem
open Idealize.ShloMosaic.Pipeline (Dat)
open Cert.Norm Cert.Rope

variable (m : (ℓ : Loc nD τ sig) → Buf (Elt Ideal) ℓ)

/-! ## One point's tile -/

/-- Row `r` of grid point `t` in the arrays. -/
def row (t : Fin cfg0.N) (r : Fin 512) : Fin 8192 :=
  ⟨t.val * 512 + r.val, by have h : t.val < 16 := t.isLt; omega⟩

/-- The tile the point should leave: its rows of the queries. -/
def tile (c : Dev nD) (t : Fin cfg0.N) : S512x4096.Idx → EReal := fun y =>
  query (xArr m c) (wArr m c) (gArr m c) (uArr m c) (ix2 (row t (y 0)) (y 1))

/-- The tile at a head's lane. -/
theorem tile_at (c : Dev nD) (t : Fin cfg0.N) (h : Fin 16) (r : Fin 512) (n : Fin 256) (y : S512x4096.Idx)
    (h0 : (y 0).val = r.val) (h1 : (y 1).val = 256 * h.val + n.val) :
    tile m c t y = queryAt (cq (xArr m c) (wArr m c) (gArr m c) (row t r)) (fun l d => uArr m c (ix4 0 l h d)) (posAt (row t r)) n := by
  have hn := n.isLt
  have e0 : y 0 = r := Fin.ext h0
  have e1 : (⟨(y 1).val / 256, Nat.div_lt_of_lt_mul (y 1).isLt⟩ : Fin 16) = h := Fin.ext (show (y 1).val / 256 = h.val by omega)
  have e2 : (⟨(y 1).val % 256, Nat.mod_lt _ (by norm_num)⟩ : Fin 256) = n := Fin.ext (show (y 1).val % 256 = n.val by omega)
  show queryAt (cq (xArr m c) (wArr m c) (gArr m c) (row t (y 0)))
    (fun l d => uArr m c (ix4 0 l ⟨(y 1).val / 256, Nat.div_lt_of_lt_mul (y 1).isLt⟩ d)) (posAt (row t (y 0)))
    ⟨(y 1).val % 256, Nat.mod_lt _ (by norm_num)⟩ = _
  rw [e0, e1, e2]

/-- What a point reads back of the compressed query it keeps. -/
abbrev kept (c : Dev nD) (t : Fin cfg0.N) : Vec Ideal S512x512 .bf16 :=
  kernelRun0_A.sl.v3 (F := Ideal) c (ms0_0 t) (hs0_0 t) (ms0_1 t) (hs0_1 t) (ms0_2 t) (hs0_2 t) scM0_0 (iblk m c 0 t) (iblk m c 1 t) (iblk m c 2 t)

theorem kept_eq (c : Dev nD) (t : Fin cfg0.N) : kept m c t = k0_pay6 (iblk m c 0 t) (iblk m c 1 t) (iblk m c 2 t) := by
  unfold kept kernelRun0_A.sl.v3 kernelRun0_A.sl.HS0_1
  frame_out

/-- The table's tile as a point loads it. -/
abbrev tab (c : Dev nD) (t : Fin cfg0.N) : Vec Ideal S512x128 .f32 :=
  kernelRun0_A.sl.r (F := Ideal) c (ms0_4 t) (hs0_4 t) (iblk m c 4 t)

theorem tab_at (c : Dev nD) (t : Fin cfg0.N) (i : S512x128.Idx) : tab m c t i = (iblk m c 4 t : Vec Ideal S512x128 .f32) i := by
  unfold tab kernelRun0_A.sl.r k0_pay7
  frame_out
  idx_vars i
  pointwise

/-- A head's weights as a point loads them. -/
abbrev wts (c : Dev nD) (t : Fin cfg0.N) (h : Fin 16) (inb : ∀ a, ![0, h.val, 0, 0] a + S1x1x512x256.size a ≤ S1x16x512x256.size a) :
    Vec Ideal S1x1x512x256 .bf16 :=
  View.readAt (Elt Ideal) (ms0_3 t).view (Rect.unit (s := S1x16x512x256) ![0, h.val, 0, 0] S1x1x512x256.size inb).toLoadRect
    ((hs0_3 t).unread (iblk m c 3 t))

theorem wts_at (c : Dev nD) (t : Fin cfg0.N) (h : Fin 16) (inb) (l : Fin 512) (n : Fin 256) :
    wts m c t h inb (ix4 0 0 l n) = (iblk m c 3 t : Vec Ideal S1x16x512x256 .bf16) (ix4 0 h l n) := by
  unfold wts
  rw [Memref.IsWhole.readAt_unread]
  refine congrArg (iblk m c 3 t : Vec Ideal S1x16x512x256 .bf16) ?_
  funext a
  fin_cases a <;> exact Fin.ext (by simp [LoadRect.idx, Rect.toLoadRect, Rect.unit])

/-- The piece of a head's first lanes. -/
theorem low_piece (c : Dev nD) (t : Fin cfg0.N) (h : Fin 16) (o : ℕ) (ho : o = 256 * h.val) (inw)
    (inb : ∀ a, ![0, o] a + S512x128.size a ≤ S512x4096.size a) (x : S512x128.Idx) :
    k0_pay4 (kept m c t) (wts m c t h inw) x = tile m c t ((Rect.unit (s := S512x4096) ![0, o] S512x128.size inb).emb x) := by
  idx_vars x
  rw [tile_at m c t h x0 ⟨x1.val, by omega⟩ _ (by simp [Rect.emb_apply]) (by simp [Rect.emb_apply, ho])]
  rw [low_at, kept_eq, dot_tile _ m c t h x0 _ (row t x0) rfl (wts_at m c t h inw)]
  exact query_low _ _ _ x1

/-- The piece of a head's last lanes. -/
theorem high_piece (c : Dev nD) (hg : ∀ i, ∃ r : ℝ, gArr m c i = (r : EReal))
    (hu : ∀ l h (d : Fin 192), 160 ≤ d.val → ∃ r : ℝ, uArr m c (ix4 0 l h d) = (r : EReal))
    (t : Fin cfg0.N) (h : Fin 16) (o : ℕ) (ho : o = 256 * h.val + 128) (inw)
    (inb : ∀ a, ![0, o] a + S512x128.size a ≤ S512x4096.size a) (x : S512x128.Idx) :
    k0_pay5 (kept m c t) (tab m c t) (wts m c t h inw) x = tile m c t ((Rect.unit (s := S512x4096) ![0, o] S512x128.size inb).emb x) := by
  idx_vars x
  rw [tile_at m c t h x0 ⟨128 + x1.val, by omega⟩ _ (by simp [Rect.emb_apply]) (by simp [Rect.emb_apply, ho]; omega)]
  rw [high_at, kept_eq, dot_tile _ m c t h x0 _ (row t x0) rfl (wts_at m c t h inw), dot_tile _ m c t h x0 _ (row t x0) rfl (wts_at m c t h inw),
    tab_at, tab_at, t_read m c t x0 _ (row t x0) rfl, t_read m c t x0 _ (row t x0) rfl]
  exact query_high _ _ _ x1 (cq_real _ _ _ hg _) fun l d hd => hu l h d hd

/-- One more piece that is a block of `G`. -/
theorem add {G : S512x4096.Idx → EReal} {r : Rect S512x4096} {w : r.shape.Idx → Elt Ideal .bf16} {L : List (View.Piece (Elt Ideal) S512x4096 .bf16)}
    (hw : ∀ x, w x = G (r.emb x)) (hL : View.PiecesOf (Val := Elt Ideal) (e := .bf16) G L) :
    View.PiecesOf (Val := Elt Ideal) (e := .bf16) G (⟨r, w⟩ :: L) := ⟨hw, hL⟩

/-- What a point leaves is its tile: the thirty-two pieces, the last head's first. -/
theorem out_eq (c : Dev nD) (hg : ∀ i, ∃ r : ℝ, gArr m c i = (r : EReal))
    (hu : ∀ l h (d : Fin 192), 160 ≤ d.val → ∃ r : ℝ, uArr m c (ix4 0 l h d) = (r : EReal))
    (t : Fin cfg0.N) (y : S512x4096.Idx) : (outsAt0 m c t : S512x4096.Idx → EReal) y = tile m c t y := by
  have lo := fun h o ho inw inb => low_piece m c t h o ho inw inb
  have hi := fun h o ho inw inb => high_piece m c hg hu t h o ho inw inb
  unfold outsAt0 out0_A_5
  rw [View.read_writes_junk_apply_eq_canon, ← List.append_nil (kernelRun0_A _ _ _ _ _ _ _ _ _ _ _ _ _ _ _ _ _ _ _ _ _ _).1]
  refine View.canon_append_of_piecesOf (Val := Elt Ideal) (tile m c t) [] _ ?_ y (cover0_A_5 c _ _ _ _ _ _ _ _ _ _ _ _ _ _ _ _ _ _ _ _ _ y)
  unfold kernelRun0_A
  dsimp only
  exact
    add (hi 15 3968 rfl _ _) <| add (lo 15 3840 rfl _ _) <| add (hi 14 3712 rfl _ _) <| add (lo 14 3584 rfl _ _) <|
    add (hi 13 3456 rfl _ _) <| add (lo 13 3328 rfl _ _) <| add (hi 12 3200 rfl _ _) <| add (lo 12 3072 rfl _ _) <|
    add (hi 11 2944 rfl _ _) <| add (lo 11 2816 rfl _ _) <| add (hi 10 2688 rfl _ _) <| add (lo 10 2560 rfl _ _) <|
    add (hi 9 2432 rfl _ _) <| add (lo 9 2304 rfl _ _) <| add (hi 8 2176 rfl _ _) <| add (lo 8 2048 rfl _ _) <|
    add (hi 7 1920 rfl _ _) <| add (lo 7 1792 rfl _ _) <| add (hi 6 1664 rfl _ _) <| add (lo 6 1536 rfl _ _) <|
    add (hi 5 1408 rfl _ _) <| add (lo 5 1280 rfl _ _) <| add (hi 4 1152 rfl _ _) <| add (lo 4 1024 rfl _ _) <|
    add (hi 3 896 rfl _ _) <| add (lo 3 768 rfl _ _) <| add (hi 2 640 rfl _ _) <| add (lo 2 512 rfl _ _) <|
    add (hi 1 384 rfl _ _) <| add (lo 1 256 rfl _ _) <| add (hi 0 128 rfl _ _) <| add (lo 0 0 rfl _ _) <| trivial

/-! ## The result array -/

/-- The queries. -/
theorem final (c : Dev nD) (hg : ∀ i, ∃ r : ℝ, gArr m c i = (r : EReal))
    (hu : ∀ l h (d : Fin 192), 160 ≤ d.val → ∃ r : ℝ, uArr m c (ix4 0 l h d) = (r : EReal)) :
    (dats m 0 c).arrAt 5 cfg0.N = query (xArr m c) (wArr m c) (gArr m c) (uArr m c) := by
  refine (dats m 0 c).arrAt_eq_of_covers 5 _ (by decide +kernel) fun t hf y => ?_
  blk_simp
  rw [after0_5]
  obtain ⟨-, -, -, -, -, e⟩ := block_at t
  generalize hI : ((View.whole main_v27).slice (win0_5.rect t)).emb y = I
  have hI0 : (I 0).val = t.val * 512 + (y 0).val := by
    rw [← hI]
    refine (Pipeline.Window.rect_emb_val win0_5 t y 0).trans ?_
    rw [e]; rfl
  have hI1 : (I 1).val = (y 1).val := by
    rw [← hI]
    refine (Pipeline.Window.rect_emb_val win0_5 t y 1).trans ?_
    rw [e]; exact Nat.zero_add _
  refine (out_eq m c hg hu t y).trans ?_
  refine congrArg (query (xArr m c) (wArr m c) (gArr m c) (uArr m c)) ?_
  idx_vars I
  have e0 : row t (y 0) = I0 := Fin.ext hI0.symm
  have e1 : y 1 = I1 := Fin.ext hI1.symm
  rw [e0, e1]

end Cert.QhIdeal.Value

end
-- ==== Proof.QhRead.lean ====
/- The prompt's queries' reference read at an element: each head's part without a position and its rotated part. -/
module

public import proofs.«01_k».proof.Proof.Gen.QhRefIdeal.Read
public import proofs.«01_k».proof.Proof.QhBlock

@[expose] public section

set_option maxRecDepth 16384

noncomputable section

namespace Cert.QhRefIdeal.Read

open Cert.QhRefIdeal Cert.QhRefIdeal.Gen Idealize.ShloMosaic Idealize.ShloMosaic.TcCoe Idealize.SL.Sem
open Cert.Norm Cert.Rope
open Cert.QhIdeal.Value (posAt cq query queryAt)

variable (x : Vec Ideal S8192x2048 .bf16) (w : Vec Ideal S2x2048x512 .bf16) (g : Vec Ideal S512 .f32) (u : Vec Ideal S2x512x16x192 .f32)

/-- The first projection. -/
theorem proj (b : Fin 4) (R : Fin 2048) (d : Fin 512) (N : Fin 8192) (hN : N.val = b.val * 2048 + R.val) :
    val_main_v5 (F := Ideal) x w (ix3 b R d) = ∑ k : Fin 2048, @HMul.hMul EReal EReal EReal _ (x (ix2 N k)) (w (ix3 0 k d)) := by
  have e : N = ⟨b.val * 2048 + R.val, by omega⟩ := Fin.ext hN
  rw [e]
  pointwise [val_main_v5, val_main_v4, val_main_v3, val_main_v2, val_main_v1, val_main_v0]

/-- The compressed query. -/
theorem cq_at (b : Fin 4) (R : Fin 2048) (l : Fin 512) (N : Fin 8192) (hN : N.val = b.val * 2048 + R.val) :
    val_main_v18 (F := Ideal) x w g (ix3 b R l) = cq x w g N l := by
  have hz : ∀ d, val_main_v5 (F := Ideal) x w (ix3 b R d) = ∑ k : Fin 2048, @HMul.hMul EReal EReal EReal _ (x (ix2 N k)) (w (ix3 0 k d)) :=
    fun d => proj x w b R d N hN
  unfold val_main_v18 val_main_v15 val_main_v14 val_main_v13 val_main_v12 val_main_v10 val_main_v8 val_main_v7 val_main_v6
  generalize val_main_v5 (F := Ideal) x w = z at hz
  pointwise [val_main_v17, val_main_v16, val_main_v11, val_main_v9, val_main_cst, val_main_cst_0, val_main_cst_1]
  simp only [hz]
  rfl

/-- A head's projection. -/
theorem head_at (b : Fin 4) (R : Fin 2048) (h : Fin 16) (n : Fin 192) (N : Fin 8192) (hN : N.val = b.val * 2048 + R.val) :
    val_main_v21 (F := Ideal) x w g u (ix4 b R h n) = ∑ l : Fin 512, @HMul.hMul EReal EReal EReal _ (cq x w g N l) (u (ix4 0 l h n)) := by
  have hz : ∀ l, val_main_v18 (F := Ideal) x w g (ix3 b R l) = cq x w g N l := fun l => cq_at x w g b R l N hN
  unfold val_main_v21
  generalize val_main_v18 (F := Ideal) x w g = z at hz
  pointwise [val_main_v20, val_main_v19]
  exact Finset.sum_congr rfl fun l _ => congrArg (fun a : EReal => a * u (ix4 0 l h n)) (hz l)

/-- The cosine of a pair's angle at a position. -/
theorem cos_at (p : Fin 2048) (k : Fin 32) :
    val_main_v37 (F := Ideal) (ix2 p k) = Ideal.cos (angle (FloatOps.sitofp .f32 (BitVec.ofNat 32 p.val) : Ideal .f32) k) := by
  pointwise [val_main_v37, val_main_v36, val_main_v35, val_main_v34, val_main_v33, val_main_v32, val_main_v31, val_main_v30,
    val_main_v29, val_main_v28, val_main_v27, val_main_v26, val_main_v25, val_main_v24, val_main_v23, val_main_cst_4, val_main_cst_3,
    val_main_cst_2]
  rfl

/-- The sine of a pair's angle at a position. -/
theorem sin_at (p : Fin 2048) (k : Fin 32) :
    val_main_v39 (F := Ideal) (ix2 p k) = Ideal.sin (angle (FloatOps.sitofp .f32 (BitVec.ofNat 32 p.val) : Ideal .f32) k) := by
  pointwise [val_main_v39, val_main_v36, val_main_v35, val_main_v34, val_main_v33, val_main_v32, val_main_v31, val_main_v30,
    val_main_v29, val_main_v28, val_main_v27, val_main_v26, val_main_v25, val_main_v24, val_main_v23, val_main_cst_4, val_main_cst_3,
    val_main_cst_2]
  rfl

/-- The rotated part of a head. -/
theorem rot_at (b : Fin 4) (R : Fin 2048) (h : Fin 16) (q : Fin 64) (N : Fin 8192) (hN : N.val = b.val * 2048 + R.val) :
    val_main_v53 (F := Ideal) x w g u (ix4 b R h q)
      = rope (fun d => ∑ l : Fin 512, cq x w g N l * u (ix4 0 l h ⟨128 + d.val, by omega⟩)) (posAt N) q := by
  have hq := q.isLt
  have hp : posAt N = (FloatOps.sitofp .f32 (BitVec.ofNat 32 R.val) : Ideal .f32) := by
    unfold posAt
    rw [show N.val % 2048 = R.val by omega]
  have hz : ∀ n, val_main_v21 (F := Ideal) x w g u (ix4 b R h n) = ∑ l : Fin 512, @HMul.hMul EReal EReal EReal _ (cq x w g N l) (u (ix4 0 l h n)) :=
    fun n => head_at x w g u b R h n N hN
  unfold val_main_v53 val_main_v52 val_main_v51 val_main_v49 val_main_v47 val_main_v46 val_main_v44 val_main_v42 val_main_v41 val_main_v22
  generalize val_main_v21 (F := Ideal) x w g u = z at hz
  pointwise [val_main_v50, val_main_v48, val_main_v45, val_main_v43, val_main_v40, val_main_v38]
  simp only [hz, cos_at, sin_at]
  rw [hp]
  exact rope_of_halves (fun d => ∑ l : Fin 512, cq x w g N l * u (ix4 0 l h ⟨128 + d.val, by omega⟩)) _ q

/-- The queries at a lane of a head. -/
theorem lane_at (b : Fin 4) (R : Fin 2048) (h : Fin 16) (n : Fin 256) (N : Fin 8192) (hN : N.val = b.val * 2048 + R.val) :
    val_main_v55 (F := Ideal) x w g u (ix4 b R h n) = queryAt (cq x w g N) (fun l d => u (ix4 0 l h d)) (posAt N) n := by
  have hn := n.isLt
  have hz : ∀ n, val_main_v21 (F := Ideal) x w g u (ix4 b R h n) = ∑ l : Fin 512, @HMul.hMul EReal EReal EReal _ (cq x w g N l) (u (ix4 0 l h n)) :=
    fun n => head_at x w g u b R h n N hN
  have hr : ∀ q, val_main_v53 (F := Ideal) x w g u (ix4 b R h q)
      = rope (fun d => ∑ l : Fin 512, cq x w g N l * u (ix4 0 l h ⟨128 + d.val, by omega⟩)) (posAt N) q := fun q => rot_at x w g u b R h q N hN
  unfold val_main_v55 val_main_v54
  generalize val_main_v21 (F := Ideal) x w g u = z at hz
  generalize val_main_v53 (F := Ideal) x w g u = y at hr
  pointwise
  simp only [hz, hr]
  unfold queryAt
  by_cases h1 : n.val < 128
  · refine (dif_pos h1).trans (Eq.trans ?_ (dif_pos h1).symm)
    rfl
  · refine (dif_neg h1).trans (Eq.trans ?_ (dif_neg h1).symm)
    by_cases h2 : n.val - 128 < 64
    · refine (dif_pos h2).trans (congrArg (rope _ _) (Fin.ext ?_))
      show n.val - 128 = (n.val - 128) % 64
      omega
    · refine (dif_neg h2).trans (congrArg (rope _ _) (Fin.ext ?_))
      show n.val - 128 - 64 = (n.val - 128) % 64
      omega

/-- The reference's queries. -/
theorem final : val_main_v57 (F := Ideal) x w g u = query x w g u := by
  funext i
  idx_vars i
  have h0 := i0.isLt
  have h1 := i1.isLt
  have hz : ∀ h n, val_main_v55 (F := Ideal) x w g u (ix4 ⟨i0.val / 2048, by omega⟩ ⟨i0.val % 2048, by omega⟩ h n)
      = queryAt (cq x w g i0) (fun l d => u (ix4 0 l h d)) (posAt i0) n :=
    fun h n => lane_at x w g u _ _ h n i0 (show i0.val = i0.val / 2048 * 2048 + i0.val % 2048 by omega)
  unfold val_main_v57 val_main_v56
  generalize val_main_v55 (F := Ideal) x w g u = z at hz
  pointwise
  exact hz _ _

end Cert.QhRefIdeal.Read

end
-- ==== Proof.QhClaim.lean ====
/- The prompt's queries' value claim: kernel and reference end with the same array. -/
module

public import proofs.«01_k».proof.Defs
public import proofs.«01_k».proof.Proof.Gen.Qh.Frame
public import proofs.«01_k».proof.Proof.Gen.QhRefIdeal.Run
public import proofs.«01_k».proof.Proof.Gen.Pre_finite_q
public import proofs.«01_k».proof.Proof.QhFinal
public import proofs.«01_k».proof.Proof.QhRead
public import proofs.«01_k».proof.Proof.AttnClaim

@[expose] public section

set_option maxRecDepth 16384

noncomputable section

namespace Cert.QhPair

open Idealize.ShloMosaic Idealize.ShloMosaic.TcCoe Idealize.SL.Sem
open Cert.AttnPair (pos_inf real_of_abs)

/-- A head's last 32 columns are real where their slice's absolute values lie below infinity. -/
theorem real_of_slice (U : Vec Ideal Cert.QhIdeal.S2x512x16x192 .f32)
    (hS : Cert.Pre_finite_q.S2x512x16x192.Slices ![0, 0, 0, 160] Cert.Pre_finite_q.S2x512x16x32)
    (h : ∀ i, Ideal.cmp .olt (max (extractStridedSlice Cert.Pre_finite_q.S2x512x16x32 ![0, 0, 0, 160] U hS i : EReal)
      (-(extractStridedSlice Cert.Pre_finite_q.S2x512x16x32 ![0, 0, 0, 160] U hS i : EReal))) ⊤ = 1#1)
    (l : Fin 512) (a : Fin 16) (d : Fin 192) (hd : 160 ≤ d.val) : ∃ r : ℝ, U (ix4 0 l a d) = (r : EReal) := by
  have e : extractStridedSlice Cert.Pre_finite_q.S2x512x16x32 ![0, 0, 0, 160] U hS (ix4 0 l a ⟨d.val - 160, by omega⟩)
      = U (ix4 0 l a d) := by
    pointwise
    exact congrArg (fun j => U (ix4 0 l a j)) (Fin.ext (show 160 + (d.val - 160) = d.val by omega))
  rw [← e]
  exact real_of_abs _ (h _)

/-- What the precondition says: the norm's gains and the last 32 columns of each head's weights are real numbers. -/
theorem real_of_pre (X : Vec Ideal Cert.QhIdeal.S8192x2048 .bf16) (W : Vec Ideal Cert.QhIdeal.S2x2048x512 .bf16)
    (g : Vec Ideal Cert.QhIdeal.S512 .f32) (U : Vec Ideal Cert.QhIdeal.S2x512x16x192 .f32)
    (h : Cert.Pre_finite_q.fn (F := Ideal) X W g U = fun _ => 1#1) :
    (∀ i, ∃ r : ℝ, g i = (r : EReal)) ∧ ∀ l a (d : Fin 192), 160 ≤ d.val → ∃ r : ℝ, U (ix4 0 l a d) = (r : EReal) := by
  have h' := congrFun h (Shape.Idx.first Cert.Pre_finite_q.Gen.h_S_)
  have hs := IntOp.andi_eq_one.1 h'
  haveI : Subsingleton Cert.Pre_finite_q.S_.Idx := ⟨fun a b => funext fun d => d.elim0⟩
  refine ⟨fun i => real_of_abs _ ?_, real_of_slice U Cert.Pre_finite_q.Facts.slices_S2x512x16x192_S2x512x16x32_0_0_0_160 fun i => ?_⟩
  · have e := Host.reduce_andi_all _ _ _ _ _ hs.1 i
    rw [← pos_inf]; exact e
  · have e := Host.reduce_andi_all _ _ _ _ _ hs.2 i
    rw [← pos_inf]; exact e

/-- Both programs run and leave the queries. -/
theorem algebraic : Cert.algebraic_QhIdeal_QhRefIdeal_pre_finite_q := fun m ρ m' ρ' hpre hag =>
  ⟨fun c => Cert.QhIdeal.Value.query (m (c.tc.loc Cert.QhIdeal.main_arg0)) (m (c.tc.loc Cert.QhIdeal.main_arg1))
      (m (c.tc.loc Cert.QhIdeal.main_arg2)) (m (c.tc.loc Cert.QhIdeal.main_arg3)),
    (θ_run _ _ _).mono (fun r h c => ⟨(h c).1.trans (Cert.QhIdeal.Value.final m c (real_of_pre _ _ _ _ (hpre c)).1
      (real_of_pre _ _ _ _ (hpre c)).2), (h c).2⟩) (Cert.QhIdeal.Value.run_blocks m ρ),
    (θ_run _ _ _).mono (fun r h c => ⟨(h c).1.trans (by
      rw [Cert.QhRefIdeal.Read.val_main_v57_eq, Cert.QhRefIdeal.Read.final, (hag c).1, (hag c).2.1, (hag c).2.2.1, (hag c).2.2.2]),
      (h c).2⟩) (Cert.QhRefIdeal.Value.run m' ρ')⟩

/-- The kernel's frame. -/
theorem frame_p : Cert.quiescent_Qh := fun m ρ _ => Cert.Qh.Gen.frame m ρ

/-- The idealized kernel's frame. -/
theorem frame_pi : Cert.quiescent_QhIdeal := fun m ρ _ => Cert.QhIdeal.Gen.frame m ρ

/-- The reference's frame: its run, and it has no counters. -/
theorem frame_ri : Cert.quiescent_QhRefIdeal := fun m ρ _ =>
  (θ_run _ _ _).mono (fun r h => ⟨fun c => (h c).2, sem_eq_zero_of_no_sems (by decide) r.2⟩) (Cert.QhRefIdeal.Value.run m ρ)

end Cert.QhPair

end
-- ==== Proof.lean ====
/- The certificate's claim, assembled from the modules that prove its parts. -/
module

public import proofs.«01_k».proof.Defs
public import proofs.«01_k».proof.Proof.AttnClaim
public import proofs.«01_k».proof.Proof.FfnClaim
public import proofs.«01_k».proof.Proof.DownClaim
public import proofs.«01_k».proof.Proof.OutClaim
public import proofs.«01_k».proof.Proof.LastClaim
public import proofs.«01_k».proof.Proof.SLastClaim
public import proofs.«01_k».proof.Proof.ProjClaim
public import proofs.«01_k».proof.Proof.StepClaim
public import proofs.«01_k».proof.Proof.FfnStepClaim
public import proofs.«01_k».proof.Proof.KvClaim
public import proofs.«01_k».proof.Proof.SKvClaim
public import proofs.«01_k».proof.Proof.QhClaim

@[expose] public section

noncomputable section

namespace Cert.Proof

open Idealize.ShloMosaic Idealize.SL.Sem

/-- The witnesses of the programs' facts, then the claims in their order. -/
theorem claim : Cert.Claim :=
  ⟨Cert.Attn.Gen.facts, Cert.AttnIdeal.Gen.facts, Cert.AttnRefIdeal.Gen.facts,
    Cert.Ffn.Gen.facts, Cert.FfnIdeal.Gen.facts, Cert.FfnRefIdeal.Gen.facts,
    Cert.Down.Gen.facts, Cert.DownIdeal.Gen.facts, Cert.DownRefIdeal.Gen.facts,
    Cert.Out.Gen.facts, Cert.OutIdeal.Gen.facts, Cert.OutRefIdeal.Gen.facts,
    Cert.Last.Gen.facts, Cert.LastIdeal.Gen.facts, Cert.LastRefIdeal.Gen.facts,
    Cert.SLast.Gen.facts, Cert.SLastIdeal.Gen.facts, Cert.SLastRefIdeal.Gen.facts,
    Cert.Proj.Gen.facts, Cert.ProjIdeal.Gen.facts, Cert.ProjRefIdeal.Gen.facts,
    Cert.Step.Gen.facts, Cert.StepIdeal.Gen.facts, Cert.StepRefIdeal.Gen.facts,
    Cert.FfnStep.Gen.facts, Cert.FfnStepIdeal.Gen.facts, Cert.FfnStepRefIdeal.Gen.facts,
    Cert.Kv.Gen.facts, Cert.KvIdeal.Gen.facts, Cert.KvRefIdeal.Gen.facts,
    Cert.SKv.Gen.facts, Cert.SKvIdeal.Gen.facts, Cert.SKvRefIdeal.Gen.facts,
    Cert.Qh.Gen.facts, Cert.QhIdeal.Gen.facts, Cert.QhRefIdeal.Gen.facts,
    Cert.Pre_finite_qk.Gen.facts, Cert.Pre_finite_kv.Gen.facts, Cert.Pre_finite_skv.Gen.facts, Cert.Pre_finite_q.Gen.facts,
    AttnPair.frame_p, AttnPair.frame_pi, fun m ρ _ => AttnPair.frame_pi m ρ trivial, AttnPair.frame_ri,
    fun m ρ _ => AttnPair.frame_ri m ρ trivial,
    FfnPair.frame_p, FfnPair.frame_pi, FfnPair.frame_ri,
    DownPair.frame_p, DownPair.frame_pi, DownPair.frame_ri,
    OutPair.frame_p, OutPair.frame_pi, OutPair.frame_ri,
    LastPair.frame_p, LastPair.frame_pi, LastPair.frame_ri,
    SLastPair.frame_p, SLastPair.frame_pi, SLastPair.frame_ri,
    ProjPair.frame_p, ProjPair.frame_pi, ProjPair.frame_ri,
    StepPair.frame_p, StepPair.frame_pi, StepPair.frame_ri,
    FfnStepPair.frame_p, FfnStepPair.frame_pi, FfnStepPair.frame_ri,
    KvPair.frame_p, KvPair.frame_pi, fun m ρ _ => KvPair.frame_pi m ρ trivial, KvPair.frame_ri,
    fun m ρ _ => KvPair.frame_ri m ρ trivial,
    SKvPair.frame_p, SKvPair.frame_pi, fun m ρ _ => SKvPair.frame_pi m ρ trivial, SKvPair.frame_ri,
    fun m ρ _ => SKvPair.frame_ri m ρ trivial,
    QhPair.frame_p, QhPair.frame_pi, fun m ρ _ => QhPair.frame_pi m ρ trivial, QhPair.frame_ri,
    fun m ρ _ => QhPair.frame_ri m ρ trivial,
    AttnPair.preserves, AttnPair.algebraic, trivial, FfnPair.algebraic, trivial, DownPair.algebraic,
    trivial, OutPair.algebraic,
    trivial, LastPair.algebraic, trivial, SLastPair.algebraic, trivial, ProjPair.algebraic,
    trivial, StepPair.algebraic, trivial, FfnStepPair.algebraic,
    trivial, KvPair.algebraic, trivial, SKvPair.algebraic, trivial, QhPair.algebraic⟩

end Cert.Proof

end
